-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2 = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Reference [hPre_routed : Cert.Pre_routed.Facts] (m : (ℓ : Loc Cert.Reference.nD Cert.Reference.τ Cert.Reference.sig) → Buf (Elt Bits) ℓ) : Prop :=
  ∀ c : Dev Cert.Reference.nD,
    (Cert.Pre_routed.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))).1 = (fun _ => 1#1)
    ∧ (Cert.Pre_routed.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))).2 = (fun _ => 1#1)

def Pre_Kernel2 [hPre_tallied : Cert.Pre_tallied.Facts] (m : (ℓ : Loc Cert.Kernel2.nD Cert.Kernel2.τ Cert.Kernel2.sig) → Buf (Elt Bits) ℓ) : Prop :=
  ∀ c : Dev Cert.Kernel2.nD,
    (Cert.Pre_tallied.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))).1 = (fun _ => 1#1)
    ∧ (Cert.Pre_tallied.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))).2 = (fun _ => 1#1)

def Pre_Kernel2Ideal [hPre_tallied : Cert.Pre_tallied.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tallied.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_tallied.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tallied [hPre_tallied : Cert.Pre_tallied.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tallied.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_tallied.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] [hPre_routed : Cert.Pre_routed.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Kernel2 [hKernel2 : Cert.Kernel2.Facts] [hPre_tallied : Cert.Pre_tallied.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_tallied : Cert.Pre_tallied.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_tallied [hReference2Ideal : Cert.Reference2Ideal.Facts] [hPre_tallied : Cert.Pre_tallied.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tallied m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def preserves_Kernel_KernelIdeal : Prop :=
  True

def bitexact_Kernel_Reference [hKernel : Cert.Kernel.Facts] [hReference : Cert.Reference.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v23)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v23) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v55) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_tallied : Cert.Pre_tallied.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v37)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v37) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v37) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v116) = v0 c
          ∧ r.2.mem ((c.tc : Thread Cert.Reference4Ideal.nD Cert.Reference4Ideal.τ).loc Cert.Reference4Ideal.main_v135) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_routed : Cert.Pre_routed.Facts) (hPre_tallied : Cert.Pre_tallied.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Reference (hReference := hReference) (hPre_routed := hPre_routed)
    ∧ quiescent_Kernel2 (hKernel2 := hKernel2) (hPre_tallied := hPre_tallied)
    ∧ quiescent_Kernel2Ideal (hKernel2Ideal := hKernel2Ideal) (hPre_tallied := hPre_tallied)
    ∧ quiescent_Reference2Ideal (hReference2Ideal := hReference2Ideal)
    ∧ quiescent_Reference2Ideal_pre_tallied (hReference2Ideal := hReference2Ideal) (hPre_tallied := hPre_tallied)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ bitexact_Kernel_Reference (hKernel := hKernel) (hReference := hReference) (hPre_routed := hPre_routed)
    ∧ algebraic_KernelIdeal_ReferenceIdeal (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal) (hPre_tallied := hPre_tallied)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_routed.lean ====
abbrev S32768x2048 : Shape := ⟨2, ![32768, 2048]⟩
abbrev S32768x2 : Shape := ⟨2, ![32768, 2]⟩
abbrev S32 : Shape := ⟨1, ![32]⟩
abbrev S65536 : Shape := ⟨1, ![65536]⟩
abbrev S65536x1 : Shape := ⟨2, ![65536, 1]⟩
abbrev S1x65536 : Shape := ⟨2, ![1, 65536]⟩
abbrev S65536x65536 : Shape := ⟨2, ![65536, 65536]⟩
abbrev S_ : Shape := ⟨0, ![]⟩
abbrev S1x32 : Shape := ⟨2, ![1, 32]⟩
abbrev S65536x32 : Shape := ⟨2, ![65536, 32]⟩

class Facts : Prop where
  shapeCasts_S32768x2_S65536 : S32768x2.ShapeCasts S65536
  bcast_S65536_S65536x1_0 : S65536.BroadcastsInDim S65536x1 (![0] : Fin 1 → Fin S65536x1.rank)
  bcast_S65536_S1x65536_1 : S65536.BroadcastsInDim S1x65536 (![1] : Fin 1 → Fin S1x65536.rank)
  bcast_S65536x1_S65536x65536_0_1 : S65536x1.BroadcastsInDim S65536x65536 (![0, 1] : Fin 2 → Fin S65536x65536.rank)
  bcast_S1x65536_S65536x65536_0_1 : S1x65536.BroadcastsInDim S65536x65536 (![0, 1] : Fin 2 → Fin S65536x65536.rank)
  natLt_1_32 : 1 < 32
  reducesTo_S65536x65536_S65536_d1 : S65536x65536.ReducesTo [1] S65536
  h_S_ : 0 < S_.numel
  bcast_S32_S1x32_1 : S32.BroadcastsInDim S1x32 (![1] : Fin 1 → Fin S1x32.rank)
  bcast_S65536x1_S65536x32_0_1 : S65536x1.BroadcastsInDim S65536x32 (![0, 1] : Fin 2 → Fin S65536x32.rank)
  bcast_S1x32_S65536x32_0_1 : S1x32.BroadcastsInDim S65536x32 (![0, 1] : Fin 2 → Fin S65536x32.rank)
  reducesTo_S65536x32_S32_d0 : S65536x32.ReducesTo [0] S32
  bcast_S_S65536 : S_.BroadcastsInDim S65536 (![] : Fin 0 → Fin S65536.rank)

variable [Facts]

def fn_part1 {F : FTy → Type} [FloatOps F] (main_arg2 : IVec S32768x2 32) (main_arg3 : IVec S32 32) (main_v0 : IVec S65536 32) (main_v14 : IVec S65536 32) (main_v21 : IVec S65536x32 32) (main_c_0 : IVec S_ 32) : IVec S65536 1 × IVec S32 1 :=
  let main_v22 : IVec S32 32 := (fun x v => Host.reduce IntOp.addi x v reducesTo_S65536x32_S32_d0 h_S_) main_v21 main_c_0
  let main_c_1 : IVec S_ 32 := constantI S_ 32 0#32
  let main_v23 : IVec S65536 32 := broadcastInDim S65536 ![] bcast_S_S65536 main_c_1
  let main_v24 : IVec S65536 1 := cmpi .sge main_v0 main_v23
  let main_c_2 : IVec S_ 32 := constantI S_ 32 32#32
  let main_v25 : IVec S65536 32 := broadcastInDim S65536 ![] bcast_S_S65536 main_c_2
  let main_v26 : IVec S65536 1 := cmpi .slt main_v0 main_v25
  let main_v27 : IVec S65536 1 := andi main_v24 main_v26
  let main_v28 : IVec S65536 32 := shapeCast S65536 main_arg2 shapeCasts_S32768x2_S65536
  let main_v29 : IVec S65536 1 := cmpi .eq main_v28 main_v14
  let main_v30 : IVec S65536 1 := andi main_v27 main_v29
  let main_v31 : IVec S32 1 := cmpi .eq main_arg3 main_v22
  (main_v30, main_v31)

def fn {F : FTy → Type} [FloatOps F] (main_arg0 : FVec F S32768x2048 .f32) (main_arg1 : IVec S32768x2 32) (main_arg2 : IVec S32768x2 32) (main_arg3 : IVec S32 32) : IVec S65536 1 × IVec S32 1 :=
  let main_v0 : IVec S65536 32 := shapeCast S65536 main_arg1 shapeCasts_S32768x2_S65536
  let main_v1 : IVec S65536 32 := iotaInDim S65536 32 0
  let main_v2 : IVec S65536x1 32 := broadcastInDim S65536x1 ![0] bcast_S65536_S65536x1_0 main_v0
  let main_v3 : IVec S1x65536 32 := broadcastInDim S1x65536 ![1] bcast_S65536_S1x65536_1 main_v0
  let main_v4 : IVec S65536x65536 32 := broadcastInDim S65536x65536 ![0, 1] bcast_S65536x1_S65536x65536_0_1 main_v2
  let main_v5 : IVec S65536x65536 32 := broadcastInDim S65536x65536 ![0, 1] bcast_S1x65536_S65536x65536_0_1 main_v3
  let main_v6 : IVec S65536x65536 1 := cmpi .eq main_v4 main_v5
  let main_v7 : IVec S1x65536 32 := broadcastInDim S1x65536 ![1] bcast_S65536_S1x65536_1 main_v1
  let main_v8 : IVec S65536x1 32 := broadcastInDim S65536x1 ![0] bcast_S65536_S65536x1_0 main_v1
  let main_v9 : IVec S65536x65536 32 := broadcastInDim S65536x65536 ![0, 1] bcast_S1x65536_S65536x65536_0_1 main_v7
  let main_v10 : IVec S65536x65536 32 := broadcastInDim S65536x65536 ![0, 1] bcast_S65536x1_S65536x65536_0_1 main_v8
  let main_v11 : IVec S65536x65536 1 := cmpi .slt main_v9 main_v10
  let main_v12 : IVec S65536x65536 1 := andi main_v6 main_v11
  let main_v13 : IVec S65536x65536 32 := (extui 32 · natLt_1_32) main_v12
  let main_c : IVec S_ 32 := constantI S_ 32 0#32
  let main_v14 : IVec S65536 32 := (fun x v => Host.reduce IntOp.addi x v reducesTo_S65536x65536_S65536_d1 h_S_) main_v13 main_c
  let main_v15 : IVec S65536x1 32 := broadcastInDim S65536x1 ![0] bcast_S65536_S65536x1_0 main_v0
  let main_v16 : IVec S32 32 := iotaInDim S32 32 0
  let main_v17 : IVec S1x32 32 := broadcastInDim S1x32 ![1] bcast_S32_S1x32_1 main_v16
  let main_v18 : IVec S65536x32 32 := broadcastInDim S65536x32 ![0, 1] bcast_S65536x1_S65536x32_0_1 main_v15
  let main_v19 : IVec S65536x32 32 := broadcastInDim S65536x32 ![0, 1] bcast_S1x32_S65536x32_0_1 main_v17
  let main_v20 : IVec S65536x32 1 := cmpi .eq main_v18 main_v19
  let main_v21 : IVec S65536x32 32 := (extui 32 · natLt_1_32) main_v20
  let main_c_0 : IVec S_ 32 := constantI S_ 32 0#32
  fn_part1 (F := F) main_arg2 main_arg3 main_v0 main_v14 main_v21 main_c_0
-- ==== Pre_tallied.lean ====
abbrev S81920x2048 : Shape := ⟨2, ![81920, 2048]⟩
abbrev S32 : Shape := ⟨1, ![32]⟩
abbrev S32x2048x1024 : Shape := ⟨3, ![32, 2048, 1024]⟩
abbrev S32x1024x2048 : Shape := ⟨3, ![32, 1024, 2048]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : FVec F S81920x2048 .f32) (main_arg1 : IVec S32 32) (main_arg2 : FVec F S32x2048x1024 .f32) (main_arg3 : FVec F S32x2048x1024 .f32) (main_arg4 : FVec F S32x1024x2048 .f32) : IVec S32 1 × IVec S_ 1 :=
  let main_c : IVec S_ 32 := constantI S_ 32 0#32
  let main_v0 : IVec S32 32 := broadcastInDim S32 ![] bcast_S_S32 main_c
  let main_v1 : IVec S32 1 := cmpi .sge main_arg1 main_v0
  let main_c_0 : IVec S_ 32 := constantI S_ 32 65536#32
  let main_v2 : IVec S32 32 := broadcastInDim S32 ![] bcast_S_S32 main_c_0
  let main_v3 : IVec S32 1 := cmpi .sle main_arg1 main_v2
  let main_v4 : IVec S32 1 := andi main_v1 main_v3
  let main_c_1 : IVec S_ 32 := constantI S_ 32 0#32
  let main_v5 : IVec S_ 32 := (fun x v => Host.reduce IntOp.addi x v reducesTo_S32_S_d0 h_S_) main_arg1 main_c_1
  let main_c_2 : IVec S_ 32 := constantI S_ 32 65536#32
  let main_v6 : IVec S_ 1 := cmpi .eq main_v5 main_c_2
  (main_v4, main_v6)
-- ==== Kernel.lean ====
abbrev S32768x2048 : Shape := ⟨2, ![32768, 2048]⟩
abbrev S32768x2 : Shape := ⟨2, ![32768, 2]⟩
abbrev S32 : Shape := ⟨1, ![32]⟩
abbrev S_ : Shape := ⟨0, ![]⟩
abbrev S1 : Shape := ⟨1, ![1]⟩
abbrev S32768x2x1 : Shape := ⟨3, ![32768, 2, 1]⟩
abbrev S65536 : Shape := ⟨1, ![65536]⟩
abbrev S128x1x512 : Shape := ⟨3, ![128, 1, 512]⟩
abbrev S81920x2048 : Shape := ⟨2, ![81920, 2048]⟩
abbrev S1x1x512 : Shape := ⟨3, ![1, 1, 512]⟩
abbrev S256x2048 : Shape := ⟨2, ![256, 2048]⟩
abbrev S64x2048 : Shape := ⟨2, ![64, 2048]⟩
abbrev S2 : Shape := ⟨1, ![2]⟩
abbrev S1x1x1 : Shape := ⟨3, ![1, 1, 1]⟩
abbrev S1x2048 : Shape := ⟨2, ![1, 2048]⟩

abbrev nBuf : Space → Nat
  | .hbm => 69
  | .vmem => 3
  | .smem => 5
  | _ => 0

abbrev bufTy : (tb : Table) → Fin (tcTables nBuf tb) → BufTy
  | .hbm, ⟨0, _⟩ => ⟨S32768x2048, .f32⟩
  | .hbm, ⟨1, _⟩ => ⟨S32768x2, .i32⟩
  | .hbm, ⟨2, _⟩ => ⟨S32768x2, .i32⟩
  | .hbm, ⟨3, _⟩ => ⟨S32, .i32⟩
  | .hbm, ⟨4, _⟩ => ⟨S_, .i32⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S_, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S32, .i1⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i1⟩
  | .hbm, ⟨23, _⟩ => ⟨S32, .i1⟩
  | .hbm, ⟨24, _⟩ => ⟨S_, .i32⟩
  | .hbm, ⟨25, _⟩ => ⟨S32, .i32⟩
  | .hbm, ⟨26, _⟩ => ⟨S32, .i32⟩
  | .hbm, ⟨27, _⟩ => ⟨S32, .i32⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S_, .i32⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S1, .i32⟩
  | .hbm, ⟨36, _⟩ => ⟨S_, .i32⟩
  | .hbm, ⟨37, _⟩ => ⟨S_, .i32⟩
  | .hbm, ⟨38, _⟩ => ⟨S1, .i32⟩
  | .hbm, ⟨39, _⟩ => ⟨S1, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S1, .i1⟩
  | .hbm, ⟨44, _⟩ => ⟨S1, .i32⟩
  | .hbm, ⟨45, _⟩ => ⟨S1, .i32⟩
  | .hbm, ⟨46, _⟩ => ⟨S_, .i32⟩
  | .hbm, ⟨47, _⟩ => ⟨S1, .i32⟩
  | .hbm, ⟨48, _⟩ => ⟨S1, .i1⟩
  | .hbm, ⟨49, _⟩ => ⟨S1, .i1⟩
  | .hbm, ⟨50, _⟩ => ⟨S_, .i32⟩
  | .hbm, ⟨51, _⟩ => ⟨S1, .i32⟩
  | .hbm, ⟨52, _⟩ => ⟨S1, .i32⟩
  | .hbm, ⟨53, _⟩ => ⟨S1, .i32⟩
  | .hbm, ⟨54, _⟩ => ⟨S_, .i32⟩
  | .hbm, ⟨55, _⟩ => ⟨S32768x2, .i32⟩
  | .hbm, ⟨56, _⟩ => ⟨S32768x2, .i1⟩
  | .hbm, ⟨57, _⟩ => ⟨S_, .i32⟩
  | .hbm, ⟨58, _⟩ => ⟨S32768x2, .i32⟩
  | .hbm, ⟨59, _⟩ => ⟨S32768x2, .i32⟩
  | .hbm, ⟨60, _⟩ => ⟨S32768x2, .i32⟩
  | .hbm, ⟨61, _⟩ => ⟨S32768x2x1, .i32⟩
  | .hbm, ⟨62, _⟩ => ⟨S32768x2, .i32⟩
  | .hbm, ⟨63, _⟩ => ⟨S32768x2, .i32⟩
  | .hbm, ⟨64, _⟩ => ⟨S65536, .i32⟩
  | .hbm, ⟨65, _⟩ => ⟨S32, .i32⟩
  | .hbm, ⟨66, _⟩ => ⟨S32, .i32⟩
  | .hbm, ⟨67, _⟩ => ⟨S128x1x512, .i32⟩
  | .hbm, ⟨68, _⟩ => ⟨S81920x2048, .f32⟩
  | .local _ .vmem, ⟨0, _⟩ => ⟨S256x2048, .f32⟩
  | .local _ .vmem, ⟨1, _⟩ => ⟨S256x2048, .f32⟩
  | .local _ .vmem, ⟨2, _⟩ => ⟨S64x2048, .f32⟩
  | .local _ .smem, ⟨0, _⟩ => ⟨S1x1x512, .i32⟩
  | .local _ .smem, ⟨1, _⟩ => ⟨S1x1x512, .i32⟩
  | .local _ .smem, ⟨2, _⟩ => ⟨S32, .i32⟩
  | .local _ .smem, ⟨3, _⟩ => ⟨S32, .i32⟩
  | .local _ .smem, ⟨4, _⟩ => ⟨S1, .i32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_2 : Ref sig .tc := ⟨.hbm, 28, rfl⟩
abbrev main_v5 : Ref sig .tc := ⟨.hbm, 29, rfl⟩
abbrev main_v6 : Ref sig .tc := ⟨.hbm, 30, rfl⟩
abbrev main_call1_call0_c : Ref sig .tc := ⟨.hbm, 31, rfl⟩
abbrev main_call1_call0_v0 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_c_3 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_c : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_c_0 : Ref sig .tc := ⟨.hbm, 50, rfl⟩
abbrev main_call2_v12 : Ref sig .tc := ⟨.hbm, 51, rfl⟩
abbrev main_call2_v13 : Ref sig .tc := ⟨.hbm, 52, rfl⟩
abbrev main_v10 : Ref sig .tc := ⟨.hbm, 53, rfl⟩
abbrev main_c_4 : Ref sig .tc := ⟨.hbm, 54, rfl⟩
abbrev main_v11 : Ref sig .tc := ⟨.hbm, 55, rfl⟩
abbrev main_v12 : Ref sig .tc := ⟨.hbm, 56, rfl⟩
abbrev main_c_5 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev cc0_stg4_0 : Ref sig .tc := ⟨.vmem, 0, rfl⟩
abbrev cc0_stg4_1 : Ref sig .tc := ⟨.vmem, 1, rfl⟩
abbrev cc0_scratch0 : Ref sig .tc := ⟨.vmem, 2, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg2_0 : Ref sig .tc := ⟨.smem, 3, rfl⟩
abbrev cc0_stg3_0 : Ref sig .tc := ⟨.smem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (k0_t1 : Fin k0_t1_loop.trips) : Fin 3 → Nat :=
  let c0 : Index := 0#32
  let c0_8 : Index := 0#32
  let c2_i32 : BitVec 32 := 2#32
  let c0_i32 : BitVec 32 := 0#32
  let c1_i32 : BitVec 32 := 1#32
  let arg11 : BitVec 32 := Scf.iv c0_i32 c1_i32 k0_t1
  let v5 : BitVec 32 := Scalar.muli c2_i32 arg11
  let c0_i32_7 : BitVec 32 := 0#32
  let v6 : BitVec 32 := Scalar.addi v5 c0_i32_7
  let v7 : Index := Scalar.indexCast v6
  ![0, 0, v7.toNat]
def k0_off2 (v8 : BitVec 32) : Fin 2 → Nat :=
  let c0_i32_10 : BitVec 32 := 0#32
  ![v8.toNat, 0]

def k0_chk1 (v8 : BitVec 32) : Prop :=
  (∀ a, (k0_off2 v8) a + S1x2048.size a ≤ S81920x2048.size a)
theorem k0_off2_inb : ∀ (v8 : BitVec 32) (k0_hw1 : k0_chk1 v8), ∀ a, (k0_off2 v8) a + S1x2048.size a ≤ S81920x2048.size a := fun v8 k0_hw1 => k0_hw1

def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c0_i32_11 : BitVec 32 := 0#32
  ![arg11.toNat, 0]
def k0_off4 (k0_t1 : Fin k0_t1_loop.trips) : Fin 3 → Nat :=
  let c0_14 : Index := 0#32
  let c0_15 : Index := 0#32
  let c2_i32_12 : BitVec 32 := 2#32
  let c0_i32 : BitVec 32 := 0#32
  let c1_i32 : BitVec 32 := 1#32
  let arg11 : BitVec 32 := Scf.iv c0_i32 c1_i32 k0_t1
  let v13 : BitVec 32 := Scalar.muli c2_i32_12 arg11
  let c1_i32_13 : BitVec 32 := 1#32
  let v14 : BitVec 32 := Scalar.addi v13 c1_i32_13
  let v15 : Index := Scalar.indexCast v14
  ![0, 0, v15.toNat]
def k0_off5 (v16 : BitVec 32) : Fin 2 → Nat :=
  let c0_i32_17 : BitVec 32 := 0#32
  ![v16.toNat, 0]

def k0_chk2 (v16 : BitVec 32) : Prop :=
  (∀ a, (k0_off5 v16) a + S1x2048.size a ≤ S81920x2048.size a)
theorem k0_off5_inb : ∀ (v16 : BitVec 32) (k0_hw2 : k0_chk2 v16), ∀ a, (k0_off5 v16) a + S1x2048.size a ≤ S81920x2048.size a := fun v16 k0_hw2 => k0_hw2

def k0_off6 (k0_t1 : Fin k0_t1_loop.trips) : Fin 2 → Nat :=
  let c0_i32 : BitVec 32 := 0#32
  let c1_i32 : BitVec 32 := 1#32
  let arg11 : BitVec 32 := Scf.iv c0_i32 c1_i32 k0_t1
  let c0_i32_18 : BitVec 32 := 0#32
  ![arg11.toNat, 0]
def k0_cond1 (i : grid0.Coords) : BitVec 1 :=
  let arg0 : BitVec 32 := BitVec.ofNat 32 (i 0).val
  let c0_i32_1 : BitVec 32 := 0#32
  let v1 : BitVec 1 := Scalar.cmpi .eq arg0 c0_i32_1
  let v2 : BitVec 32 := Scalar.extui v1
  let c0_i32_2 : BitVec 32 := 0#32
  let v3 : BitVec 1 := Scalar.cmpi .ne v2 c0_i32_2
  v3

@[reducible] def k0_t2_loop : Scf.Loop 32 :=
  let c0_i32_9 : BitVec 32 := 0#32
  let c32_i32 : BitVec 32 := 32#32
  let v9 : BitVec 32 := Scalar.addi c0_i32_9 c32_i32
  let c1_i32_10 : BitVec 32 := 1#32
  ⟨c0_i32_9, v9, c1_i32_10⟩
def k0_off7 (k0_t2 : Fin k0_t2_loop.trips) : Fin 1 → Nat :=
  let c0_i32_9 : BitVec 32 := 0#32
  let c1_i32_10 : BitVec 32 := 1#32
  let arg11 : BitVec 32 := Scf.iv c0_i32_9 c1_i32_10 k0_t2
  let v23 : Index := Scalar.indexCast arg11
  ![v23.toNat]
@[reducible] def k0_t3_loop (v24 : BitVec 32) : Scf.Loop 32 :=
  let c0_i32_28 : BitVec 32 := 0#32
  let v25 : BitVec 32 := Scalar.subi v24 c0_i32_28
  let c1_i32_29 : BitVec 32 := 1#32
  let v27 : BitVec 32 := Scalar.divsi v25 c1_i32_29
  let v28 : BitVec 32 := Scalar.muli v27 c1_i32_29
  let v29 : BitVec 32 := Scalar.addi c0_i32_28 v28
  let c1_i32_30 : BitVec 32 := 1#32
  ⟨c0_i32_28, v29, c1_i32_30⟩

def k0_off8 (k0_t2 : Fin k0_t2_loop.trips) : Fin 1 → Nat :=
  let c0_i32_9 : BitVec 32 := 0#32
  let c1_i32_10 : BitVec 32 := 1#32
  let arg11 : BitVec 32 := Scf.iv c0_i32_9 c1_i32_10 k0_t2
  let v30 : Index := Scalar.indexCast arg11
  ![v30.toNat]
def k0_off9 (v24 : BitVec 32) (k0_t3 : Fin (k0_t3_loop v24).trips) (v31 : BitVec 32) : Fin 2 → Nat :=
  let c0_i32_28 : BitVec 32 := 0#32
  let c1_i32_30 : BitVec 32 := 1#32
  let arg12 : BitVec 32 := Scf.iv c0_i32_28 c1_i32_30 k0_t3
  let v32 : BitVec 32 := Scalar.addi v31 arg12
  let c0_i32_32 : BitVec 32 := 0#32
  ![v32.toNat, 0]

def k0_chk4 (i : grid0.Coords) (v24 : BitVec 32) (k0_t3 : Fin (k0_t3_loop v24).trips) (v31 : BitVec 32) : Prop :=
  (∀ (k0_h1 : k0_cond1 i = 1#1), ∀ a, (k0_off9 v24 k0_t3 v31) a + S1x2048.size a ≤ S81920x2048.size a)
theorem k0_off9_inb : ∀ (i : grid0.Coords) (v24 : BitVec 32) (k0_t3 : Fin (k0_t3_loop v24).trips) (v31 : BitVec 32) (k0_hw4 : k0_chk4 i v24 k0_t3 v31), ∀ (k0_h1 : k0_cond1 i = 1#1), ∀ a, (k0_off9 v24 k0_t3 v31) a + S1x2048.size a ≤ S81920x2048.size a := fun i v24 k0_t3 v31 k0_hw4 k0_h1 => k0_hw4 k0_h1

@[reducible] def k0_t4_loop (v24 : BitVec 32) : Scf.Loop 32 :=
  let c0_i32_28 : BitVec 32 := 0#32
  let v25 : BitVec 32 := Scalar.subi v24 c0_i32_28
  let c1_i32_29 : BitVec 32 := 1#32
  let v27 : BitVec 32 := Scalar.divsi v25 c1_i32_29
  let v28 : BitVec 32 := Scalar.muli v27 c1_i32_29
  let v29 : BitVec 32 := Scalar.addi c0_i32_28 v28
  let v26 : BitVec 32 := Scalar.addi c0_i32_28 v25
  let c1_i32_31 : BitVec 32 := 1#32
  ⟨v29, v26, c1_i32_31⟩

def k0_chk3 (i : grid0.Coords) (v24 : BitVec 32) : Prop :=
  (∀ (k0_h1 : k0_cond1 i = 1#1), (k0_t3_loop v24).OK) ∧
  (∀ (k0_h1 : k0_cond1 i = 1#1), (k0_t4_loop v24).OK)
theorem k0_t3_ok : ∀ (i : grid0.Coords) (v24 : BitVec 32) (k0_hw3 : k0_chk3 i v24), ∀ (k0_h1 : k0_cond1 i = 1#1), (k0_t3_loop v24).OK := fun i v24 k0_hw3 k0_h1 => k0_hw3.1 k0_h1
theorem k0_t4_ok : ∀ (i : grid0.Coords) (v24 : BitVec 32) (k0_hw3 : k0_chk3 i v24), ∀ (k0_h1 : k0_cond1 i = 1#1), (k0_t4_loop v24).OK := fun i v24 k0_hw3 k0_h1 => k0_hw3.2 k0_h1

def k0_off10 (k0_t2 : Fin k0_t2_loop.trips) : Fin 1 → Nat :=
  let c0_i32_9 : BitVec 32 := 0#32
  let c1_i32_10 : BitVec 32 := 1#32
  let arg11 : BitVec 32 := Scf.iv c0_i32_9 c1_i32_10 k0_t2
  let v30 : Index := Scalar.indexCast arg11
  ![v30.toNat]
def k0_off11 (v24 : BitVec 32) (k0_t4 : Fin (k0_t4_loop v24).trips) (v31 : BitVec 32) : Fin 2 → Nat :=
  let c0_i32_28 : BitVec 32 := 0#32
  let v25 : BitVec 32 := Scalar.subi v24 c0_i32_28
  let c1_i32_29 : BitVec 32 := 1#32
  let v27 : BitVec 32 := Scalar.divsi v25 c1_i32_29
  let v28 : BitVec 32 := Scalar.muli v27 c1_i32_29
  let v29 : BitVec 32 := Scalar.addi c0_i32_28 v28
  let c1_i32_31 : BitVec 32 := 1#32
  let arg12 : BitVec 32 := Scf.iv v29 c1_i32_31 k0_t4
  let v32 : BitVec 32 := Scalar.addi v31 arg12
  let c0_i32_32 : BitVec 32 := 0#32
  ![v32.toNat, 0]

def k0_chk5 (i : grid0.Coords) (v24 : BitVec 32) (k0_t4 : Fin (k0_t4_loop v24).trips) (v31 : BitVec 32) : Prop :=
  (∀ (k0_h1 : k0_cond1 i = 1#1), ∀ a, (k0_off11 v24 k0_t4 v31) a + S1x2048.size a ≤ S81920x2048.size a)
theorem k0_off11_inb : ∀ (i : grid0.Coords) (v24 : BitVec 32) (k0_t4 : Fin (k0_t4_loop v24).trips) (v31 : BitVec 32) (k0_hw5 : k0_chk5 i v24 k0_t4 v31), ∀ (k0_h1 : k0_cond1 i = 1#1), ∀ a, (k0_off11 v24 k0_t4 v31) a + S1x2048.size a ≤ S81920x2048.size a := fun i v24 k0_t4 v31 k0_hw5 k0_h1 => k0_hw5 k0_h1

@[reducible] def k0_t5_loop (v10 : BitVec 32) : Scf.Loop 32 :=
  let c160_i32 : BitVec 32 := 160#32
  let v11 : BitVec 32 := Scalar.subi c160_i32 v10
  let c1_i32_14 : BitVec 32 := 1#32
  let v13 : BitVec 32 := Scalar.divsi v11 c1_i32_14
  let v14 : BitVec 32 := Scalar.muli v13 c1_i32_14
  let v15 : BitVec 32 := Scalar.addi v10 v14
  let c1_i32_15 : BitVec 32 := 1#32
  ⟨v10, v15, c1_i32_15⟩

def k0_mult1 (v10 : BitVec 32) (k0_t5 : Fin (k0_t5_loop v10).trips) : BitVec 32 :=
  let c1_i32_15 : BitVec 32 := 1#32
  let arg11 : BitVec 32 := Scf.iv v10 c1_i32_15 k0_t5
  let c512_i32 : BitVec 32 := 512#32
  let v23 : BitVec 32 := Scalar.muli arg11 c512_i32
  let c0_i32_28 : BitVec 32 := 0#32
  let v24 : BitVec 32 := Scalar.addi v23 c0_i32_28
  v24
def k0_off12 (v10 : BitVec 32) (k0_t5 : Fin (k0_t5_loop v10).trips) (c0_i32_28 : BitVec 32) : Fin 2 → Nat :=
  let c1_i32_15 : BitVec 32 := 1#32
  let arg11 : BitVec 32 := Scf.iv v10 c1_i32_15 k0_t5
  let c512_i32 : BitVec 32 := 512#32
  let v23 : BitVec 32 := Scalar.muli arg11 c512_i32
  let v24 : BitVec 32 := Scalar.addi v23 c0_i32_28
  let v25 : BitVec 32 := v24
  let c0_i32_29 : BitVec 32 := 0#32
  ![v25.toNat, 0]
def k0_mult2 (v10 : BitVec 32) (k0_t5 : Fin (k0_t5_loop v10).trips) : BitVec 32 :=
  let c1_i32_15 : BitVec 32 := 1#32
  let arg11 : BitVec 32 := Scf.iv v10 c1_i32_15 k0_t5
  let c512_i32_30 : BitVec 32 := 512#32
  let v27 : BitVec 32 := Scalar.muli arg11 c512_i32_30
  let c64_i32 : BitVec 32 := 64#32
  let v28 : BitVec 32 := Scalar.addi v27 c64_i32
  v28
def k0_mult3 (v10 : BitVec 32) (k0_t5 : Fin (k0_t5_loop v10).trips) : BitVec 32 :=
  let c1_i32_15 : BitVec 32 := 1#32
  let arg11 : BitVec 32 := Scf.iv v10 c1_i32_15 k0_t5
  let c512_i32_32 : BitVec 32 := 512#32
  let v31 : BitVec 32 := Scalar.muli arg11 c512_i32_32
  let c128_i32 : BitVec 32 := 128#32
  let v32 : BitVec 32 := Scalar.addi v31 c128_i32
  v32
def k0_mult4 (v10 : BitVec 32) (k0_t5 : Fin (k0_t5_loop v10).trips) : BitVec 32 :=
  let c1_i32_15 : BitVec 32 := 1#32
  let arg11 : BitVec 32 := Scf.iv v10 c1_i32_15 k0_t5
  let c512_i32_34 : BitVec 32 := 512#32
  let v35 : BitVec 32 := Scalar.muli arg11 c512_i32_34
  let c192_i32 : BitVec 32 := 192#32
  let v36 : BitVec 32 := Scalar.addi v35 c192_i32
  v36
def k0_mult5 (v10 : BitVec 32) (k0_t5 : Fin (k0_t5_loop v10).trips) : BitVec 32 :=
  let c1_i32_15 : BitVec 32 := 1#32
  let arg11 : BitVec 32 := Scf.iv v10 c1_i32_15 k0_t5
  let c512_i32_36 : BitVec 32 := 512#32
  let v39 : BitVec 32 := Scalar.muli arg11 c512_i32_36
  let c256_i32_37 : BitVec 32 := 256#32
  let v40 : BitVec 32 := Scalar.addi v39 c256_i32_37
  v40
def k0_mult6 (v10 : BitVec 32) (k0_t5 : Fin (k0_t5_loop v10).trips) : BitVec 32 :=
  let c1_i32_15 : BitVec 32 := 1#32
  let arg11 : BitVec 32 := Scf.iv v10 c1_i32_15 k0_t5
  let c512_i32_39 : BitVec 32 := 512#32
  let v43 : BitVec 32 := Scalar.muli arg11 c512_i32_39
  let c320_i32 : BitVec 32 := 320#32
  let v44 : BitVec 32 := Scalar.addi v43 c320_i32
  v44
def k0_mult7 (v10 : BitVec 32) (k0_t5 : Fin (k0_t5_loop v10).trips) : BitVec 32 :=
  let c1_i32_15 : BitVec 32 := 1#32
  let arg11 : BitVec 32 := Scf.iv v10 c1_i32_15 k0_t5
  let c512_i32_41 : BitVec 32 := 512#32
  let v47 : BitVec 32 := Scalar.muli arg11 c512_i32_41
  let c384_i32 : BitVec 32 := 384#32
  let v48 : BitVec 32 := Scalar.addi v47 c384_i32
  v48
def k0_mult8 (v10 : BitVec 32) (k0_t5 : Fin (k0_t5_loop v10).trips) : BitVec 32 :=
  let c1_i32_15 : BitVec 32 := 1#32
  let arg11 : BitVec 32 := Scf.iv v10 c1_i32_15 k0_t5
  let c512_i32_43 : BitVec 32 := 512#32
  let v51 : BitVec 32 := Scalar.muli arg11 c512_i32_43
  let c448_i32 : BitVec 32 := 448#32
  let v52 : BitVec 32 := Scalar.addi v51 c448_i32
  v52
@[reducible] def k0_t6_loop (v10 : BitVec 32) : Scf.Loop 32 :=
  let c160_i32 : BitVec 32 := 160#32
  let v11 : BitVec 32 := Scalar.subi c160_i32 v10
  let c1_i32_14 : BitVec 32 := 1#32
  let v13 : BitVec 32 := Scalar.divsi v11 c1_i32_14
  let v14 : BitVec 32 := Scalar.muli v13 c1_i32_14
  let v15 : BitVec 32 := Scalar.addi v10 v14
  let v12 : BitVec 32 := Scalar.addi v10 v11
  let c1_i32_16 : BitVec 32 := 1#32
  ⟨v15, v12, c1_i32_16⟩
def k0_mult9 (v10 : BitVec 32) (k0_t6 : Fin (k0_t6_loop v10).trips) : BitVec 32 :=
  let c160_i32 : BitVec 32 := 160#32
  let v11 : BitVec 32 := Scalar.subi c160_i32 v10
  let c1_i32_14 : BitVec 32 := 1#32
  let v13 : BitVec 32 := Scalar.divsi v11 c1_i32_14
  let v14 : BitVec 32 := Scalar.muli v13 c1_i32_14
  let v15 : BitVec 32 := Scalar.addi v10 v14
  let c1_i32_16 : BitVec 32 := 1#32
  let arg11 : BitVec 32 := Scf.iv v15 c1_i32_16 k0_t6
  let c512_i32 : BitVec 32 := 512#32
  let v23 : BitVec 32 := Scalar.muli arg11 c512_i32
  let c0_i32_28 : BitVec 32 := 0#32
  let v24 : BitVec 32 := Scalar.addi v23 c0_i32_28
  v24
def k0_off13 (v10 : BitVec 32) (k0_t6 : Fin (k0_t6_loop v10).trips) (c0_i32_28 : BitVec 32) : Fin 2 → Nat :=
  let c160_i32 : BitVec 32 := 160#32
  let v11 : BitVec 32 := Scalar.subi c160_i32 v10
  let c1_i32_14 : BitVec 32 := 1#32
  let v13 : BitVec 32 := Scalar.divsi v11 c1_i32_14
  let v14 : BitVec 32 := Scalar.muli v13 c1_i32_14
  let v15 : BitVec 32 := Scalar.addi v10 v14
  let c1_i32_16 : BitVec 32 := 1#32
  let arg11 : BitVec 32 := Scf.iv v15 c1_i32_16 k0_t6
  let c512_i32 : BitVec 32 := 512#32
  let v23 : BitVec 32 := Scalar.muli arg11 c512_i32
  let v24 : BitVec 32 := Scalar.addi v23 c0_i32_28
  let v25 : BitVec 32 := v24
  let c0_i32_29 : BitVec 32 := 0#32
  ![v25.toNat, 0]
def k0_mult10 (v10 : BitVec 32) (k0_t6 : Fin (k0_t6_loop v10).trips) : BitVec 32 :=
  let c160_i32 : BitVec 32 := 160#32
  let v11 : BitVec 32 := Scalar.subi c160_i32 v10
  let c1_i32_14 : BitVec 32 := 1#32
  let v13 : BitVec 32 := Scalar.divsi v11 c1_i32_14
  let v14 : BitVec 32 := Scalar.muli v13 c1_i32_14
  let v15 : BitVec 32 := Scalar.addi v10 v14
  let c1_i32_16 : BitVec 32 := 1#32
  let arg11 : BitVec 32 := Scf.iv v15 c1_i32_16 k0_t6
  let c512_i32_30 : BitVec 32 := 512#32
  let v27 : BitVec 32 := Scalar.muli arg11 c512_i32_30
  let c64_i32 : BitVec 32 := 64#32
  let v28 : BitVec 32 := Scalar.addi v27 c64_i32
  v28
def k0_mult11 (v10 : BitVec 32) (k0_t6 : Fin (k0_t6_loop v10).trips) : BitVec 32 :=
  let c160_i32 : BitVec 32 := 160#32
  let v11 : BitVec 32 := Scalar.subi c160_i32 v10
  let c1_i32_14 : BitVec 32 := 1#32
  let v13 : BitVec 32 := Scalar.divsi v11 c1_i32_14
  let v14 : BitVec 32 := Scalar.muli v13 c1_i32_14
  let v15 : BitVec 32 := Scalar.addi v10 v14
  let c1_i32_16 : BitVec 32 := 1#32
  let arg11 : BitVec 32 := Scf.iv v15 c1_i32_16 k0_t6
  let c512_i32_32 : BitVec 32 := 512#32
  let v31 : BitVec 32 := Scalar.muli arg11 c512_i32_32
  let c128_i32 : BitVec 32 := 128#32
  let v32 : BitVec 32 := Scalar.addi v31 c128_i32
  v32
def k0_mult12 (v10 : BitVec 32) (k0_t6 : Fin (k0_t6_loop v10).trips) : BitVec 32 :=
  let c160_i32 : BitVec 32 := 160#32
  let v11 : BitVec 32 := Scalar.subi c160_i32 v10
  let c1_i32_14 : BitVec 32 := 1#32
  let v13 : BitVec 32 := Scalar.divsi v11 c1_i32_14
  let v14 : BitVec 32 := Scalar.muli v13 c1_i32_14
  let v15 : BitVec 32 := Scalar.addi v10 v14
  let c1_i32_16 : BitVec 32 := 1#32
  let arg11 : BitVec 32 := Scf.iv v15 c1_i32_16 k0_t6
  let c512_i32_34 : BitVec 32 := 512#32
  let v35 : BitVec 32 := Scalar.muli arg11 c512_i32_34
  let c192_i32 : BitVec 32 := 192#32
  let v36 : BitVec 32 := Scalar.addi v35 c192_i32
  v36
def k0_mult13 (v10 : BitVec 32) (k0_t6 : Fin (k0_t6_loop v10).trips) : BitVec 32 :=
  let c160_i32 : BitVec 32 := 160#32
  let v11 : BitVec 32 := Scalar.subi c160_i32 v10
  let c1_i32_14 : BitVec 32 := 1#32
  let v13 : BitVec 32 := Scalar.divsi v11 c1_i32_14
  let v14 : BitVec 32 := Scalar.muli v13 c1_i32_14
  let v15 : BitVec 32 := Scalar.addi v10 v14
  let c1_i32_16 : BitVec 32 := 1#32
  let arg11 : BitVec 32 := Scf.iv v15 c1_i32_16 k0_t6
  let c512_i32_36 : BitVec 32 := 512#32
  let v39 : BitVec 32 := Scalar.muli arg11 c512_i32_36
  let c256_i32_37 : BitVec 32 := 256#32
  let v40 : BitVec 32 := Scalar.addi v39 c256_i32_37
  v40
def k0_mult14 (v10 : BitVec 32) (k0_t6 : Fin (k0_t6_loop v10).trips) : BitVec 32 :=
  let c160_i32 : BitVec 32 := 160#32
  let v11 : BitVec 32 := Scalar.subi c160_i32 v10
  let c1_i32_14 : BitVec 32 := 1#32
  let v13 : BitVec 32 := Scalar.divsi v11 c1_i32_14
  let v14 : BitVec 32 := Scalar.muli v13 c1_i32_14
  let v15 : BitVec 32 := Scalar.addi v10 v14
  let c1_i32_16 : BitVec 32 := 1#32
  let arg11 : BitVec 32 := Scf.iv v15 c1_i32_16 k0_t6
  let c512_i32_39 : BitVec 32 := 512#32
  let v43 : BitVec 32 := Scalar.muli arg11 c512_i32_39
  let c320_i32 : BitVec 32 := 320#32
  let v44 : BitVec 32 := Scalar.addi v43 c320_i32
  v44
def k0_mult15 (v10 : BitVec 32) (k0_t6 : Fin (k0_t6_loop v10).trips) : BitVec 32 :=
  let c160_i32 : BitVec 32 := 160#32
  let v11 : BitVec 32 := Scalar.subi c160_i32 v10
  let c1_i32_14 : BitVec 32 := 1#32
  let v13 : BitVec 32 := Scalar.divsi v11 c1_i32_14
  let v14 : BitVec 32 := Scalar.muli v13 c1_i32_14
  let v15 : BitVec 32 := Scalar.addi v10 v14
  let c1_i32_16 : BitVec 32 := 1#32
  let arg11 : BitVec 32 := Scf.iv v15 c1_i32_16 k0_t6
  let c512_i32_41 : BitVec 32 := 512#32
  let v47 : BitVec 32 := Scalar.muli arg11 c512_i32_41
  let c384_i32 : BitVec 32 := 384#32
  let v48 : BitVec 32 := Scalar.addi v47 c384_i32
  v48
def k0_mult16 (v10 : BitVec 32) (k0_t6 : Fin (k0_t6_loop v10).trips) : BitVec 32 :=
  let c160_i32 : BitVec 32 := 160#32
  let v11 : BitVec 32 := Scalar.subi c160_i32 v10
  let c1_i32_14 : BitVec 32 := 1#32
  let v13 : BitVec 32 := Scalar.divsi v11 c1_i32_14
  let v14 : BitVec 32 := Scalar.muli v13 c1_i32_14
  let v15 : BitVec 32 := Scalar.addi v10 v14
  let c1_i32_16 : BitVec 32 := 1#32
  let arg11 : BitVec 32 := Scf.iv v15 c1_i32_16 k0_t6
  let c512_i32_43 : BitVec 32 := 512#32
  let v51 : BitVec 32 := Scalar.muli arg11 c512_i32_43
  let c448_i32 : BitVec 32 := 448#32
  let v52 : BitVec 32 := Scalar.addi v51 c448_i32
  v52

def k0_chk6 (i : grid0.Coords) (v10 : BitVec 32) : Prop :=
  (∀ (k0_h1 : k0_cond1 i = 1#1), (k0_t5_loop v10).OK) ∧
  (∀ k0_t5 : Fin (k0_t5_loop v10).trips, ∀ (k0_h1 : k0_cond1 i = 1#1), 64 ∣ (k0_mult1 v10 k0_t5).toNat) ∧
  (∀ k0_t5 : Fin (k0_t5_loop v10).trips, ∀ (k0_h1 : k0_cond1 i = 1#1), ∀ (r : Fin 8), ∀ a, (k0_off12 v10 k0_t5 (BitVec.ofNat 32 (64 * r.val))) a + S64x2048.size a ≤ S81920x2048.size a) ∧
  (∀ k0_t5 : Fin (k0_t5_loop v10).trips, ∀ (k0_h1 : k0_cond1 i = 1#1), 64 ∣ (k0_mult2 v10 k0_t5).toNat) ∧
  (∀ k0_t5 : Fin (k0_t5_loop v10).trips, ∀ (k0_h1 : k0_cond1 i = 1#1), 64 ∣ (k0_mult3 v10 k0_t5).toNat) ∧
  (∀ k0_t5 : Fin (k0_t5_loop v10).trips, ∀ (k0_h1 : k0_cond1 i = 1#1), 64 ∣ (k0_mult4 v10 k0_t5).toNat) ∧
  (∀ k0_t5 : Fin (k0_t5_loop v10).trips, ∀ (k0_h1 : k0_cond1 i = 1#1), 64 ∣ (k0_mult5 v10 k0_t5).toNat) ∧
  (∀ k0_t5 : Fin (k0_t5_loop v10).trips, ∀ (k0_h1 : k0_cond1 i = 1#1), 64 ∣ (k0_mult6 v10 k0_t5).toNat) ∧
  (∀ k0_t5 : Fin (k0_t5_loop v10).trips, ∀ (k0_h1 : k0_cond1 i = 1#1), 64 ∣ (k0_mult7 v10 k0_t5).toNat) ∧
  (∀ k0_t5 : Fin (k0_t5_loop v10).trips, ∀ (k0_h1 : k0_cond1 i = 1#1), 64 ∣ (k0_mult8 v10 k0_t5).toNat) ∧
  (∀ (k0_h1 : k0_cond1 i = 1#1), (k0_t6_loop v10).OK) ∧
  (∀ k0_t6 : Fin (k0_t6_loop v10).trips, ∀ (k0_h1 : k0_cond1 i = 1#1), 64 ∣ (k0_mult9 v10 k0_t6).toNat) ∧
  (∀ k0_t6 : Fin (k0_t6_loop v10).trips, ∀ (k0_h1 : k0_cond1 i = 1#1), ∀ (r : Fin 8), ∀ a, (k0_off13 v10 k0_t6 (BitVec.ofNat 32 (64 * r.val))) a + S64x2048.size a ≤ S81920x2048.size a) ∧
  (∀ k0_t6 : Fin (k0_t6_loop v10).trips, ∀ (k0_h1 : k0_cond1 i = 1#1), 64 ∣ (k0_mult10 v10 k0_t6).toNat) ∧
  (∀ k0_t6 : Fin (k0_t6_loop v10).trips, ∀ (k0_h1 : k0_cond1 i = 1#1), 64 ∣ (k0_mult11 v10 k0_t6).toNat) ∧
  (∀ k0_t6 : Fin (k0_t6_loop v10).trips, ∀ (k0_h1 : k0_cond1 i = 1#1), 64 ∣ (k0_mult12 v10 k0_t6).toNat) ∧
  (∀ k0_t6 : Fin (k0_t6_loop v10).trips, ∀ (k0_h1 : k0_cond1 i = 1#1), 64 ∣ (k0_mult13 v10 k0_t6).toNat) ∧
  (∀ k0_t6 : Fin (k0_t6_loop v10).trips, ∀ (k0_h1 : k0_cond1 i = 1#1), 64 ∣ (k0_mult14 v10 k0_t6).toNat) ∧
  (∀ k0_t6 : Fin (k0_t6_loop v10).trips, ∀ (k0_h1 : k0_cond1 i = 1#1), 64 ∣ (k0_mult15 v10 k0_t6).toNat) ∧
  (∀ k0_t6 : Fin (k0_t6_loop v10).trips, ∀ (k0_h1 : k0_cond1 i = 1#1), 64 ∣ (k0_mult16 v10 k0_t6).toNat)
theorem k0_t5_ok : ∀ (i : grid0.Coords) (v10 : BitVec 32) (k0_hw6 : k0_chk6 i v10), ∀ (k0_h1 : k0_cond1 i = 1#1), (k0_t5_loop v10).OK := fun i v10 k0_hw6 k0_h1 => k0_hw6.1 k0_h1
theorem k0_mult1_dvd : ∀ (i : grid0.Coords) (v10 : BitVec 32) (k0_hw6 : k0_chk6 i v10) (k0_t5 : Fin (k0_t5_loop v10).trips), ∀ (k0_h1 : k0_cond1 i = 1#1), 64 ∣ (k0_mult1 v10 k0_t5).toNat := fun i v10 k0_hw6 k0_t5 k0_h1 => k0_hw6.2.1 k0_t5 k0_h1
theorem k0_off12_inb : ∀ (i : grid0.Coords) (v10 : BitVec 32) (k0_hw6 : k0_chk6 i v10) (k0_t5 : Fin (k0_t5_loop v10).trips), ∀ (k0_h1 : k0_cond1 i = 1#1), ∀ (r : Fin 8), ∀ a, (k0_off12 v10 k0_t5 (BitVec.ofNat 32 (64 * r.val))) a + S64x2048.size a ≤ S81920x2048.size a := fun i v10 k0_hw6 k0_t5 k0_h1 r => k0_hw6.2.2.1 k0_t5 k0_h1 r
theorem k0_mult2_dvd : ∀ (i : grid0.Coords) (v10 : BitVec 32) (k0_hw6 : k0_chk6 i v10) (k0_t5 : Fin (k0_t5_loop v10).trips), ∀ (k0_h1 : k0_cond1 i = 1#1), 64 ∣ (k0_mult2 v10 k0_t5).toNat := fun i v10 k0_hw6 k0_t5 k0_h1 => k0_hw6.2.2.2.1 k0_t5 k0_h1
theorem k0_mult3_dvd : ∀ (i : grid0.Coords) (v10 : BitVec 32) (k0_hw6 : k0_chk6 i v10) (k0_t5 : Fin (k0_t5_loop v10).trips), ∀ (k0_h1 : k0_cond1 i = 1#1), 64 ∣ (k0_mult3 v10 k0_t5).toNat := fun i v10 k0_hw6 k0_t5 k0_h1 => k0_hw6.2.2.2.2.1 k0_t5 k0_h1
theorem k0_mult4_dvd : ∀ (i : grid0.Coords) (v10 : BitVec 32) (k0_hw6 : k0_chk6 i v10) (k0_t5 : Fin (k0_t5_loop v10).trips), ∀ (k0_h1 : k0_cond1 i = 1#1), 64 ∣ (k0_mult4 v10 k0_t5).toNat := fun i v10 k0_hw6 k0_t5 k0_h1 => k0_hw6.2.2.2.2.2.1 k0_t5 k0_h1
theorem k0_mult5_dvd : ∀ (i : grid0.Coords) (v10 : BitVec 32) (k0_hw6 : k0_chk6 i v10) (k0_t5 : Fin (k0_t5_loop v10).trips), ∀ (k0_h1 : k0_cond1 i = 1#1), 64 ∣ (k0_mult5 v10 k0_t5).toNat := fun i v10 k0_hw6 k0_t5 k0_h1 => k0_hw6.2.2.2.2.2.2.1 k0_t5 k0_h1
theorem k0_mult6_dvd : ∀ (i : grid0.Coords) (v10 : BitVec 32) (k0_hw6 : k0_chk6 i v10) (k0_t5 : Fin (k0_t5_loop v10).trips), ∀ (k0_h1 : k0_cond1 i = 1#1), 64 ∣ (k0_mult6 v10 k0_t5).toNat := fun i v10 k0_hw6 k0_t5 k0_h1 => k0_hw6.2.2.2.2.2.2.2.1 k0_t5 k0_h1
theorem k0_mult7_dvd : ∀ (i : grid0.Coords) (v10 : BitVec 32) (k0_hw6 : k0_chk6 i v10) (k0_t5 : Fin (k0_t5_loop v10).trips), ∀ (k0_h1 : k0_cond1 i = 1#1), 64 ∣ (k0_mult7 v10 k0_t5).toNat := fun i v10 k0_hw6 k0_t5 k0_h1 => k0_hw6.2.2.2.2.2.2.2.2.1 k0_t5 k0_h1
theorem k0_mult8_dvd : ∀ (i : grid0.Coords) (v10 : BitVec 32) (k0_hw6 : k0_chk6 i v10) (k0_t5 : Fin (k0_t5_loop v10).trips), ∀ (k0_h1 : k0_cond1 i = 1#1), 64 ∣ (k0_mult8 v10 k0_t5).toNat := fun i v10 k0_hw6 k0_t5 k0_h1 => k0_hw6.2.2.2.2.2.2.2.2.2.1 k0_t5 k0_h1
theorem k0_t6_ok : ∀ (i : grid0.Coords) (v10 : BitVec 32) (k0_hw6 : k0_chk6 i v10), ∀ (k0_h1 : k0_cond1 i = 1#1), (k0_t6_loop v10).OK := fun i v10 k0_hw6 k0_h1 => k0_hw6.2.2.2.2.2.2.2.2.2.2.1 k0_h1
theorem k0_mult9_dvd : ∀ (i : grid0.Coords) (v10 : BitVec 32) (k0_hw6 : k0_chk6 i v10) (k0_t6 : Fin (k0_t6_loop v10).trips), ∀ (k0_h1 : k0_cond1 i = 1#1), 64 ∣ (k0_mult9 v10 k0_t6).toNat := fun i v10 k0_hw6 k0_t6 k0_h1 => k0_hw6.2.2.2.2.2.2.2.2.2.2.2.1 k0_t6 k0_h1
theorem k0_off13_inb : ∀ (i : grid0.Coords) (v10 : BitVec 32) (k0_hw6 : k0_chk6 i v10) (k0_t6 : Fin (k0_t6_loop v10).trips), ∀ (k0_h1 : k0_cond1 i = 1#1), ∀ (r : Fin 8), ∀ a, (k0_off13 v10 k0_t6 (BitVec.ofNat 32 (64 * r.val))) a + S64x2048.size a ≤ S81920x2048.size a := fun i v10 k0_hw6 k0_t6 k0_h1 r => k0_hw6.2.2.2.2.2.2.2.2.2.2.2.2.1 k0_t6 k0_h1 r
theorem k0_mult10_dvd : ∀ (i : grid0.Coords) (v10 : BitVec 32) (k0_hw6 : k0_chk6 i v10) (k0_t6 : Fin (k0_t6_loop v10).trips), ∀ (k0_h1 : k0_cond1 i = 1#1), 64 ∣ (k0_mult10 v10 k0_t6).toNat := fun i v10 k0_hw6 k0_t6 k0_h1 => k0_hw6.2.2.2.2.2.2.2.2.2.2.2.2.2.1 k0_t6 k0_h1
theorem k0_mult11_dvd : ∀ (i : grid0.Coords) (v10 : BitVec 32) (k0_hw6 : k0_chk6 i v10) (k0_t6 : Fin (k0_t6_loop v10).trips), ∀ (k0_h1 : k0_cond1 i = 1#1), 64 ∣ (k0_mult11 v10 k0_t6).toNat := fun i v10 k0_hw6 k0_t6 k0_h1 => k0_hw6.2.2.2.2.2.2.2.2.2.2.2.2.2.2.1 k0_t6 k0_h1
theorem k0_mult12_dvd : ∀ (i : grid0.Coords) (v10 : BitVec 32) (k0_hw6 : k0_chk6 i v10) (k0_t6 : Fin (k0_t6_loop v10).trips), ∀ (k0_h1 : k0_cond1 i = 1#1), 64 ∣ (k0_mult12 v10 k0_t6).toNat := fun i v10 k0_hw6 k0_t6 k0_h1 => k0_hw6.2.2.2.2.2.2.2.2.2.2.2.2.2.2.2.1 k0_t6 k0_h1
theorem k0_mult13_dvd : ∀ (i : grid0.Coords) (v10 : BitVec 32) (k0_hw6 : k0_chk6 i v10) (k0_t6 : Fin (k0_t6_loop v10).trips), ∀ (k0_h1 : k0_cond1 i = 1#1), 64 ∣ (k0_mult13 v10 k0_t6).toNat := fun i v10 k0_hw6 k0_t6 k0_h1 => k0_hw6.2.2.2.2.2.2.2.2.2.2.2.2.2.2.2.2.1 k0_t6 k0_h1
theorem k0_mult14_dvd : ∀ (i : grid0.Coords) (v10 : BitVec 32) (k0_hw6 : k0_chk6 i v10) (k0_t6 : Fin (k0_t6_loop v10).trips), ∀ (k0_h1 : k0_cond1 i = 1#1), 64 ∣ (k0_mult14 v10 k0_t6).toNat := fun i v10 k0_hw6 k0_t6 k0_h1 => k0_hw6.2.2.2.2.2.2.2.2.2.2.2.2.2.2.2.2.2.1 k0_t6 k0_h1
theorem k0_mult15_dvd : ∀ (i : grid0.Coords) (v10 : BitVec 32) (k0_hw6 : k0_chk6 i v10) (k0_t6 : Fin (k0_t6_loop v10).trips), ∀ (k0_h1 : k0_cond1 i = 1#1), 64 ∣ (k0_mult15 v10 k0_t6).toNat := fun i v10 k0_hw6 k0_t6 k0_h1 => k0_hw6.2.2.2.2.2.2.2.2.2.2.2.2.2.2.2.2.2.2.1 k0_t6 k0_h1
theorem k0_mult16_dvd : ∀ (i : grid0.Coords) (v10 : BitVec 32) (k0_hw6 : k0_chk6 i v10) (k0_t6 : Fin (k0_t6_loop v10).trips), ∀ (k0_h1 : k0_cond1 i = 1#1), 64 ∣ (k0_mult16 v10 k0_t6).toNat := fun i v10 k0_hw6 k0_t6 k0_h1 => k0_hw6.2.2.2.2.2.2.2.2.2.2.2.2.2.2.2.2.2.2.2 k0_t6 k0_h1

@[reducible] def k0_t7_loop : Scf.Loop 32 :=
  let c0_i32_18 : BitVec 32 := 0#32
  let c32_i32_19 : BitVec 32 := 32#32
  let v16 : BitVec 32 := Scalar.addi c0_i32_18 c32_i32_19
  let c1_i32_20 : BitVec 32 := 1#32
  ⟨c0_i32_18, v16, c1_i32_20⟩
def k0_off14 (k0_t7 : Fin k0_t7_loop.trips) : Fin 1 → Nat :=
  let c0_i32_18 : BitVec 32 := 0#32
  let c1_i32_20 : BitVec 32 := 1#32
  let arg11 : BitVec 32 := Scf.iv c0_i32_18 c1_i32_20 k0_t7
  let v23 : Index := Scalar.indexCast arg11
  ![v23.toNat]
@[reducible] def k0_t8_loop (v24 : BitVec 32) : Scf.Loop 32 :=
  let c0_i32_28 : BitVec 32 := 0#32
  let v25 : BitVec 32 := Scalar.subi v24 c0_i32_28
  let c1_i32_29 : BitVec 32 := 1#32
  let v27 : BitVec 32 := Scalar.divsi v25 c1_i32_29
  let v28 : BitVec 32 := Scalar.muli v27 c1_i32_29
  let v29 : BitVec 32 := Scalar.addi c0_i32_28 v28
  let c1_i32_30 : BitVec 32 := 1#32
  ⟨c0_i32_28, v29, c1_i32_30⟩

def k0_off15 (k0_t7 : Fin k0_t7_loop.trips) : Fin 1 → Nat :=
  let c0_i32_18 : BitVec 32 := 0#32
  let c1_i32_20 : BitVec 32 := 1#32
  let arg11 : BitVec 32 := Scf.iv c0_i32_18 c1_i32_20 k0_t7
  let v30 : Index := Scalar.indexCast arg11
  ![v30.toNat]
def k0_off16 (v24 : BitVec 32) (k0_t8 : Fin (k0_t8_loop v24).trips) (v31 : BitVec 32) : Fin 2 → Nat :=
  let c0_i32_28 : BitVec 32 := 0#32
  let c1_i32_30 : BitVec 32 := 1#32
  let arg12 : BitVec 32 := Scf.iv c0_i32_28 c1_i32_30 k0_t8
  let v32 : BitVec 32 := Scalar.addi v31 arg12
  let c0_i32_32 : BitVec 32 := 0#32
  ![v32.toNat, 0]

def k0_chk8 (i : grid0.Coords) (v24 : BitVec 32) (k0_t8 : Fin (k0_t8_loop v24).trips) (v31 : BitVec 32) : Prop :=
  (∀ (k0_h1 : k0_cond1 i = 1#1), ∀ a, (k0_off16 v24 k0_t8 v31) a + S1x2048.size a ≤ S81920x2048.size a)
theorem k0_off16_inb : ∀ (i : grid0.Coords) (v24 : BitVec 32) (k0_t8 : Fin (k0_t8_loop v24).trips) (v31 : BitVec 32) (k0_hw8 : k0_chk8 i v24 k0_t8 v31), ∀ (k0_h1 : k0_cond1 i = 1#1), ∀ a, (k0_off16 v24 k0_t8 v31) a + S1x2048.size a ≤ S81920x2048.size a := fun i v24 k0_t8 v31 k0_hw8 k0_h1 => k0_hw8 k0_h1

@[reducible] def k0_t9_loop (v24 : BitVec 32) : Scf.Loop 32 :=
  let c0_i32_28 : BitVec 32 := 0#32
  let v25 : BitVec 32 := Scalar.subi v24 c0_i32_28
  let c1_i32_29 : BitVec 32 := 1#32
  let v27 : BitVec 32 := Scalar.divsi v25 c1_i32_29
  let v28 : BitVec 32 := Scalar.muli v27 c1_i32_29
  let v29 : BitVec 32 := Scalar.addi c0_i32_28 v28
  let v26 : BitVec 32 := Scalar.addi c0_i32_28 v25
  let c1_i32_31 : BitVec 32 := 1#32
  ⟨v29, v26, c1_i32_31⟩

def k0_chk7 (i : grid0.Coords) (v24 : BitVec 32) : Prop :=
  (∀ (k0_h1 : k0_cond1 i = 1#1), (k0_t8_loop v24).OK) ∧
  (∀ (k0_h1 : k0_cond1 i = 1#1), (k0_t9_loop v24).OK)
theorem k0_t8_ok : ∀ (i : grid0.Coords) (v24 : BitVec 32) (k0_hw7 : k0_chk7 i v24), ∀ (k0_h1 : k0_cond1 i = 1#1), (k0_t8_loop v24).OK := fun i v24 k0_hw7 k0_h1 => k0_hw7.1 k0_h1
theorem k0_t9_ok : ∀ (i : grid0.Coords) (v24 : BitVec 32) (k0_hw7 : k0_chk7 i v24), ∀ (k0_h1 : k0_cond1 i = 1#1), (k0_t9_loop v24).OK := fun i v24 k0_hw7 k0_h1 => k0_hw7.2 k0_h1

def k0_off17 (k0_t7 : Fin k0_t7_loop.trips) : Fin 1 → Nat :=
  let c0_i32_18 : BitVec 32 := 0#32
  let c1_i32_20 : BitVec 32 := 1#32
  let arg11 : BitVec 32 := Scf.iv c0_i32_18 c1_i32_20 k0_t7
  let v30 : Index := Scalar.indexCast arg11
  ![v30.toNat]
def k0_off18 (v24 : BitVec 32) (k0_t9 : Fin (k0_t9_loop v24).trips) (v31 : BitVec 32) : Fin 2 → Nat :=
  let c0_i32_28 : BitVec 32 := 0#32
  let v25 : BitVec 32 := Scalar.subi v24 c0_i32_28
  let c1_i32_29 : BitVec 32 := 1#32
  let v27 : BitVec 32 := Scalar.divsi v25 c1_i32_29
  let v28 : BitVec 32 := Scalar.muli v27 c1_i32_29
  let v29 : BitVec 32 := Scalar.addi c0_i32_28 v28
  let c1_i32_31 : BitVec 32 := 1#32
  let arg12 : BitVec 32 := Scf.iv v29 c1_i32_31 k0_t9
  let v32 : BitVec 32 := Scalar.addi v31 arg12
  let c0_i32_32 : BitVec 32 := 0#32
  ![v32.toNat, 0]

def k0_chk9 (i : grid0.Coords) (v24 : BitVec 32) (k0_t9 : Fin (k0_t9_loop v24).trips) (v31 : BitVec 32) : Prop :=
  (∀ (k0_h1 : k0_cond1 i = 1#1), ∀ a, (k0_off18 v24 k0_t9 v31) a + S1x2048.size a ≤ S81920x2048.size a)
theorem k0_off18_inb : ∀ (i : grid0.Coords) (v24 : BitVec 32) (k0_t9 : Fin (k0_t9_loop v24).trips) (v31 : BitVec 32) (k0_hw9 : k0_chk9 i v24 k0_t9 v31), ∀ (k0_h1 : k0_cond1 i = 1#1), ∀ a, (k0_off18 v24 k0_t9 v31) a + S1x2048.size a ≤ S81920x2048.size a := fun i v24 k0_t9 v31 k0_hw9 k0_h1 => k0_hw9 k0_h1

@[reducible] def k0_t10_loop (v17 : BitVec 32) : Scf.Loop 32 :=
  let c160_i32_24 : BitVec 32 := 160#32
  let v18 : BitVec 32 := Scalar.subi c160_i32_24 v17
  let c1_i32_25 : BitVec 32 := 1#32
  let v20 : BitVec 32 := Scalar.divsi v18 c1_i32_25
  let v21 : BitVec 32 := Scalar.muli v20 c1_i32_25
  let v22 : BitVec 32 := Scalar.addi v17 v21
  let c1_i32_26 : BitVec 32 := 1#32
  ⟨v17, v22, c1_i32_26⟩

def k0_mult17 (v17 : BitVec 32) (k0_t10 : Fin (k0_t10_loop v17).trips) : BitVec 32 :=
  let c1_i32_26 : BitVec 32 := 1#32
  let arg11 : BitVec 32 := Scf.iv v17 c1_i32_26 k0_t10
  let c512_i32 : BitVec 32 := 512#32
  let v23 : BitVec 32 := Scalar.muli arg11 c512_i32
  let c0_i32_28 : BitVec 32 := 0#32
  let v24 : BitVec 32 := Scalar.addi v23 c0_i32_28
  v24
def k0_off19 (v17 : BitVec 32) (k0_t10 : Fin (k0_t10_loop v17).trips) (c0_i32_28 : BitVec 32) : Fin 2 → Nat :=
  let c1_i32_26 : BitVec 32 := 1#32
  let arg11 : BitVec 32 := Scf.iv v17 c1_i32_26 k0_t10
  let c512_i32 : BitVec 32 := 512#32
  let v23 : BitVec 32 := Scalar.muli arg11 c512_i32
  let v24 : BitVec 32 := Scalar.addi v23 c0_i32_28
  let v25 : BitVec 32 := v24
  let c0_i32_29 : BitVec 32 := 0#32
  ![v25.toNat, 0]
def k0_mult18 (v17 : BitVec 32) (k0_t10 : Fin (k0_t10_loop v17).trips) : BitVec 32 :=
  let c1_i32_26 : BitVec 32 := 1#32
  let arg11 : BitVec 32 := Scf.iv v17 c1_i32_26 k0_t10
  let c512_i32_30 : BitVec 32 := 512#32
  let v27 : BitVec 32 := Scalar.muli arg11 c512_i32_30
  let c64_i32 : BitVec 32 := 64#32
  let v28 : BitVec 32 := Scalar.addi v27 c64_i32
  v28
def k0_mult19 (v17 : BitVec 32) (k0_t10 : Fin (k0_t10_loop v17).trips) : BitVec 32 :=
  let c1_i32_26 : BitVec 32 := 1#32
  let arg11 : BitVec 32 := Scf.iv v17 c1_i32_26 k0_t10
  let c512_i32_32 : BitVec 32 := 512#32
  let v31 : BitVec 32 := Scalar.muli arg11 c512_i32_32
  let c128_i32 : BitVec 32 := 128#32
  let v32 : BitVec 32 := Scalar.addi v31 c128_i32
  v32
def k0_mult20 (v17 : BitVec 32) (k0_t10 : Fin (k0_t10_loop v17).trips) : BitVec 32 :=
  let c1_i32_26 : BitVec 32 := 1#32
  let arg11 : BitVec 32 := Scf.iv v17 c1_i32_26 k0_t10
  let c512_i32_34 : BitVec 32 := 512#32
  let v35 : BitVec 32 := Scalar.muli arg11 c512_i32_34
  let c192_i32 : BitVec 32 := 192#32
  let v36 : BitVec 32 := Scalar.addi v35 c192_i32
  v36
def k0_mult21 (v17 : BitVec 32) (k0_t10 : Fin (k0_t10_loop v17).trips) : BitVec 32 :=
  let c1_i32_26 : BitVec 32 := 1#32
  let arg11 : BitVec 32 := Scf.iv v17 c1_i32_26 k0_t10
  let c512_i32_36 : BitVec 32 := 512#32
  let v39 : BitVec 32 := Scalar.muli arg11 c512_i32_36
  let c256_i32_37 : BitVec 32 := 256#32
  let v40 : BitVec 32 := Scalar.addi v39 c256_i32_37
  v40
def k0_mult22 (v17 : BitVec 32) (k0_t10 : Fin (k0_t10_loop v17).trips) : BitVec 32 :=
  let c1_i32_26 : BitVec 32 := 1#32
  let arg11 : BitVec 32 := Scf.iv v17 c1_i32_26 k0_t10
  let c512_i32_39 : BitVec 32 := 512#32
  let v43 : BitVec 32 := Scalar.muli arg11 c512_i32_39
  let c320_i32 : BitVec 32 := 320#32
  let v44 : BitVec 32 := Scalar.addi v43 c320_i32
  v44
def k0_mult23 (v17 : BitVec 32) (k0_t10 : Fin (k0_t10_loop v17).trips) : BitVec 32 :=
  let c1_i32_26 : BitVec 32 := 1#32
  let arg11 : BitVec 32 := Scf.iv v17 c1_i32_26 k0_t10
  let c512_i32_41 : BitVec 32 := 512#32
  let v47 : BitVec 32 := Scalar.muli arg11 c512_i32_41
  let c384_i32 : BitVec 32 := 384#32
  let v48 : BitVec 32 := Scalar.addi v47 c384_i32
  v48
def k0_mult24 (v17 : BitVec 32) (k0_t10 : Fin (k0_t10_loop v17).trips) : BitVec 32 :=
  let c1_i32_26 : BitVec 32 := 1#32
  let arg11 : BitVec 32 := Scf.iv v17 c1_i32_26 k0_t10
  let c512_i32_43 : BitVec 32 := 512#32
  let v51 : BitVec 32 := Scalar.muli arg11 c512_i32_43
  let c448_i32 : BitVec 32 := 448#32
  let v52 : BitVec 32 := Scalar.addi v51 c448_i32
  v52
@[reducible] def k0_t11_loop (v17 : BitVec 32) : Scf.Loop 32 :=
  let c160_i32_24 : BitVec 32 := 160#32
  let v18 : BitVec 32 := Scalar.subi c160_i32_24 v17
  let c1_i32_25 : BitVec 32 := 1#32
  let v20 : BitVec 32 := Scalar.divsi v18 c1_i32_25
  let v21 : BitVec 32 := Scalar.muli v20 c1_i32_25
  let v22 : BitVec 32 := Scalar.addi v17 v21
  let v19 : BitVec 32 := Scalar.addi v17 v18
  let c1_i32_27 : BitVec 32 := 1#32
  ⟨v22, v19, c1_i32_27⟩
def k0_mult25 (v17 : BitVec 32) (k0_t11 : Fin (k0_t11_loop v17).trips) : BitVec 32 :=
  let c160_i32_24 : BitVec 32 := 160#32
  let v18 : BitVec 32 := Scalar.subi c160_i32_24 v17
  let c1_i32_25 : BitVec 32 := 1#32
  let v20 : BitVec 32 := Scalar.divsi v18 c1_i32_25
  let v21 : BitVec 32 := Scalar.muli v20 c1_i32_25
  let v22 : BitVec 32 := Scalar.addi v17 v21
  let c1_i32_27 : BitVec 32 := 1#32
  let arg11 : BitVec 32 := Scf.iv v22 c1_i32_27 k0_t11
  let c512_i32 : BitVec 32 := 512#32
  let v23 : BitVec 32 := Scalar.muli arg11 c512_i32
  let c0_i32_28 : BitVec 32 := 0#32
  let v24 : BitVec 32 := Scalar.addi v23 c0_i32_28
  v24
def k0_off20 (v17 : BitVec 32) (k0_t11 : Fin (k0_t11_loop v17).trips) (c0_i32_28 : BitVec 32) : Fin 2 → Nat :=
  let c160_i32_24 : BitVec 32 := 160#32
  let v18 : BitVec 32 := Scalar.subi c160_i32_24 v17
  let c1_i32_25 : BitVec 32 := 1#32
  let v20 : BitVec 32 := Scalar.divsi v18 c1_i32_25
  let v21 : BitVec 32 := Scalar.muli v20 c1_i32_25
  let v22 : BitVec 32 := Scalar.addi v17 v21
  let c1_i32_27 : BitVec 32 := 1#32
  let arg11 : BitVec 32 := Scf.iv v22 c1_i32_27 k0_t11
  let c512_i32 : BitVec 32 := 512#32
  let v23 : BitVec 32 := Scalar.muli arg11 c512_i32
  let v24 : BitVec 32 := Scalar.addi v23 c0_i32_28
  let v25 : BitVec 32 := v24
  let c0_i32_29 : BitVec 32 := 0#32
  ![v25.toNat, 0]
def k0_mult26 (v17 : BitVec 32) (k0_t11 : Fin (k0_t11_loop v17).trips) : BitVec 32 :=
  let c160_i32_24 : BitVec 32 := 160#32
  let v18 : BitVec 32 := Scalar.subi c160_i32_24 v17
  let c1_i32_25 : BitVec 32 := 1#32
  let v20 : BitVec 32 := Scalar.divsi v18 c1_i32_25
  let v21 : BitVec 32 := Scalar.muli v20 c1_i32_25
  let v22 : BitVec 32 := Scalar.addi v17 v21
  let c1_i32_27 : BitVec 32 := 1#32
  let arg11 : BitVec 32 := Scf.iv v22 c1_i32_27 k0_t11
  let c512_i32_30 : BitVec 32 := 512#32
  let v27 : BitVec 32 := Scalar.muli arg11 c512_i32_30
  let c64_i32 : BitVec 32 := 64#32
  let v28 : BitVec 32 := Scalar.addi v27 c64_i32
  v28
def k0_mult27 (v17 : BitVec 32) (k0_t11 : Fin (k0_t11_loop v17).trips) : BitVec 32 :=
  let c160_i32_24 : BitVec 32 := 160#32
  let v18 : BitVec 32 := Scalar.subi c160_i32_24 v17
  let c1_i32_25 : BitVec 32 := 1#32
  let v20 : BitVec 32 := Scalar.divsi v18 c1_i32_25
  let v21 : BitVec 32 := Scalar.muli v20 c1_i32_25
  let v22 : BitVec 32 := Scalar.addi v17 v21
  let c1_i32_27 : BitVec 32 := 1#32
  let arg11 : BitVec 32 := Scf.iv v22 c1_i32_27 k0_t11
  let c512_i32_32 : BitVec 32 := 512#32
  let v31 : BitVec 32 := Scalar.muli arg11 c512_i32_32
  let c128_i32 : BitVec 32 := 128#32
  let v32 : BitVec 32 := Scalar.addi v31 c128_i32
  v32
def k0_mult28 (v17 : BitVec 32) (k0_t11 : Fin (k0_t11_loop v17).trips) : BitVec 32 :=
  let c160_i32_24 : BitVec 32 := 160#32
  let v18 : BitVec 32 := Scalar.subi c160_i32_24 v17
  let c1_i32_25 : BitVec 32 := 1#32
  let v20 : BitVec 32 := Scalar.divsi v18 c1_i32_25
  let v21 : BitVec 32 := Scalar.muli v20 c1_i32_25
  let v22 : BitVec 32 := Scalar.addi v17 v21
  let c1_i32_27 : BitVec 32 := 1#32
  let arg11 : BitVec 32 := Scf.iv v22 c1_i32_27 k0_t11
  let c512_i32_34 : BitVec 32 := 512#32
  let v35 : BitVec 32 := Scalar.muli arg11 c512_i32_34
  let c192_i32 : BitVec 32 := 192#32
  let v36 : BitVec 32 := Scalar.addi v35 c192_i32
  v36
def k0_mult29 (v17 : BitVec 32) (k0_t11 : Fin (k0_t11_loop v17).trips) : BitVec 32 :=
  let c160_i32_24 : BitVec 32 := 160#32
  let v18 : BitVec 32 := Scalar.subi c160_i32_24 v17
  let c1_i32_25 : BitVec 32 := 1#32
  let v20 : BitVec 32 := Scalar.divsi v18 c1_i32_25
  let v21 : BitVec 32 := Scalar.muli v20 c1_i32_25
  let v22 : BitVec 32 := Scalar.addi v17 v21
  let c1_i32_27 : BitVec 32 := 1#32
  let arg11 : BitVec 32 := Scf.iv v22 c1_i32_27 k0_t11
  let c512_i32_36 : BitVec 32 := 512#32
  let v39 : BitVec 32 := Scalar.muli arg11 c512_i32_36
  let c256_i32_37 : BitVec 32 := 256#32
  let v40 : BitVec 32 := Scalar.addi v39 c256_i32_37
  v40
def k0_mult30 (v17 : BitVec 32) (k0_t11 : Fin (k0_t11_loop v17).trips) : BitVec 32 :=
  let c160_i32_24 : BitVec 32 := 160#32
  let v18 : BitVec 32 := Scalar.subi c160_i32_24 v17
  let c1_i32_25 : BitVec 32 := 1#32
  let v20 : BitVec 32 := Scalar.divsi v18 c1_i32_25
  let v21 : BitVec 32 := Scalar.muli v20 c1_i32_25
  let v22 : BitVec 32 := Scalar.addi v17 v21
  let c1_i32_27 : BitVec 32 := 1#32
  let arg11 : BitVec 32 := Scf.iv v22 c1_i32_27 k0_t11
  let c512_i32_39 : BitVec 32 := 512#32
  let v43 : BitVec 32 := Scalar.muli arg11 c512_i32_39
  let c320_i32 : BitVec 32 := 320#32
  let v44 : BitVec 32 := Scalar.addi v43 c320_i32
  v44
def k0_mult31 (v17 : BitVec 32) (k0_t11 : Fin (k0_t11_loop v17).trips) : BitVec 32 :=
  let c160_i32_24 : BitVec 32 := 160#32
  let v18 : BitVec 32 := Scalar.subi c160_i32_24 v17
  let c1_i32_25 : BitVec 32 := 1#32
  let v20 : BitVec 32 := Scalar.divsi v18 c1_i32_25
  let v21 : BitVec 32 := Scalar.muli v20 c1_i32_25
  let v22 : BitVec 32 := Scalar.addi v17 v21
  let c1_i32_27 : BitVec 32 := 1#32
  let arg11 : BitVec 32 := Scf.iv v22 c1_i32_27 k0_t11
  let c512_i32_41 : BitVec 32 := 512#32
  let v47 : BitVec 32 := Scalar.muli arg11 c512_i32_41
  let c384_i32 : BitVec 32 := 384#32
  let v48 : BitVec 32 := Scalar.addi v47 c384_i32
  v48
def k0_mult32 (v17 : BitVec 32) (k0_t11 : Fin (k0_t11_loop v17).trips) : BitVec 32 :=
  let c160_i32_24 : BitVec 32 := 160#32
  let v18 : BitVec 32 := Scalar.subi c160_i32_24 v17
  let c1_i32_25 : BitVec 32 := 1#32
  let v20 : BitVec 32 := Scalar.divsi v18 c1_i32_25
  let v21 : BitVec 32 := Scalar.muli v20 c1_i32_25
  let v22 : BitVec 32 := Scalar.addi v17 v21
  let c1_i32_27 : BitVec 32 := 1#32
  let arg11 : BitVec 32 := Scf.iv v22 c1_i32_27 k0_t11
  let c512_i32_43 : BitVec 32 := 512#32
  let v51 : BitVec 32 := Scalar.muli arg11 c512_i32_43
  let c448_i32 : BitVec 32 := 448#32
  let v52 : BitVec 32 := Scalar.addi v51 c448_i32
  v52

def k0_chk10 (i : grid0.Coords) (v17 : BitVec 32) : Prop :=
  (∀ (k0_h1 : k0_cond1 i = 1#1), (k0_t10_loop v17).OK) ∧
  (∀ k0_t10 : Fin (k0_t10_loop v17).trips, ∀ (k0_h1 : k0_cond1 i = 1#1), 64 ∣ (k0_mult17 v17 k0_t10).toNat) ∧
  (∀ k0_t10 : Fin (k0_t10_loop v17).trips, ∀ (k0_h1 : k0_cond1 i = 1#1), ∀ (r : Fin 8), ∀ a, (k0_off19 v17 k0_t10 (BitVec.ofNat 32 (64 * r.val))) a + S64x2048.size a ≤ S81920x2048.size a) ∧
  (∀ k0_t10 : Fin (k0_t10_loop v17).trips, ∀ (k0_h1 : k0_cond1 i = 1#1), 64 ∣ (k0_mult18 v17 k0_t10).toNat) ∧
  (∀ k0_t10 : Fin (k0_t10_loop v17).trips, ∀ (k0_h1 : k0_cond1 i = 1#1), 64 ∣ (k0_mult19 v17 k0_t10).toNat) ∧
  (∀ k0_t10 : Fin (k0_t10_loop v17).trips, ∀ (k0_h1 : k0_cond1 i = 1#1), 64 ∣ (k0_mult20 v17 k0_t10).toNat) ∧
  (∀ k0_t10 : Fin (k0_t10_loop v17).trips, ∀ (k0_h1 : k0_cond1 i = 1#1), 64 ∣ (k0_mult21 v17 k0_t10).toNat) ∧
  (∀ k0_t10 : Fin (k0_t10_loop v17).trips, ∀ (k0_h1 : k0_cond1 i = 1#1), 64 ∣ (k0_mult22 v17 k0_t10).toNat) ∧
  (∀ k0_t10 : Fin (k0_t10_loop v17).trips, ∀ (k0_h1 : k0_cond1 i = 1#1), 64 ∣ (k0_mult23 v17 k0_t10).toNat) ∧
  (∀ k0_t10 : Fin (k0_t10_loop v17).trips, ∀ (k0_h1 : k0_cond1 i = 1#1), 64 ∣ (k0_mult24 v17 k0_t10).toNat) ∧
  (∀ (k0_h1 : k0_cond1 i = 1#1), (k0_t11_loop v17).OK) ∧
  (∀ k0_t11 : Fin (k0_t11_loop v17).trips, ∀ (k0_h1 : k0_cond1 i = 1#1), 64 ∣ (k0_mult25 v17 k0_t11).toNat) ∧
  (∀ k0_t11 : Fin (k0_t11_loop v17).trips, ∀ (k0_h1 : k0_cond1 i = 1#1), ∀ (r : Fin 8), ∀ a, (k0_off20 v17 k0_t11 (BitVec.ofNat 32 (64 * r.val))) a + S64x2048.size a ≤ S81920x2048.size a) ∧
  (∀ k0_t11 : Fin (k0_t11_loop v17).trips, ∀ (k0_h1 : k0_cond1 i = 1#1), 64 ∣ (k0_mult26 v17 k0_t11).toNat) ∧
  (∀ k0_t11 : Fin (k0_t11_loop v17).trips, ∀ (k0_h1 : k0_cond1 i = 1#1), 64 ∣ (k0_mult27 v17 k0_t11).toNat) ∧
  (∀ k0_t11 : Fin (k0_t11_loop v17).trips, ∀ (k0_h1 : k0_cond1 i = 1#1), 64 ∣ (k0_mult28 v17 k0_t11).toNat) ∧
  (∀ k0_t11 : Fin (k0_t11_loop v17).trips, ∀ (k0_h1 : k0_cond1 i = 1#1), 64 ∣ (k0_mult29 v17 k0_t11).toNat) ∧
  (∀ k0_t11 : Fin (k0_t11_loop v17).trips, ∀ (k0_h1 : k0_cond1 i = 1#1), 64 ∣ (k0_mult30 v17 k0_t11).toNat) ∧
  (∀ k0_t11 : Fin (k0_t11_loop v17).trips, ∀ (k0_h1 : k0_cond1 i = 1#1), 64 ∣ (k0_mult31 v17 k0_t11).toNat) ∧
  (∀ k0_t11 : Fin (k0_t11_loop v17).trips, ∀ (k0_h1 : k0_cond1 i = 1#1), 64 ∣ (k0_mult32 v17 k0_t11).toNat)
theorem k0_t10_ok : ∀ (i : grid0.Coords) (v17 : BitVec 32) (k0_hw10 : k0_chk10 i v17), ∀ (k0_h1 : k0_cond1 i = 1#1), (k0_t10_loop v17).OK := fun i v17 k0_hw10 k0_h1 => k0_hw10.1 k0_h1
theorem k0_mult17_dvd : ∀ (i : grid0.Coords) (v17 : BitVec 32) (k0_hw10 : k0_chk10 i v17) (k0_t10 : Fin (k0_t10_loop v17).trips), ∀ (k0_h1 : k0_cond1 i = 1#1), 64 ∣ (k0_mult17 v17 k0_t10).toNat := fun i v17 k0_hw10 k0_t10 k0_h1 => k0_hw10.2.1 k0_t10 k0_h1
theorem k0_off19_inb : ∀ (i : grid0.Coords) (v17 : BitVec 32) (k0_hw10 : k0_chk10 i v17) (k0_t10 : Fin (k0_t10_loop v17).trips), ∀ (k0_h1 : k0_cond1 i = 1#1), ∀ (r : Fin 8), ∀ a, (k0_off19 v17 k0_t10 (BitVec.ofNat 32 (64 * r.val))) a + S64x2048.size a ≤ S81920x2048.size a := fun i v17 k0_hw10 k0_t10 k0_h1 r => k0_hw10.2.2.1 k0_t10 k0_h1 r
theorem k0_mult18_dvd : ∀ (i : grid0.Coords) (v17 : BitVec 32) (k0_hw10 : k0_chk10 i v17) (k0_t10 : Fin (k0_t10_loop v17).trips), ∀ (k0_h1 : k0_cond1 i = 1#1), 64 ∣ (k0_mult18 v17 k0_t10).toNat := fun i v17 k0_hw10 k0_t10 k0_h1 => k0_hw10.2.2.2.1 k0_t10 k0_h1
theorem k0_mult19_dvd : ∀ (i : grid0.Coords) (v17 : BitVec 32) (k0_hw10 : k0_chk10 i v17) (k0_t10 : Fin (k0_t10_loop v17).trips), ∀ (k0_h1 : k0_cond1 i = 1#1), 64 ∣ (k0_mult19 v17 k0_t10).toNat := fun i v17 k0_hw10 k0_t10 k0_h1 => k0_hw10.2.2.2.2.1 k0_t10 k0_h1
theorem k0_mult20_dvd : ∀ (i : grid0.Coords) (v17 : BitVec 32) (k0_hw10 : k0_chk10 i v17) (k0_t10 : Fin (k0_t10_loop v17).trips), ∀ (k0_h1 : k0_cond1 i = 1#1), 64 ∣ (k0_mult20 v17 k0_t10).toNat := fun i v17 k0_hw10 k0_t10 k0_h1 => k0_hw10.2.2.2.2.2.1 k0_t10 k0_h1
theorem k0_mult21_dvd : ∀ (i : grid0.Coords) (v17 : BitVec 32) (k0_hw10 : k0_chk10 i v17) (k0_t10 : Fin (k0_t10_loop v17).trips), ∀ (k0_h1 : k0_cond1 i = 1#1), 64 ∣ (k0_mult21 v17 k0_t10).toNat := fun i v17 k0_hw10 k0_t10 k0_h1 => k0_hw10.2.2.2.2.2.2.1 k0_t10 k0_h1
theorem k0_mult22_dvd : ∀ (i : grid0.Coords) (v17 : BitVec 32) (k0_hw10 : k0_chk10 i v17) (k0_t10 : Fin (k0_t10_loop v17).trips), ∀ (k0_h1 : k0_cond1 i = 1#1), 64 ∣ (k0_mult22 v17 k0_t10).toNat := fun i v17 k0_hw10 k0_t10 k0_h1 => k0_hw10.2.2.2.2.2.2.2.1 k0_t10 k0_h1
theorem k0_mult23_dvd : ∀ (i : grid0.Coords) (v17 : BitVec 32) (k0_hw10 : k0_chk10 i v17) (k0_t10 : Fin (k0_t10_loop v17).trips), ∀ (k0_h1 : k0_cond1 i = 1#1), 64 ∣ (k0_mult23 v17 k0_t10).toNat := fun i v17 k0_hw10 k0_t10 k0_h1 => k0_hw10.2.2.2.2.2.2.2.2.1 k0_t10 k0_h1
theorem k0_mult24_dvd : ∀ (i : grid0.Coords) (v17 : BitVec 32) (k0_hw10 : k0_chk10 i v17) (k0_t10 : Fin (k0_t10_loop v17).trips), ∀ (k0_h1 : k0_cond1 i = 1#1), 64 ∣ (k0_mult24 v17 k0_t10).toNat := fun i v17 k0_hw10 k0_t10 k0_h1 => k0_hw10.2.2.2.2.2.2.2.2.2.1 k0_t10 k0_h1
theorem k0_t11_ok : ∀ (i : grid0.Coords) (v17 : BitVec 32) (k0_hw10 : k0_chk10 i v17), ∀ (k0_h1 : k0_cond1 i = 1#1), (k0_t11_loop v17).OK := fun i v17 k0_hw10 k0_h1 => k0_hw10.2.2.2.2.2.2.2.2.2.2.1 k0_h1
theorem k0_mult25_dvd : ∀ (i : grid0.Coords) (v17 : BitVec 32) (k0_hw10 : k0_chk10 i v17) (k0_t11 : Fin (k0_t11_loop v17).trips), ∀ (k0_h1 : k0_cond1 i = 1#1), 64 ∣ (k0_mult25 v17 k0_t11).toNat := fun i v17 k0_hw10 k0_t11 k0_h1 => k0_hw10.2.2.2.2.2.2.2.2.2.2.2.1 k0_t11 k0_h1
theorem k0_off20_inb : ∀ (i : grid0.Coords) (v17 : BitVec 32) (k0_hw10 : k0_chk10 i v17) (k0_t11 : Fin (k0_t11_loop v17).trips), ∀ (k0_h1 : k0_cond1 i = 1#1), ∀ (r : Fin 8), ∀ a, (k0_off20 v17 k0_t11 (BitVec.ofNat 32 (64 * r.val))) a + S64x2048.size a ≤ S81920x2048.size a := fun i v17 k0_hw10 k0_t11 k0_h1 r => k0_hw10.2.2.2.2.2.2.2.2.2.2.2.2.1 k0_t11 k0_h1 r
theorem k0_mult26_dvd : ∀ (i : grid0.Coords) (v17 : BitVec 32) (k0_hw10 : k0_chk10 i v17) (k0_t11 : Fin (k0_t11_loop v17).trips), ∀ (k0_h1 : k0_cond1 i = 1#1), 64 ∣ (k0_mult26 v17 k0_t11).toNat := fun i v17 k0_hw10 k0_t11 k0_h1 => k0_hw10.2.2.2.2.2.2.2.2.2.2.2.2.2.1 k0_t11 k0_h1
theorem k0_mult27_dvd : ∀ (i : grid0.Coords) (v17 : BitVec 32) (k0_hw10 : k0_chk10 i v17) (k0_t11 : Fin (k0_t11_loop v17).trips), ∀ (k0_h1 : k0_cond1 i = 1#1), 64 ∣ (k0_mult27 v17 k0_t11).toNat := fun i v17 k0_hw10 k0_t11 k0_h1 => k0_hw10.2.2.2.2.2.2.2.2.2.2.2.2.2.2.1 k0_t11 k0_h1
theorem k0_mult28_dvd : ∀ (i : grid0.Coords) (v17 : BitVec 32) (k0_hw10 : k0_chk10 i v17) (k0_t11 : Fin (k0_t11_loop v17).trips), ∀ (k0_h1 : k0_cond1 i = 1#1), 64 ∣ (k0_mult28 v17 k0_t11).toNat := fun i v17 k0_hw10 k0_t11 k0_h1 => k0_hw10.2.2.2.2.2.2.2.2.2.2.2.2.2.2.2.1 k0_t11 k0_h1
theorem k0_mult29_dvd : ∀ (i : grid0.Coords) (v17 : BitVec 32) (k0_hw10 : k0_chk10 i v17) (k0_t11 : Fin (k0_t11_loop v17).trips), ∀ (k0_h1 : k0_cond1 i = 1#1), 64 ∣ (k0_mult29 v17 k0_t11).toNat := fun i v17 k0_hw10 k0_t11 k0_h1 => k0_hw10.2.2.2.2.2.2.2.2.2.2.2.2.2.2.2.2.1 k0_t11 k0_h1
theorem k0_mult30_dvd : ∀ (i : grid0.Coords) (v17 : BitVec 32) (k0_hw10 : k0_chk10 i v17) (k0_t11 : Fin (k0_t11_loop v17).trips), ∀ (k0_h1 : k0_cond1 i = 1#1), 64 ∣ (k0_mult30 v17 k0_t11).toNat := fun i v17 k0_hw10 k0_t11 k0_h1 => k0_hw10.2.2.2.2.2.2.2.2.2.2.2.2.2.2.2.2.2.1 k0_t11 k0_h1
theorem k0_mult31_dvd : ∀ (i : grid0.Coords) (v17 : BitVec 32) (k0_hw10 : k0_chk10 i v17) (k0_t11 : Fin (k0_t11_loop v17).trips), ∀ (k0_h1 : k0_cond1 i = 1#1), 64 ∣ (k0_mult31 v17 k0_t11).toNat := fun i v17 k0_hw10 k0_t11 k0_h1 => k0_hw10.2.2.2.2.2.2.2.2.2.2.2.2.2.2.2.2.2.2.1 k0_t11 k0_h1
theorem k0_mult32_dvd : ∀ (i : grid0.Coords) (v17 : BitVec 32) (k0_hw10 : k0_chk10 i v17) (k0_t11 : Fin (k0_t11_loop v17).trips), ∀ (k0_h1 : k0_cond1 i = 1#1), 64 ∣ (k0_mult32 v17 k0_t11).toNat := fun i v17 k0_hw10 k0_t11 k0_h1 => k0_hw10.2.2.2.2.2.2.2.2.2.2.2.2.2.2.2.2.2.2.2 k0_t11 k0_h1

@[reducible] def k0_t12_loop : Scf.Loop 32 :=
  let c0_i32_3 : BitVec 32 := 0#32
  let c256_i32_4 : BitVec 32 := 256#32
  let v4 : BitVec 32 := Scalar.addi c0_i32_3 c256_i32_4
  let c1_i32_5 : BitVec 32 := 1#32
  ⟨c0_i32_3, v4, c1_i32_5⟩
def k0_off21 (k0_t12 : Fin k0_t12_loop.trips) : Fin 3 → Nat :=
  let c0 : Index := 0#32
  let c0_8 : Index := 0#32
  let c2_i32 : BitVec 32 := 2#32
  let c0_i32_3 : BitVec 32 := 0#32
  let c1_i32_5 : BitVec 32 := 1#32
  let arg11 : BitVec 32 := Scf.iv c0_i32_3 c1_i32_5 k0_t12
  let v5 : BitVec 32 := Scalar.muli c2_i32 arg11
  let c0_i32_7 : BitVec 32 := 0#32
  let v6 : BitVec 32 := Scalar.addi v5 c0_i32_7
  let v7 : Index := Scalar.indexCast v6
  ![0, 0, v7.toNat]
def k0_off22 (v8 : BitVec 32) : Fin 2 → Nat :=
  let c0_i32_10 : BitVec 32 := 0#32
  ![v8.toNat, 0]

def k0_chk11 (v8 : BitVec 32) : Prop :=
  (∀ a, (k0_off22 v8) a + S1x2048.size a ≤ S81920x2048.size a)
theorem k0_off22_inb : ∀ (v8 : BitVec 32) (k0_hw11 : k0_chk11 v8), ∀ a, (k0_off22 v8) a + S1x2048.size a ≤ S81920x2048.size a := fun v8 k0_hw11 => k0_hw11

def k0_off23 (k0_t12 : Fin k0_t12_loop.trips) : Fin 2 → Nat :=
  let c0_i32_3 : BitVec 32 := 0#32
  let c1_i32_5 : BitVec 32 := 1#32
  let arg11 : BitVec 32 := Scf.iv c0_i32_3 c1_i32_5 k0_t12
  let c0_i32_11 : BitVec 32 := 0#32
  ![arg11.toNat, 0]
def k0_off24 (k0_t12 : Fin k0_t12_loop.trips) : Fin 3 → Nat :=
  let c0_14 : Index := 0#32
  let c0_15 : Index := 0#32
  let c2_i32_12 : BitVec 32 := 2#32
  let c0_i32_3 : BitVec 32 := 0#32
  let c1_i32_5 : BitVec 32 := 1#32
  let arg11 : BitVec 32 := Scf.iv c0_i32_3 c1_i32_5 k0_t12
  let v13 : BitVec 32 := Scalar.muli c2_i32_12 arg11
  let c1_i32_13 : BitVec 32 := 1#32
  let v14 : BitVec 32 := Scalar.addi v13 c1_i32_13
  let v15 : Index := Scalar.indexCast v14
  ![0, 0, v15.toNat]
def k0_off25 (v16 : BitVec 32) : Fin 2 → Nat :=
  let c0_i32_17 : BitVec 32 := 0#32
  ![v16.toNat, 0]

def k0_chk12 (v16 : BitVec 32) : Prop :=
  (∀ a, (k0_off25 v16) a + S1x2048.size a ≤ S81920x2048.size a)
theorem k0_off25_inb : ∀ (v16 : BitVec 32) (k0_hw12 : k0_chk12 v16), ∀ a, (k0_off25 v16) a + S1x2048.size a ≤ S81920x2048.size a := fun v16 k0_hw12 => k0_hw12

def k0_off26 (k0_t12 : Fin k0_t12_loop.trips) : Fin 2 → Nat :=
  let c0_i32_3 : BitVec 32 := 0#32
  let c1_i32_5 : BitVec 32 := 1#32
  let arg11 : BitVec 32 := Scf.iv c0_i32_3 c1_i32_5 k0_t12
  let c0_i32_18 : BitVec 32 := 0#32
  ![arg11.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference.lean ====
abbrev S32768x2048 : Shape := ⟨2, ![32768, 2048]⟩
abbrev S32768x2 : Shape := ⟨2, ![32768, 2]⟩
abbrev S32 : Shape := ⟨1, ![32]⟩
abbrev S65536 : Shape := ⟨1, ![65536]⟩
abbrev S65536x1 : Shape := ⟨2, ![65536, 1]⟩
abbrev S1x65536 : Shape := ⟨2, ![1, 65536]⟩
abbrev S65536x65536 : Shape := ⟨2, ![65536, 65536]⟩
abbrev S_ : Shape := ⟨0, ![]⟩
abbrev S1x32 : Shape := ⟨2, ![1, 32]⟩
abbrev S65536x32 : Shape := ⟨2, ![65536, 32]⟩
abbrev S81920x2048 : Shape := ⟨2, ![81920, 2048]⟩
abbrev S65536x2048 : Shape := ⟨2, ![65536, 2048]⟩

abbrev nBuf : Space → Nat
  | .hbm => 108
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2, .i32⟩
  | .hbm, ⟨2, _⟩ => ⟨S32768x2, .i32⟩
  | .hbm, ⟨3, _⟩ => ⟨S32, .i32⟩
  | .hbm, ⟨4, _⟩ => ⟨S65536, .i32⟩
  | .hbm, ⟨5, _⟩ => ⟨S65536, .i32⟩
  | .hbm, ⟨6, _⟩ => ⟨S65536x1, .i32⟩
  | .hbm, ⟨7, _⟩ => ⟨S1x65536, .i32⟩
  | .hbm, ⟨8, _⟩ => ⟨S65536x65536, .i32⟩
  | .hbm, ⟨9, _⟩ => ⟨S65536x65536, .i32⟩
  | .hbm, ⟨10, _⟩ => ⟨S65536x65536, .i1⟩
  | .hbm, ⟨11, _⟩ => ⟨S1x65536, .i32⟩
  | .hbm, ⟨12, _⟩ => ⟨S65536x1, .i32⟩
  | .hbm, ⟨13, _⟩ => ⟨S65536x65536, .i32⟩
  | .hbm, ⟨14, _⟩ => ⟨S65536x65536, .i32⟩
  | .hbm, ⟨15, _⟩ => ⟨S65536x65536, .i1⟩
  | .hbm, ⟨16, _⟩ => ⟨S65536x65536, .i1⟩
  | .hbm, ⟨17, _⟩ => ⟨S65536x65536, .i32⟩
  | .hbm, ⟨18, _⟩ => ⟨S_, .i32⟩
  | .hbm, ⟨19, _⟩ => ⟨S65536, .i32⟩
  | .hbm, ⟨20, _⟩ => ⟨S65536x1, .i32⟩
  | .hbm, ⟨21, _⟩ => ⟨S32, .i32⟩
  | .hbm, ⟨22, _⟩ => ⟨S1x32, .i32⟩
  | .hbm, ⟨23, _⟩ => ⟨S65536x32, .i32⟩
  | .hbm, ⟨24, _⟩ => ⟨S65536x32, .i32⟩
  | .hbm, ⟨25, _⟩ => ⟨S65536x32, .i1⟩
  | .hbm, ⟨26, _⟩ => ⟨S65536x32, .i32⟩
  | .hbm, ⟨27, _⟩ => ⟨S_, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S_, .i32⟩
  | .hbm, ⟨36, _⟩ => ⟨S_, .i32⟩
  | .hbm, ⟨37, _⟩ => ⟨S32, .i32⟩
  | .hbm, ⟨38, _⟩ => ⟨S32, .i32⟩
  | .hbm, ⟨39, _⟩ => ⟨S32, .i32⟩
  | .hbm, ⟨40, _⟩ => ⟨S_, .i32⟩
  | .hbm, ⟨41, _⟩ => ⟨S32, .i32⟩
  | .hbm, ⟨42, _⟩ => ⟨S32, .i1⟩
  | .hbm, ⟨43, _⟩ => ⟨S32, .i32⟩
  | .hbm, ⟨44, _⟩ => ⟨S32, .i32⟩
  | .hbm, ⟨45, _⟩ => ⟨S_, .i32⟩
  | .hbm, ⟨46, _⟩ => ⟨S32, .i32⟩
  | .hbm, ⟨47, _⟩ => ⟨S32, .i1⟩
  | .hbm, ⟨48, _⟩ => ⟨S32, .i1⟩
  | .hbm, ⟨49, _⟩ => ⟨S_, .i32⟩
  | .hbm, ⟨50, _⟩ => ⟨S32, .i32⟩
  | .hbm, ⟨51, _⟩ => ⟨S32, .i32⟩
  | .hbm, ⟨52, _⟩ => ⟨S32, .i32⟩
  | .hbm, ⟨53, _⟩ => ⟨S_, .i32⟩
  | .hbm, ⟨54, _⟩ => ⟨S32, .i32⟩
  | .hbm, ⟨55, _⟩ => ⟨S32, .i32⟩
  | .hbm, ⟨56, _⟩ => ⟨S_, .i32⟩
  | .hbm, ⟨57, _⟩ => ⟨S_, .i32⟩
  | .hbm, ⟨58, _⟩ => ⟨S32, .i32⟩
  | .hbm, ⟨59, _⟩ => ⟨S32, .i32⟩
  | .hbm, ⟨60, _⟩ => ⟨S_, .f32⟩
  | .hbm, ⟨61, _⟩ => ⟨S81920x2048, .f32⟩
  | .hbm, ⟨62, _⟩ => ⟨S_, .i32⟩
  | .hbm, ⟨63, _⟩ => ⟨S65536, .i32⟩
  | .hbm, ⟨64, _⟩ => ⟨S65536, .i1⟩
  | .hbm, ⟨65, _⟩ => ⟨S_, .i32⟩
  | .hbm, ⟨66, _⟩ => ⟨S65536, .i32⟩
  | .hbm, ⟨67, _⟩ => ⟨S65536, .i32⟩
  | .hbm, ⟨68, _⟩ => ⟨S65536, .i32⟩
  | .hbm, ⟨69, _⟩ => ⟨S65536x1, .i32⟩
  | .hbm, ⟨70, _⟩ => ⟨S65536, .i32⟩
  | .hbm, ⟨71, _⟩ => ⟨S65536, .i32⟩
  | .hbm, ⟨72, _⟩ => ⟨S_, .i32⟩
  | .hbm, ⟨73, _⟩ => ⟨S_, .i32⟩
  | .hbm, ⟨74, _⟩ => ⟨S65536, .i32⟩
  | .hbm, ⟨75, _⟩ => ⟨S65536, .i32⟩
  | .hbm, ⟨76, _⟩ => ⟨S65536, .i32⟩
  | .hbm, ⟨77, _⟩ => ⟨S_, .i32⟩
  | .hbm, ⟨78, _⟩ => ⟨S65536, .i32⟩
  | .hbm, ⟨79, _⟩ => ⟨S65536, .i1⟩
  | .hbm, ⟨80, _⟩ => ⟨S65536, .i32⟩
  | .hbm, ⟨81, _⟩ => ⟨S65536, .i32⟩
  | .hbm, ⟨82, _⟩ => ⟨S_, .i32⟩
  | .hbm, ⟨83, _⟩ => ⟨S65536, .i32⟩
  | .hbm, ⟨84, _⟩ => ⟨S65536, .i1⟩
  | .hbm, ⟨85, _⟩ => ⟨S65536, .i1⟩
  | .hbm, ⟨86, _⟩ => ⟨S_, .i32⟩
  | .hbm, ⟨87, _⟩ => ⟨S65536, .i32⟩
  | .hbm, ⟨88, _⟩ => ⟨S65536, .i32⟩
  | .hbm, ⟨89, _⟩ => ⟨S65536, .i32⟩
  | .hbm, ⟨90, _⟩ => ⟨S_, .i32⟩
  | .hbm, ⟨91, _⟩ => ⟨S65536, .i32⟩
  | .hbm, ⟨92, _⟩ => ⟨S65536, .i1⟩
  | .hbm, ⟨93, _⟩ => ⟨S_, .i32⟩
  | .hbm, ⟨94, _⟩ => ⟨S65536, .i32⟩
  | .hbm, ⟨95, _⟩ => ⟨S65536, .i32⟩
  | .hbm, ⟨96, _⟩ => ⟨S65536, .i32⟩
  | .hbm, ⟨97, _⟩ => ⟨S65536x1, .i32⟩
  | .hbm, ⟨98, _⟩ => ⟨S65536x2048, .f32⟩
  | .hbm, ⟨99, _⟩ => ⟨S_, .i32⟩
  | .hbm, ⟨100, _⟩ => ⟨S65536, .i32⟩
  | .hbm, ⟨101, _⟩ => ⟨S65536, .i1⟩
  | .hbm, ⟨102, _⟩ => ⟨S_, .i32⟩
  | .hbm, ⟨103, _⟩ => ⟨S65536, .i32⟩
  | .hbm, ⟨104, _⟩ => ⟨S65536, .i32⟩
  | .hbm, ⟨105, _⟩ => ⟨S65536, .i32⟩
  | .hbm, ⟨106, _⟩ => ⟨S65536x1, .i32⟩
  | .hbm, ⟨107, _⟩ => ⟨S81920x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_0 : Ref sig .tc := ⟨.hbm, 27, rfl⟩
abbrev main_v22 : Ref sig .tc := ⟨.hbm, 28, rfl⟩
abbrev main_c_1 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_v25 : Ref sig .tc := ⟨.hbm, 33, rfl⟩
abbrev main_v26 : Ref sig .tc := ⟨.hbm, 34, rfl⟩
abbrev main_c_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_c : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_0 : Ref sig .tc := ⟨.hbm, 49, rfl⟩
abbrev main_call0_v12 : Ref sig .tc := ⟨.hbm, 50, rfl⟩
abbrev main_call0_v13 : Ref sig .tc := ⟨.hbm, 51, rfl⟩
abbrev main_v27 : Ref sig .tc := ⟨.hbm, 52, rfl⟩
abbrev main_c_4 : Ref sig .tc := ⟨.hbm, 53, rfl⟩
abbrev main_v28 : Ref sig .tc := ⟨.hbm, 54, rfl⟩
abbrev main_v29 : Ref sig .tc := ⟨.hbm, 55, rfl⟩
abbrev main_call1_call0_c : Ref sig .tc := ⟨.hbm, 56, rfl⟩
abbrev main_call1_call0_v0 : Ref sig .tc := ⟨.hbm, 57, rfl⟩
abbrev main_v30 : Ref sig .tc := ⟨.hbm, 58, rfl⟩
abbrev main_v31 : Ref sig .tc := ⟨.hbm, 59, rfl⟩
abbrev main_cst : Ref sig .tc := ⟨.hbm, 60, rfl⟩
abbrev main_v32 : Ref sig .tc := ⟨.hbm, 61, rfl⟩
abbrev main_c_5 : Ref sig .tc := ⟨.hbm, 62, rfl⟩
abbrev main_v33 : Ref sig .tc := ⟨.hbm, 63, rfl⟩
abbrev main_v34 : Ref sig .tc := ⟨.hbm, 64, rfl⟩
abbrev main_c_6 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_c_7 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_c : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_0 : Ref sig .tc := ⟨.hbm, 86, rfl⟩
abbrev main_call2_v12 : Ref sig .tc := ⟨.hbm, 87, rfl⟩
abbrev main_call2_v13 : Ref sig .tc := ⟨.hbm, 88, rfl⟩
abbrev main_v41 : Ref sig .tc := ⟨.hbm, 89, rfl⟩
abbrev main_c_8 : Ref sig .tc := ⟨.hbm, 90, rfl⟩
abbrev main_v42 : Ref sig .tc := ⟨.hbm, 91, rfl⟩
abbrev main_v43 : Ref sig .tc := ⟨.hbm, 92, rfl⟩
abbrev main_c_9 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_c_10 : Ref sig .tc := ⟨.hbm, 99, rfl⟩
abbrev main_v49 : Ref sig .tc := ⟨.hbm, 100, rfl⟩
abbrev main_v50 : Ref sig .tc := ⟨.hbm, 101, rfl⟩
abbrev main_c_11 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩

abbrev nD : Nat := 1
abbrev τ : Topo := Topo.v7x

variable {F : FTy → Type} [FloatOps F]
-- ==== Kernel2.lean ====
abbrev S81920x2048 : Shape := ⟨2, ![81920, 2048]⟩
abbrev S32 : Shape := ⟨1, ![32]⟩
abbrev S32x2048x1024 : Shape := ⟨3, ![32, 2048, 1024]⟩
abbrev S32x1024x2048 : Shape := ⟨3, ![32, 1024, 2048]⟩
abbrev S_ : Shape := ⟨0, ![]⟩
abbrev S160 : Shape := ⟨1, ![160]⟩
abbrev S1x32 : Shape := ⟨2, ![1, 32]⟩
abbrev S160x1 : Shape := ⟨2, ![160, 1]⟩
abbrev S160x32 : Shape := ⟨2, ![160, 32]⟩
abbrev S1 : Shape := ⟨1, ![1]⟩
abbrev S512x2048 : Shape := ⟨2, ![512, 2048]⟩
abbrev S1x2048x1024 : Shape := ⟨3, ![1, 2048, 1024]⟩
abbrev S1x1024x2048 : Shape := ⟨3, ![1, 1024, 2048]⟩
abbrev S1x2048x512 : Shape := ⟨3, ![1, 2048, 512]⟩
abbrev S2048x512 : Shape := ⟨2, ![2048, 512]⟩
abbrev S512x512 : Shape := ⟨2, ![512, 512]⟩
abbrev S1x512x2048 : Shape := ⟨3, ![1, 512, 2048]⟩

abbrev nBuf : Space → Nat
  | .hbm => 86
  | .vmem => 10
  | .smem => 2
  | _ => 0

abbrev bufTy : (tb : Table) → Fin (tcTables nBuf tb) → BufTy
  | .hbm, ⟨0, _⟩ => ⟨S81920x2048, .f32⟩
  | .hbm, ⟨1, _⟩ => ⟨S32, .i32⟩
  | .hbm, ⟨2, _⟩ => ⟨S32x2048x1024, .f32⟩
  | .hbm, ⟨3, _⟩ => ⟨S32x2048x1024, .f32⟩
  | .hbm, ⟨4, _⟩ => ⟨S32x1024x2048, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S_, .i32⟩
  | .hbm, ⟨34, _⟩ => ⟨S32, .i32⟩
  | .hbm, ⟨35, _⟩ => ⟨S160, .i32⟩
  | .hbm, ⟨36, _⟩ => ⟨S_, .i32⟩
  | .hbm, ⟨37, _⟩ => ⟨S160, .i32⟩
  | .hbm, ⟨38, _⟩ => ⟨S160, .i32⟩
  | .hbm, ⟨39, _⟩ => ⟨S1x32, .i32⟩
  | .hbm, ⟨40, _⟩ => ⟨S160x1, .i32⟩
  | .hbm, ⟨41, _⟩ => ⟨S160x32, .i32⟩
  | .hbm, ⟨42, _⟩ => ⟨S160x32, .i32⟩
  | .hbm, ⟨43, _⟩ => ⟨S160x32, .i1⟩
  | .hbm, ⟨44, _⟩ => ⟨S160x32, .i32⟩
  | .hbm, ⟨45, _⟩ => ⟨S_, .i32⟩
  | .hbm, ⟨46, _⟩ => ⟨S160, .i32⟩
  | .hbm, ⟨47, _⟩ => ⟨S_, .i32⟩
  | .hbm, ⟨48, _⟩ => ⟨S160, .i32⟩
  | .hbm, ⟨49, _⟩ => ⟨S160, .i32⟩
  | .hbm, ⟨50, _⟩ => ⟨S1, .i32⟩
  | .hbm, ⟨51, _⟩ => ⟨S_, .i32⟩
  | .hbm, ⟨52, _⟩ => ⟨S_, .i32⟩
  | .hbm, ⟨53, _⟩ => ⟨S1, .i32⟩
  | .hbm, ⟨54, _⟩ => ⟨S1, .i32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S1, .i1⟩
  | .hbm, ⟨59, _⟩ => ⟨S1, .i32⟩
  | .hbm, ⟨60, _⟩ => ⟨S1, .i32⟩
  | .hbm, ⟨61, _⟩ => ⟨S_, .i32⟩
  | .hbm, ⟨62, _⟩ => ⟨S1, .i32⟩
  | .hbm, ⟨63, _⟩ => ⟨S1, .i1⟩
  | .hbm, ⟨64, _⟩ => ⟨S1, .i1⟩
  | .hbm, ⟨65, _⟩ => ⟨S_, .i32⟩
  | .hbm, ⟨66, _⟩ => ⟨S1, .i32⟩
  | .hbm, ⟨67, _⟩ => ⟨S1, .i32⟩
  | .hbm, ⟨68, _⟩ => ⟨S160, .i32⟩
  | .hbm, ⟨69, _⟩ => ⟨S_, .i32⟩
  | .hbm, ⟨70, _⟩ => ⟨S1, .i32⟩
  | .hbm, ⟨71, _⟩ => ⟨S1, .i32⟩
  | .hbm, ⟨72, _⟩ => ⟨S160, .i32⟩
  | .hbm, ⟨73, _⟩ => ⟨S160, .i32⟩
  | .hbm, ⟨74, _⟩ => ⟨S_, .i32⟩
  | .hbm, ⟨75, _⟩ => ⟨S160, .i32⟩
  | .hbm, ⟨76, _⟩ => ⟨S160, .i1⟩
  | .hbm, ⟨77, _⟩ => ⟨S_, .i32⟩
  | .hbm, ⟨78, _⟩ => ⟨S160, .i32⟩
  | .hbm, ⟨79, _⟩ => ⟨S160, .i32⟩
  | .hbm, ⟨80, _⟩ => ⟨S160, .i32⟩
  | .hbm, ⟨81, _⟩ => ⟨S160x1, .i32⟩
  | .hbm, ⟨82, _⟩ => ⟨S32x2048x1024, .bf16⟩
  | .hbm, ⟨83, _⟩ => ⟨S32x2048x1024, .bf16⟩
  | .hbm, ⟨84, _⟩ => ⟨S32x1024x2048, .bf16⟩
  | .hbm, ⟨85, _⟩ => ⟨S81920x2048, .f32⟩
  | .local _ .vmem, ⟨0, _⟩ => ⟨S512x2048, .f32⟩
  | .local _ .vmem, ⟨1, _⟩ => ⟨S512x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S512x2048, .f32⟩
  | .local _ .vmem, ⟨9, _⟩ => ⟨S512x2048, .f32⟩
  | .local _ .smem, ⟨0, _⟩ => ⟨S160, .i32⟩
  | .local _ .smem, ⟨1, _⟩ => ⟨S1, .i32⟩
  | _, _ => ⟨S81920x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_c_6 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_c : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_0 : Ref sig .tc := ⟨.hbm, 65, rfl⟩
abbrev main_call2_v12 : Ref sig .tc := ⟨.hbm, 66, rfl⟩
abbrev main_call2_v13 : Ref sig .tc := ⟨.hbm, 67, rfl⟩
abbrev main_v22 : Ref sig .tc := ⟨.hbm, 68, rfl⟩
abbrev main_c_7 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_c_8 : Ref sig .tc := ⟨.hbm, 74, rfl⟩
abbrev main_v27 : Ref sig .tc := ⟨.hbm, 75, rfl⟩
abbrev main_v28 : Ref sig .tc := ⟨.hbm, 76, rfl⟩
abbrev main_c_9 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v33 : Ref sig .tc := ⟨.smem, 0, rfl⟩
abbrev main_v21 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_v33.idx, main_v21.idx], fun | 0 => main_v33.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S81920x2048 : Shape := ⟨2, ![81920, 2048]⟩
abbrev S32 : Shape := ⟨1, ![32]⟩
abbrev S32x2048x1024 : Shape := ⟨3, ![32, 2048, 1024]⟩
abbrev S32x1024x2048 : Shape := ⟨3, ![32, 1024, 2048]⟩
abbrev S_ : Shape := ⟨0, ![]⟩
abbrev S81920 : Shape := ⟨1, ![81920]⟩
abbrev S1x32 : Shape := ⟨2, ![1, 32]⟩
abbrev S81920x1 : Shape := ⟨2, ![81920, 1]⟩
abbrev S81920x32 : Shape := ⟨2, ![81920, 32]⟩
abbrev S81920x32x1024 : Shape := ⟨3, ![81920, 32, 1024]⟩
abbrev S32x81920x2048 : Shape := ⟨3, ![32, 81920, 2048]⟩
abbrev S1x81920 : Shape := ⟨2, ![1, 81920]⟩
abbrev S32x1 : Shape := ⟨2, ![32, 1]⟩
abbrev S32x81920 : Shape := ⟨2, ![32, 81920]⟩
abbrev S32x81920x1 : Shape := ⟨3, ![32, 81920, 1]⟩

abbrev nBuf : Space → Nat
  | .hbm => 71
  | .vmem => 0
  | .smem => 0
  | _ => 0

abbrev bufTy : (tb : Table) → Fin (tcTables nBuf tb) → BufTy
  | .hbm, ⟨0, _⟩ => ⟨S81920x2048, .f32⟩
  | .hbm, ⟨1, _⟩ => ⟨S32, .i32⟩
  | .hbm, ⟨2, _⟩ => ⟨S32x2048x1024, .f32⟩
  | .hbm, ⟨3, _⟩ => ⟨S32x2048x1024, .f32⟩
  | .hbm, ⟨4, _⟩ => ⟨S32x1024x2048, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S_, .i32⟩
  | .hbm, ⟨34, _⟩ => ⟨S32, .i32⟩
  | .hbm, ⟨35, _⟩ => ⟨S81920, .i32⟩
  | .hbm, ⟨36, _⟩ => ⟨S1x32, .i32⟩
  | .hbm, ⟨37, _⟩ => ⟨S81920x1, .i32⟩
  | .hbm, ⟨38, _⟩ => ⟨S81920x32, .i32⟩
  | .hbm, ⟨39, _⟩ => ⟨S81920x32, .i32⟩
  | .hbm, ⟨40, _⟩ => ⟨S81920x32, .i1⟩
  | .hbm, ⟨41, _⟩ => ⟨S81920x32, .i32⟩
  | .hbm, ⟨42, _⟩ => ⟨S_, .i32⟩
  | .hbm, ⟨43, _⟩ => ⟨S81920, .i32⟩
  | .hbm, ⟨44, _⟩ => ⟨S81920x32x1024, .f32⟩
  | .hbm, ⟨45, _⟩ => ⟨S81920x32x1024, .f32⟩
  | .hbm, ⟨46, _⟩ => ⟨S81920x32x1024, .f32⟩
  | .hbm, ⟨47, _⟩ => ⟨S_, .f32⟩
  | .hbm, ⟨48, _⟩ => ⟨S81920x32x1024, .f32⟩
  | .hbm, ⟨49, _⟩ => ⟨S81920x32x1024, .f32⟩
  | .hbm, ⟨50, _⟩ => ⟨S_, .f32⟩
  | .hbm, ⟨51, _⟩ => ⟨S81920x32x1024, .f32⟩
  | .hbm, ⟨52, _⟩ => ⟨S81920x32x1024, .f32⟩
  | .hbm, ⟨53, _⟩ => ⟨S81920x32x1024, .f32⟩
  | .hbm, ⟨54, _⟩ => ⟨S81920x32x1024, .f32⟩
  | .hbm, ⟨55, _⟩ => ⟨S81920x32x1024, .f32⟩
  | .hbm, ⟨56, _⟩ => ⟨S32x81920x2048, .f32⟩
  | .hbm, ⟨57, _⟩ => ⟨S1x81920, .i32⟩
  | .hbm, ⟨58, _⟩ => ⟨S32, .i32⟩
  | .hbm, ⟨59, _⟩ => ⟨S32x1, .i32⟩
  | .hbm, ⟨60, _⟩ => ⟨S32x81920, .i32⟩
  | .hbm, ⟨61, _⟩ => ⟨S32x81920, .i32⟩
  | .hbm, ⟨62, _⟩ => ⟨S32x81920, .i1⟩
  | .hbm, ⟨63, _⟩ => ⟨S32x81920x1, .i1⟩
  | .hbm, ⟨64, _⟩ => ⟨S_, .f32⟩
  | .hbm, ⟨65, _⟩ => ⟨S_, .f32⟩
  | .hbm, ⟨66, _⟩ => ⟨S32x81920x2048, .i1⟩
  | .hbm, ⟨67, _⟩ => ⟨S32x81920x2048, .f32⟩
  | .hbm, ⟨68, _⟩ => ⟨S32x81920x2048, .f32⟩
  | .hbm, ⟨69, _⟩ => ⟨S_, .f32⟩
  | .hbm, ⟨70, _⟩ => ⟨S81920x2048, .f32⟩
  | _, _ => ⟨S81920x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_c_3 : Ref sig .tc := ⟨.hbm, 42, rfl⟩
abbrev main_v15 : Ref sig .tc := ⟨.hbm, 43, rfl⟩
abbrev main_v16 : Ref sig .tc := ⟨.hbm, 44, rfl⟩
abbrev main_call2_v0 : Ref sig .tc := ⟨.hbm, 45, rfl⟩
abbrev main_call2_v1 : Ref sig .tc := ⟨.hbm, 46, rfl⟩
abbrev main_call2_cst : Ref sig .tc := ⟨.hbm, 47, rfl⟩
abbrev main_call2_v2 : Ref sig .tc := ⟨.hbm, 48, rfl⟩
abbrev main_call2_v3 : Ref sig .tc := ⟨.hbm, 49, rfl⟩
abbrev main_call2_cst_0 : Ref sig .tc := ⟨.hbm, 50, rfl⟩
abbrev main_call2_v4 : Ref sig .tc := ⟨.hbm, 51, rfl⟩
abbrev main_call2_v5 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_v28 : Ref sig .tc := ⟨.hbm, 68, rfl⟩
abbrev main_cst_4 : Ref sig .tc := ⟨.hbm, 69, rfl⟩
abbrev main_v29 : Ref sig .tc := ⟨.hbm, 70, rfl⟩

abbrev nD : Nat := 1
abbrev τ : Topo := Topo.v7x

variable {F : FTy → Type} [FloatOps F]
-- ==== Kernel3.lean ====
abbrev S32768x1024 : Shape := ⟨2, ![32768, 1024]⟩
abbrev S32768x2048 : Shape := ⟨2, ![32768, 2048]⟩
abbrev S8x12288 : Shape := ⟨2, ![8, 12288]⟩
abbrev S2048x2048 : Shape := ⟨2, ![2048, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S2048x36 : Shape := ⟨2, ![2048, 36]⟩
abbrev S_ : Shape := ⟨0, ![]⟩
abbrev S2048x128 : Shape := ⟨2, ![2048, 128]⟩
abbrev S36 : Shape := ⟨1, ![36]⟩
abbrev S128 : Shape := ⟨1, ![128]⟩
abbrev S1x128 : Shape := ⟨2, ![1, 128]⟩
abbrev S1x2048 : Shape := ⟨2, ![1, 2048]⟩
abbrev S32768x128 : Shape := ⟨2, ![32768, 128]⟩
abbrev S8x128 : Shape := ⟨2, ![8, 128]⟩
abbrev S512x1024 : Shape := ⟨2, ![512, 1024]⟩
abbrev S512x2048 : Shape := ⟨2, ![512, 2048]⟩
abbrev S512x128 : Shape := ⟨2, ![512, 128]⟩
abbrev S1024x2048 : Shape := ⟨2, ![1024, 2048]⟩
abbrev S512 : Shape := ⟨1, ![512]⟩
abbrev S512x1 : Shape := ⟨2, ![512, 1]⟩
abbrev S512x512 : Shape := ⟨2, ![512, 512]⟩

abbrev nBuf : Space → Nat
  | .hbm => 26
  | .vmem => 19
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x2048, .f32⟩
  | .hbm, ⟨3, _⟩ => ⟨S8x12288, .f32⟩
  | .hbm, ⟨4, _⟩ => ⟨S2048x2048, .f32⟩
  | .hbm, ⟨5, _⟩ => ⟨S2048, .f32⟩
  | .hbm, ⟨6, _⟩ => ⟨S2048x4, .f32⟩
  | .hbm, ⟨7, _⟩ => ⟨S4, .f32⟩
  | .hbm, ⟨8, _⟩ => ⟨S2048x32, .f32⟩
  | .hbm, ⟨9, _⟩ => ⟨S32, .f32⟩
  | .hbm, ⟨10, _⟩ => ⟨S2048x36, .f32⟩
  | .hbm, ⟨11, _⟩ => ⟨S_, .i32⟩
  | .hbm, ⟨12, _⟩ => ⟨S_, .f32⟩
  | .hbm, ⟨13, _⟩ => ⟨S2048x128, .f32⟩
  | .hbm, ⟨14, _⟩ => ⟨S2048x128, .bf16⟩
  | .hbm, ⟨15, _⟩ => ⟨S36, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S2048x2048, .bf16⟩
  | .hbm, ⟨21, _⟩ => ⟨S1x2048, .f32⟩
  | .hbm, ⟨22, _⟩ => ⟨S32768x2048, .f32⟩
  | .hbm, ⟨23, _⟩ => ⟨S32768x2048, .f32⟩
  | .hbm, ⟨24, _⟩ => ⟨S32768x128, .f32⟩
  | .hbm, ⟨25, _⟩ => ⟨S8x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S8x12288, .f32⟩
  | .local _ .vmem, ⟨7, _⟩ => ⟨S2048x2048, .bf16⟩
  | .local _ .vmem, ⟨8, _⟩ => ⟨S1x2048, .f32⟩
  | .local _ .vmem, ⟨9, _⟩ => ⟨S2048x128, .bf16⟩
  | .local _ .vmem, ⟨10, _⟩ => ⟨S1x128, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S512x128, .f32⟩
  | .local _ .vmem, ⟨16, _⟩ => ⟨S512x128, .f32⟩
  | .local _ .vmem, ⟨17, _⟩ => ⟨S8x128, .f32⟩
  | .local _ .vmem, ⟨18, _⟩ => ⟨S8x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_call1_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v8_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4096_i32 : BitVec 32 := 4096#32
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let v1 : BitVec 32 := Scalar.divsi v0 c4096_i32
  let c1_i32 : BitVec 32 := 1#32
  let v16 : BitVec 32 := Scalar.subi v1 c1_i32
  let v17 : BitVec 32 := Scalar.select v15 v16 v1
  let v30 : Index := Scalar.indexCast v17
  let c4096 : Index := 4096#32
  ![v30.toNat, 4096]
def k0_off2 (i : grid0.Coords) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4096_i32 : BitVec 32 := 4096#32
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let v1 : BitVec 32 := Scalar.divsi v0 c4096_i32
  let c1_i32 : BitVec 32 := 1#32
  let v16 : BitVec 32 := Scalar.subi v1 c1_i32
  let v17 : BitVec 32 := Scalar.select v15 v16 v1
  let v37 : Index := Scalar.indexCast v17
  let c6144 : Index := 6144#32
  ![v37.toNat, 6144]
def k0_off3 (i : grid0.Coords) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4096_i32 : BitVec 32 := 4096#32
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let v1 : BitVec 32 := Scalar.divsi v0 c4096_i32
  let c1_i32 : BitVec 32 := 1#32
  let v16 : BitVec 32 := Scalar.subi v1 c1_i32
  let v17 : BitVec 32 := Scalar.select v15 v16 v1
  let v39 : Index := Scalar.indexCast v17
  let c8192 : Index := 8192#32
  ![v39.toNat, 8192]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S32768x1024 : Shape := ⟨2, ![32768, 1024]⟩
abbrev S32768x2048 : Shape := ⟨2, ![32768, 2048]⟩
abbrev S8x12288 : Shape := ⟨2, ![8, 12288]⟩
abbrev S2048x2048 : Shape := ⟨2, ![2048, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S32768 : Shape := ⟨1, ![32768]⟩
abbrev S_ : Shape := ⟨0, ![]⟩
abbrev S32768x1 : Shape := ⟨2, ![32768, 1]⟩
abbrev S32768x12288 : Shape := ⟨2, ![32768, 12288]⟩
abbrev S1x2048 : Shape := ⟨2, ![1, 2048]⟩

abbrev nBuf : Space → Nat
  | .hbm => 71
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x2048, .f32⟩
  | .hbm, ⟨3, _⟩ => ⟨S8x12288, .f32⟩
  | .hbm, ⟨4, _⟩ => ⟨S2048x2048, .f32⟩
  | .hbm, ⟨5, _⟩ => ⟨S2048, .f32⟩
  | .hbm, ⟨6, _⟩ => ⟨S2048x4, .f32⟩
  | .hbm, ⟨7, _⟩ => ⟨S4, .f32⟩
  | .hbm, ⟨8, _⟩ => ⟨S2048x32, .f32⟩
  | .hbm, ⟨9, _⟩ => ⟨S32, .f32⟩
  | .hbm, ⟨10, _⟩ => ⟨S32768, .i32⟩
  | .hbm, ⟨11, _⟩ => ⟨S_, .i32⟩
  | .hbm, ⟨12, _⟩ => ⟨S_, .i32⟩
  | .hbm, ⟨13, _⟩ => ⟨S32768, .i32⟩
  | .hbm, ⟨14, _⟩ => ⟨S32768, .i32⟩
  | .hbm, ⟨15, _⟩ => ⟨S32768, .i32⟩
  | .hbm, ⟨16, _⟩ => ⟨S_, .i32⟩
  | .hbm, ⟨17, _⟩ => ⟨S32768, .i32⟩
  | .hbm, ⟨18, _⟩ => ⟨S32768, .i1⟩
  | .hbm, ⟨19, _⟩ => ⟨S32768, .i32⟩
  | .hbm, ⟨20, _⟩ => ⟨S32768, .i32⟩
  | .hbm, ⟨21, _⟩ => ⟨S_, .i32⟩
  | .hbm, ⟨22, _⟩ => ⟨S32768, .i32⟩
  | .hbm, ⟨23, _⟩ => ⟨S32768, .i1⟩
  | .hbm, ⟨24, _⟩ => ⟨S32768, .i1⟩
  | .hbm, ⟨25, _⟩ => ⟨S_, .i32⟩
  | .hbm, ⟨26, _⟩ => ⟨S32768, .i32⟩
  | .hbm, ⟨27, _⟩ => ⟨S32768, .i32⟩
  | .hbm, ⟨28, _⟩ => ⟨S32768, .i32⟩
  | .hbm, ⟨29, _⟩ => ⟨S_, .i32⟩
  | .hbm, ⟨30, _⟩ => ⟨S32768, .i32⟩
  | .hbm, ⟨31, _⟩ => ⟨S32768, .i1⟩
  | .hbm, ⟨32, _⟩ => ⟨S_, .i32⟩
  | .hbm, ⟨33, _⟩ => ⟨S32768, .i32⟩
  | .hbm, ⟨34, _⟩ => ⟨S32768, .i32⟩
  | .hbm, ⟨35, _⟩ => ⟨S32768, .i32⟩
  | .hbm, ⟨36, _⟩ => ⟨S32768x1, .i32⟩
  | .hbm, ⟨37, _⟩ => ⟨S32768x12288, .f32⟩
  | .hbm, ⟨38, _⟩ => ⟨S32768x2048, .f32⟩
  | .hbm, ⟨39, _⟩ => ⟨S32768x2048, .f32⟩
  | .hbm, ⟨40, _⟩ => ⟨S32768x2048, .f32⟩
  | .hbm, ⟨41, _⟩ => ⟨S32768x2048, .f32⟩
  | .hbm, ⟨42, _⟩ => ⟨S32768x2048, .f32⟩
  | .hbm, ⟨43, _⟩ => ⟨S32768x2048, .f32⟩
  | .hbm, ⟨44, _⟩ => ⟨S32768x1024, .f32⟩
  | .hbm, ⟨45, _⟩ => ⟨S32768x1024, .f32⟩
  | .hbm, ⟨46, _⟩ => ⟨S32768x2048, .f32⟩
  | .hbm, ⟨47, _⟩ => ⟨S32768x2048, .f32⟩
  | .hbm, ⟨48, _⟩ => ⟨S32768x2048, .f32⟩
  | .hbm, ⟨49, _⟩ => ⟨S32768x2048, .f32⟩
  | .hbm, ⟨50, _⟩ => ⟨S32768x2048, .f32⟩
  | .hbm, ⟨51, _⟩ => ⟨S_, .f32⟩
  | .hbm, ⟨52, _⟩ => ⟨S32768, .f32⟩
  | .hbm, ⟨53, _⟩ => ⟨S32768x1, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S_, .f32⟩
  | .hbm, ⟨58, _⟩ => ⟨S32768x1, .f32⟩
  | .hbm, ⟨59, _⟩ => ⟨S32768x1, .f32⟩
  | .hbm, ⟨60, _⟩ => ⟨S32768x1, .f32⟩
  | .hbm, ⟨61, _⟩ => ⟨S32768x2048, .f32⟩
  | .hbm, ⟨62, _⟩ => ⟨S32768x2048, .f32⟩
  | .hbm, ⟨63, _⟩ => ⟨S1x2048, .f32⟩
  | .hbm, ⟨64, _⟩ => ⟨S32768x2048, .f32⟩
  | .hbm, ⟨65, _⟩ => ⟨S32768x2048, .f32⟩
  | .hbm, ⟨66, _⟩ => ⟨S_, .f32⟩
  | .hbm, ⟨67, _⟩ => ⟨S32768x2048, .f32⟩
  | .hbm, ⟨68, _⟩ => ⟨S32768x2048, .f32⟩
  | .hbm, ⟨69, _⟩ => ⟨S32768x2048, .f32⟩
  | .hbm, ⟨70, _⟩ => ⟨S32768x2048, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_c_1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst : Ref sig .tc := ⟨.hbm, 51, rfl⟩
abbrev main_v22 : Ref sig .tc := ⟨.hbm, 52, rfl⟩
abbrev main_v23 : Ref sig .tc := ⟨.hbm, 53, rfl⟩
abbrev main_cst_2 : Ref sig .tc := ⟨.hbm, 54, rfl⟩
abbrev main_v24 : Ref sig .tc := ⟨.hbm, 55, rfl⟩
abbrev main_v25 : Ref sig .tc := ⟨.hbm, 56, rfl⟩
abbrev main_cst_3 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_4 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩

abbrev nD : Nat := 1
abbrev τ : Topo := Topo.v7x

variable {F : FTy → Type} [FloatOps F]
-- ==== Kernel4.lean ====
abbrev S32768x2048 : Shape := ⟨2, ![32768, 2048]⟩
abbrev S8x12288 : Shape := ⟨2, ![8, 12288]⟩
abbrev S2048 : Shape := ⟨1, ![2048]⟩
abbrev S2048x3912 : Shape := ⟨2, ![2048, 3912]⟩
abbrev S8x128 : Shape := ⟨2, ![8, 128]⟩
abbrev S8x128x128 : Shape := ⟨3, ![8, 128, 128]⟩
abbrev S256 : Shape := ⟨1, ![256]⟩
abbrev S256x64 : Shape := ⟨2, ![256, 64]⟩
abbrev S64 : Shape := ⟨1, ![64]⟩
abbrev S1024 : Shape := ⟨1, ![1024]⟩
abbrev S32768x128 : Shape := ⟨2, ![32768, 128]⟩
abbrev S2048x2048 : Shape := ⟨2, ![2048, 2048]⟩
abbrev S2048x1864 : Shape := ⟨2, ![2048, 1864]⟩
abbrev S_ : Shape := ⟨0, ![]⟩
abbrev S2048x1920 : Shape := ⟨2, ![2048, 1920]⟩
abbrev S256x128 : Shape := ⟨2, ![256, 128]⟩
abbrev S128 : Shape := ⟨1, ![128]⟩
abbrev S1x128 : Shape := ⟨2, ![1, 128]⟩
abbrev S1x2048 : Shape := ⟨2, ![1, 2048]⟩
abbrev S1x1024 : Shape := ⟨2, ![1, 1024]⟩
abbrev S128x8 : Shape := ⟨2, ![128, 8]⟩
abbrev S1x256 : Shape := ⟨2, ![1, 256]⟩
abbrev S32768x1024 : Shape := ⟨2, ![32768, 1024]⟩
abbrev S8x16x4096x64 : Shape := ⟨4, ![8, 16, 4096, 64]⟩
abbrev S8x8x4096x64 : Shape := ⟨4, ![8, 8, 4096, 64]⟩
abbrev S32768x64 : Shape := ⟨2, ![32768, 64]⟩
abbrev S8x80x4096 : Shape := ⟨3, ![8, 80, 4096]⟩
abbrev S8x8x4096 : Shape := ⟨3, ![8, 8, 4096]⟩
abbrev S512x2048 : Shape := ⟨2, ![512, 2048]⟩
abbrev S512x128 : Shape := ⟨2, ![512, 128]⟩
abbrev S512x1024 : Shape := ⟨2, ![512, 1024]⟩
abbrev S1x16x512x64 : Shape := ⟨4, ![1, 16, 512, 64]⟩
abbrev S1x8x512x64 : Shape := ⟨4, ![1, 8, 512, 64]⟩
abbrev S512x64 : Shape := ⟨2, ![512, 64]⟩
abbrev S1x80x512 : Shape := ⟨3, ![1, 80, 512]⟩
abbrev S1x8x512 : Shape := ⟨3, ![1, 8, 512]⟩
abbrev S512 : Shape := ⟨1, ![512]⟩
abbrev S512x1 : Shape := ⟨2, ![512, 1]⟩
abbrev S128x128 : Shape := ⟨2, ![128, 128]⟩
abbrev S128x1 : Shape := ⟨2, ![128, 1]⟩
abbrev S2048x256 : Shape := ⟨2, ![2048, 256]⟩
abbrev S512x256 : Shape := ⟨2, ![512, 256]⟩
abbrev S1x128x128 : Shape := ⟨3, ![1, 128, 128]⟩
abbrev S128x1024 : Shape := ⟨2, ![128, 1024]⟩
abbrev S1x1x512x64 : Shape := ⟨4, ![1, 1, 512, 64]⟩
abbrev S128x512 : Shape := ⟨2, ![128, 512]⟩
abbrev S64x512 : Shape := ⟨2, ![64, 512]⟩
abbrev S1x64x512 : Shape := ⟨3, ![1, 64, 512]⟩
abbrev S16x512 : Shape := ⟨2, ![16, 512]⟩
abbrev S1x16x512 : Shape := ⟨3, ![1, 16, 512]⟩
abbrev S2048x128 : Shape := ⟨2, ![2048, 128]⟩
abbrev S8x512 : Shape := ⟨2, ![8, 512]⟩

abbrev nBuf : Space → Nat
  | .hbm => 40
  | .vmem => 33
  | .smem => 0
  | _ => 0

abbrev bufTy : (tb : Table) → Fin (tcTables nBuf tb) → BufTy
  | .hbm, ⟨0, _⟩ => ⟨S32768x2048, .f32⟩
  | .hbm, ⟨1, _⟩ => ⟨S8x12288, .f32⟩
  | .hbm, ⟨2, _⟩ => ⟨S2048, .f32⟩
  | .hbm, ⟨3, _⟩ => ⟨S2048x3912, .f32⟩
  | .hbm, ⟨4, _⟩ => ⟨S8x128, .f32⟩
  | .hbm, ⟨5, _⟩ => ⟨S8x128, .f32⟩
  | .hbm, ⟨6, _⟩ => ⟨S8x128x128, .f32⟩
  | .hbm, ⟨7, _⟩ => ⟨S8x128, .f32⟩
  | .hbm, ⟨8, _⟩ => ⟨S256, .f32⟩
  | .hbm, ⟨9, _⟩ => ⟨S256x64, .f32⟩
  | .hbm, ⟨10, _⟩ => ⟨S256x64, .f32⟩
  | .hbm, ⟨11, _⟩ => ⟨S64, .f32⟩
  | .hbm, ⟨12, _⟩ => ⟨S1024, .f32⟩
  | .hbm, ⟨13, _⟩ => ⟨S32768x128, .f32⟩
  | .hbm, ⟨14, _⟩ => ⟨S32768x128, .f32⟩
  | .hbm, ⟨15, _⟩ => ⟨S2048x3912, .bf16⟩
  | .hbm, ⟨16, _⟩ => ⟨S2048x2048, .bf16⟩
  | .hbm, ⟨17, _⟩ => ⟨S2048x1864, .bf16⟩
  | .hbm, ⟨18, _⟩ => ⟨S_, .i32⟩
  | .hbm, ⟨19, _⟩ => ⟨S_, .bf16⟩
  | .hbm, ⟨20, _⟩ => ⟨S2048x1920, .bf16⟩
  | .hbm, ⟨21, _⟩ => ⟨S256x128, .f32⟩
  | .hbm, ⟨22, _⟩ => ⟨S256x128, .bf16⟩
  | .hbm, ⟨23, _⟩ => ⟨S_, .i32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S1x2048, .f32⟩
  | .hbm, ⟨28, _⟩ => ⟨S1x1024, .f32⟩
  | .hbm, ⟨29, _⟩ => ⟨S1x1024, .f32⟩
  | .hbm, ⟨30, _⟩ => ⟨S128x8, .f32⟩
  | .hbm, ⟨31, _⟩ => ⟨S1x256, .f32⟩
  | .hbm, ⟨32, _⟩ => ⟨S1x1024, .f32⟩
  | .hbm, ⟨33, _⟩ => ⟨S32768x1024, .bf16⟩
  | .hbm, ⟨34, _⟩ => ⟨S8x16x4096x64, .bf16⟩
  | .hbm, ⟨35, _⟩ => ⟨S8x8x4096x64, .bf16⟩
  | .hbm, ⟨36, _⟩ => ⟨S32768x64, .bf16⟩
  | .hbm, ⟨37, _⟩ => ⟨S8x80x4096, .bf16⟩
  | .hbm, ⟨38, _⟩ => ⟨S32768x64, .bf16⟩
  | .hbm, ⟨39, _⟩ => ⟨S8x8x4096, .f32⟩
  | .local _ .vmem, ⟨0, _⟩ => ⟨S512x2048, .f32⟩
  | .local _ .vmem, ⟨1, _⟩ => ⟨S512x2048, .f32⟩
  | .local _ .vmem, ⟨2, _⟩ => ⟨S8x12288, .f32⟩
  | .local _ .vmem, ⟨3, _⟩ => ⟨S1x2048, .f32⟩
  | .local _ .vmem, ⟨4, _⟩ => ⟨S2048x2048, .bf16⟩
  | .local _ .vmem, ⟨5, _⟩ => ⟨S2048x1920, .bf16⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S128x8, .f32⟩
  | .local _ .vmem, ⟨10, _⟩ => ⟨S1x256, .f32⟩
  | .local _ .vmem, ⟨11, _⟩ => ⟨S256x128, .bf16⟩
  | .local _ .vmem, ⟨12, _⟩ => ⟨S1x128, .f32⟩
  | .local _ .vmem, ⟨13, _⟩ => ⟨S1x1024, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x1024, .bf16⟩
  | .local _ .vmem, ⟨19, _⟩ => ⟨S512x1024, .bf16⟩
  | .local _ .vmem, ⟨20, _⟩ => ⟨S1x16x512x64, .bf16⟩
  | .local _ .vmem, ⟨21, _⟩ => ⟨S1x16x512x64, .bf16⟩
  | .local _ .vmem, ⟨22, _⟩ => ⟨S1x8x512x64, .bf16⟩
  | .local _ .vmem, ⟨23, _⟩ => ⟨S1x8x512x64, .bf16⟩
  | .local _ .vmem, ⟨24, _⟩ => ⟨S512x64, .bf16⟩
  | .local _ .vmem, ⟨25, _⟩ => ⟨S512x64, .bf16⟩
  | .local _ .vmem, ⟨26, _⟩ => ⟨S1x80x512, .bf16⟩
  | .local _ .vmem, ⟨27, _⟩ => ⟨S1x80x512, .bf16⟩
  | .local _ .vmem, ⟨28, _⟩ => ⟨S512x64, .bf16⟩
  | .local _ .vmem, ⟨29, _⟩ => ⟨S512x64, .bf16⟩
  | .local _ .vmem, ⟨30, _⟩ => ⟨S1x8x512, .f32⟩
  | .local _ .vmem, ⟨31, _⟩ => ⟨S1x8x512, .f32⟩
  | .local _ .vmem, ⟨32, _⟩ => ⟨S512x1024, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_call0_v0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_call1_v0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14_0 : Ref sig .tc := ⟨.hbm, 33, rfl⟩
abbrev main_v14_1 : Ref sig .tc := ⟨.hbm, 34, rfl⟩
abbrev main_v14_2 : Ref sig .tc := ⟨.hbm, 35, rfl⟩
abbrev main_v14_3 : Ref sig .tc := ⟨.hbm, 36, rfl⟩
abbrev main_v14_4 : Ref sig .tc := ⟨.hbm, 37, rfl⟩
abbrev main_v14_5 : Ref sig .tc := ⟨.hbm, 38, rfl⟩
abbrev main_v14_6 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4096_i32 : BitVec 32 := 4096#32
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let v1 : BitVec 32 := Scalar.divsi v0 c4096_i32
  let c1_i32 : BitVec 32 := 1#32
  let v16 : BitVec 32 := Scalar.subi v1 c1_i32
  let v17 : BitVec 32 := Scalar.select v15 v16 v1
  let v33 : Index := Scalar.indexCast v17
  let c0_9 : Index := 0#32
  ![v33.toNat, 0]
def k0_off2 (i : grid0.Coords) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c4096_i32 : BitVec 32 := 4096#32
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let v1 : BitVec 32 := Scalar.divsi v0 c4096_i32
  let c1_i32 : BitVec 32 := 1#32
  let v16 : BitVec 32 := Scalar.subi v1 c1_i32
  let v17 : BitVec 32 := Scalar.select v15 v16 v1
  let v35 : Index := Scalar.indexCast v17
  let c2048 : Index := 2048#32
  ![v35.toNat, 2048]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_17 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1920 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x16x512x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x8x512x64 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x64 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x80x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x64 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x8x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference4Ideal.lean ====
abbrev S32768x2048 : Shape := ⟨2, ![32768, 2048]⟩
abbrev S8x12288 : Shape := ⟨2, ![8, 12288]⟩
abbrev S2048 : Shape := ⟨1, ![2048]⟩
abbrev S2048x3912 : Shape := ⟨2, ![2048, 3912]⟩
abbrev S8x128 : Shape := ⟨2, ![8, 128]⟩
abbrev S8x128x128 : Shape := ⟨3, ![8, 128, 128]⟩
abbrev S256 : Shape := ⟨1, ![256]⟩
abbrev S256x64 : Shape := ⟨2, ![256, 64]⟩
abbrev S64 : Shape := ⟨1, ![64]⟩
abbrev S1024 : Shape := ⟨1, ![1024]⟩
abbrev S32768x128 : Shape := ⟨2, ![32768, 128]⟩
abbrev S32768 : Shape := ⟨1, ![32768]⟩
abbrev S_ : Shape := ⟨0, ![]⟩
abbrev S32768x1 : Shape := ⟨2, ![32768, 1]⟩
abbrev S32768x12288 : Shape := ⟨2, ![32768, 12288]⟩
abbrev S1x2048 : Shape := ⟨2, ![1, 2048]⟩
abbrev S2048x1024 : Shape := ⟨2, ![2048, 1024]⟩
abbrev S32768x1024 : Shape := ⟨2, ![32768, 1024]⟩
abbrev S256x128x8x128 : Shape := ⟨4, ![256, 128, 8, 128]⟩
abbrev S256x128x8 : Shape := ⟨3, ![256, 128, 8]⟩
abbrev S256x128x8x1 : Shape := ⟨4, ![256, 128, 8, 1]⟩
abbrev S1x1x8x128 : Shape := ⟨4, ![1, 1, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x256x128x128 : Shape := ⟨4, ![8, 256, 128, 128]⟩
abbrev S128x8 : Shape := ⟨2, ![128, 8]⟩
abbrev S1x128x8x1 : Shape := ⟨4, ![1, 128, 8, 1]⟩
abbrev S1x1024 : Shape := ⟨2, ![1, 1024]⟩
abbrev S32768x8x2x64 : Shape := ⟨4, ![32768, 8, 2, 64]⟩
abbrev S32768x8x2x32 : Shape := ⟨4, ![32768, 8, 2, 32]⟩
abbrev S32768x1x2x64 : Shape := ⟨4, ![32768, 1, 2, 64]⟩
abbrev S8x4096x16x64 : Shape := ⟨4, ![8, 4096, 16, 64]⟩
abbrev S8x16x4096x64 : Shape := ⟨4, ![8, 16, 4096, 64]⟩

abbrev nBuf : Space → Nat
  | .hbm => 229
  | .vmem => 0
  | .smem => 0
  | _ => 0

abbrev hbmTy0_0 (i : Nat) : BufTy := match i % 128 with
  | 0 => ⟨S32768x2048, .f32⟩
  | 1 => ⟨S8x12288, .f32⟩
  | 2 => ⟨S2048, .f32⟩
  | 3 => ⟨S2048x3912, .f32⟩
  | 4 => ⟨S8x128, .f32⟩
  | 5 => ⟨S8x128, .f32⟩
  | 6 => ⟨S8x128x128, .f32⟩
  | 7 => ⟨S8x128, .f32⟩
  | 8 => ⟨S256, .f32⟩
  | 9 => ⟨S256x64, .f32⟩
  | 10 => ⟨S256x64, .f32⟩
  | 11 => ⟨S64, .f32⟩
  | 12 => ⟨S1024, .f32⟩
  | 13 => ⟨S32768x128, .f32⟩
  | 14 => ⟨S32768x128, .f32⟩
  | 15 => ⟨S32768, .i32⟩
  | 16 => ⟨S_, .i32⟩
  | 17 => ⟨S_, .i32⟩
  | 18 => ⟨S32768, .i32⟩
  | 19 => ⟨S32768, .i32⟩
  | 20 => ⟨S32768, .i32⟩
  | 21 => ⟨S_, .i32⟩
  | 22 => ⟨S32768, .i32⟩
  | 23 => ⟨S32768, .i1⟩
  | 24 => ⟨S32768, .i32⟩
  | 25 => ⟨S32768, .i32⟩
  | 26 => ⟨S_, .i32⟩
  | 27 => ⟨S32768, .i32⟩
  | 28 => ⟨S32768, .i1⟩
  | 29 => ⟨S32768, .i1⟩
  | 30 => ⟨S_, .i32⟩
  | 31 => ⟨S32768, .i32⟩
  | 32 => ⟨S32768, .i32⟩
  | 33 => ⟨S32768, .i32⟩
  | 34 => ⟨S_, .i32⟩
  | 35 => ⟨S32768, .i32⟩
  | 36 => ⟨S32768, .i1⟩
  | 37 => ⟨S_, .i32⟩
  | 38 => ⟨S32768, .i32⟩
  | 39 => ⟨S32768, .i32⟩
  | 40 => ⟨S32768, .i32⟩
  | 41 => ⟨S32768x1, .i32⟩
  | 42 => ⟨S32768x12288, .f32⟩
  | 43 => ⟨S32768x2048, .f32⟩
  | 44 => ⟨S32768x2048, .f32⟩
  | 45 => ⟨S32768x2048, .f32⟩
  | 46 => ⟨S32768x2048, .f32⟩
  | 47 => ⟨S32768x2048, .f32⟩
  | 48 => ⟨S32768x2048, .f32⟩
  | 49 => ⟨S32768x2048, .f32⟩
  | 50 => ⟨S_, .f32⟩
  | 51 => ⟨S32768, .f32⟩
  | 52 => ⟨S32768x1, .f32⟩
  | 53 => ⟨S_, .f32⟩
  | 54 => ⟨S32768x1, .f32⟩
  | 55 => ⟨S32768x1, .f32⟩
  | 56 => ⟨S_, .f32⟩
  | 57 => ⟨S32768x1, .f32⟩
  | 58 => ⟨S32768x1, .f32⟩
  | 59 => ⟨S32768x1, .f32⟩
  | 60 => ⟨S32768x2048, .f32⟩
  | 61 => ⟨S32768x2048, .f32⟩
  | 62 => ⟨S1x2048, .f32⟩
  | 63 => ⟨S32768x2048, .f32⟩
  | 64 => ⟨S32768x2048, .f32⟩
  | 65 => ⟨S_, .f32⟩
  | 66 => ⟨S32768x2048, .f32⟩
  | 67 => ⟨S32768x2048, .f32⟩
  | 68 => ⟨S32768x2048, .f32⟩
  | 69 => ⟨S32768x2048, .f32⟩
  | 70 => ⟨S2048x1024, .f32⟩
  | 71 => ⟨S32768x1024, .f32⟩
  | 72 => ⟨S32768x1024, .f32⟩
  | 73 => ⟨S32768x1024, .f32⟩
  | 74 => ⟨S_, .f32⟩
  | 75 => ⟨S32768x1024, .f32⟩
  | 76 => ⟨S32768x1024, .f32⟩
  | 77 => ⟨S32768x1024, .f32⟩
  | 78 => ⟨S_, .f32⟩
  | 79 => ⟨S32768x1024, .f32⟩
  | 80 => ⟨S32768x1024, .f32⟩
  | 81 => ⟨S32768x1024, .f32⟩
  | 82 => ⟨S_, .f32⟩
  | 83 => ⟨S32768x1024, .f32⟩
  | 84 => ⟨S32768x1024, .f32⟩
  | 85 => ⟨S_, .f32⟩
  | 86 => ⟨S32768x1024, .f32⟩
  | 87 => ⟨S32768x1024, .f32⟩
  | 88 => ⟨S32768x1024, .f32⟩
  | 89 => ⟨S2048x1024, .f32⟩
  | 90 => ⟨S32768x1024, .f32⟩
  | 91 => ⟨S32768x1024, .f32⟩
  | 92 => ⟨S32768x1024, .f32⟩
  | 93 => ⟨S_, .f32⟩
  | 94 => ⟨S32768x1024, .f32⟩
  | 95 => ⟨S32768x1024, .f32⟩
  | 96 => ⟨S32768x1024, .f32⟩
  | 97 => ⟨S_, .f32⟩
  | 98 => ⟨S32768x1024, .f32⟩
  | 99 => ⟨S32768x1024, .f32⟩
  | 100 => ⟨S32768x1024, .f32⟩
  | 101 => ⟨S_, .f32⟩
  | 102 => ⟨S32768x1024, .f32⟩
  | 103 => ⟨S32768x1024, .f32⟩
  | 104 => ⟨S_, .f32⟩
  | 105 => ⟨S32768x1024, .f32⟩
  | 106 => ⟨S32768x1024, .f32⟩
  | 107 => ⟨S32768x1024, .f32⟩
  | 108 => ⟨S256x128x8x128, .f32⟩
  | 109 => ⟨S_, .f32⟩
  | 110 => ⟨S256x128x8, .f32⟩
  | 111 => ⟨S256x128x8x1, .f32⟩
  | 112 => ⟨S_, .f32⟩
  | 113 => ⟨S256x128x8x1, .f32⟩
  | 114 => ⟨S256x128x8x1, .f32⟩
  | 115 => ⟨S256x128x8x128, .f32⟩
  | 116 => ⟨S256x128x8x128, .f32⟩
  | 117 => ⟨S256x128x8x128, .f32⟩
  | 118 => ⟨S_, .f32⟩
  | 119 => ⟨S256x128x8, .f32⟩
  | 120 => ⟨S256x128x8x1, .f32⟩
  | 121 => ⟨S_, .f32⟩
  | 122 => ⟨S256x128x8x1, .f32⟩
  | 123 => ⟨S256x128x8x1, .f32⟩
  | 124 => ⟨S_, .f32⟩
  | 125 => ⟨S256x128x8x1, .f32⟩
  | 126 => ⟨S256x128x8x1, .f32⟩
  | 127 => ⟨S256x128x8x1, .f32⟩
  | _ => ⟨S32768x2048, .f32⟩

abbrev hbmTy0_1 (i : Nat) : BufTy := match i % 128 with
  | 0 => ⟨S256x128x8x128, .f32⟩
  | 1 => ⟨S256x128x8x128, .f32⟩
  | 2 => ⟨S1x1x8x128, .f32⟩
  | 3 => ⟨S256x128x8x128, .f32⟩
  | 4 => ⟨S256x128x8x128, .f32⟩
  | 5 => ⟨S1x1x8x128, .f32⟩
  | 6 => ⟨S256x128x8x128, .f32⟩
  | 7 => ⟨S256x128x8x128, .f32⟩
  | 8 => ⟨S128, .i32⟩
  | 9 => ⟨S128x1, .i32⟩
  | 10 => ⟨S_, .i32⟩
  | 11 => ⟨S_, .i32⟩
  | 12 => ⟨S128x1, .i32⟩
  | 13 => ⟨S128x1, .i32⟩
  | 14 => ⟨S128x1, .i32⟩
  | 15 => ⟨S_, .i32⟩
  | 16 => ⟨S128x1, .i32⟩
  | 17 => ⟨S128x1, .i1⟩
  | 18 => ⟨S128x1, .i32⟩
  | 19 => ⟨S128x1, .i32⟩
  | 20 => ⟨S_, .i32⟩
  | 21 => ⟨S128x1, .i32⟩
  | 22 => ⟨S128x1, .i1⟩
  | 23 => ⟨S128x1, .i1⟩
  | 24 => ⟨S_, .i32⟩
  | 25 => ⟨S128x1, .i32⟩
  | 26 => ⟨S128x1, .i32⟩
  | 27 => ⟨S128x1, .i32⟩
  | 28 => ⟨S1x128, .i32⟩
  | 29 => ⟨S_, .i32⟩
  | 30 => ⟨S_, .i32⟩
  | 31 => ⟨S1x128, .i32⟩
  | 32 => ⟨S1x128, .i32⟩
  | 33 => ⟨S1x128, .i32⟩
  | 34 => ⟨S_, .i32⟩
  | 35 => ⟨S1x128, .i32⟩
  | 36 => ⟨S1x128, .i1⟩
  | 37 => ⟨S1x128, .i32⟩
  | 38 => ⟨S1x128, .i32⟩
  | 39 => ⟨S_, .i32⟩
  | 40 => ⟨S1x128, .i32⟩
  | 41 => ⟨S1x128, .i1⟩
  | 42 => ⟨S1x128, .i1⟩
  | 43 => ⟨S_, .i32⟩
  | 44 => ⟨S1x128, .i32⟩
  | 45 => ⟨S1x128, .i32⟩
  | 46 => ⟨S1x128, .i32⟩
  | 47 => ⟨S128x128, .i32⟩
  | 48 => ⟨S128x128, .i32⟩
  | 49 => ⟨S128x128, .i1⟩
  | 50 => ⟨S1x128x128, .i1⟩
  | 51 => ⟨S_, .f32⟩
  | 52 => ⟨S_, .f32⟩
  | 53 => ⟨S8x128x128, .i1⟩
  | 54 => ⟨S8x128x128, .f32⟩
  | 55 => ⟨S8x128x128, .f32⟩
  | 56 => ⟨S8x256x128x128, .f32⟩
  | 57 => ⟨S256x128x8x128, .f32⟩
  | 58 => ⟨S128x8, .f32⟩
  | 59 => ⟨S1x128x8x1, .f32⟩
  | 60 => ⟨S256x128x8x128, .f32⟩
  | 61 => ⟨S256x128x8x128, .f32⟩
  | 62 => ⟨S32768x1024, .f32⟩
  | 63 => ⟨S32768x1024, .f32⟩
  | 64 => ⟨S32768x1024, .f32⟩
  | 65 => ⟨S_, .f32⟩
  | 66 => ⟨S32768, .f32⟩
  | 67 => ⟨S32768x1, .f32⟩
  | 68 => ⟨S_, .f32⟩
  | 69 => ⟨S32768x1, .f32⟩
  | 70 => ⟨S32768x1, .f32⟩
  | 71 => ⟨S_, .f32⟩
  | 72 => ⟨S32768x1, .f32⟩
  | 73 => ⟨S32768x1, .f32⟩
  | 74 => ⟨S32768x1, .f32⟩
  | 75 => ⟨S32768x1024, .f32⟩
  | 76 => ⟨S32768x1024, .f32⟩
  | 77 => ⟨S1x1024, .f32⟩
  | 78 => ⟨S32768x1024, .f32⟩
  | 79 => ⟨S32768x1024, .f32⟩
  | 80 => ⟨S32768x1024, .bf16⟩
  | 81 => ⟨S2048x1024, .f32⟩
  | 82 => ⟨S32768x1024, .f32⟩
  | 83 => ⟨S32768x8x2x64, .f32⟩
  | 84 => ⟨S32768x8x2x32, .f32⟩
  | 85 => ⟨S32768x8x2x32, .f32⟩
  | 86 => ⟨S32768x8x2x32, .f32⟩
  | 87 => ⟨S32768x8x2x64, .f32⟩
  | 88 => ⟨S32768x1x2x64, .f32⟩
  | 89 => ⟨S32768x8x2x64, .f32⟩
  | 90 => ⟨S32768x8x2x64, .f32⟩
  | 91 => ⟨S32768x1x2x64, .f32⟩
  | 92 => ⟨S32768x8x2x64, .f32⟩
  | 93 => ⟨S32768x8x2x64, .f32⟩
  | 94 => ⟨S32768x8x2x64, .f32⟩
  | 95 => ⟨S_, .f32⟩
  | 96 => ⟨S32768x8x2x64, .f32⟩
  | 97 => ⟨S32768x8x2x64, .f32⟩
  | 98 => ⟨S8x4096x16x64, .f32⟩
  | 99 => ⟨S8x16x4096x64, .f32⟩
  | 100 => ⟨S8x16x4096x64, .bf16⟩
  | _ => ⟨S32768x2048, .f32⟩

abbrev hbmTy (i : Nat) : BufTy := match i / 128 with
  | 0 => hbmTy0_0 i
  | 1 => hbmTy0_1 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v1 : Ref sig .tc := ⟨.hbm, 33, rfl⟩
abbrev main_c_0 : Ref sig .tc := ⟨.hbm, 34, rfl⟩
abbrev main_v2 : Ref sig .tc := ⟨.hbm, 35, rfl⟩
abbrev main_v3 : Ref sig .tc := ⟨.hbm, 36, rfl⟩
abbrev main_c_1 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst : Ref sig .tc := ⟨.hbm, 50, rfl⟩
abbrev main_v16 : Ref sig .tc := ⟨.hbm, 51, rfl⟩
abbrev main_v17 : Ref sig .tc := ⟨.hbm, 52, rfl⟩
abbrev main_cst_2 : Ref sig .tc := ⟨.hbm, 53, rfl⟩
abbrev main_v18 : Ref sig .tc := ⟨.hbm, 54, rfl⟩
abbrev main_v19 : Ref sig .tc := ⟨.hbm, 55, rfl⟩
abbrev main_cst_3 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_cst_4 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_5 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_6 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_7 : Ref sig .tc := ⟨.hbm, 82, rfl⟩
abbrev main_v42 : Ref sig .tc := ⟨.hbm, 83, rfl⟩
abbrev main_v43 : Ref sig .tc := ⟨.hbm, 84, rfl⟩
abbrev main_cst_8 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_cst_9 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_cst_10 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_cst_11 : Ref sig .tc := ⟨.hbm, 101, rfl⟩
abbrev main_v57 : Ref sig .tc := ⟨.hbm, 102, rfl⟩
abbrev main_v58 : Ref sig .tc := ⟨.hbm, 103, rfl⟩
abbrev main_cst_12 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_13 : Ref sig .tc := ⟨.hbm, 109, rfl⟩
abbrev main_v63 : Ref sig .tc := ⟨.hbm, 110, rfl⟩
abbrev main_v64 : Ref sig .tc := ⟨.hbm, 111, rfl⟩
abbrev main_cst_14 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_15 : Ref sig .tc := ⟨.hbm, 118, rfl⟩
abbrev main_v70 : Ref sig .tc := ⟨.hbm, 119, rfl⟩
abbrev main_v71 : Ref sig .tc := ⟨.hbm, 120, rfl⟩
abbrev main_cst_16 : Ref sig .tc := ⟨.hbm, 121, rfl⟩
abbrev main_v72 : Ref sig .tc := ⟨.hbm, 122, rfl⟩
abbrev main_v73 : Ref sig .tc := ⟨.hbm, 123, rfl⟩
abbrev main_cst_17 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_c_18 : Ref sig .tc := ⟨.hbm, 138, rfl⟩
abbrev main_call1_v0 : Ref sig .tc := ⟨.hbm, 139, rfl⟩
abbrev main_call1_v1 : Ref sig .tc := ⟨.hbm, 140, rfl⟩
abbrev main_call1_v2 : Ref sig .tc := ⟨.hbm, 141, rfl⟩
abbrev main_call1_v3 : Ref sig .tc := ⟨.hbm, 142, rfl⟩
abbrev main_call1_v4 : Ref sig .tc := ⟨.hbm, 143, rfl⟩
abbrev main_call1_v5 : Ref sig .tc := ⟨.hbm, 144, rfl⟩
abbrev main_call1_v6 : Ref sig .tc := ⟨.hbm, 145, rfl⟩
abbrev main_call1_v7 : Ref sig .tc := ⟨.hbm, 146, rfl⟩
abbrev main_call1_v8 : Ref sig .tc := ⟨.hbm, 147, rfl⟩
abbrev main_call1_c : Ref sig .tc := ⟨.hbm, 148, rfl⟩
abbrev main_call1_v9 : Ref sig .tc := ⟨.hbm, 149, rfl⟩
abbrev main_call1_v10 : Ref sig .tc := ⟨.hbm, 150, rfl⟩
abbrev main_call1_v11 : Ref sig .tc := ⟨.hbm, 151, rfl⟩
abbrev main_call1_c_0 : Ref sig .tc := ⟨.hbm, 152, rfl⟩
abbrev main_call1_v12 : Ref sig .tc := ⟨.hbm, 153, rfl⟩
abbrev main_call1_v13 : Ref sig .tc := ⟨.hbm, 154, rfl⟩
abbrev main_v87 : Ref sig .tc := ⟨.hbm, 155, rfl⟩
abbrev main_v88 : Ref sig .tc := ⟨.hbm, 156, rfl⟩
abbrev main_c_19 : Ref sig .tc := ⟨.hbm, 157, rfl⟩
abbrev main_call2_v0 : Ref sig .tc := ⟨.hbm, 158, rfl⟩
abbrev main_call2_v1 : Ref sig .tc := ⟨.hbm, 159, rfl⟩
abbrev main_call2_v2 : Ref sig .tc := ⟨.hbm, 160, rfl⟩
abbrev main_call2_v3 : Ref sig .tc := ⟨.hbm, 161, rfl⟩
abbrev main_call2_v4 : Ref sig .tc := ⟨.hbm, 162, rfl⟩
abbrev main_call2_v5 : Ref sig .tc := ⟨.hbm, 163, rfl⟩
abbrev main_call2_v6 : Ref sig .tc := ⟨.hbm, 164, rfl⟩
abbrev main_call2_v7 : Ref sig .tc := ⟨.hbm, 165, rfl⟩
abbrev main_call2_v8 : Ref sig .tc := ⟨.hbm, 166, rfl⟩
abbrev main_call2_c : Ref sig .tc := ⟨.hbm, 167, rfl⟩
abbrev main_call2_v9 : Ref sig .tc := ⟨.hbm, 168, rfl⟩
abbrev main_call2_v10 : Ref sig .tc := ⟨.hbm, 169, rfl⟩
abbrev main_call2_v11 : Ref sig .tc := ⟨.hbm, 170, rfl⟩
abbrev main_call2_c_0 : Ref sig .tc := ⟨.hbm, 171, rfl⟩
abbrev main_call2_v12 : Ref sig .tc := ⟨.hbm, 172, rfl⟩
abbrev main_call2_v13 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_cst_20 : Ref sig .tc := ⟨.hbm, 179, rfl⟩
abbrev main_call3_v0 : Ref sig .tc := ⟨.hbm, 180, rfl⟩
abbrev main_call3_v1 : Ref sig .tc := ⟨.hbm, 181, rfl⟩
abbrev main_call3_v2 : Ref sig .tc := ⟨.hbm, 182, rfl⟩
abbrev main_v94 : Ref sig .tc := ⟨.hbm, 183, rfl⟩
abbrev main_v95 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩
abbrev main_v100 : Ref sig .tc := ⟨.hbm, 189, rfl⟩
abbrev main_v101 : Ref sig .tc := ⟨.hbm, 190, rfl⟩
abbrev main_v102 : Ref sig .tc := ⟨.hbm, 191, rfl⟩
abbrev main_v103 : Ref sig .tc := ⟨.hbm, 192, rfl⟩
abbrev main_cst_21 : Ref sig .tc := ⟨.hbm, 193, rfl⟩
abbrev main_v104 : Ref sig .tc := ⟨.hbm, 194, rfl⟩
abbrev main_v105 : Ref sig .tc := ⟨.hbm, 195, rfl⟩
abbrev main_cst_22 : Ref sig .tc := ⟨.hbm, 196, rfl⟩
abbrev main_v106 : Ref sig .tc := ⟨.hbm, 197, rfl⟩
abbrev main_v107 : Ref sig .tc := ⟨.hbm, 198, rfl⟩
abbrev main_cst_23 : Ref sig .tc := ⟨.hbm, 199, rfl⟩
abbrev main_v108 : Ref sig .tc := ⟨.hbm, 200, rfl⟩
abbrev main_v109 : Ref sig .tc := ⟨.hbm, 201, rfl⟩
abbrev main_v110 : Ref sig .tc := ⟨.hbm, 202, rfl⟩
abbrev main_v111 : Ref sig .tc := ⟨.hbm, 203, rfl⟩
abbrev main_v112 : Ref sig .tc := ⟨.hbm, 204, rfl⟩
abbrev main_v113 : Ref sig .tc := ⟨.hbm, 205, rfl⟩
abbrev main_v114 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_v118 : Ref sig .tc := ⟨.hbm, 210, rfl⟩
abbrev main_v119 : Ref sig .tc := ⟨.hbm, 211, rfl⟩
abbrev main_v120 : Ref sig .tc := ⟨.hbm, 212, rfl⟩
abbrev main_v121 : Ref sig .tc := ⟨.hbm, 213, rfl⟩
abbrev main_v122 : Ref sig .tc := ⟨.hbm, 214, rfl⟩
abbrev main_v123 : Ref sig .tc := ⟨.hbm, 215, rfl⟩
abbrev main_v124 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_v128 : Ref sig .tc := ⟨.hbm, 220, rfl⟩
abbrev main_v129 : Ref sig .tc := ⟨.hbm, 221, rfl⟩
abbrev main_v130 : Ref sig .tc := ⟨.hbm, 222, rfl⟩
abbrev main_cst_24 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩

abbrev nD : Nat := 1
abbrev τ : Topo := Topo.v7x

variable {F : FTy → Type} [FloatOps F]
-- ==== Proof.SameText.lean ====
/- The kernel as printed and the kernel idealized have one text: at any float values they are the same program. -/
module

public import proofs.«01_k».proof.Defs
public import proofs.«01_k».proof.Proof.Gen.Kernel
public import proofs.«01_k».proof.Proof.Gen.KernelIdeal

@[expose] public section

set_option maxRecDepth 16384
set_option maxHeartbeats 4000000

noncomputable section

namespace Cert.SameText

open Idealize.ShloMosaic Idealize.SL.Sem

/-- The call's body. -/
theorem defs₀_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl
  | ⟨n + 1, h⟩, _ => exact absurd h (Nat.not_lt.2 (Nat.le_add_left _ _))

/-- The call's windows. -/
theorem pcfgs_eq : Cert.Kernel.pcfgs (F := Bits) = Cert.KernelIdeal.pcfgs (F := Bits) := rfl

theorem defs_eq : Cert.Kernel.defs (F := Bits) = Cert.KernelIdeal.defs (F := Bits) :=
  congrArg (Pipeline.defs (Cert.KernelIdeal.pcfgs (F := Bits))) defs₀_eq

/-- The host code around the call. -/
theorem main_eq : Cert.Kernel.main (F := Bits) = Cert.KernelIdeal.main (F := Bits) := by
  with_unfolding_all rfl

end Cert.SameText
-- ==== Proof.Flights.lean ====
/- The kernel's copies as PENDING FLIGHTS. Every copy of one semaphore cell is listed beforehand, by number: the rows
   of the result it fills and the share of the source it reads. `Pend … j` says that the first `j` of the list are
   issued; the rows and the source shares of the others are still at hand. Whatever order the loops issue them in, the
   step is the same (`wp_issue`), and when every unit has been waited for the whole list comes back with its rows
   filled (`collect`). -/
module

public import proofs.«01_k».proof.Proof.Gen.KernelIdeal.Frame
public import proofs.«01_k».proof.Proof.Gen.KernelIdeal.Loops
public import Idealize.ShloMosaic.Lib.Batch
public import Idealize.ShloMosaic.Lib.WholeRead
public import Idealize.ShloMosaic.Lib.Pipeline.FrameValue

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Where the result stands. -/
abbrev outLoc (c : Dev nD) : Loc nD τ sig := (c : Thread nD τ).loc main_v23

/-- What copy `t` needs: its rows of the result at the contents `f`, and its share of the source. -/
def needs (c : Dev nD) {n : ℕ} (tgt : Fin n → Finset (Idx (outLoc c))) (src : Fin n → sProp 𝕄) (f : Buf (Elt F) (outLoc c)) (t : Fin n) : sProp 𝕄 := iprop((outLoc c ↦[tgt t]{fullShare} f) ∗ src t)

/-- The list with `j` copies issued and `u` units waited for. -/
def Flying (c : Dev nD) {n : ℕ} (sm : SemLoc sig) (N : ℕ) (tgt : Fin n → Finset (Idx (outLoc c))) (src : Fin n → sProp 𝕄) (G : Buf (Elt F) (outLoc c)) (j u : ℕ) : sProp 𝕄 :=
  Transfers.Batch (countersEmb (U := Pipeline.UD sig nD τ)) (c : Thread nD τ) sm () N (needs c tgt src G) j u

/-- The first `j` copies issued, nothing waited for, the others still to come. -/
def Pend (c : Dev nD) {n : ℕ} (sm : SemLoc sig) (N : ℕ) (tgt : Fin n → Finset (Idx (outLoc c))) (src : Fin n → sProp 𝕄) (f G : Buf (Elt F) (outLoc c)) (j : ℕ) : sProp 𝕄 :=
  iprop(Flying c sm N tgt src G j 0 ∗ bigSep (Ring.rangeSet n j n) (needs c tgt src f))

theorem pend_start {c : Dev nD} {n : ℕ} {sm : SemLoc sig} {N : ℕ} {tgt : Fin n → Finset (Idx (outLoc c))} {src : Fin n → sProp 𝕄} {f G : Buf (Elt F) (outLoc c)}
    [∀ t, Storable (upEmb : UEmb _ 𝕄) (src t)] {E : Set ℕ} :
    iprop(semVal ((c : Thread nD τ), sm) 0 ∗ bigSep Finset.univ (needs c tgt src f)) ⊢ |={E}=> Pend c sm N tgt src f G 0 := by
  iintro ⟨Hs, Hn⟩
  have h : ∀ t, Storable (upEmb : UEmb _ 𝕄) (needs c tgt src G t) := fun t => by unfold needs; infer_instance
  imod (Transfers.batch_alloc' (Lvl := ℕ) (countersEmb (U := Pipeline.UD sig nD τ)) (c : Thread nD τ) () N (needs c tgt src G) (sm := sm) (E := E)) $$ Hs with HB
  imodintro
  unfold Pend Flying
  rw [Ring.rangeSet_univ]
  isplitl [HB]; · iexact HB
  iexact Hn

theorem pend_done {c : Dev nD} {n : ℕ} {sm : SemLoc sig} {N : ℕ} {tgt : Fin n → Finset (Idx (outLoc c))} {src : Fin n → sProp 𝕄} {f G : Buf (Elt F) (outLoc c)}
    : Pend c sm N tgt src f G n ⊢ Flying c sm N tgt src G n 0 := by
  unfold Pend
  iintro ⟨H, -⟩; iexact H

theorem collect {c : Dev nD} {n : ℕ} {sm : SemLoc sig} {N : ℕ} {tgt : Fin n → Finset (Idx (outLoc c))} {src : Fin n → sProp 𝕄} {f G : Buf (Elt F) (outLoc c)}
    (hN : 0 < N) :
    Flying c sm N tgt src G n (N * n) ⊢ (|={Set.univ}=> iprop(bigSep Finset.univ (needs c tgt src G) ∗ semVal ((c : Thread nD τ), sm) 0) : sProp 𝕄) :=
  Transfers.batch_collect' (countersEmb (U := Pipeline.UD sig nD τ)) (c : Thread nD τ) hN

theorem pend_eq {c : Dev nD} {n : ℕ} {sm : SemLoc sig} {N : ℕ} {tgt : Fin n → Finset (Idx (outLoc c))} {src : Fin n → sProp 𝕄} {f G : Buf (Elt F) (outLoc c)} {j j' : ℕ}
    (h : j = j') : Pend c sm N tgt src f G j ⊢ Pend c sm N tgt src f G j' := by rw [h]

theorem flying_eq {c : Dev nD} {n : ℕ} {sm : SemLoc sig} {N : ℕ} {tgt : Fin n → Finset (Idx (outLoc c))} {src : Fin n → sProp 𝕄} {G : Buf (Elt F) (outLoc c)} {j u u' : ℕ}
    (h : u = u') : Flying c sm N tgt src G j u ⊢ Flying c sm N tgt src G j u' := by rw [h]

/-- ONE ISSUE: the next copy of the list, its destination and source the list's. -/
theorem wp_issue {c : Dev nD} {n : ℕ} {sm : SemLoc sig} {N : ℕ} {tgt : Fin n → Finset (Idx (outLoc c))} {src : Fin n → sProp 𝕄} {f G : Buf (Elt F) (outLoc c)}
    {Q : Unit → sProp 𝕄} {sp : Space} (r : Rect S81920x2048) {hr : ∀ a, r.stride a = 1}
    (s : Memref sig .tc sp r.shape .f32) {j : ℕ} (hj : j < n) {q : PosShare TreeShare} {fs : Buf (Elt F) (s.view.loc (c : Thread nD τ))}
    (hset : r.set = tgt ⟨j, hj⟩) (hsrc : src ⟨j, hj⟩ = (s.view.loc (c : Thread nD τ) ↦[s.view.set]{q} fs))
    (hN : ((Memref.whole main_v23).slice r hr).view.amount sm = N) (hG : ∀ x, G (r.emb x) = s.view.read (Elt F) fs x)
    {h1 h2 h3} {k : PUnit → Prog (TpuEff nD τ sig (Elt F) Λ₀ .tc) Unit} :
    Pend c sm N tgt src f G j ⊢ iprop((Pend c sm N tgt src f G (j + 1) -∗ wp frame (wpE (defs₀ (F := F)) Variants.none (c : Thread nD τ) none) Set.univ (k ⟨⟩) Q)
      -∗ wp frame (wpE (defs₀ (F := F)) Variants.none (c : Thread nD τ) none) Set.univ (.op (.enqueueDmaAs s (.here ((Memref.whole main_v23).slice r hr)) .same sm h1 h2 h3) k) Q) := by
  unfold Pend Flying
  rw [Ring.bigSep_rangeSet_head (by omega) hj]
  iintro ⟨HB, Hn, Hr⟩ Hk
  ihave Hn' := (show needs c tgt src f ⟨j, hj⟩ ⊢ iprop((outLoc c ↦[r.set]{fullShare} f) ∗ (s.view.loc (c : Thread nD τ) ↦[s.view.set]{q} fs)) from by
    unfold needs; rw [hset, hsrc]) $$ Hn
  icases Hn' with ⟨Hd, Hs⟩
  iapply (Transfers.wp_dmaBatch (countersEmb (U := Pipeline.UD sig nD τ)) Variants.none (c : Thread nD τ) none () N hN
    (dst := (Memref.whole main_v23).slice r hr) (Sd := r.set) (fd := f) (q := q) (fs := fs) (D := needs c tgt src G) (View.set_slice_whole _ _).subset hj (Nat.zero_le _) ?hD) $$ [HB Hd Hs]
  case hD =>
    unfold needs; rw [hsrc, ← hset]
    iintro ⟨H1, H2⟩
    isplitl [H1]
    · iapply (Entails.of_eq (pointsTo_congr (fun i hi => ?_))) $$ H1
      obtain ⟨x, rfl⟩ : ∃ x, r.emb x = i := by
        rw [← Rect.map_emb_univ, Finset.mem_map] at hi; obtain ⟨x, -, e⟩ := hi; exact ⟨x, e⟩
      rw [hG]
      exact View.write_emb_of_mem _ _ (Finset.mem_univ x)
    · iexact H2
  · isplitl [Hs]; · iexact Hs
    isplitl [Hd]; · iexact Hd
    iexact HB
  iintro HB
  iapply Hk
  isplitl [HB]; · iexact HB
  iexact Hr

/-- `wp_issue` out of a slice of a memref, between rectangles of one size. -/
theorem wp_issue_slice {c : Dev nD} {n : ℕ} {sm : SemLoc sig} {N : ℕ} {tgt : Fin n → Finset (Idx (outLoc c))} {src : Fin n → sProp 𝕄} {f G : Buf (Elt F) (outLoc c)}
    {Q : Unit → sProp 𝕄} {sp : Space} {d0 : Fin 2 → ℕ} {size : Fin 2 → ℕ} (m : Memref sig .tc sp ⟨2, d0⟩ .f32)
    (off : Fin 2 → ℕ) (inb : ∀ a, off a + size a ≤ S81920x2048.size a) (off' : Fin 2 → ℕ) (inb' : ∀ a, off' a + size a ≤ d0 a)
    {j : ℕ} (hj : j < n) {q : PosShare TreeShare} (fs : Buf (Elt F) (m.view.loc (c : Thread nD τ)))
    (hset : (Rect.unit (s := S81920x2048) off size inb).set = tgt ⟨j, hj⟩)
    (hsrc : src ⟨j, hj⟩ = ((m.slice (Rect.unit (s := ⟨2, d0⟩) off' size inb') (fun _ => rfl)).view.loc (c : Thread nD τ)
      ↦[(m.slice (Rect.unit (s := ⟨2, d0⟩) off' size inb') (fun _ => rfl)).view.set]{q} fs))
    (hN : ((Memref.whole main_v23).slice (Rect.unit (s := S81920x2048) off size inb) (fun _ => rfl)).view.amount sm = N)
    (hG : ∀ x, G ((Rect.unit (s := S81920x2048) off size inb).emb x)
      = (m.slice (Rect.unit (s := ⟨2, d0⟩) off' size inb') (fun _ => rfl)).view.read (Elt F) fs x)
    {h1 h2 h3} {k : PUnit → Prog (TpuEff nD τ sig (Elt F) Λ₀ .tc) Unit} :
    Pend c sm N tgt src f G j ⊢ iprop((Pend c sm N tgt src f G (j + 1) -∗ wp frame (wpE (defs₀ (F := F)) Variants.none (c : Thread nD τ) none) Set.univ (k ⟨⟩) Q)
      -∗ wp frame (wpE (defs₀ (F := F)) Variants.none (c : Thread nD τ) none) Set.univ
        (.op (.enqueueDmaAs (m.slice (Rect.unit (s := ⟨2, d0⟩) off' size inb') (fun _ => rfl))
          (.here ((Memref.whole main_v23).slice (Rect.unit (s := S81920x2048) off size inb) (fun _ => rfl))) .same sm h1 h2 h3) k) Q) :=
  wp_issue (Rect.unit (s := S81920x2048) off size inb) (m.slice (Rect.unit (s := ⟨2, d0⟩) off' size inb') (fun _ => rfl)) hj hset hsrc hN hG

/-- `wp_issue` out of a whole memref, into a rectangle of its size. -/
theorem wp_issue_all {c : Dev nD} {n : ℕ} {sm : SemLoc sig} {N : ℕ} {tgt : Fin n → Finset (Idx (outLoc c))} {src : Fin n → sProp 𝕄} {f G : Buf (Elt F) (outLoc c)}
    {Q : Unit → sProp 𝕄} {sp : Space} {size : Fin 2 → ℕ} (m : Memref sig .tc sp ⟨2, size⟩ .f32)
    (off : Fin 2 → ℕ) (inb : ∀ a, off a + size a ≤ S81920x2048.size a)
    {j : ℕ} (hj : j < n) {q : PosShare TreeShare} (fs : Buf (Elt F) (m.view.loc (c : Thread nD τ)))
    (hset : (Rect.unit (s := S81920x2048) off size inb).set = tgt ⟨j, hj⟩)
    (hsrc : src ⟨j, hj⟩ = (m.view.loc (c : Thread nD τ) ↦[m.view.set]{q} fs))
    (hN : ((Memref.whole main_v23).slice (Rect.unit (s := S81920x2048) off size inb) (fun _ => rfl)).view.amount sm = N)
    (hG : ∀ x, G ((Rect.unit (s := S81920x2048) off size inb).emb x) = m.view.read (Elt F) fs x)
    {h1 h2 h3} {k : PUnit → Prog (TpuEff nD τ sig (Elt F) Λ₀ .tc) Unit} :
    Pend c sm N tgt src f G j ⊢ iprop((Pend c sm N tgt src f G (j + 1) -∗ wp frame (wpE (defs₀ (F := F)) Variants.none (c : Thread nD τ) none) Set.univ (k ⟨⟩) Q)
      -∗ wp frame (wpE (defs₀ (F := F)) Variants.none (c : Thread nD τ) none) Set.univ
        (.op (.enqueueDmaAs m
          (.here ((Memref.whole main_v23).slice (Rect.unit (s := S81920x2048) off size inb) (fun _ => rfl))) .same sm h1 h2 h3) k) Q) :=
  wp_issue (Rect.unit (s := S81920x2048) off size inb) m hj hset hsrc hN hG

/-- The core owes nothing; what it has waited on before is of no account. -/
def Owing (c : Dev nD) : sProp 𝕄 := iprop(∃ W, owes (c : Thread nD τ) 0 W)

/-- ONE WAIT: one more copy's units are taken, nothing is handed back yet. -/
theorem wp_take {c : Dev nD} {n : ℕ} {N : ℕ} {tgt : Fin n → Finset (Idx (outLoc c))} {src : Fin n → sProp 𝕄} {G : Buf (Elt F) (outLoc c)}
    {Q : Unit → sProp 𝕄} {sem : DmaSem sig} {sp sp' : Space} {s s' : Shape} {srcw : Memref sig .tc sp' s' .f32} {dstw : Memref sig .tc sp s .f32}
    {hs : srcw.view.WordExact} {hd : dstw.view.WordExact} {j u : ℕ} (hJ : dstw.view.dmaCredit = N) (hu : u + N ≤ N * j)
    {k : PUnit → Prog (TpuEff nD τ sig (Elt F) Λ₀ .tc) Unit} :
    iprop(Flying c (.dma sem) N tgt src G j u ∗ Owing c) ⊢ iprop((iprop(Flying c (.dma sem) N tgt src G j (u + N) ∗ Owing c)
        -∗ wp frame (wpE (defs₀ (F := F)) Variants.none (c : Thread nD τ) none) Set.univ (k ⟨⟩) Q)
      -∗ wp frame (wpE (defs₀ (F := F)) Variants.none (c : Thread nD τ) none) Set.univ (.op (.waitDma2 sem srcw dstw hs hd) k) Q) := by
  unfold Flying Owing
  iintro ⟨HB, ⟨%W, HO⟩⟩ Hk
  have h := Transfers.wp_waitBatchMul (countersEmb (U := Pipeline.UD sig nD τ)) (defs := defs₀ (F := F)) Variants.none (c : Thread nD τ) none
    (srcw := srcw) (dstw := dstw) (hsrc := hs) (hdst := hd) (Q := Q) (k := k) (sem := sem) () 1 (N := N) (by rw [hJ, one_mul]) (D := needs c tgt src G) (j := j) (u := u) (by omega) (W := W)
  rw [one_mul] at h
  iapply h $$ [HB HO]
  · isplitl [HB]; · iexact HB
    iexact HO
  iintro ⟨HB, HO⟩
  iapply Hk
  isplitl [HB]; · iexact HB
  iexists _; iexact HO

end Cert.Dispatch

end
-- ==== Proof.RowCopies.lean ====
/- The kernel's row copies: the loop that starts the two copies of every token, and the loop that waits for them. -/
module

public import proofs.«01_k».proof.Proof.Flights
public import Idealize.ShloMosaic.Lib.ValueIdxCoords

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Row `d` of the result. -/
def rowSet (d : ℕ) : Finset S81920x2048.Idx := Finset.univ.filter fun y => (y 0).val = d

theorem mem_rowSet {d : ℕ} {y : S81920x2048.Idx} : y ∈ rowSet d ↔ (y 0).val = d := by simp [rowSet]

theorem rect_rowSet (off : Fin 2 → ℕ) (h : ∀ a, off a + S1x2048.size a ≤ S81920x2048.size a) :
    (Rect.unit (s := S81920x2048) off S1x2048.size h).set = rowSet (off 0) := by
  ext y
  rw [Rect.mem_set_unit, mem_rowSet, Fin.forall_fin_two]
  have h1 := h 1
  have h0 := (y 1).isLt
  simp only [Matrix.cons_val_zero, Matrix.cons_val_one, Matrix.cons_val_fin_one] at *
  constructor <;> intro h <;> omega

/-- Row `t` of the block of tokens. -/
abbrev tokRect (t : ℕ) (ht : t < 256) : Rect S256x2048 :=
  Rect.unit (s := S256x2048) ![t, 0] S1x2048.size (by intro a; fin_cases a <;> simp [S1x2048, S256x2048] <;> omega)

/-- The two cells of the row copies. -/
abbrev cell0 : DmaSem sig := ((SemArray.slice cc0_scratch1 (Rect.unit (s := S2) ![0] S1.size inb_S2_S1_0)).squeeze S_ squeezes_S1_S_).sem
abbrev cell1 : DmaSem sig := ((SemArray.slice cc0_scratch1 (Rect.unit (s := S2) ![1] S1.size inb_S2_S1_1)).squeeze S_ squeezes_S1_S_).sem
/-- The credit of one row. -/
def rowN : ℕ := sig.dmaCredit .tc (Kind.tc.table .hbm) (Memref.whole main_v23 (sig := sig)).view.buf S1x2048 .f32

section

variable (c : Dev nD) (i : grid0.Coords)
  (arg1 : Memref sig .tc .smem S1x1x512 .i32) (harg1 : arg1.IsWhole) (arg2 : Memref sig .tc .smem S32 .i32) (harg2 : arg2.IsWhole)
  (arg3 : Memref sig .tc .smem S32 .i32) (harg3 : arg3.IsWhole) (arg4 : Memref sig .tc .smem S1 .i32) (harg4 : arg4.IsWhole)
  (arg5 : Memref sig .tc .vmem S256x2048 .f32) (harg5 : arg5.IsWhole)
  (X1 : S1x1x512.Idx → Elt F .i32) (X5 : S256x2048.Idx → Elt F .f32) (f G : Buf (Elt F) (outLoc c))

/-- The destination of the token row `t`'s copy `b`, as the window of destinations has it. -/
def destAt (b : Fin 2) (t : Fin 256) : ℕ := (show BitVec 32 from X1 (ix3 0 0 (⟨2 * t.val + b.val, by have := t.isLt; have := b.isLt; omega⟩ : Fin 512))).toNat

/-- The rows the copies `b` fill. -/
def rowTgt (b : Fin 2) (t : Fin 256) : Finset (Idx (outLoc c)) := rowSet (destAt X1 b t)

/-- The share of the block of tokens each of the two copies of a token reads. -/
def half (b : Fin 2) : PosShare TreeShare := if b = 0 then fullShare.left else fullShare.right

/-- The token rows read. -/
def rowSrc (b : Fin 2) (t : Fin 256) : sProp 𝕄 :=
  let s := arg5.slice (tokRect t.val t.isLt) (fun _ => rfl)
  (s.view.loc (c : Thread nD τ) ↦[s.view.set]{half b} harg5.unread X5)

theorem off1_eq : ∀ k : Fin k0_t1_loop.trips, k0_off1 k = ![0, 0, 2 * k.val + 0] := by decide +kernel
theorem off4_eq : ∀ k : Fin k0_t1_loop.trips, k0_off4 k = ![0, 0, 2 * k.val + 1] := by decide +kernel

/-- The word a loop reads from the window of destinations. -/
theorem word_at (k : Fin 256) (b : Fin 2) (off : Fin 3 → ℕ) (inb : ∀ a, off a + S1x1x1.size a ≤ S1x1x512.size a) (h : off = ![0, 0, 2 * k.val + b.val]) :
    View.readAt (Elt F) arg1.view (Rect.unit (s := S1x1x512) off S1x1x1.size inb).toLoadRect (harg1.unread X1) (Shape.Idx.first (show 0 < S1x1x1.numel by decide))
      = X1 (ix3 0 0 (⟨2 * k.val + b.val, by have := k.isLt; have := b.isLt; omega⟩ : Fin 512)) := by
  subst h
  rw [harg1.readAt_unread]
  congr 1
  funext a
  fin_cases a <;> rfl

theorem chk_row (v : BitVec 32) (h : v.toNat < 81920) : ∀ a, ![v.toNat, 0] a + S1x2048.size a ≤ S81920x2048.size a := by
  intro a; fin_cases a
  · show v.toNat + 1 ≤ 81920; omega
  · show 0 + 2048 ≤ 2048; omega

theorem off3_eq : ∀ k : Fin k0_t1_loop.trips, k0_off3 k = ![k.val, 0] := by decide +kernel
theorem off6_eq : ∀ k : Fin k0_t1_loop.trips, k0_off6 k = ![k.val, 0] := by decide +kernel

theorem src_row (b : Fin 2) (t : Fin 256) (off : Fin 2 → ℕ) (inb : ∀ a, off a + S1x2048.size a ≤ S256x2048.size a) (h : off = ![t.val, 0]) :
    rowSrc (F := F) c arg5 harg5 X5 b t = ((arg5.slice (Rect.unit (s := S256x2048) off S1x2048.size inb) (fun _ => rfl)).view.loc (c : Thread nD τ)
      ↦[(arg5.slice (Rect.unit (s := S256x2048) off S1x2048.size inb) (fun _ => rfl)).view.set]{half b} harg5.unread X5) := by
  subst h; rfl

theorem row_set (b : Fin 2) (t : Fin 256) (off : Fin 2 → ℕ) (inb : ∀ a, off a + S1x2048.size a ≤ S81920x2048.size a) (h : off 0 = destAt X1 b t) :
    (Rect.unit (s := S81920x2048) off S1x2048.size inb).set = rowTgt (F := F) c X1 b t :=
  (rect_rowSet off inb).trans (congrArg rowSet h)

theorem amount_row (off : Fin 2 → ℕ) (inb : ∀ a, off a + S1x2048.size a ≤ S81920x2048.size a) (d : DmaSem sig) :
    ((Memref.whole main_v23).slice (Rect.unit (s := S81920x2048) off S1x2048.size inb) (fun _ => rfl)).view.amount (.dma d) = rowN := rfl

theorem row_value (hG : ∀ (b : Fin 2) (t : Fin 256) (y : S81920x2048.Idx), (y 0).val = destAt X1 b t → G y = X5 (ix2 t (y 1)))
    (b : Fin 2) (t : Fin 256) (off : Fin 2 → ℕ) (inb : ∀ a, off a + S1x2048.size a ≤ S81920x2048.size a)
    (off' : Fin 2 → ℕ) (inb' : ∀ a, off' a + S1x2048.size a ≤ S256x2048.size a) (h : off 0 = destAt X1 b t) (h1 : off 1 = 0) (h' : off' = ![t.val, 0])
    (x : (Rect.unit (s := S81920x2048) off S1x2048.size inb).shape.Idx) :
    G ((Rect.unit (s := S81920x2048) off S1x2048.size inb).emb x)
      = (arg5.slice (Rect.unit (s := S256x2048) off' S1x2048.size inb') (fun _ => rfl)).view.read (Elt F) (harg5.unread X5) x := by
  subst h'
  have hx : (x 0).val = 0 := by have := (x 0).isLt; change _ < 1 at this; omega
  rw [hG b t _ (by show off 0 + 1 * (x 0).val = _; rw [hx, h]; omega)]
  refine Eq.trans ?_ (congrFun (harg5.read_unread X5) ((tokRect t.val t.isLt).emb x)).symm
  congr 1
  funext a
  apply Fin.ext
  fin_cases a
  · show t.val = t.val + 1 * (x 0).val; rw [hx]; rfl
  · show off 1 + 1 * (x 1).val = 0 + 1 * (x 1).val; rw [h1]

theorem row_issue (hX : ∀ x, (show BitVec 32 from X1 x).toNat < 81920)

    (hG : ∀ (b : Fin 2) (t : Fin 256) (y : S81920x2048.Idx), (y 0).val = destAt X1 b t → G y = X5 (ix2 t (y 1)))
    (k : Fin k0_t1_loop.trips) :
    iprop(Pend c (.dma cell0) rowN (rowTgt c X1 0) (rowSrc c arg5 harg5 X5 0) f G k.val ∗ Pend c (.dma cell1) rowN (rowTgt c X1 1) (rowSrc c arg5 harg5 X5 1) f G k.val
      ∗ (arg1.view.loc (c : Thread nD τ) ↦{fullShare} harg1.unread X1))
    ⊢ wp frame (wpE (defs₀ (F := F)) Variants.none (c : Thread nD τ) none) Set.univ
      (k0_t1_body (F := F) i arg1 harg1 arg2 harg2 arg3 harg3 arg4 harg4 arg5 harg5 (Memref.whole main_v23) (Memref.isWhole_whole _) (Memref.whole cc0_scratch0) (Memref.isWhole_whole _) cc0_scratch1 cc0_scratch2 cc0_scratch3 k ())
      (fun _ => iprop(Pend c (.dma cell0) rowN (rowTgt c X1 0) (rowSrc c arg5 harg5 X5 0) f G (k.val + 1) ∗ Pend c (.dma cell1) rowN (rowTgt c X1 1) (rowSrc c arg5 harg5 X5 1) f G (k.val + 1)
      ∗ (arg1.view.loc (c : Thread nD τ) ↦{fullShare} harg1.unread X1))) := by
  have hw1 := word_at (F := F) arg1 harg1 X1 k 0 (k0_off1 k) (k0_off1_inb k) (off1_eq k)
  have hw2 := word_at (F := F) arg1 harg1 X1 k 1 (k0_off4 k) (k0_off4_inb k) (off4_eq k)
  have hc1 : k0_chk1 (View.readAt (Elt F) arg1.view (Rect.unit (s := S1x1x512) (k0_off1 k) S1x1x1.size (k0_off1_inb k)).toLoadRect (harg1.unread X1) (Shape.Idx.first (show 0 < S1x1x1.numel by decide))) := by
    rw [hw1]; exact chk_row _ (hX _)
  have hc2 : k0_chk2 (View.readAt (Elt F) arg1.view (Rect.unit (s := S1x1x512) (k0_off4 k) S1x1x1.size (k0_off4_inb k)).toLoadRect (harg1.unread X1) (Shape.Idx.first (show 0 < S1x1x1.numel by decide))) := by
    rw [hw2]; exact chk_row _ (hX _)
  have hk : k.val < 256 := k.isLt
  sl_unfold [k0_t1_body]
  iintro ⟨H0, H1, Hw⟩
  sl_exec
  iapply (wp_issue_slice arg5 _ (k0_off2_inb _ hc1) _ (k0_off3_inb k) hk (harg5.unread X5)
    (row_set (F := F) c X1 0 ⟨k.val, hk⟩ _ (k0_off2_inb _ hc1) (congrArg BitVec.toNat hw1))
    (src_row (F := F) c arg5 harg5 X5 0 ⟨k.val, hk⟩ _ (k0_off3_inb k) (off3_eq k)) (amount_row _ _ _)
    (row_value c arg5 harg5 X1 X5 G hG 0 ⟨k.val, hk⟩ _ (k0_off2_inb _ hc1) _ (k0_off3_inb k) (congrArg BitVec.toNat hw1) rfl (off3_eq k))) $$ H0
  iintro H0
  sl_exec
  iapply (wp_issue_slice arg5 _ (k0_off5_inb _ hc2) _ (k0_off6_inb k) hk (harg5.unread X5)
    (row_set (F := F) c X1 1 ⟨k.val, hk⟩ _ (k0_off5_inb _ hc2) (congrArg BitVec.toNat hw2))
    (src_row (F := F) c arg5 harg5 X5 1 ⟨k.val, hk⟩ _ (k0_off6_inb k) (off6_eq k)) (amount_row _ _ _)
    (row_value c arg5 harg5 X1 X5 G hG 1 ⟨k.val, hk⟩ _ (k0_off5_inb _ hc2) _ (k0_off6_inb k) (congrArg BitVec.toNat hw2) rfl (off6_eq k))) $$ H1
  iintro H1
  sl_exec
  sl_step
  isplitl [H0]; · iexact H0
  isplitl [H1]; · iexact H1
  iexact Hw

theorem off21_eq : ∀ k : Fin k0_t12_loop.trips, k0_off21 k = ![0, 0, 2 * k.val + 0] := by decide +kernel
theorem off24_eq : ∀ k : Fin k0_t12_loop.trips, k0_off24 k = ![0, 0, 2 * k.val + 1] := by decide +kernel

theorem row_wait (hX : ∀ x, (show BitVec 32 from X1 x).toNat < 81920) (k : Fin k0_t12_loop.trips) :
    iprop(Flying c (.dma cell0) rowN (rowTgt c X1 0) (rowSrc c arg5 harg5 X5 0) G 256 (rowN * k.val)
      ∗ Flying c (.dma cell1) rowN (rowTgt c X1 1) (rowSrc c arg5 harg5 X5 1) G 256 (rowN * k.val)
      ∗ Owing c ∗ (arg1.view.loc (c : Thread nD τ) ↦{fullShare} harg1.unread X1))
    ⊢ wp frame (wpE (defs₀ (F := F)) Variants.none (c : Thread nD τ) none) Set.univ
      (k0_t12_body (F := F) i arg1 harg1 arg2 harg2 arg3 harg3 arg4 harg4 arg5 harg5 (Memref.whole main_v23) (Memref.isWhole_whole _) (Memref.whole cc0_scratch0) (Memref.isWhole_whole _) cc0_scratch1 cc0_scratch2 cc0_scratch3 k ())
      (fun _ => iprop(Flying c (.dma cell0) rowN (rowTgt c X1 0) (rowSrc c arg5 harg5 X5 0) G 256 (rowN * (k.val + 1))
      ∗ Flying c (.dma cell1) rowN (rowTgt c X1 1) (rowSrc c arg5 harg5 X5 1) G 256 (rowN * (k.val + 1))
      ∗ Owing c ∗ (arg1.view.loc (c : Thread nD τ) ↦{fullShare} harg1.unread X1))) := by
  have hw1 := word_at (F := F) arg1 harg1 X1 k 0 (k0_off21 k) (k0_off21_inb k) (off21_eq k)
  have hw2 := word_at (F := F) arg1 harg1 X1 k 1 (k0_off24 k) (k0_off24_inb k) (off24_eq k)
  have hc1 : k0_chk11 (View.readAt (Elt F) arg1.view (Rect.unit (s := S1x1x512) (k0_off21 k) S1x1x1.size (k0_off21_inb k)).toLoadRect (harg1.unread X1) (Shape.Idx.first (show 0 < S1x1x1.numel by decide))) := by
    rw [hw1]; exact chk_row _ (hX _)
  have hc2 : k0_chk12 (View.readAt (Elt F) arg1.view (Rect.unit (s := S1x1x512) (k0_off24 k) S1x1x1.size (k0_off24_inb k)).toLoadRect (harg1.unread X1) (Shape.Idx.first (show 0 < S1x1x1.numel by decide))) := by
    rw [hw2]; exact chk_row _ (hX _)
  have hk : k.val < 256 := k.isLt
  have hu : rowN * k.val + rowN ≤ rowN * 256 := by rw [← Nat.mul_succ]; exact Nat.mul_le_mul_left _ hk
  sl_unfold [k0_t12_body]
  iintro ⟨H0, H1, HO, Hw⟩
  sl_exec
  iapply (wp_take (N := rowN) rfl hu) $$ [H0 HO]
  · isplitl [H0]; · iexact H0
    iexact HO
  iintro ⟨H0, HO⟩
  sl_exec
  iapply (wp_take (N := rowN) rfl hu) $$ [H1 HO]
  · isplitl [H1]; · iexact H1
    iexact HO
  iintro ⟨H1, HO⟩
  sl_exec
  sl_step
  rw [Nat.mul_succ]
  isplitl [H0]; · iexact H0
  isplitl [H1]; · iexact H1
  isplitl [HO]; · iexact HO
  iexact Hw

end

end Cert.Dispatch

end
-- ==== Proof.Words.lean ====
/- The kernel's loop bounds and offsets, computed from the words it reads. -/
module

public import proofs.«01_k».proof.Proof.Gen.KernelIdeal.Skeleton
public import Idealize.ShloMosaic.Lib.ValueIdxCoords

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

theorem iv_toNat (v : BitVec 32) (k : ℕ) (h : v.toNat + k < 2 ^ 32) : (Scf.iv v 1#32 k).toNat = v.toNat + k := by
  unfold Scf.iv
  rw [BitVec.toNat_add, BitVec.toNat_mul, BitVec.toNat_ofNat]
  have : (1#32).toNat = 1 := rfl
  rw [this]
  omega

/-- A pad length's loops: the first runs over the pads, the second has no trips. -/
theorem pad_loops_fin : ∀ n : Fin 512, ((k0_t3_loop (BitVec.ofNat 32 n)).OK ∧ (k0_t4_loop (BitVec.ofNat 32 n)).OK ∧ (k0_t8_loop (BitVec.ofNat 32 n)).OK ∧ (k0_t9_loop (BitVec.ofNat 32 n)).OK)
    ∧ (k0_t3_loop (BitVec.ofNat 32 n)).trips = n ∧ (k0_t4_loop (BitVec.ofNat 32 n)).trips = 0
    ∧ (k0_t8_loop (BitVec.ofNat 32 n)).trips = n ∧ (k0_t9_loop (BitVec.ofNat 32 n)).trips = 0 := by decide +kernel

theorem pad_loops (v : BitVec 32) (h : v.toNat < 512) : ((k0_t3_loop v).OK ∧ (k0_t4_loop v).OK ∧ (k0_t8_loop v).OK ∧ (k0_t9_loop v).OK)
    ∧ (k0_t3_loop v).trips = v.toNat ∧ (k0_t4_loop v).trips = 0 ∧ (k0_t8_loop v).trips = v.toNat ∧ (k0_t9_loop v).trips = 0 := by
  have := pad_loops_fin ⟨v.toNat, h⟩
  simpa using this

/-- The loops over the tail's blocks: the first runs from the number of blocks in use to the last block, the second has
    no trips. -/
theorem tail_loops_fin : ∀ n : Fin 161, ((k0_t5_loop (BitVec.ofNat 32 n)).OK ∧ (k0_t6_loop (BitVec.ofNat 32 n)).OK ∧ (k0_t10_loop (BitVec.ofNat 32 n)).OK ∧ (k0_t11_loop (BitVec.ofNat 32 n)).OK)
    ∧ (k0_t5_loop (BitVec.ofNat 32 n)).trips = 160 - n ∧ (k0_t6_loop (BitVec.ofNat 32 n)).trips = 0
    ∧ (k0_t10_loop (BitVec.ofNat 32 n)).trips = 160 - n ∧ (k0_t11_loop (BitVec.ofNat 32 n)).trips = 0 := by decide +kernel

theorem tail_loops (v : BitVec 32) (h : v.toNat ≤ 160) : ((k0_t5_loop v).OK ∧ (k0_t6_loop v).OK ∧ (k0_t10_loop v).OK ∧ (k0_t11_loop v).OK)
    ∧ (k0_t5_loop v).trips = 160 - v.toNat ∧ (k0_t6_loop v).trips = 0 ∧ (k0_t10_loop v).trips = 160 - v.toNat ∧ (k0_t11_loop v).trips = 0 := by
  have := tail_loops_fin ⟨v.toNat, by omega⟩
  simpa using this

theorem pad_word (v : BitVec 32) (k : ℕ) (h : v.toNat + k < 81920) : (Scalar.addi v (Scf.iv 0#32 1#32 k)).toNat = v.toNat + k := by
  have h0 : (Scf.iv 0#32 1#32 k).toNat = k := by rw [iv_toNat] <;> simp; omega
  show (v + Scf.iv 0#32 1#32 k).toNat = _
  rw [BitVec.toNat_add, h0]; omega

theorem chunk_word (v c : BitVec 32) (k : ℕ) (h : v.toNat + k < 160) (hc : c.toNat < 512) :
    (Scalar.addi (Scalar.muli (Scf.iv v 1#32 k) 512#32) c).toNat = (v.toNat + k) * 512 + c.toNat := by
  show (Scf.iv v 1#32 k * 512#32 + c).toNat = _
  rw [BitVec.toNat_add, BitVec.toNat_mul, iv_toNat v k (by omega)]
  have : (512#32).toNat = 512 := rfl
  rw [this]; omega

theorem chunk_dvd (v c : BitVec 32) (k : ℕ) (h : v.toNat + k < 160) (hc : c.toNat < 512) (hd : 64 ∣ c.toNat) :
    64 ∣ (Scalar.addi (Scalar.muli (Scf.iv v 1#32 k) 512#32) c).toNat := by
  rw [chunk_word v c k h hc]; omega

theorem chunk_inb (v c : BitVec 32) (k : ℕ) (h : v.toNat + k < 160) (hc : c.toNat ≤ 448) :
    ∀ a, ![(Scalar.addi (Scalar.muli (Scf.iv v 1#32 k) 512#32) c).toNat, 0] a + S64x2048.size a ≤ S81920x2048.size a := by
  intro a; fin_cases a
  · show (Scalar.addi (Scalar.muli (Scf.iv v 1#32 k) 512#32) c).toNat + 64 ≤ 81920
    rw [chunk_word v c k h (by omega)]; omega
  · show 0 + 2048 ≤ 2048; omega

theorem const_le (r : Fin 8) : (BitVec.ofNat 32 (64 * r.val)).toNat ≤ 448 := by
  rw [BitVec.toNat_ofNat]; have := r.isLt; omega

theorem chk6 (i : grid0.Coords) (v : BitVec 32) (h : v.toNat ≤ 160) : k0_chk6 i v := by
  obtain ⟨⟨o1, o2, -, -⟩, t1, t2, -, -⟩ := tail_loops v h
  have hk : ∀ k : Fin (k0_t5_loop v).trips, v.toNat + k.val < 160 := fun k => by have := k.isLt; omega
  have h0 : ∀ k : Fin (k0_t6_loop v).trips, False := fun k => by have := k.isLt; omega
  unfold k0_chk6
  refine ⟨fun _ => o1, ?_, ?_, ?_, ?_, ?_, ?_, ?_, ?_, ?_, fun _ => o2, ?_, ?_, ?_, ?_, ?_, ?_, ?_, ?_, ?_⟩
  · exact fun k _ => chunk_dvd v 0#32 k.val (hk k) (by decide) (by decide)
  · exact fun k _ r => chunk_inb v _ k.val (hk k) (const_le r)
  · exact fun k _ => chunk_dvd v 64#32 k.val (hk k) (by decide) (by decide)
  · exact fun k _ => chunk_dvd v 128#32 k.val (hk k) (by decide) (by decide)
  · exact fun k _ => chunk_dvd v 192#32 k.val (hk k) (by decide) (by decide)
  · exact fun k _ => chunk_dvd v 256#32 k.val (hk k) (by decide) (by decide)
  · exact fun k _ => chunk_dvd v 320#32 k.val (hk k) (by decide) (by decide)
  · exact fun k _ => chunk_dvd v 384#32 k.val (hk k) (by decide) (by decide)
  · exact fun k _ => chunk_dvd v 448#32 k.val (hk k) (by decide) (by decide)
  all_goals exact fun k => (h0 k).elim

theorem chk10 (i : grid0.Coords) (v : BitVec 32) (h : v.toNat ≤ 160) : k0_chk10 i v := by
  obtain ⟨⟨-, -, o1, o2⟩, -, -, t1, t2⟩ := tail_loops v h
  have hk : ∀ k : Fin (k0_t10_loop v).trips, v.toNat + k.val < 160 := fun k => by have := k.isLt; omega
  have h0 : ∀ k : Fin (k0_t11_loop v).trips, False := fun k => by have := k.isLt; omega
  unfold k0_chk10
  refine ⟨fun _ => o1, ?_, ?_, ?_, ?_, ?_, ?_, ?_, ?_, ?_, fun _ => o2, ?_, ?_, ?_, ?_, ?_, ?_, ?_, ?_, ?_⟩
  · exact fun k _ => chunk_dvd v 0#32 k.val (hk k) (by decide) (by decide)
  · exact fun k _ r => chunk_inb v _ k.val (hk k) (const_le r)
  · exact fun k _ => chunk_dvd v 64#32 k.val (hk k) (by decide) (by decide)
  · exact fun k _ => chunk_dvd v 128#32 k.val (hk k) (by decide) (by decide)
  · exact fun k _ => chunk_dvd v 192#32 k.val (hk k) (by decide) (by decide)
  · exact fun k _ => chunk_dvd v 256#32 k.val (hk k) (by decide) (by decide)
  · exact fun k _ => chunk_dvd v 320#32 k.val (hk k) (by decide) (by decide)
  · exact fun k _ => chunk_dvd v 384#32 k.val (hk k) (by decide) (by decide)
  · exact fun k _ => chunk_dvd v 448#32 k.val (hk k) (by decide) (by decide)
  all_goals exact fun k => (h0 k).elim

end Cert.Dispatch

end
-- ==== Proof.PadCopies.lean ====
/- The kernel's copies of zeros into the pads of every expert's last block. -/
module

public import proofs.«01_k».proof.Proof.RowCopies
public import proofs.«01_k».proof.Proof.Words

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section

variable (X2 X3 : S32.Idx → Elt F .i32)

/-- The start and the length of expert `e`'s pads, as the two tables have them. -/
def padFrom (e : Fin 32) : ℕ := (show BitVec 32 from X2 (ix1 e)).toNat
def padLen (e : Fin 32) : ℕ := (show BitVec 32 from X3 (ix1 e)).toNat

/-- The number of pads. -/
def nPad : ℕ := ∑ e, padLen X3 e

/-- Pad `p` of the list: an expert and a number below its pad length. -/
def padAt (p : Fin (nPad X3)) : (e : Fin 32) × Fin (padLen X3 e) := finSigmaFinEquiv.symm p

def padRow (p : Fin (nPad X3)) : ℕ := padFrom X2 (padAt X3 p).1 + (padAt X3 p).2.val

/-- The number of pads of the experts below `e`. -/
def padBase (e : ℕ) : ℕ := ∑ i : Fin e, if h : i.val < 32 then padLen X3 ⟨i.val, h⟩ else 0

theorem padBase_zero : padBase X3 0 = 0 := rfl
theorem padBase_succ (e : Fin 32) : padBase X3 (e.val + 1) = padBase X3 e.val + padLen X3 e := by
  unfold padBase
  rw [Fin.sum_univ_castSucc]
  simp [e.isLt]
theorem padBase_top : padBase X3 32 = nPad X3 := by
  unfold padBase nPad
  exact Finset.sum_congr rfl fun i _ => by rw [dif_pos i.isLt]

theorem padAt_val (e : Fin 32) (j : Fin (padLen X3 e)) : ((finSigmaFinEquiv (⟨e, j⟩ : (e : Fin 32) × Fin (padLen X3 e))).val) = padBase X3 e.val + j.val := by
  rw [finSigmaFinEquiv_apply]
  congr 1
  unfold padBase
  refine Finset.sum_congr rfl fun i _ => ?_
  have : i.val < 32 := lt_trans i.isLt e.isLt
  rw [dif_pos this]; rfl

theorem pad_lt (e : Fin 32) (j : ℕ) (hj : j < padLen X3 e) : padBase X3 e.val + j < nPad X3 := by
  have := (finSigmaFinEquiv (⟨e, ⟨j, hj⟩⟩ : (e : Fin 32) × Fin (padLen X3 e))).isLt
  rw [padAt_val] at this
  exact this

theorem padRow_at (e : Fin 32) (j : ℕ) (hj : j < padLen X3 e) : padRow X2 X3 ⟨padBase X3 e.val + j, pad_lt X3 e j hj⟩ = padFrom X2 e + j := by
  have : padAt X3 ⟨padBase X3 e.val + j, pad_lt X3 e j hj⟩ = ⟨e, ⟨j, hj⟩⟩ := by
    unfold padAt
    exact (Equiv.symm_apply_eq finSigmaFinEquiv).2 (Fin.ext (padAt_val X3 e ⟨j, hj⟩).symm)
  unfold padRow
  rw [this]

end

/-- The zeros the kernel copies into the slots no token has. -/
def zeros (c : Dev nD) : Buf (Elt F) ((Memref.whole cc0_scratch0 (sig := sig)).view.loc (c : Thread nD τ)) := k0_pay1 (F := F)

/-- The number zero, as the kernel writes it. -/
def zero : Elt F .f32 := Scalar.ofBits (F := F) .f32 0x00000000#32

abbrev cellP : DmaSem sig := cc0_scratch2.sem

/-- One row of the zeros. -/
abbrev zrow : Memref sig .tc .vmem S1x2048 .f32 := (Memref.whole cc0_scratch0).slice (Rect.unit (s := S64x2048) ![0, 0] S1x2048.size inb_S64x2048_S1x2048_0_0) (fun _ => rfl)

section

variable (c : Dev nD) (i : grid0.Coords)
  (arg1 : Memref sig .tc .smem S1x1x512 .i32) (harg1 : arg1.IsWhole) (arg2 : Memref sig .tc .smem S32 .i32) (harg2 : arg2.IsWhole)
  (arg3 : Memref sig .tc .smem S32 .i32) (harg3 : arg3.IsWhole) (arg4 : Memref sig .tc .smem S1 .i32) (harg4 : arg4.IsWhole)
  (arg5 : Memref sig .tc .vmem S256x2048 .f32) (harg5 : arg5.IsWhole)
  (X2 X3 : S32.Idx → Elt F .i32) (q : PosShare TreeShare) (f G : Buf (Elt F) (outLoc c))

def padTgt (p : Fin (nPad X3)) : Finset (Idx (outLoc c)) := rowSet (padRow X2 X3 p)

def padSrc (p : Fin (nPad X3)) : sProp 𝕄 := (zrow.view.loc (c : Thread nD τ) ↦[zrow.view.set]{Transfers.shareTok q (nPad X3) p} zeros (F := F) c)

/-- The word a loop reads from a table of 32. -/
theorem tab_at (arg : Memref sig .tc .smem S32 .i32) (harg : arg.IsWhole) (X : S32.Idx → Elt F .i32) (e : Fin 32) (off : Fin 1 → ℕ)
    (inb : ∀ a, off a + S1.size a ≤ S32.size a) (h : off = ![e.val]) :
    View.readAt (Elt F) arg.view (Rect.unit (s := S32) off S1.size inb).toLoadRect (harg.unread X) (Shape.Idx.first (show 0 < S1.numel by decide)) = X (ix1 e) := by
  subst h
  rw [harg.readAt_unread]
  congr 1
  funext a
  fin_cases a; rfl

theorem off8_eq : ∀ k : Fin k0_t2_loop.trips, k0_off8 k = ![k.val] := by decide +kernel
theorem off7_eq : ∀ k : Fin k0_t2_loop.trips, k0_off7 k = ![k.val] := by decide +kernel
theorem off14_eq : ∀ k : Fin k0_t7_loop.trips, k0_off14 k = ![k.val] := by decide +kernel
theorem off15_eq : ∀ k : Fin k0_t7_loop.trips, k0_off15 k = ![k.val] := by decide +kernel

theorem off9_eq (v24 : BitVec 32) (k : Fin (k0_t3_loop v24).trips) (v31 : BitVec 32) (h : v31.toNat + k.val < 81920) : k0_off9 v24 k v31 = ![v31.toNat + k.val, 0] :=
  congrArg (fun n => ![n, 0]) (pad_word v31 k.val h)
theorem off16_eq (v24 : BitVec 32) (k : Fin (k0_t8_loop v24).trips) (v31 : BitVec 32) (h : v31.toNat + k.val < 81920) : k0_off16 v24 k v31 = ![v31.toNat + k.val, 0] :=
  congrArg (fun n => ![n, 0]) (pad_word v31 k.val h)

theorem inb_row (d : ℕ) (off : Fin 2 → ℕ) (h : d < 81920) (ho : off = ![d, 0]) : ∀ a, off a + S1x2048.size a ≤ S81920x2048.size a := by
  subst ho
  intro a; fin_cases a
  · show d + 1 ≤ 81920; omega
  · show 0 + 2048 ≤ 2048; omega

theorem zrow_read (x : S1x2048.Idx) : zrow.view.read (Elt F) (zeros (F := F) c) x = zero (F := F) := rfl

theorem padSrc_eq (p : Fin (nPad X3)) : padSrc (F := F) c X3 q p
    = (((Memref.whole cc0_scratch0).slice (Rect.unit (s := S64x2048) ![0, 0] S1x2048.size inb_S64x2048_S1x2048_0_0) (fun _ => rfl)).view.loc (c : Thread nD τ)
      ↦[((Memref.whole cc0_scratch0).slice (Rect.unit (s := S64x2048) ![0, 0] S1x2048.size inb_S64x2048_S1x2048_0_0) (fun _ => rfl)).view.set]{Transfers.shareTok q (nPad X3) p} zeros (F := F) c) := rfl

theorem pad_issue (hS : ∀ e : Fin 32, padFrom X2 e + padLen X3 e ≤ 81920)
    (hG : ∀ (p : Fin (nPad X3)) (y : S81920x2048.Idx), (y 0).val = padRow X2 X3 p → G y = zero (F := F))
    (h1 : k0_cond1 i = 1#1) (e : Fin k0_t2_loop.trips) (v24 : Elt F .i32) (hv : v24 = X3 (ix1 e)) (hlen : padLen X3 e < 512) (hw : k0_chk3 i v24) (k : Fin (k0_t3_loop v24).trips) :
    iprop(Pend c (.dma cellP) rowN (padTgt c X2 X3) (padSrc c X3 q) f G (padBase X3 e.val + k.val) ∗ (arg2.view.loc (c : Thread nD τ) ↦{fullShare} harg2.unread X2))
    ⊢ wp frame (wpE (defs₀ (F := F)) Variants.none (c : Thread nD τ) none) Set.univ
      (k0_t3_body (F := F) i arg1 harg1 arg2 harg2 arg3 harg3 arg4 harg4 arg5 harg5 (Memref.whole main_v23) (Memref.isWhole_whole _) (Memref.whole cc0_scratch0) (Memref.isWhole_whole _) cc0_scratch1 cc0_scratch2 cc0_scratch3 h1 e v24 hw k ())
      (fun _ => iprop(Pend c (.dma cellP) rowN (padTgt c X2 X3) (padSrc c X3 q) f G (padBase X3 e.val + (k.val + 1)) ∗ (arg2.view.loc (c : Thread nD τ) ↦{fullShare} harg2.unread X2))) := by
  have hk : k.val < padLen X3 e := by
    have h2 := (pad_loops v24 (by rw [hv]; exact hlen)).2.1
    have h3 := lt_of_lt_of_eq k.isLt h2
    exact lt_of_lt_of_eq h3 (congrArg BitVec.toNat hv)
  have hd : padFrom X2 e + k.val < 81920 := by have := hS e; omega
  have hw1 := tab_at (F := F) arg2 harg2 X2 e (k0_off8 e) (k0_off8_inb i e h1) (off8_eq e)
  have hoff := off9_eq v24 k _ (show (BitVec.toNat (View.readAt (Elt F) arg2.view (Rect.unit (s := S32) (k0_off8 e) S1.size (k0_off8_inb i e h1)).toLoadRect (harg2.unread X2) (Shape.Idx.first (show 0 < S1.numel by decide)))) + k.val < 81920 by rw [hw1]; exact hd)
  have hc : k0_chk4 i v24 k (View.readAt (Elt F) arg2.view (Rect.unit (s := S32) (k0_off8 e) S1.size (k0_off8_inb i e h1)).toLoadRect (harg2.unread X2) (Shape.Idx.first (show 0 < S1.numel by decide))) := fun _ => inb_row _ _ (by rw [hw1]; exact hd) hoff
  have hrow : (k0_off9 v24 k (View.readAt (Elt F) arg2.view (Rect.unit (s := S32) (k0_off8 e) S1.size (k0_off8_inb i e h1)).toLoadRect (harg2.unread X2) (Shape.Idx.first (show 0 < S1.numel by decide)))) 0 = padRow X2 X3 ⟨_, pad_lt X3 e k.val hk⟩ := by
    rw [hoff, padRow_at X2 X3 e k.val hk, hw1]; rfl
  sl_unfold [k0_t3_body]
  iintro ⟨HP, Hw⟩
  sl_exec
  have hset : (Rect.unit (s := S81920x2048) _ S1x2048.size (k0_off9_inb i v24 k _ hc h1)).set = padTgt (F := F) c X2 X3 ⟨_, pad_lt X3 e k.val hk⟩ :=
    (rect_rowSet _ _).trans (congrArg rowSet hrow)
  have hv : ∀ x, G ((Rect.unit (s := S81920x2048) _ S1x2048.size (k0_off9_inb i v24 k _ hc h1)).emb x) = zrow.view.read (Elt F) (zeros (F := F) c) x :=
    fun x => (hG ⟨_, pad_lt X3 e k.val hk⟩ _ (by
      have hx : (x 0).val = 0 := by have := (x 0).isLt; change _ < 1 at this; omega
      rw [← hrow]
      show k0_off9 v24 k _ 0 + 1 * (x 0).val = _
      rw [hx, Nat.mul_zero, Nat.add_zero])).trans (zrow_read c x).symm
  have hs := padSrc_eq (F := F) c X3 q ⟨_, pad_lt X3 e k.val hk⟩
  iapply (wp_issue_slice (d0 := ![64, 2048]) (Memref.whole cc0_scratch0) _ (k0_off9_inb i v24 k _ hc h1) _ inb_S64x2048_S1x2048_0_0 (pad_lt X3 e k.val hk) (zeros (F := F) c)
    hset hs (amount_row _ _ _) hv) $$ HP
  iintro HP
  sl_exec
  sl_step
  isplitl [HP]; · iexact HP
  iexact Hw

theorem pad_wait (hS : ∀ e : Fin 32, padFrom X2 e + padLen X3 e ≤ 81920)
    (h1 : k0_cond1 i = 1#1) (e : Fin k0_t7_loop.trips) (v24 : Elt F .i32) (hv : v24 = X3 (ix1 e)) (hlen : padLen X3 e < 512) (hw : k0_chk7 i v24) (k : Fin (k0_t8_loop v24).trips) :
    iprop(Flying c (.dma cellP) rowN (padTgt c X2 X3) (padSrc c X3 q) G (nPad X3) (rowN * (padBase X3 e.val + k.val)) ∗ Owing c ∗ (arg2.view.loc (c : Thread nD τ) ↦{fullShare} harg2.unread X2))
    ⊢ wp frame (wpE (defs₀ (F := F)) Variants.none (c : Thread nD τ) none) Set.univ
      (k0_t8_body (F := F) i arg1 harg1 arg2 harg2 arg3 harg3 arg4 harg4 arg5 harg5 (Memref.whole main_v23) (Memref.isWhole_whole _) (Memref.whole cc0_scratch0) (Memref.isWhole_whole _) cc0_scratch1 cc0_scratch2 cc0_scratch3 h1 e v24 hw k ())
      (fun _ => iprop(Flying c (.dma cellP) rowN (padTgt c X2 X3) (padSrc c X3 q) G (nPad X3) (rowN * (padBase X3 e.val + (k.val + 1))) ∗ Owing c ∗ (arg2.view.loc (c : Thread nD τ) ↦{fullShare} harg2.unread X2))) := by
  have hk : k.val < padLen X3 e := by
    have h2 := (pad_loops v24 (by rw [hv]; exact hlen)).2.2.2.1
    have h3 := lt_of_lt_of_eq k.isLt h2
    exact lt_of_lt_of_eq h3 (congrArg BitVec.toNat hv)
  have hd : padFrom X2 e + k.val < 81920 := by have := hS e; omega
  have hw1 := tab_at (F := F) arg2 harg2 X2 e (k0_off15 e) (k0_off15_inb i e h1) (off15_eq e)
  have hoff := off16_eq v24 k _ (show (BitVec.toNat (View.readAt (Elt F) arg2.view (Rect.unit (s := S32) (k0_off15 e) S1.size (k0_off15_inb i e h1)).toLoadRect (harg2.unread X2) (Shape.Idx.first (show 0 < S1.numel by decide)))) + k.val < 81920 by rw [hw1]; exact hd)
  have hc : k0_chk8 i v24 k (View.readAt (Elt F) arg2.view (Rect.unit (s := S32) (k0_off15 e) S1.size (k0_off15_inb i e h1)).toLoadRect (harg2.unread X2) (Shape.Idx.first (show 0 < S1.numel by decide))) := fun _ => inb_row _ _ (by rw [hw1]; exact hd) hoff
  have hu : rowN * (padBase X3 e.val + k.val) + rowN ≤ rowN * nPad X3 := by
    rw [← Nat.mul_succ]; exact Nat.mul_le_mul_left _ (pad_lt X3 e k.val hk)
  sl_unfold [k0_t8_body]
  iintro ⟨HP, HO, Hw⟩
  sl_exec
  iapply (wp_take (N := rowN) rfl hu) $$ [HP HO]
  · isplitl [HP]; · iexact HP
    iexact HO
  iintro ⟨HP, HO⟩
  sl_exec
  sl_step
  rw [← Nat.add_assoc, Nat.mul_succ]
  isplitl [HP]; · iexact HP
  isplitl [HO]; · iexact HO
  iexact Hw

theorem pads_issue (hS : ∀ e : Fin 32, padFrom X2 e + padLen X3 e ≤ 81920) (hlen : ∀ e, padLen X3 e < 512)
    (hG : ∀ (p : Fin (nPad X3)) (y : S81920x2048.Idx), (y 0).val = padRow X2 X3 p → G y = zero (F := F))
    (h1 : k0_cond1 i = 1#1) (e : Fin k0_t2_loop.trips) :
    iprop(Pend c (.dma cellP) rowN (padTgt c X2 X3) (padSrc c X3 q) f G (padBase X3 e.val) ∗ (arg2.view.loc (c : Thread nD τ) ↦{fullShare} harg2.unread X2) ∗ (arg3.view.loc (c : Thread nD τ) ↦{fullShare} harg3.unread X3))
    ⊢ wp frame (wpE (defs₀ (F := F)) Variants.none (c : Thread nD τ) none) Set.univ
      (k0_t2_body (F := F) i arg1 harg1 arg2 harg2 arg3 harg3 arg4 harg4 arg5 harg5 (Memref.whole main_v23) (Memref.isWhole_whole _) (Memref.whole cc0_scratch0) (Memref.isWhole_whole _) cc0_scratch1 cc0_scratch2 cc0_scratch3 h1 e ())
      (fun _ => iprop(Pend c (.dma cellP) rowN (padTgt c X2 X3) (padSrc c X3 q) f G (padBase X3 (e.val + 1)) ∗ (arg2.view.loc (c : Thread nD τ) ↦{fullShare} harg2.unread X2) ∗ (arg3.view.loc (c : Thread nD τ) ↦{fullShare} harg3.unread X3))) := by
  have hw1 := tab_at (F := F) arg3 harg3 X3 e (k0_off7 e) (k0_off7_inb i e h1) (off7_eq e)
  have hl := pad_loops (View.readAt (Elt F) arg3.view (Rect.unit (s := S32) (k0_off7 e) S1.size (k0_off7_inb i e h1)).toLoadRect (harg3.unread X3) (Shape.Idx.first (show 0 < S1.numel by decide))) (by rw [hw1]; exact hlen e)
  have hc : k0_chk3 i (View.readAt (Elt F) arg3.view (Rect.unit (s := S32) (k0_off7 e) S1.size (k0_off7_inb i e h1)).toLoadRect (harg3.unread X3) (Shape.Idx.first (show 0 < S1.numel by decide))) := ⟨fun _ => hl.1.1, fun _ => hl.1.2.1⟩
  have ht4 := hl.2.2.1
  have hb : padBase X3 e.val + (k0_t3_loop (View.readAt (Elt F) arg3.view (Rect.unit (s := S32) (k0_off7 e) S1.size (k0_off7_inb i e h1)).toLoadRect (harg3.unread X3) (Shape.Idx.first (show 0 < S1.numel by decide)))).trips = padBase X3 (e.val + 1) := by
    refine Eq.trans (congrArg (padBase X3 e.val + ·) ?_) (padBase_succ X3 e).symm
    refine Eq.trans (hl.2.1) (congrArg BitVec.toNat hw1)
  have ht3 := hl.2.1
  sl_unfold [k0_t2_body]
  iintro ⟨HP, Hw2, Hw3⟩
  sl_exec
  sl_for (fun (k : ℕ) (_ : Unit) => iprop(Pend c (.dma cellP) rowN (padTgt c X2 X3) (padSrc c X3 q) f G (padBase X3 e.val + k) ∗ (arg2.view.loc (c : Thread nD τ) ↦{fullShare} harg2.unread X2))) $$ [HP Hw2]
  · intro k acc
    exact pad_issue c i arg1 harg1 arg2 harg2 arg3 harg3 arg4 harg4 arg5 harg5 X2 X3 q f G hS hG h1 e _ hw1 (hlen e) hc k
  · isplitl [HP]; · iexact HP
    iexact Hw2
  iintro %acc ⟨HP, Hw2⟩
  sl_for (fun (_ : ℕ) (_ : Unit) => iprop(emp)) $$ []
  · intro k acc
    exact absurd (lt_of_lt_of_eq k.isLt ht4) (Nat.not_lt_zero _)
  · iempintro
  iintro %acc -
  sl_exec
  sl_step
  isplitl [HP]
  · iapply (pend_eq ?h) $$ HP
    case h => exact hb
  isplitl [Hw2]; · iexact Hw2
  iexact Hw3

theorem pads_wait (hS : ∀ e : Fin 32, padFrom X2 e + padLen X3 e ≤ 81920) (hlen : ∀ e, padLen X3 e < 512)
    (h1 : k0_cond1 i = 1#1) (e : Fin k0_t7_loop.trips) :
    iprop(Flying c (.dma cellP) rowN (padTgt c X2 X3) (padSrc c X3 q) G (nPad X3) (rowN * (padBase X3 e.val)) ∗ Owing c ∗ (arg2.view.loc (c : Thread nD τ) ↦{fullShare} harg2.unread X2) ∗ (arg3.view.loc (c : Thread nD τ) ↦{fullShare} harg3.unread X3))
    ⊢ wp frame (wpE (defs₀ (F := F)) Variants.none (c : Thread nD τ) none) Set.univ
      (k0_t7_body (F := F) i arg1 harg1 arg2 harg2 arg3 harg3 arg4 harg4 arg5 harg5 (Memref.whole main_v23) (Memref.isWhole_whole _) (Memref.whole cc0_scratch0) (Memref.isWhole_whole _) cc0_scratch1 cc0_scratch2 cc0_scratch3 h1 e ())
      (fun _ => iprop(Flying c (.dma cellP) rowN (padTgt c X2 X3) (padSrc c X3 q) G (nPad X3) (rowN * (padBase X3 (e.val + 1))) ∗ Owing c ∗ (arg2.view.loc (c : Thread nD τ) ↦{fullShare} harg2.unread X2) ∗ (arg3.view.loc (c : Thread nD τ) ↦{fullShare} harg3.unread X3))) := by
  have hw1 := tab_at (F := F) arg3 harg3 X3 e (k0_off14 e) (k0_off14_inb i e h1) (off14_eq e)
  have hl := pad_loops (View.readAt (Elt F) arg3.view (Rect.unit (s := S32) (k0_off14 e) S1.size (k0_off14_inb i e h1)).toLoadRect (harg3.unread X3) (Shape.Idx.first (show 0 < S1.numel by decide))) (by rw [hw1]; exact hlen e)
  have hc : k0_chk7 i (View.readAt (Elt F) arg3.view (Rect.unit (s := S32) (k0_off14 e) S1.size (k0_off14_inb i e h1)).toLoadRect (harg3.unread X3) (Shape.Idx.first (show 0 < S1.numel by decide))) := ⟨fun _ => hl.1.2.2.1, fun _ => hl.1.2.2.2⟩
  have ht9 := hl.2.2.2.2
  have hb : padBase X3 e.val + (k0_t8_loop (View.readAt (Elt F) arg3.view (Rect.unit (s := S32) (k0_off14 e) S1.size (k0_off14_inb i e h1)).toLoadRect (harg3.unread X3) (Shape.Idx.first (show 0 < S1.numel by decide)))).trips = padBase X3 (e.val + 1) := by
    refine Eq.trans (congrArg (padBase X3 e.val + ·) ?_) (padBase_succ X3 e).symm
    refine Eq.trans (hl.2.2.2.1) (congrArg BitVec.toNat hw1)
  have ht8 := hl.2.2.2.1
  sl_unfold [k0_t7_body]
  iintro ⟨HP, HO, Hw2, Hw3⟩
  sl_exec
  sl_for (fun (k : ℕ) (_ : Unit) => iprop(Flying c (.dma cellP) rowN (padTgt c X2 X3) (padSrc c X3 q) G (nPad X3) (rowN * (padBase X3 e.val + k)) ∗ Owing c ∗ (arg2.view.loc (c : Thread nD τ) ↦{fullShare} harg2.unread X2))) $$ [HP HO Hw2]
  · intro k acc
    exact pad_wait c i arg1 harg1 arg2 harg2 arg3 harg3 arg4 harg4 arg5 harg5 X2 X3 q G hS h1 e _ hw1 (hlen e) hc k
  · isplitl [HP]; · iexact HP
    isplitl [HO]; · iexact HO
    iexact Hw2
  iintro %acc ⟨HP, HO, Hw2⟩
  sl_for (fun (_ : ℕ) (_ : Unit) => iprop(emp)) $$ []
  · intro k acc
    exact absurd (lt_of_lt_of_eq k.isLt ht9) (Nat.not_lt_zero _)
  · iempintro
  iintro %acc -
  sl_exec
  sl_step
  isplitl [HP]
  · iapply (flying_eq ?h) $$ HP
    case h => exact congrArg (rowN * ·) hb
  isplitl [HO]; · iexact HO
  isplitl [Hw2]; · iexact Hw2
  iexact Hw3

end

end Cert.Dispatch

end
-- ==== Proof.TailCopies.lean ====
/- The kernel's copies of zeros into the blocks no expert uses. -/
module

public import proofs.«01_k».proof.Proof.PadCopies

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The sixty-four rows from `d`. -/
def chunkSet (d : ℕ) : Finset S81920x2048.Idx := Finset.univ.filter fun y => d ≤ (y 0).val ∧ (y 0).val < d + 64

theorem mem_chunkSet {d : ℕ} {y : S81920x2048.Idx} : y ∈ chunkSet d ↔ d ≤ (y 0).val ∧ (y 0).val < d + 64 := by simp [chunkSet]

theorem rect_chunkSet (off : Fin 2 → ℕ) (h : ∀ a, off a + S64x2048.size a ≤ S81920x2048.size a) :
    (Rect.unit (s := S81920x2048) off S64x2048.size h).set = chunkSet (off 0) := by
  ext y
  rw [Rect.mem_set_unit, mem_chunkSet, Fin.forall_fin_two]
  have h1 := h 1
  have h0 := (y 1).isLt
  simp only [Matrix.cons_val_zero, Matrix.cons_val_one, Matrix.cons_val_fin_one] at *
  constructor <;> intro h <;> omega

/-- The credit of one chunk of zeros. -/
def chunkN : ℕ := sig.dmaCredit .tc (Kind.tc.table .hbm) (Memref.whole main_v23 (sig := sig)).view.buf S64x2048 .f32

theorem amount_chunk (off : Fin 2 → ℕ) (inb : ∀ a, off a + S64x2048.size a ≤ S81920x2048.size a) (d : DmaSem sig) :
    ((Memref.whole main_v23).slice (Rect.unit (s := S81920x2048) off S64x2048.size inb) (fun _ => rfl)).view.amount (.dma d) = chunkN := rfl

/-- The number of chunks in the blocks no expert uses, `n` blocks being used. -/
def nTail (n : ℕ) : ℕ := (160 - n) * 8

/-- The first row of chunk `t`. -/
def tailRow (n : ℕ) (t : Fin (nTail n)) : ℕ := n * 512 + 64 * t.val

abbrev cellT : DmaSem sig := cc0_scratch3.sem

section

variable (c : Dev nD) (i : grid0.Coords)
  (arg1 : Memref sig .tc .smem S1x1x512 .i32) (harg1 : arg1.IsWhole) (arg2 : Memref sig .tc .smem S32 .i32) (harg2 : arg2.IsWhole)
  (arg3 : Memref sig .tc .smem S32 .i32) (harg3 : arg3.IsWhole) (arg4 : Memref sig .tc .smem S1 .i32) (harg4 : arg4.IsWhole)
  (arg5 : Memref sig .tc .vmem S256x2048 .f32) (harg5 : arg5.IsWhole)
  (X4 : S1.Idx → Elt F .i32) (q : PosShare TreeShare) (f G : Buf (Elt F) (outLoc c))

def tailTgt (n : ℕ) (t : Fin (nTail n)) : Finset (Idx (outLoc c)) := chunkSet (tailRow n t)

def tailSrc (n : ℕ) (t : Fin (nTail n)) : sProp 𝕄 :=
  ((Memref.whole cc0_scratch0 (sig := sig)).view.loc (c : Thread nD τ) ↦[(Memref.whole cc0_scratch0 (sig := sig)).view.set]{Transfers.shareTok q (nTail n) t} zeros (F := F) c)

theorem tailSrc_eq (n : ℕ) (t : Fin (nTail n)) : tailSrc (F := F) c q n t
    = ((Memref.whole cc0_scratch0 (sig := sig)).view.loc (c : Thread nD τ) ↦[(Memref.whole cc0_scratch0 (sig := sig)).view.set]{Transfers.shareTok q (nTail n) t} zeros (F := F) c) := rfl

theorem zeros_read (x : S64x2048.Idx) : (Memref.whole cc0_scratch0 (sig := sig)).view.read (Elt F) (zeros (F := F) c) x = zero (F := F) := rfl

theorem tail_lt (n k r : ℕ) (hk : n + k < 160) (hr : r < 8) : 8 * k + r < nTail n := by unfold nTail; omega

theorem tail_set (n k : ℕ) (r : ℕ) (hk : n + k < 160) (hr : r < 8) (off : Fin 2 → ℕ) (inb : ∀ a, off a + S64x2048.size a ≤ S81920x2048.size a)
    (h : off 0 = (n + k) * 512 + 64 * r) :
    (Rect.unit (s := S81920x2048) off S64x2048.size inb).set = tailTgt c n ⟨8 * k + r, tail_lt n k r hk hr⟩ := by
  refine (rect_chunkSet off inb).trans (congrArg chunkSet ?_)
  rw [h]; show _ = n * 512 + 64 * (8 * k + r); omega

theorem tail_value (n k : ℕ) (r : ℕ) (hk : n + k < 160) (hr : r < 8) (hG : ∀ y : S81920x2048.Idx, n * 512 ≤ (y 0).val → G y = zero (F := F))
    (off : Fin 2 → ℕ) (inb : ∀ a, off a + S64x2048.size a ≤ S81920x2048.size a) (h : off 0 = (n + k) * 512 + 64 * r)
    (x : (Rect.unit (s := S81920x2048) off S64x2048.size inb).shape.Idx) :
    G ((Rect.unit (s := S81920x2048) off S64x2048.size inb).emb x) = (Memref.whole cc0_scratch0 (sig := sig)).view.read (Elt F) (zeros (F := F) c) x :=
  (hG _ (by show n * 512 ≤ off 0 + 1 * (x 0).val; rw [h]; omega)).trans (zeros_read c x).symm

theorem tail_issue (v : BitVec 32) (hv : v.toNat ≤ 160) (hG : ∀ y : S81920x2048.Idx, v.toNat * 512 ≤ (y 0).val → G y = zero (F := F))
    (h1 : k0_cond1 i = 1#1) (hw : k0_chk6 i v) (k : Fin (k0_t5_loop v).trips) :
    Pend c (.dma cellT) chunkN (tailTgt c (BitVec.toNat v)) (tailSrc c q (BitVec.toNat v)) f G (8 * k.val)
    ⊢ wp frame (wpE (defs₀ (F := F)) Variants.none (c : Thread nD τ) none) Set.univ
      (k0_t5_body (F := F) i arg1 harg1 arg2 harg2 arg3 harg3 arg4 harg4 arg5 harg5 (Memref.whole main_v23) (Memref.isWhole_whole _) (Memref.whole cc0_scratch0) (Memref.isWhole_whole _) cc0_scratch1 cc0_scratch2 cc0_scratch3 h1 v hw k ())
      (fun _ => Pend c (.dma cellT) chunkN (tailTgt c (BitVec.toNat v)) (tailSrc c q (BitVec.toNat v)) f G (8 * (k.val + 1))) := by
  have hk : v.toNat + k.val < 160 := by
    have h2 := (tail_loops v hv).2.1
    have h3 := lt_of_lt_of_eq k.isLt h2
    omega
  have ho : ∀ r : Fin 8, k0_off12 v k (BitVec.ofNat 32 (64 * r.val)) 0 = (v.toNat + k.val) * 512 + 64 * r.val := fun r => by
    refine (chunk_word v _ k.val hk (lt_of_le_of_lt (const_le r) (by decide))).trans ?_
    rw [BitVec.toNat_ofNat]; have := r.isLt; omega
  sl_unfold [k0_t5_body]
  rw [k0_part1_eq_skeleton]
  sl_unfold [k0_part1_skel]
  iintro HP
  sl_exec
  have hset0 := tail_set c v.toNat k.val 0 hk (by decide) _ (k0_off12_inb i v hw k h1 0) (ho 0)
  have hv0 := tail_value (F := F) c G v.toNat k.val 0 hk (by decide) hG _ (k0_off12_inb i v hw k h1 0) (ho 0)
  iapply (wp_issue_all (size := ![64, 2048]) (Memref.whole cc0_scratch0) _ (k0_off12_inb i v hw k h1 0) (tail_lt v.toNat k.val 0 hk (by decide)) (zeros (F := F) c)
    hset0 (tailSrc_eq (F := F) c q v.toNat _) (amount_chunk _ _ _) hv0) $$ HP
  iintro HP
  sl_exec
  have hset1 := tail_set c v.toNat k.val 1 hk (by decide) _ (k0_off12_inb i v hw k h1 1) (ho 1)
  have hv1 := tail_value (F := F) c G v.toNat k.val 1 hk (by decide) hG _ (k0_off12_inb i v hw k h1 1) (ho 1)
  iapply (wp_issue_all (size := ![64, 2048]) (Memref.whole cc0_scratch0) _ (k0_off12_inb i v hw k h1 1) (tail_lt v.toNat k.val 1 hk (by decide)) (zeros (F := F) c)
    hset1 (tailSrc_eq (F := F) c q v.toNat _) (amount_chunk _ _ _) hv1) $$ HP
  iintro HP
  sl_exec
  have hset2 := tail_set c v.toNat k.val 2 hk (by decide) _ (k0_off12_inb i v hw k h1 2) (ho 2)
  have hv2 := tail_value (F := F) c G v.toNat k.val 2 hk (by decide) hG _ (k0_off12_inb i v hw k h1 2) (ho 2)
  iapply (wp_issue_all (size := ![64, 2048]) (Memref.whole cc0_scratch0) _ (k0_off12_inb i v hw k h1 2) (tail_lt v.toNat k.val 2 hk (by decide)) (zeros (F := F) c)
    hset2 (tailSrc_eq (F := F) c q v.toNat _) (amount_chunk _ _ _) hv2) $$ HP
  iintro HP
  sl_exec
  have hset3 := tail_set c v.toNat k.val 3 hk (by decide) _ (k0_off12_inb i v hw k h1 3) (ho 3)
  have hv3 := tail_value (F := F) c G v.toNat k.val 3 hk (by decide) hG _ (k0_off12_inb i v hw k h1 3) (ho 3)
  iapply (wp_issue_all (size := ![64, 2048]) (Memref.whole cc0_scratch0) _ (k0_off12_inb i v hw k h1 3) (tail_lt v.toNat k.val 3 hk (by decide)) (zeros (F := F) c)
    hset3 (tailSrc_eq (F := F) c q v.toNat _) (amount_chunk _ _ _) hv3) $$ HP
  iintro HP
  sl_exec
  have hset4 := tail_set c v.toNat k.val 4 hk (by decide) _ (k0_off12_inb i v hw k h1 4) (ho 4)
  have hv4 := tail_value (F := F) c G v.toNat k.val 4 hk (by decide) hG _ (k0_off12_inb i v hw k h1 4) (ho 4)
  iapply (wp_issue_all (size := ![64, 2048]) (Memref.whole cc0_scratch0) _ (k0_off12_inb i v hw k h1 4) (tail_lt v.toNat k.val 4 hk (by decide)) (zeros (F := F) c)
    hset4 (tailSrc_eq (F := F) c q v.toNat _) (amount_chunk _ _ _) hv4) $$ HP
  iintro HP
  sl_exec
  have hset5 := tail_set c v.toNat k.val 5 hk (by decide) _ (k0_off12_inb i v hw k h1 5) (ho 5)
  have hv5 := tail_value (F := F) c G v.toNat k.val 5 hk (by decide) hG _ (k0_off12_inb i v hw k h1 5) (ho 5)
  iapply (wp_issue_all (size := ![64, 2048]) (Memref.whole cc0_scratch0) _ (k0_off12_inb i v hw k h1 5) (tail_lt v.toNat k.val 5 hk (by decide)) (zeros (F := F) c)
    hset5 (tailSrc_eq (F := F) c q v.toNat _) (amount_chunk _ _ _) hv5) $$ HP
  iintro HP
  sl_exec
  have hset6 := tail_set c v.toNat k.val 6 hk (by decide) _ (k0_off12_inb i v hw k h1 6) (ho 6)
  have hv6 := tail_value (F := F) c G v.toNat k.val 6 hk (by decide) hG _ (k0_off12_inb i v hw k h1 6) (ho 6)
  iapply (wp_issue_all (size := ![64, 2048]) (Memref.whole cc0_scratch0) _ (k0_off12_inb i v hw k h1 6) (tail_lt v.toNat k.val 6 hk (by decide)) (zeros (F := F) c)
    hset6 (tailSrc_eq (F := F) c q v.toNat _) (amount_chunk _ _ _) hv6) $$ HP
  iintro HP
  sl_exec
  have hset7 := tail_set c v.toNat k.val 7 hk (by decide) _ (k0_off12_inb i v hw k h1 7) (ho 7)
  have hv7 := tail_value (F := F) c G v.toNat k.val 7 hk (by decide) hG _ (k0_off12_inb i v hw k h1 7) (ho 7)
  iapply (wp_issue_all (size := ![64, 2048]) (Memref.whole cc0_scratch0) _ (k0_off12_inb i v hw k h1 7) (tail_lt v.toNat k.val 7 hk (by decide)) (zeros (F := F) c)
    hset7 (tailSrc_eq (F := F) c q v.toNat _) (amount_chunk _ _ _) hv7) $$ HP
  iintro HP
  sl_exec
  sl_step
  iapply (pend_eq ?h) $$ HP
  case h => omega

theorem tail_wait (v : BitVec 32) (hv : v.toNat ≤ 160)
    (h1 : k0_cond1 i = 1#1) (hw : k0_chk10 i v) (k : Fin (k0_t10_loop v).trips) :
    iprop(Flying c (.dma cellT) chunkN (tailTgt c (BitVec.toNat v)) (tailSrc c q (BitVec.toNat v)) G (nTail (BitVec.toNat v)) (chunkN * (8 * k.val)) ∗ Owing c)
    ⊢ wp frame (wpE (defs₀ (F := F)) Variants.none (c : Thread nD τ) none) Set.univ
      (k0_t10_body (F := F) i arg1 harg1 arg2 harg2 arg3 harg3 arg4 harg4 arg5 harg5 (Memref.whole main_v23) (Memref.isWhole_whole _) (Memref.whole cc0_scratch0) (Memref.isWhole_whole _) cc0_scratch1 cc0_scratch2 cc0_scratch3 h1 v hw k ())
      (fun _ => iprop(Flying c (.dma cellT) chunkN (tailTgt c (BitVec.toNat v)) (tailSrc c q (BitVec.toNat v)) G (nTail (BitVec.toNat v)) (chunkN * (8 * (k.val + 1))) ∗ Owing c)) := by
  have hk : v.toNat + k.val < 160 := by
    have h2 := (tail_loops v hv).2.2.2.1
    have h3 := lt_of_lt_of_eq k.isLt h2
    omega
  have hu : ∀ r : ℕ, r < 8 → chunkN * (8 * k.val + r) + chunkN ≤ chunkN * nTail v.toNat := fun r hr => by
    rw [← Nat.mul_succ]; exact Nat.mul_le_mul_left _ (tail_lt v.toNat k.val r hk hr)
  sl_unfold [k0_t10_body]
  rw [k0_part3_eq_skeleton]
  sl_unfold [k0_part3_skel]
  iintro ⟨HP, HO⟩
  sl_exec
  iapply (wp_take (u := chunkN * (8 * k.val + 0)) (N := chunkN) rfl (hu 0 (by decide))) $$ [HP HO]
  · isplitl [HP]; · iexact HP
    iexact HO
  iintro ⟨HP, HO⟩
  sl_exec
  iapply (wp_take (u := chunkN * (8 * k.val + 1)) (N := chunkN) rfl (hu 1 (by decide))) $$ [HP HO]
  · isplitl [HP]; · iexact HP
    iexact HO
  iintro ⟨HP, HO⟩
  sl_exec
  iapply (wp_take (u := chunkN * (8 * k.val + 2)) (N := chunkN) rfl (hu 2 (by decide))) $$ [HP HO]
  · isplitl [HP]; · iexact HP
    iexact HO
  iintro ⟨HP, HO⟩
  sl_exec
  iapply (wp_take (u := chunkN * (8 * k.val + 3)) (N := chunkN) rfl (hu 3 (by decide))) $$ [HP HO]
  · isplitl [HP]; · iexact HP
    iexact HO
  iintro ⟨HP, HO⟩
  sl_exec
  iapply (wp_take (u := chunkN * (8 * k.val + 4)) (N := chunkN) rfl (hu 4 (by decide))) $$ [HP HO]
  · isplitl [HP]; · iexact HP
    iexact HO
  iintro ⟨HP, HO⟩
  sl_exec
  iapply (wp_take (u := chunkN * (8 * k.val + 5)) (N := chunkN) rfl (hu 5 (by decide))) $$ [HP HO]
  · isplitl [HP]; · iexact HP
    iexact HO
  iintro ⟨HP, HO⟩
  sl_exec
  iapply (wp_take (u := chunkN * (8 * k.val + 6)) (N := chunkN) rfl (hu 6 (by decide))) $$ [HP HO]
  · isplitl [HP]; · iexact HP
    iexact HO
  iintro ⟨HP, HO⟩
  sl_exec
  iapply (wp_take (u := chunkN * (8 * k.val + 7)) (N := chunkN) rfl (hu 7 (by decide))) $$ [HP HO]
  · isplitl [HP]; · iexact HP
    iexact HO
  iintro ⟨HP, HO⟩
  sl_exec
  sl_step
  isplitl [HP]
  · iapply (flying_eq ?h) $$ HP
    case h => rw [← Nat.mul_succ]; exact congrArg (chunkN * ·) (by omega)
  iexact HO

end

end Cert.Dispatch

end
-- ==== Proof.Lend.lean ====
/- Sharing out what the copies read and fill, and putting it back. -/
module

public import proofs.«01_k».proof.Proof.TailCopies

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section parcels

variable {ℓ : Loc nD τ sig}

/-- Disjoint parts of a region, taken out of it. -/
theorem parcel_take {T : Type} [Fintype T] (S : Finset (Idx ℓ)) (K : T → Finset (Idx ℓ)) (f : Buf (Elt F) ℓ)
    (hd : ∀ t t', t ≠ t' → Disjoint (K t) (K t')) (hs : Finset.univ.biUnion K ⊆ S) :
    (ℓ ↦[S]{fullShare} f : sProp 𝕄) ⊢ iprop(bigSep Finset.univ (fun t => (ℓ ↦[K t]{fullShare} f : sProp 𝕄)) ∗ (ℓ ↦[S \ Finset.univ.biUnion K]{fullShare} f)) := by
  rw [← pointsTo_biUnion Finset.univ K fun t _ t' _ h => hd t t' h]
  exact (pointsTo_split_subset hs).1

/-- The parts put back, at new contents. -/
theorem parcel_give {T : Type} [Fintype T] (S : Finset (Idx ℓ)) (K : T → Finset (Idx ℓ)) (f G : Buf (Elt F) ℓ)
    (hd : ∀ t t', t ≠ t' → Disjoint (K t) (K t')) (hs : Finset.univ.biUnion K ⊆ S) :
    iprop(bigSep Finset.univ (fun t => (ℓ ↦[K t]{fullShare} G : sProp 𝕄)) ∗ (ℓ ↦[S \ Finset.univ.biUnion K]{fullShare} f)) ⊢ (ℓ ↦[S]{fullShare} (Finset.univ.biUnion K).piecewise G f : sProp 𝕄) := by
  rw [← pointsTo_biUnion Finset.univ K fun t _ t' _ h => hd t t' h]
  exact pointsTo_join_subset hs

end parcels

theorem needs_sep (c : Dev nD) {n : ℕ} (tgt : Fin n → Finset (Idx (outLoc c))) (src : Fin n → sProp 𝕄) (f : Buf (Elt F) (outLoc c)) :
    bigSep Finset.univ (needs c tgt src f) = iprop(bigSep Finset.univ (fun t => (outLoc c ↦[tgt t]{fullShare} f : sProp 𝕄)) ∗ bigSep Finset.univ src) :=
  bigSep_sep' _ _ _

/-- A list all waited for, its rows, its sources and its cell apart. -/
theorem collect_all (c : Dev nD) {n : ℕ} (sm : SemLoc sig) {N : ℕ} (tgt : Fin n → Finset (Idx (outLoc c))) (src : Fin n → sProp 𝕄) (G : Buf (Elt F) (outLoc c)) (hN : 0 < N) :
    Flying c sm N tgt src G n (N * n) ⊢ (|={Set.univ}=> iprop(bigSep Finset.univ (fun t => (outLoc c ↦[tgt t]{fullShare} G : sProp 𝕄)) ∗ bigSep Finset.univ src ∗ semVal ((c : Thread nD τ), sm) 0) : sProp 𝕄) := by
  iintro H
  imod (collect (c := c) (sm := sm) (tgt := tgt) (src := src) (f := G) (G := G) hN) $$ H with H
  rw [needs_sep]
  icases H with ⟨⟨H1, H2⟩, H3⟩
  imodintro
  isplitl [H1]; · iexact H1
  isplitl [H2]; · iexact H2
  iexact H3

section store

variable (c : Dev nD) (arg5 : Memref sig .tc .vmem S256x2048 .f32) (harg5 : arg5.IsWhole) (X5 : S256x2048.Idx → Elt F .f32) (X3 : S32.Idx → Elt F .i32) (q : PosShare TreeShare) (n : ℕ)

instance rowSrc_storable (b : Fin 2) (t : Fin 256) : Storable (upEmb : UEmb _ 𝕄) (rowSrc (F := F) c arg5 harg5 X5 b t) := by
  unfold rowSrc; infer_instance
instance padSrc_storable (p : Fin (nPad X3)) : Storable (upEmb : UEmb _ 𝕄) (padSrc (F := F) c X3 q p) := by
  unfold padSrc; infer_instance
instance tailSrc_storable (p : Fin (nTail n)) : Storable (upEmb : UEmb _ 𝕄) (tailSrc (F := F) c q n p) := by
  unfold tailSrc; infer_instance

end store

section rows

variable (c : Dev nD) (arg5 : Memref sig .tc .vmem S256x2048 .f32) (harg5 : arg5.IsWhole) (X5 : S256x2048.Idx → Elt F .f32)

/-- The elements of token row `t` in the block of tokens. -/
def tokSet (t : Fin 256) : Finset (Idx (arg5.view.loc (c : Thread nD τ))) := (arg5.slice (tokRect t.val t.isLt) (fun _ => rfl)).view.set

theorem mem_tokRect (t : ℕ) (ht : t < 256) (y : S256x2048.Idx) : y ∈ (tokRect t ht).set ↔ (y 0).val = t := by
  rw [Rect.mem_set_unit, Fin.forall_fin_two]
  have h0 : (y 1).val < 2048 := (y 1).isLt
  have e : S1x2048.size 0 = 1 := rfl
  have e1 : S1x2048.size 1 = 2048 := rfl
  simp only [Matrix.cons_val_zero, Matrix.cons_val_one, Matrix.cons_val_fin_one, e, e1]
  constructor <;> intro h <;> omega

theorem tokSet_eq (t : Fin 256) : tokSet c arg5 t = (tokRect t.val t.isLt).set.map arg5.view.emb := View.set_slice _ _

theorem tokSet_disjoint (t t' : Fin 256) (h : t ≠ t') : Disjoint (tokSet c arg5 t) (tokSet c arg5 t') := by
  rw [tokSet_eq, tokSet_eq, Finset.disjoint_map, Finset.disjoint_left]
  intro y h1 h2
  rw [mem_tokRect] at h1 h2
  exact h (Fin.ext (h1.symm.trans h2))

theorem tokSet_cover : Finset.univ.biUnion (tokSet c arg5) = arg5.view.set := by
  ext z
  simp only [Finset.mem_biUnion, Finset.mem_univ, true_and, tokSet_eq, Finset.mem_map, View.set]
  constructor
  · rintro ⟨t, y, -, e⟩; exact ⟨y, e⟩
  · rintro ⟨y, e⟩; exact ⟨⟨(y 0).val, (y 0).isLt⟩, y, (mem_tokRect _ _ _).mpr rfl, e⟩

theorem tok_split (b : Fin 2) : bigSep Finset.univ (rowSrc (F := F) c arg5 harg5 X5 b)
    = (arg5.view.loc (c : Thread nD τ) ↦[arg5.view.set]{half b} harg5.unread X5 : sProp 𝕄) := by
  rw [← tokSet_cover c arg5]
  exact (pointsTo_biUnion Finset.univ (tokSet c arg5) fun t _ t' _ h => tokSet_disjoint c arg5 t t' h).symm

/-- The block of tokens, lent to the two lists of row copies. -/
theorem lend_rows : (arg5.view.loc (c : Thread nD τ) ↦[arg5.view.set]{fullShare} harg5.unread X5 : sProp 𝕄)
    ⊣⊢ iprop(bigSep Finset.univ (rowSrc (F := F) c arg5 harg5 X5 0) ∗ bigSep Finset.univ (rowSrc (F := F) c arg5 harg5 X5 1)) := by
  rw [tok_split, tok_split]
  exact pointsTo_share (PosShare.mem_left_op_right _)

end rows

section scratch

variable (c : Dev nD) (X3 : S32.Idx → Elt F .i32) (n : ℕ)

/-- What stays of the zeros while the pads and the tails read them. -/
def padRest : sProp 𝕄 := iprop((zrow.view.loc (c : Thread nD τ) ↦[zrow.view.set]{Transfers.shareDrop fullShare.left (nPad X3)} zeros (F := F) c)
  ∗ ((Memref.whole cc0_scratch0 (sig := sig)).view.loc (c : Thread nD τ) ↦[Finset.univ \ zrow.view.set]{fullShare.left} zeros (F := F) c))
def tailRest : sProp 𝕄 := ((Memref.whole cc0_scratch0 (sig := sig)).view.loc (c : Thread nD τ) ↦[(Memref.whole cc0_scratch0 (sig := sig)).view.set]{Transfers.shareDrop fullShare.right (nTail n)} zeros (F := F) c)

/-- The zeros, lent to the pads and the tails. -/
theorem lend_zeros : ((Memref.whole cc0_scratch0 (sig := sig)).view.loc (c : Thread nD τ) ↦{fullShare} zeros (F := F) c : sProp 𝕄)
    ⊣⊢ iprop((padRest (F := F) c X3 ∗ bigSep Finset.univ (padSrc (F := F) c X3 fullShare.left)) ∗ (tailRest (F := F) c n ∗ bigSep Finset.univ (tailSrc (F := F) c fullShare.right n))) := by
  have hl1 : ((Memref.whole cc0_scratch0 (sig := sig)).view.loc (c : Thread nD τ) ↦{fullShare.left} zeros (F := F) c : sProp 𝕄)
      ⊢ iprop(padRest (F := F) c X3 ∗ bigSep Finset.univ (padSrc (F := F) c X3 fullShare.left)) := by
    iintro H
    ihave H := (pointsTo_split_subset (Finset.subset_univ (zrow.view.set))).1 $$ H
    icases H with ⟨H1, H2⟩
    ihave H1 := (Transfers.pointsTo_toks_split fullShare.left (nPad X3)) $$ H1
    icases H1 with ⟨H1, H3⟩
    unfold padRest
    isplitl [H1 H2]
    · isplitl [H1]; · iexact H1
      iexact H2
    iexact H3
  have hl2 : iprop(padRest (F := F) c X3 ∗ bigSep Finset.univ (padSrc (F := F) c X3 fullShare.left))
      ⊢ ((Memref.whole cc0_scratch0 (sig := sig)).view.loc (c : Thread nD τ) ↦{fullShare.left} zeros (F := F) c : sProp 𝕄) := by
    unfold padRest
    iintro ⟨⟨H1, H2⟩, H3⟩
    iapply (pointsTo_split_subset (Finset.subset_univ (zrow.view.set))).2
    isplitl [H1 H3]
    · iapply (Transfers.pointsTo_toks_join fullShare.left (nPad X3))
      isplitl [H1]; · iexact H1
      iexact H3
    iexact H2
  have hr : ((Memref.whole cc0_scratch0 (sig := sig)).view.loc (c : Thread nD τ) ↦{fullShare.right} zeros (F := F) c : sProp 𝕄)
      ⊣⊢ iprop(tailRest (F := F) c n ∗ bigSep Finset.univ (tailSrc (F := F) c fullShare.right n)) := by
    have h2 := Transfers.pointsTo_toks (Ix := Unit) (Name := ℕ) (U := Pipeline.UD sig nD τ) (Lvl := ℕ) (ℓ := (Memref.whole cc0_scratch0 (sig := sig)).view.loc (c : Thread nD τ)) (S := Finset.univ) (f := zeros (F := F) c) fullShare.right (nTail n)
    have hs : (Memref.whole cc0_scratch0 (sig := sig)).view.set = Finset.univ := View.set_whole _
    unfold tailRest tailSrc
    rw [hs]
    exact h2
  have hf := pointsTo_share (Ix := Unit) (Name := ℕ) (U := Pipeline.UD sig nD τ) (Lvl := ℕ) (ℓ := (Memref.whole cc0_scratch0 (sig := sig)).view.loc (c : Thread nD τ)) (I := Finset.univ) (f := zeros (F := F) c) (PosShare.mem_left_op_right fullShare)
  constructor
  · refine hf.1.trans ?_
    iintro ⟨H1, H2⟩
    isplitl [H1]
    · iapply hl1 $$ H1
    iapply hr.1 $$ H2
  · iintro ⟨H1, H2⟩
    iapply hf.2
    isplitl [H1]
    · iapply hl2 $$ H1
    iapply hr.2 $$ H2

end scratch

end Cert.Dispatch

end
-- ==== Proof.BodyRest.lean ====
/- A grid point after the first: its two lists of row copies, issued and waited for. -/
module

public import proofs.«01_k».proof.Proof.Lend

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section

variable (c : Dev nD) (i : grid0.Coords)
  (arg1 : Memref sig .tc .smem S1x1x512 .i32) (harg1 : arg1.IsWhole) (arg2 : Memref sig .tc .smem S32 .i32) (harg2 : arg2.IsWhole)
  (arg3 : Memref sig .tc .smem S32 .i32) (harg3 : arg3.IsWhole) (arg4 : Memref sig .tc .smem S1 .i32) (harg4 : arg4.IsWhole)
  (arg5 : Memref sig .tc .vmem S256x2048 .f32) (harg5 : arg5.IsWhole)
  (X1 : S1x1x512.Idx → Elt F .i32) (X2 X3 : S32.Idx → Elt F .i32) (X4 : S1.Idx → Elt F .i32) (X5 : S256x2048.Idx → Elt F .f32) (f G : Buf (Elt F) (outLoc c))

/-- The rows that a point's copies `b` fill. -/
def rowsOf (b : Fin 2) : Finset (Idx (outLoc c)) := Finset.univ.biUnion (rowTgt (F := F) c X1 b)
/-- The rows that the pads fill. -/
def padsOf : Finset (Idx (outLoc c)) := Finset.univ.biUnion (padTgt (F := F) c X2 X3)
/-- The rows that the tails fill. -/
def tailsOf (n : ℕ) : Finset (Idx (outLoc c)) := Finset.univ.biUnion (tailTgt c n)

/-- What is asked of a point's destinations: in range, and no two alike. -/
structure RowsOk : Prop where
  lt : ∀ x, (show BitVec 32 from X1 x).toNat < 81920
  inj : ∀ b b' t t', destAt (F := F) X1 b t = destAt X1 b' t' → b = b' ∧ t = t'

theorem rowSet_disjoint {d d' : ℕ} (h : d ≠ d') : Disjoint (rowSet d) (rowSet d') := by
  rw [Finset.disjoint_left]; intro y h1 h2; rw [mem_rowSet] at h1 h2; exact h (h1.symm.trans h2)

theorem rowTgt_disjoint (h : RowsOk (F := F) X1) (b : Fin 2) (t t' : Fin 256) (ht : t ≠ t') : Disjoint (rowTgt (F := F) c X1 b t) (rowTgt (F := F) c X1 b t') :=
  rowSet_disjoint fun e => ht (h.inj _ _ _ _ e).2

theorem mem_rowsOf (b : Fin 2) (y : S81920x2048.Idx) : y ∈ rowsOf (F := F) c X1 b ↔ ∃ t, (y 0).val = destAt (F := F) X1 b t := by
  unfold rowsOf
  rw [Finset.mem_biUnion]
  exact ⟨fun ⟨t, _, h⟩ => ⟨t, mem_rowSet.mp h⟩, fun ⟨t, h⟩ => ⟨t, Finset.mem_univ _, mem_rowSet.mpr h⟩⟩

theorem rows_sub (h : RowsOk (F := F) X1) : Finset.univ.biUnion (rowTgt (F := F) c X1 1) ⊆ Finset.univ \ Finset.univ.biUnion (rowTgt (F := F) c X1 0) := by
  intro y hy
  obtain ⟨t, ht⟩ := (mem_rowsOf (F := F) c X1 1 y).mp hy
  refine Finset.mem_sdiff.mpr ⟨Finset.mem_univ _, fun h0 => ?_⟩
  obtain ⟨t', ht'⟩ := (mem_rowsOf (F := F) c X1 0 y).mp h0
  have := (h.inj _ _ _ _ (ht.symm.trans ht')).1
  exact absurd this (by decide)

/-- The result after a point's row copies. -/
def afterRows (g : Buf (Elt F) (outLoc c)) : Buf (Elt F) (outLoc c) :=
  (rowsOf (F := F) c X1 0).piecewise G ((rowsOf (F := F) c X1 1).piecewise G g)

theorem trips1 : Scf.trips k0_t1_loop.lb k0_t1_loop.ub k0_t1_loop.st = 256 := rfl
theorem trips12 : Scf.trips k0_t12_loop.lb k0_t12_loop.ub k0_t12_loop.st = 256 := rfl
theorem rowN_pos : 0 < rowN := by decide

/-- A point with row copies only. -/
theorem body_rest (hX : RowsOk (F := F) X1) (hG : ∀ (b : Fin 2) (t : Fin 256) (y : S81920x2048.Idx), (y 0).val = destAt X1 b t → G y = X5 (ix2 t (y 1)))
    (h1 : ¬ k0_cond1 i = 1#1) :
    iprop((arg1.view.loc (c : Thread nD τ) ↦{fullShare} harg1.unread X1) ∗ (arg5.view.loc (c : Thread nD τ) ↦[arg5.view.set]{fullShare} harg5.unread X5)
      ∗ (outLoc c ↦{fullShare} f) ∗ semVal ((c : Thread nD τ), .dma cell0) 0 ∗ semVal ((c : Thread nD τ), .dma cell1) 0 ∗ Owing c)
    ⊢ wp frame (wpE (defs₀ (F := F)) Variants.none (c : Thread nD τ) none) Set.univ (cc0_dispatch (F := F) i arg1 harg1 arg2 harg2 arg3 harg3 arg4 harg4 arg5 harg5 (Memref.whole main_v23) (Memref.isWhole_whole _) (Memref.whole cc0_scratch0) (Memref.isWhole_whole _) cc0_scratch1 cc0_scratch2 cc0_scratch3)
      (fun _ => iprop((arg1.view.loc (c : Thread nD τ) ↦{fullShare} harg1.unread X1) ∗ (arg5.view.loc (c : Thread nD τ) ↦[arg5.view.set]{fullShare} harg5.unread X5)
      ∗ (outLoc c ↦{fullShare} afterRows (F := F) c X1 G f) ∗ semVal ((c : Thread nD τ), .dma cell0) 0 ∗ semVal ((c : Thread nD τ), .dma cell1) 0 ∗ Owing c)) := by
  rw [cc0_dispatch_eq_skeleton]
  unfold cc0_dispatch_skel
  rw [dif_neg h1]
  iintro ⟨Hw, Hx, Ho, Hs0, Hs1, HO⟩
  ihave Hx := (lend_rows (F := F) c arg5 harg5 X5).1 $$ Hx
  icases Hx with ⟨Hx0, Hx1⟩
  ihave Ho := (parcel_take (F := F) Finset.univ (rowTgt (F := F) c X1 0) f (rowTgt_disjoint c X1 hX 0) (Finset.subset_univ _)) $$ Ho
  icases Ho with ⟨Ho0, Ho⟩
  ihave Ho := (parcel_take (F := F) (Finset.univ \ Finset.univ.biUnion (rowTgt (F := F) c X1 0)) (rowTgt (F := F) c X1 1) f (rowTgt_disjoint c X1 hX 1) (rows_sub c X1 hX)) $$ Ho
  icases Ho with ⟨Ho1, Ho⟩
  imod (pend_start (c := c) (sm := .dma cell0) (N := rowN) (tgt := rowTgt (F := F) c X1 0) (src := rowSrc (F := F) c arg5 harg5 X5 0) (f := f) (G := G)) $$ [Hs0 Ho0 Hx0] with H0
  · isplitl [Hs0]; · iexact Hs0
    rw [needs_sep]
    isplitl [Ho0]; · iexact Ho0
    iexact Hx0
  imod (pend_start (c := c) (sm := .dma cell1) (N := rowN) (tgt := rowTgt (F := F) c X1 1) (src := rowSrc (F := F) c arg5 harg5 X5 1) (f := f) (G := G)) $$ [Hs1 Ho1 Hx1] with H1
  · isplitl [Hs1]; · iexact Hs1
    rw [needs_sep]
    isplitl [Ho1]; · iexact Ho1
    iexact Hx1
  sl_for (fun (k : ℕ) (_ : Unit) => iprop(Pend c (.dma cell0) rowN (rowTgt c X1 0) (rowSrc c arg5 harg5 X5 0) f G k ∗ Pend c (.dma cell1) rowN (rowTgt c X1 1) (rowSrc c arg5 harg5 X5 1) f G k
      ∗ (arg1.view.loc (c : Thread nD τ) ↦{fullShare} harg1.unread X1))) $$ [H0 H1 Hw]
  · intro k acc
    exact row_issue c i arg1 harg1 arg2 harg2 arg3 harg3 arg4 harg4 arg5 harg5 X1 X5 f G hX.lt hG k
  · isplitl [H0]; · iexact H0
    isplitl [H1]; · iexact H1
    iexact Hw
  iintro %acc ⟨H0, H1, Hw⟩
  ihave H0 := (pend_eq trips1) $$ H0
  ihave H1 := (pend_eq trips1) $$ H1
  ihave H0 := pend_done $$ H0
  ihave H1 := pend_done $$ H1
  sl_exec
  sl_for (fun (k : ℕ) (_ : Unit) => iprop(Flying c (.dma cell0) rowN (rowTgt c X1 0) (rowSrc c arg5 harg5 X5 0) G 256 (rowN * k)
      ∗ Flying c (.dma cell1) rowN (rowTgt c X1 1) (rowSrc c arg5 harg5 X5 1) G 256 (rowN * k)
      ∗ Owing c ∗ (arg1.view.loc (c : Thread nD τ) ↦{fullShare} harg1.unread X1))) $$ [H0 H1 HO Hw]
  · intro k acc
    exact row_wait c i arg1 harg1 arg2 harg2 arg3 harg3 arg4 harg4 arg5 harg5 X1 X5 G hX.lt k
  · isplitl [H0]; · iexact H0
    isplitl [H1]; · iexact H1
    isplitl [HO]; · iexact HO
    iexact Hw
  iintro %acc ⟨H0, H1, HO, Hw⟩
  ihave H0 := (flying_eq (congrArg (rowN * ·) trips12)) $$ H0
  ihave H1 := (flying_eq (congrArg (rowN * ·) trips12)) $$ H1
  imod (collect_all c (.dma cell0) (rowTgt (F := F) c X1 0) (rowSrc (F := F) c arg5 harg5 X5 0) G rowN_pos) $$ H0 with ⟨Ho0, Hx0, Hs0⟩
  imod (collect_all c (.dma cell1) (rowTgt (F := F) c X1 1) (rowSrc (F := F) c arg5 harg5 X5 1) G rowN_pos) $$ H1 with ⟨Ho1, Hx1, Hs1⟩
  ihave Hx := (lend_rows (F := F) c arg5 harg5 X5).2 $$ [Hx0 Hx1]
  · isplitl [Hx0]; · iexact Hx0
    iexact Hx1
  ihave Ho := (parcel_give (F := F) (Finset.univ \ Finset.univ.biUnion (rowTgt (F := F) c X1 0)) (rowTgt (F := F) c X1 1) f G (rowTgt_disjoint c X1 hX 1) (rows_sub c X1 hX)) $$ [Ho1 Ho]
  · isplitl [Ho1]; · iexact Ho1
    iexact Ho
  ihave Ho := (parcel_give (F := F) Finset.univ (rowTgt (F := F) c X1 0) _ G (rowTgt_disjoint c X1 hX 0) (Finset.subset_univ _)) $$ [Ho0 Ho]
  · isplitl [Ho0]; · iexact Ho0
    iexact Ho
  sl_exec
  sl_step
  isplitl [Hw]; · iexact Hw
  isplitl [Hx]; · iexact Hx
  isplitl [Ho]; · iexact Ho
  isplitl [Hs0]; · iexact Hs0
  isplitl [Hs1]; · iexact Hs1
  iexact HO

end

end Cert.Dispatch

end
-- ==== Proof.BodyFirst.lean ====
/- The first grid point: its row copies, and the zeros into the pads and the unused blocks. -/
module

public import proofs.«01_k».proof.Proof.BodyRest
public import Idealize.ShloMosaic.Lib.VecWindow

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section

variable (c : Dev nD) (i : grid0.Coords)
  (arg1 : Memref sig .tc .smem S1x1x512 .i32) (harg1 : arg1.IsWhole) (arg2 : Memref sig .tc .smem S32 .i32) (harg2 : arg2.IsWhole)
  (arg3 : Memref sig .tc .smem S32 .i32) (harg3 : arg3.IsWhole) (arg4 : Memref sig .tc .smem S1 .i32) (harg4 : arg4.IsWhole)
  (arg5 : Memref sig .tc .vmem S256x2048 .f32) (harg5 : arg5.IsWhole)
  (X1 : S1x1x512.Idx → Elt F .i32) (X2 X3 : S32.Idx → Elt F .i32) (X4 : S1.Idx → Elt F .i32) (X5 : S256x2048.Idx → Elt F .f32) (f G : Buf (Elt F) (outLoc c))

/-- What is asked of the tables at the first point, `n` blocks being used: the point's rows, the pads and the tails are
    in range and apart. -/
structure FirstOk (n : ℕ) : Prop where
  rows : RowsOk (F := F) X1
  pad_le : ∀ e, padFrom X2 e + padLen X3 e ≤ 81920
  pad_len : ∀ e, padLen X3 e < 512
  pad_inj : ∀ p p', padRow X2 X3 p = padRow X2 X3 p' → p = p'
  row_pad : ∀ b t p, destAt (F := F) X1 b t ≠ padRow X2 X3 p
  used_le : n ≤ 160
  row_tail : ∀ b t, destAt (F := F) X1 b t < n * 512
  pad_tail : ∀ p, padRow X2 X3 p < n * 512

theorem mem_pads (y : Idx (outLoc c)) : y ∈ Finset.univ.biUnion (padTgt (F := F) c X2 X3) ↔ ∃ p, ((show S81920x2048.Idx from y) 0).val = padRow X2 X3 p := by
  rw [Finset.mem_biUnion]
  exact ⟨fun ⟨t, _, h⟩ => ⟨t, mem_rowSet.mp h⟩, fun ⟨t, h⟩ => ⟨t, Finset.mem_univ _, mem_rowSet.mpr h⟩⟩

theorem mem_tails (n : ℕ) (hn : n ≤ 160) (y : Idx (outLoc c)) : y ∈ Finset.univ.biUnion (tailTgt c n) ↔ n * 512 ≤ ((show S81920x2048.Idx from y) 0).val := by
  change S81920x2048.Idx at y
  change _ ↔ n * 512 ≤ (y 0).val
  rw [Finset.mem_biUnion]
  have hy : (y 0).val < 81920 := (y 0).isLt
  constructor
  · rintro ⟨t, -, h⟩
    have h := (mem_chunkSet.mp h).1
    unfold tailRow at h; omega
  · intro h
    refine ⟨⟨((y 0).val - n * 512) / 64, by unfold nTail; omega⟩, Finset.mem_univ _, mem_chunkSet.mpr ?_⟩
    unfold tailRow
    constructor
    · show n * 512 + 64 * (((y 0).val - n * 512) / 64) ≤ _; omega
    · show _ < n * 512 + 64 * (((y 0).val - n * 512) / 64) + 64; omega

theorem mem_padsOf (y : S81920x2048.Idx) : y ∈ padsOf (F := F) c X2 X3 ↔ ∃ p, (y 0).val = padRow X2 X3 p := by
  unfold padsOf; exact mem_pads (F := F) c X2 X3 y
theorem mem_tailsOf (n : ℕ) (hn : n ≤ 160) (y : S81920x2048.Idx) : y ∈ tailsOf c n ↔ n * 512 ≤ (y 0).val := by
  unfold tailsOf; exact mem_tails c n hn y

theorem tailTgt_disjoint (n : ℕ) (t t' : Fin (nTail n)) (h : t ≠ t') : Disjoint (tailTgt c n t) (tailTgt c n t') := by
  rw [Finset.disjoint_left]
  intro y h1 h2
  have h1 := mem_chunkSet.mp h1
  have h2 := mem_chunkSet.mp h2
  unfold tailRow at h1 h2
  exact h (Fin.ext (by omega))

theorem padTgt_disjoint {n : ℕ} (h : FirstOk (F := F) X1 X2 X3 n) (p p' : Fin (nPad X3)) (hp : p ≠ p') : Disjoint (padTgt (F := F) c X2 X3 p) (padTgt (F := F) c X2 X3 p') :=
  rowSet_disjoint fun e => hp (h.pad_inj _ _ e)

theorem not_row {n : ℕ} (h : FirstOk (F := F) X1 X2 X3 n) (b : Fin 2) (y : Idx (outLoc c)) (hy : (∃ p, ((show S81920x2048.Idx from y) 0).val = padRow X2 X3 p) ∨ n * 512 ≤ ((show S81920x2048.Idx from y) 0).val) :
    y ∉ Finset.univ.biUnion (rowTgt (F := F) c X1 b) := by
  intro hb
  obtain ⟨t, ht⟩ := (mem_rowsOf (F := F) c X1 b y).mp hb
  rcases hy with ⟨p, hp⟩ | hy
  · exact h.row_pad b t p (ht.symm.trans hp)
  · exact absurd (lt_of_eq_of_lt ht (h.row_tail b t)) (Nat.not_lt.mpr hy)

theorem not_pad {n : ℕ} (h : FirstOk (F := F) X1 X2 X3 n) (y : Idx (outLoc c)) (hy : n * 512 ≤ ((show S81920x2048.Idx from y) 0).val) :
    y ∉ Finset.univ.biUnion (padTgt (F := F) c X2 X3) := by
  intro hb
  rw [mem_pads] at hb
  obtain ⟨p, hp⟩ := hb
  exact absurd (lt_of_eq_of_lt hp (h.pad_tail p)) (Nat.not_lt.mpr hy)

theorem pads_sub {n : ℕ} (h : FirstOk (F := F) X1 X2 X3 n) : Finset.univ.biUnion (padTgt (F := F) c X2 X3)
    ⊆ (Finset.univ \ Finset.univ.biUnion (rowTgt (F := F) c X1 0)) \ Finset.univ.biUnion (rowTgt (F := F) c X1 1) := by
  intro y hy
  rw [mem_pads] at hy
  have hp := hy
  have h0 := not_row c X1 X2 X3 h 0 y (Or.inl hp)
  have h1 := not_row c X1 X2 X3 h 1 y (Or.inl hp)
  rw [Finset.mem_sdiff, Finset.mem_sdiff]
  exact ⟨⟨Finset.mem_univ _, h0⟩, h1⟩

theorem tails_sub {n : ℕ} (h : FirstOk (F := F) X1 X2 X3 n) : Finset.univ.biUnion (tailTgt c n)
    ⊆ ((Finset.univ \ Finset.univ.biUnion (rowTgt (F := F) c X1 0)) \ Finset.univ.biUnion (rowTgt (F := F) c X1 1)) \ Finset.univ.biUnion (padTgt (F := F) c X2 X3) := by
  intro y hy
  have hp := (mem_tails c n h.used_le y).mp hy
  have h0 := not_row c X1 X2 X3 h 0 y (Or.inr hp)
  have h1 := not_row c X1 X2 X3 h 1 y (Or.inr hp)
  have h2 := not_pad c X1 X2 X3 h y hp
  rw [Finset.mem_sdiff, Finset.mem_sdiff, Finset.mem_sdiff]
  exact ⟨⟨⟨Finset.mem_univ _, h0⟩, h1⟩, h2⟩

/-- The result after the first point: its rows, the pads and the tails. -/
def afterFirst (n : ℕ) (g : Buf (Elt F) (outLoc c)) : Buf (Elt F) (outLoc c) :=
  (rowsOf (F := F) c X1 0).piecewise G ((rowsOf (F := F) c X1 1).piecewise G ((padsOf (F := F) c X2 X3).piecewise G ((tailsOf c n).piecewise G g)))

theorem trips2 : Scf.trips k0_t2_loop.lb k0_t2_loop.ub k0_t2_loop.st = 32 := rfl
theorem trips7 : Scf.trips k0_t7_loop.lb k0_t7_loop.ub k0_t7_loop.st = 32 := rfl
theorem chunkN_pos : 0 < chunkN := by decide +kernel
theorem zeros_written (g : (Memref.whole cc0_scratch0 (sig := sig)).view.ty.Contents (Elt F)) :
    (Memref.whole cc0_scratch0 (sig := sig)).view.writes (Elt F) g [⟨Rect.unit (s := S64x2048) ![0, 0] S64x2048.size inb_S64x2048_S64x2048_0_0, k0_pay1 (F := F)⟩] = zeros (F := F) c := by
  have h := View.read_writes_full (Val := Elt F) (Memref.whole cc0_scratch0 (sig := sig)).view g inb_S64x2048_S64x2048_0_0 (k0_pay1 (F := F)) []
  rw [View.read_whole] at h
  exact h

/-- The first point: the row copies, the zeros, the pads and the tails. -/
theorem body_first (hX : FirstOk (F := F) X1 X2 X3 (BitVec.toNat (View.readAt (Elt F) arg4.view (Rect.unit (s := S1) ![0] S1.size inb_S1_S1_0).toLoadRect (harg4.unread X4) (Shape.Idx.first (show 0 < S1.numel by decide)))))
    (hG : ∀ (b : Fin 2) (t : Fin 256) (y : S81920x2048.Idx), (y 0).val = destAt X1 b t → G y = X5 (ix2 t (y 1)))
    (hGp : ∀ (p : Fin (nPad X3)) (y : S81920x2048.Idx), (y 0).val = padRow X2 X3 p → G y = zero (F := F))
    (hGt : ∀ y : S81920x2048.Idx, (BitVec.toNat (View.readAt (Elt F) arg4.view (Rect.unit (s := S1) ![0] S1.size inb_S1_S1_0).toLoadRect (harg4.unread X4) (Shape.Idx.first (show 0 < S1.numel by decide)))) * 512 ≤ (y 0).val → G y = zero (F := F))
    (h1 : k0_cond1 i = 1#1) (z : Buf (Elt F) ((Memref.whole cc0_scratch0 (sig := sig)).view.loc (c : Thread nD τ))) :
    iprop((arg1.view.loc (c : Thread nD τ) ↦{fullShare} harg1.unread X1) ∗ (arg2.view.loc (c : Thread nD τ) ↦{fullShare} harg2.unread X2) ∗ (arg3.view.loc (c : Thread nD τ) ↦{fullShare} harg3.unread X3) ∗ (arg4.view.loc (c : Thread nD τ) ↦{fullShare} harg4.unread X4) ∗ (arg5.view.loc (c : Thread nD τ) ↦[arg5.view.set]{fullShare} harg5.unread X5) ∗ ((Memref.whole cc0_scratch0 (sig := sig)).view.loc (c : Thread nD τ) ↦{fullShare} z) ∗ (outLoc c ↦{fullShare} f) ∗ semVal ((c : Thread nD τ), .dma cell0) 0 ∗ semVal ((c : Thread nD τ), .dma cell1) 0 ∗ semVal ((c : Thread nD τ), .dma cellP) 0 ∗ semVal ((c : Thread nD τ), .dma cellT) 0 ∗ Owing c)
    ⊢ wp frame (wpE (defs₀ (F := F)) Variants.none (c : Thread nD τ) none) Set.univ (cc0_dispatch (F := F) i arg1 harg1 arg2 harg2 arg3 harg3 arg4 harg4 arg5 harg5 (Memref.whole main_v23) (Memref.isWhole_whole _) (Memref.whole cc0_scratch0) (Memref.isWhole_whole _) cc0_scratch1 cc0_scratch2 cc0_scratch3)
      (fun _ => iprop((arg1.view.loc (c : Thread nD τ) ↦{fullShare} harg1.unread X1) ∗ (arg2.view.loc (c : Thread nD τ) ↦{fullShare} harg2.unread X2) ∗ (arg3.view.loc (c : Thread nD τ) ↦{fullShare} harg3.unread X3) ∗ (arg4.view.loc (c : Thread nD τ) ↦{fullShare} harg4.unread X4) ∗ (arg5.view.loc (c : Thread nD τ) ↦[arg5.view.set]{fullShare} harg5.unread X5) ∗ ((Memref.whole cc0_scratch0 (sig := sig)).view.loc (c : Thread nD τ) ↦{fullShare} zeros (F := F) c) ∗ (outLoc c ↦{fullShare} afterFirst (F := F) c X1 X2 X3 G (BitVec.toNat (View.readAt (Elt F) arg4.view (Rect.unit (s := S1) ![0] S1.size inb_S1_S1_0).toLoadRect (harg4.unread X4) (Shape.Idx.first (show 0 < S1.numel by decide)))) f) ∗ semVal ((c : Thread nD τ), .dma cell0) 0 ∗ semVal ((c : Thread nD τ), .dma cell1) 0 ∗ semVal ((c : Thread nD τ), .dma cellP) 0 ∗ semVal ((c : Thread nD τ), .dma cellT) 0 ∗ Owing c)) := by
  have hl := tail_loops (View.readAt (Elt F) arg4.view (Rect.unit (s := S1) ![0] S1.size inb_S1_S1_0).toLoadRect (harg4.unread X4) (Shape.Idx.first (show 0 < S1.numel by decide))) hX.used_le
  have hc6 := chk6 i (View.readAt (Elt F) arg4.view (Rect.unit (s := S1) ![0] S1.size inb_S1_S1_0).toLoadRect (harg4.unread X4) (Shape.Idx.first (show 0 < S1.numel by decide))) hX.used_le
  have hc10 := chk10 i (View.readAt (Elt F) arg4.view (Rect.unit (s := S1) ![0] S1.size inb_S1_S1_0).toLoadRect (harg4.unread X4) (Shape.Idx.first (show 0 < S1.numel by decide))) hX.used_le
  rw [cc0_dispatch_eq_skeleton]
  unfold cc0_dispatch_skel
  rw [dif_pos h1]
  iintro ⟨Hw, Hw2, Hw3, Hw4, Hx, Hz, Ho, Hs0, Hs1, HsP, HsT, HO⟩
  ihave Hx := (lend_rows (F := F) c arg5 harg5 X5).1 $$ Hx
  icases Hx with ⟨Hx0, Hx1⟩
  ihave Ho := (parcel_take (F := F) Finset.univ (rowTgt (F := F) c X1 0) f (rowTgt_disjoint c X1 hX.rows 0) (Finset.subset_univ _)) $$ Ho
  icases Ho with ⟨Ho0, Ho⟩
  ihave Ho := (parcel_take (F := F) (Finset.univ \ Finset.univ.biUnion (rowTgt (F := F) c X1 0)) (rowTgt (F := F) c X1 1) f (rowTgt_disjoint c X1 hX.rows 1) (rows_sub c X1 hX.rows)) $$ Ho
  icases Ho with ⟨Ho1, Ho⟩
  ihave Ho := (parcel_take (F := F) _ (padTgt (F := F) c X2 X3) f (padTgt_disjoint c X1 X2 X3 hX) (pads_sub c X1 X2 X3 hX)) $$ Ho
  icases Ho with ⟨HoP, Ho⟩
  ihave Ho := (parcel_take (F := F) _ (tailTgt c (BitVec.toNat (View.readAt (Elt F) arg4.view (Rect.unit (s := S1) ![0] S1.size inb_S1_S1_0).toLoadRect (harg4.unread X4) (Shape.Idx.first (show 0 < S1.numel by decide))))) f (tailTgt_disjoint c _) (tails_sub c X1 X2 X3 hX)) $$ Ho
  icases Ho with ⟨HoT, Ho⟩
  imod (pend_start (c := c) (sm := .dma cell0) (N := rowN) (tgt := rowTgt (F := F) c X1 0) (src := rowSrc (F := F) c arg5 harg5 X5 0) (f := f) (G := G)) $$ [Hs0 Ho0 Hx0] with H0
  · isplitl [Hs0]; · iexact Hs0
    rw [needs_sep]
    isplitl [Ho0]; · iexact Ho0
    iexact Hx0
  imod (pend_start (c := c) (sm := .dma cell1) (N := rowN) (tgt := rowTgt (F := F) c X1 1) (src := rowSrc (F := F) c arg5 harg5 X5 1) (f := f) (G := G)) $$ [Hs1 Ho1 Hx1] with H1
  · isplitl [Hs1]; · iexact Hs1
    rw [needs_sep]
    isplitl [Ho1]; · iexact Ho1
    iexact Hx1
  sl_for (fun (k : ℕ) (_ : Unit) => iprop(Pend c (.dma cell0) rowN (rowTgt c X1 0) (rowSrc c arg5 harg5 X5 0) f G k ∗ Pend c (.dma cell1) rowN (rowTgt c X1 1) (rowSrc c arg5 harg5 X5 1) f G k
      ∗ (arg1.view.loc (c : Thread nD τ) ↦{fullShare} harg1.unread X1))) $$ [H0 H1 Hw]
  · intro k acc
    exact row_issue c i arg1 harg1 arg2 harg2 arg3 harg3 arg4 harg4 arg5 harg5 X1 X5 f G hX.rows.lt hG k
  · isplitl [H0]; · iexact H0
    isplitl [H1]; · iexact H1
    iexact Hw
  iintro %acc ⟨H0, H1, Hw⟩
  ihave H0 := (pend_eq trips1) $$ H0
  ihave H1 := (pend_eq trips1) $$ H1
  ihave H0 := pend_done $$ H0
  ihave H1 := pend_done $$ H1
  sl_exec
  ihave Hz := (show ((Memref.whole cc0_scratch0 (sig := sig)).view.loc (c : Thread nD τ) ↦{fullShare} _) ⊢ ((Memref.whole cc0_scratch0 (sig := sig)).view.loc (c : Thread nD τ) ↦{fullShare} zeros (F := F) c) from Entails.of_eq ?hz) $$ Hz
  case hz => exact congrArg _ (zeros_written (F := F) c _)
  ihave Hz := (lend_zeros (F := F) c X3 (BitVec.toNat (View.readAt (Elt F) arg4.view (Rect.unit (s := S1) ![0] S1.size inb_S1_S1_0).toLoadRect (harg4.unread X4) (Shape.Idx.first (show 0 < S1.numel by decide))))).1 $$ Hz
  icases Hz with ⟨⟨HzP, HxP⟩, ⟨HzT, HxT⟩⟩
  imod (pend_start (c := c) (sm := .dma cellP) (N := rowN) (tgt := padTgt (F := F) c X2 X3) (src := padSrc (F := F) c X3 fullShare.left) (f := f) (G := G)) $$ [HsP HoP HxP] with HP
  · isplitl [HsP]; · iexact HsP
    rw [needs_sep]
    isplitl [HoP]; · iexact HoP
    iexact HxP
  imod (pend_start (c := c) (sm := .dma cellT) (N := chunkN) (tgt := tailTgt c (BitVec.toNat (View.readAt (Elt F) arg4.view (Rect.unit (s := S1) ![0] S1.size inb_S1_S1_0).toLoadRect (harg4.unread X4) (Shape.Idx.first (show 0 < S1.numel by decide))))) (src := tailSrc (F := F) c fullShare.right (BitVec.toNat (View.readAt (Elt F) arg4.view (Rect.unit (s := S1) ![0] S1.size inb_S1_S1_0).toLoadRect (harg4.unread X4) (Shape.Idx.first (show 0 < S1.numel by decide))))) (f := f) (G := G)) $$ [HsT HoT HxT] with HT
  · isplitl [HsT]; · iexact HsT
    rw [needs_sep]
    isplitl [HoT]; · iexact HoT
    iexact HxT
  sl_for (fun (k : ℕ) (_ : Unit) => iprop(Pend c (.dma cellP) rowN (padTgt c X2 X3) (padSrc c X3 fullShare.left) f G (padBase X3 k) ∗ (arg2.view.loc (c : Thread nD τ) ↦{fullShare} harg2.unread X2) ∗ (arg3.view.loc (c : Thread nD τ) ↦{fullShare} harg3.unread X3))) $$ [HP Hw2 Hw3]
  · intro k acc
    exact pads_issue c i arg1 harg1 arg2 harg2 arg3 harg3 arg4 harg4 arg5 harg5 X2 X3 fullShare.left f G hX.pad_le hX.pad_len hGp h1 k
  · isplitl [HP]; · iexact HP
    isplitl [Hw2]; · iexact Hw2
    iexact Hw3
  iintro %acc2 ⟨HP, Hw2, Hw3⟩
  ihave HP := (pend_eq ((congrArg (padBase X3) trips2).trans (padBase_top X3))) $$ HP
  ihave HP := pend_done $$ HP
  sl_exec
  sl_for (fun (k : ℕ) (_ : Unit) => Pend c (.dma cellT) chunkN (tailTgt c (BitVec.toNat (View.readAt (Elt F) arg4.view (Rect.unit (s := S1) ![0] S1.size inb_S1_S1_0).toLoadRect (harg4.unread X4) (Shape.Idx.first (show 0 < S1.numel by decide))))) (tailSrc c fullShare.right (BitVec.toNat (View.readAt (Elt F) arg4.view (Rect.unit (s := S1) ![0] S1.size inb_S1_S1_0).toLoadRect (harg4.unread X4) (Shape.Idx.first (show 0 < S1.numel by decide))))) f G (8 * k)) $$ [HT]
  · intro k acc
    exact tail_issue c i arg1 harg1 arg2 harg2 arg3 harg3 arg4 harg4 arg5 harg5 fullShare.right f G (View.readAt (Elt F) arg4.view (Rect.unit (s := S1) ![0] S1.size inb_S1_S1_0).toLoadRect (harg4.unread X4) (Shape.Idx.first (show 0 < S1.numel by decide))) hX.used_le hGt h1 hc6 k
  · iexact HT
  iintro %acc3 HT
  ihave HT := (pend_eq (j' := nTail (BitVec.toNat (View.readAt (Elt F) arg4.view (Rect.unit (s := S1) ![0] S1.size inb_S1_S1_0).toLoadRect (harg4.unread X4) (Shape.Idx.first (show 0 < S1.numel by decide))))) ?h5) $$ HT
  case h5 => exact (congrArg (8 * ·) hl.2.1).trans (Nat.mul_comm _ _)
  ihave HT := pend_done $$ HT
  sl_for (fun (_ : ℕ) (_ : Unit) => iprop(emp)) $$ []
  · intro k acc; exact absurd (lt_of_lt_of_eq k.isLt hl.2.2.1) (Nat.not_lt_zero _)
  · iempintro
  iintro %acc4 -
  sl_for (fun (k : ℕ) (_ : Unit) => iprop(Flying c (.dma cellP) rowN (padTgt c X2 X3) (padSrc c X3 fullShare.left) G (nPad X3) (rowN * padBase X3 k) ∗ Owing c ∗ (arg2.view.loc (c : Thread nD τ) ↦{fullShare} harg2.unread X2) ∗ (arg3.view.loc (c : Thread nD τ) ↦{fullShare} harg3.unread X3))) $$ [HP HO Hw2 Hw3]
  · intro k acc
    exact pads_wait c i arg1 harg1 arg2 harg2 arg3 harg3 arg4 harg4 arg5 harg5 X2 X3 fullShare.left G hX.pad_le hX.pad_len h1 k
  · isplitl [HP]; · iexact HP
    isplitl [HO]; · iexact HO
    isplitl [Hw2]; · iexact Hw2
    iexact Hw3
  iintro %acc5 ⟨HP, HO, Hw2, Hw3⟩
  ihave HP := (flying_eq (congrArg (rowN * ·) ((congrArg (padBase X3) trips7).trans (padBase_top X3)))) $$ HP
  imod (collect_all c (.dma cellP) (padTgt (F := F) c X2 X3) (padSrc (F := F) c X3 fullShare.left) G rowN_pos) $$ HP with ⟨HoP, HxP, HsP⟩
  sl_exec
  sl_for (fun (k : ℕ) (_ : Unit) => iprop(Flying c (.dma cellT) chunkN (tailTgt c (BitVec.toNat (View.readAt (Elt F) arg4.view (Rect.unit (s := S1) ![0] S1.size inb_S1_S1_0).toLoadRect (harg4.unread X4) (Shape.Idx.first (show 0 < S1.numel by decide))))) (tailSrc c fullShare.right (BitVec.toNat (View.readAt (Elt F) arg4.view (Rect.unit (s := S1) ![0] S1.size inb_S1_S1_0).toLoadRect (harg4.unread X4) (Shape.Idx.first (show 0 < S1.numel by decide))))) G (nTail (BitVec.toNat (View.readAt (Elt F) arg4.view (Rect.unit (s := S1) ![0] S1.size inb_S1_S1_0).toLoadRect (harg4.unread X4) (Shape.Idx.first (show 0 < S1.numel by decide))))) (chunkN * (8 * k)) ∗ Owing c)) $$ [HT HO]
  · intro k acc
    exact tail_wait c i arg1 harg1 arg2 harg2 arg3 harg3 arg4 harg4 arg5 harg5 fullShare.right G (View.readAt (Elt F) arg4.view (Rect.unit (s := S1) ![0] S1.size inb_S1_S1_0).toLoadRect (harg4.unread X4) (Shape.Idx.first (show 0 < S1.numel by decide))) hX.used_le h1 hc10 k
  · isplitl [HT]; · iexact HT
    iexact HO
  iintro %acc6 ⟨HT, HO⟩
  ihave HT := (flying_eq (u' := chunkN * nTail (BitVec.toNat (View.readAt (Elt F) arg4.view (Rect.unit (s := S1) ![0] S1.size inb_S1_S1_0).toLoadRect (harg4.unread X4) (Shape.Idx.first (show 0 < S1.numel by decide))))) ?h10) $$ HT
  case h10 => exact congrArg (chunkN * ·) ((congrArg (8 * ·) hl.2.2.2.1).trans (Nat.mul_comm _ _))
  imod (collect_all c (.dma cellT) (tailTgt c (BitVec.toNat (View.readAt (Elt F) arg4.view (Rect.unit (s := S1) ![0] S1.size inb_S1_S1_0).toLoadRect (harg4.unread X4) (Shape.Idx.first (show 0 < S1.numel by decide))))) (tailSrc (F := F) c fullShare.right (BitVec.toNat (View.readAt (Elt F) arg4.view (Rect.unit (s := S1) ![0] S1.size inb_S1_S1_0).toLoadRect (harg4.unread X4) (Shape.Idx.first (show 0 < S1.numel by decide))))) G chunkN_pos) $$ HT with ⟨HoT, HxT, HsT⟩
  sl_for (fun (_ : ℕ) (_ : Unit) => iprop(emp)) $$ []
  · intro k acc; exact absurd (lt_of_lt_of_eq k.isLt hl.2.2.2.2) (Nat.not_lt_zero _)
  · iempintro
  iintro %acc7 -
  ihave Hz := (lend_zeros (F := F) c X3 (BitVec.toNat (View.readAt (Elt F) arg4.view (Rect.unit (s := S1) ![0] S1.size inb_S1_S1_0).toLoadRect (harg4.unread X4) (Shape.Idx.first (show 0 < S1.numel by decide))))).2 $$ [HzP HxP HzT HxT]
  · isplitl [HzP HxP]
    · isplitl [HzP]; · iexact HzP
      iexact HxP
    isplitl [HzT]; · iexact HzT
    iexact HxT
  sl_exec
  sl_for (fun (k : ℕ) (_ : Unit) => iprop(Flying c (.dma cell0) rowN (rowTgt c X1 0) (rowSrc c arg5 harg5 X5 0) G 256 (rowN * k)
      ∗ Flying c (.dma cell1) rowN (rowTgt c X1 1) (rowSrc c arg5 harg5 X5 1) G 256 (rowN * k)
      ∗ Owing c ∗ (arg1.view.loc (c : Thread nD τ) ↦{fullShare} harg1.unread X1))) $$ [H0 H1 HO Hw]
  · intro k acc
    exact row_wait c i arg1 harg1 arg2 harg2 arg3 harg3 arg4 harg4 arg5 harg5 X1 X5 G hX.rows.lt k
  · isplitl [H0]; · iexact H0
    isplitl [H1]; · iexact H1
    isplitl [HO]; · iexact HO
    iexact Hw
  iintro %acc8 ⟨H0, H1, HO, Hw⟩
  ihave H0 := (flying_eq (congrArg (rowN * ·) trips12)) $$ H0
  ihave H1 := (flying_eq (congrArg (rowN * ·) trips12)) $$ H1
  imod (collect_all c (.dma cell0) (rowTgt (F := F) c X1 0) (rowSrc (F := F) c arg5 harg5 X5 0) G rowN_pos) $$ H0 with ⟨Ho0, Hx0, Hs0⟩
  imod (collect_all c (.dma cell1) (rowTgt (F := F) c X1 1) (rowSrc (F := F) c arg5 harg5 X5 1) G rowN_pos) $$ H1 with ⟨Ho1, Hx1, Hs1⟩
  ihave Hx := (lend_rows (F := F) c arg5 harg5 X5).2 $$ [Hx0 Hx1]
  · isplitl [Hx0]; · iexact Hx0
    iexact Hx1
  ihave Ho := (parcel_give (F := F) _ (tailTgt c (BitVec.toNat (View.readAt (Elt F) arg4.view (Rect.unit (s := S1) ![0] S1.size inb_S1_S1_0).toLoadRect (harg4.unread X4) (Shape.Idx.first (show 0 < S1.numel by decide))))) f G (tailTgt_disjoint c _) (tails_sub c X1 X2 X3 hX)) $$ [HoT Ho]
  · isplitl [HoT]; · iexact HoT
    iexact Ho
  ihave Ho := (parcel_give (F := F) _ (padTgt (F := F) c X2 X3) _ G (padTgt_disjoint c X1 X2 X3 hX) (pads_sub c X1 X2 X3 hX)) $$ [HoP Ho]
  · isplitl [HoP]; · iexact HoP
    iexact Ho
  ihave Ho := (parcel_give (F := F) (Finset.univ \ Finset.univ.biUnion (rowTgt (F := F) c X1 0)) (rowTgt (F := F) c X1 1) _ G (rowTgt_disjoint c X1 hX.rows 1) (rows_sub c X1 hX.rows)) $$ [Ho1 Ho]
  · isplitl [Ho1]; · iexact Ho1
    iexact Ho
  ihave Ho := (parcel_give (F := F) Finset.univ (rowTgt (F := F) c X1 0) _ G (rowTgt_disjoint c X1 hX.rows 0) (Finset.subset_univ _)) $$ [Ho0 Ho]
  · isplitl [Ho0]; · iexact Ho0
    iexact Ho
  sl_exec
  sl_step
  isplitl [Hw]; · iexact Hw
  isplitl [Hw2]; · iexact Hw2
  isplitl [Hw3]; · iexact Hw3
  isplitl [Hw4]; · iexact Hw4
  isplitl [Hx]; · iexact Hx
  isplitl [Hz]; · iexact Hz
  isplitl [Ho]; · iexact Ho
  isplitl [Hs0]; · iexact Hs0
  isplitl [Hs1]; · iexact Hs1
  isplitl [HsP]; · iexact HsP
  isplitl [HsT]; · iexact HsT
  iexact HO

end

end Cert.Dispatch

end
-- ==== Proof.Run.lean ====
/- The launch: what each grid point leaves, and the run of the whole call. -/
module

public import proofs.«01_k».proof.Proof.BodyFirst
public import Idealize.ShloMosaic.Lib.Pipeline.FrameValue
public import Idealize.ShloMosaic.Lib.WholeRead

@[expose] public section

set_option maxRecDepth 16384

noncomputable section

namespace Cert.Dispatch

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat Cfg Window BodyObligation)

variable (m : (ℓ : Loc nD τ sig) → Buf (Elt F) ℓ) (ρ : Dev nD → PrngReg)

/-! ## The tables as the call finds them -/

/-- Block `t` of the slot table: the slots of tokens `256 t` to `256 t + 255`, two each. -/
abbrev slotBlk (c : Dev nD) (t : Fin cfg0.N) : S1x1x512.Idx → Elt F .i32 := iblk m c 0 t
abbrev point0 : Fin cfg0.N := ⟨0, by rw [show cfg0.N = 128 from N_0]; decide⟩
/-- Where each expert's pad starts, and how long it is. -/
abbrev padStarts (c : Dev nD) : S32.Idx → Elt F .i32 := iblk m c 1 point0
abbrev padLens (c : Dev nD) : S32.Idx → Elt F .i32 := iblk m c 2 point0
/-- How many blocks of 512 rows are used. -/
def used (c : Dev nD) : ℕ := BitVec.toNat ((show S1.Idx → Elt F .i32 from iblk m c 3 point0) (ix1 0))
/-- Block `t` of the tokens' rows. -/
abbrev tokBlk (c : Dev nD) (t : Fin cfg0.N) : S256x2048.Idx → Elt F .f32 := iblk m c 4 t

/-- What is asked of the tables, and the contents `G` they lay out: every row of the result is a token's slot, a
    row of a pad, or in an unused block; slots are in range and apart. -/
structure Layout (c : Dev nD) (G : Buf (Elt F) (outLoc c)) : Prop where
  first : FirstOk (F := F) (slotBlk m c point0) (padStarts m c) (padLens m c) (used m c)
  rows : ∀ t, RowsOk (F := F) (slotBlk m c t)
  val : ∀ (t : Fin cfg0.N) (b : Fin 2) (k : Fin 256) (y : S81920x2048.Idx), (y 0).val = destAt (F := F) (slotBlk m c t) b k → G y = tokBlk m c t (ix2 k (y 1))
  pad : ∀ (p : Fin (nPad (padLens m c))) (y : S81920x2048.Idx), (y 0).val = padRow (padStarts m c) (padLens m c) p → G y = zero (F := F)
  tail : ∀ y : S81920x2048.Idx, used m c * 512 ≤ (y 0).val → G y = zero (F := F)
  cover : ∀ y : S81920x2048.Idx, (∃ t b k, (y 0).val = destAt (F := F) (slotBlk m c t) b k) ∨ (∃ p, (y 0).val = padRow (padStarts m c) (padLens m c) p) ∨ used m c * 512 ≤ (y 0).val

/-- The rows of the result written once `k` grid points are done. -/
def Done (c : Dev nD) (k : ℕ) (y : S81920x2048.Idx) : Prop :=
  (∃ t : Fin cfg0.N, t.val < k ∧ ∃ b j, (y 0).val = destAt (F := F) (slotBlk m c t) b j)
    ∨ (0 < k ∧ ((∃ p, (y 0).val = padRow (padStarts m c) (padLens m c) p) ∨ used m c * 512 ≤ (y 0).val))

variable (G : (c : Dev nD) → Buf (Elt F) (outLoc c))

theorem pick {l : Loc nD τ sig} {s : Finset (Idx l)} [∀ j, Decidable (j ∈ s)] (A g : Buf (Elt F) l) (y : Idx l) (h : y ∉ s → g y = A y) :
    s.piecewise A g y = A y := by
  by_cases h0 : y ∈ s
  · exact Finset.piecewise_eq_of_mem _ _ _ h0
  · exact (Finset.piecewise_eq_of_notMem _ _ _ h0).trans (h h0)

theorem two (b : Fin 2) : b = 0 ∨ b = 1 := by
  revert b; decide

theorem done_rows (c : Dev nD) (t : Fin cfg0.N) (ht : t.val ≠ 0) (f : Buf (Elt F) (outLoc c))
    (h : ∀ y : S81920x2048.Idx, Done m c t.val y → f y = G c y) (y : S81920x2048.Idx) (hy : Done m c (t.val + 1) y) :
    afterRows (F := F) c (slotBlk m c t) (G c) f y = G c y := by
  refine pick (l := outLoc c) _ _ y fun h0 => pick (l := outLoc c) _ _ y fun h1 => ?_
  rw [mem_rowsOf] at h0 h1
  apply h
  rcases hy with ⟨t', ht', b, j, e⟩ | ⟨-, h'⟩
  · rcases Nat.lt_succ_iff_lt_or_eq.mp ht' with hlt | heq
    · exact Or.inl ⟨t', hlt, b, j, e⟩
    · have e' : (y 0).val = destAt (F := F) (slotBlk m c t) b j := (Fin.ext heq : t' = t) ▸ e
      exact (two b).elim (fun hb => absurd ⟨j, hb ▸ e'⟩ h0) (fun hb => absurd ⟨j, hb ▸ e'⟩ h1)
  · exact Or.inr ⟨Nat.pos_of_ne_zero ht, h'⟩

theorem done_first (c : Dev nD) (hL : Layout m c (G c)) (f : Buf (Elt F) (outLoc c)) (y : S81920x2048.Idx) (hy : Done m c 1 y) :
    afterFirst (F := F) c (slotBlk m c point0) (padStarts m c) (padLens m c) (G c) (used m c) f y = G c y := by
  refine pick (l := outLoc c) _ _ y fun h0 => pick (l := outLoc c) _ _ y fun h1 => pick (l := outLoc c) _ _ y fun h2 => pick (l := outLoc c) _ _ y fun h3 => ?_
  rw [mem_rowsOf] at h0 h1
  rw [mem_padsOf] at h2
  rw [mem_tailsOf c _ hL.first.used_le] at h3
  exfalso
  rcases hy with ⟨t', ht', b, j, e⟩ | ⟨-, h' | h'⟩
  · have e' : (y 0).val = destAt (F := F) (slotBlk m c point0) b j := (Fin.ext (Nat.lt_one_iff.mp ht') : t' = point0) ▸ e
    exact (two b).elim (fun hb => absurd ⟨j, hb ▸ e'⟩ h0) (fun hb => absurd ⟨j, hb ▸ e'⟩ h1)
  · exact h2 h'
  · exact h3 h'

theorem done_all (c : Dev nD) (hL : Layout m c (G c)) (y : S81920x2048.Idx) : Done m c 128 y := by
  rcases hL.cover y with ⟨t, b, k, e⟩ | h
  · exact Or.inl ⟨t, lt_of_lt_of_eq t.isLt N_0, b, k, e⟩
  · exact Or.inr ⟨by decide, h⟩

/-! ## The launch's data -/

/-- The body's four semaphore cells: one per row of a pair, the pads', the tails'. -/
abbrev osem0 : Fin 4 → SemLoc sig := fun j => (![SemLoc.dma cell0, SemLoc.dma cell1, SemLoc.dma cellP, SemLoc.dma cellT] : Fin 4 → SemLoc sig) j
theorem ownSemFacts0 : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma cell0) 0 ∗ semVal ((c : Thread nD τ), SemLoc.dma cell1) 0
          ∗ semVal ((c : Thread nD τ), SemLoc.dma cellP) 0 ∗ semVal ((c : Thread nD τ), SemLoc.dma cellT) 0) := by
  rw [Pipeline.ownSems0_eq_of_list c osem0 [0, 1, 2, 3] (by decide) (by decide)]; rfl
def H0 : Finset (Ref sig .tc) := ∅
def R0 : Finset (Ref sig .tc) := {main_v23}
theorem H0_sub : H0 ⊆ Pipeline.restRefs sig spec0 := by decide
theorem R0_sub : R0 ⊆ Pipeline.restRefs sig spec0 \ H0 := by decide

/-- The result after `k` points: equal to `G` wherever it has been written. -/
def Inv (c : Dev nD) (k : ℕ) : sProp 𝕄 :=
  iprop(∃ f : Buf (Elt F) (outLoc c), ⌜∀ y : S81920x2048.Idx, Done m c k y → f y = G c y⌝ ∗ (outLoc c ↦{fullShare} f))

def Phi (c : Dev nD) (k : ℕ) : sProp 𝕄 :=
  iprop((∃ z : Buf (Elt F) ((Memref.whole cc0_scratch0 (sig := sig)).view.loc (c : Thread nD τ)), (Memref.whole cc0_scratch0 (sig := sig)).view.loc (c : Thread nD τ) ↦{fullShare} z)
    ∗ (∃ r, prngReg c r)
    ∗ (semVal ((c : Thread nD τ), SemLoc.dma cell0) 0 ∗ semVal ((c : Thread nD τ), SemLoc.dma cell1) 0
          ∗ semVal ((c : Thread nD τ), SemLoc.dma cellP) 0 ∗ semVal ((c : Thread nD τ), SemLoc.dma cellT) 0)
    ∗ Inv m G c k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := Phi m G c t.val
  q _ := fullShare
  owed _ := 0

theorem A_eq (c : Dev nD) (w : Fin cfg0.W) : (dats m G 0 c).A w = V m c (Pipeline.arrRef spec0 w) := by
  dsimp only [dats]
theorem after0 (c : Dev nD) (t : Fin cfg0.N) : (dats m G 0 c).after 0 t = iblk m c 0 t := by dsimp only [dats]
theorem after1 (c : Dev nD) (t : Fin cfg0.N) : (dats m G 0 c).after 1 t = iblk m c 1 t := by dsimp only [dats]
theorem after2 (c : Dev nD) (t : Fin cfg0.N) : (dats m G 0 c).after 2 t = iblk m c 2 t := by dsimp only [dats]
theorem after3 (c : Dev nD) (t : Fin cfg0.N) : (dats m G 0 c).after 3 t = iblk m c 3 t := by dsimp only [dats]
theorem after4 (c : Dev nD) (t : Fin cfg0.N) : (dats m G 0 c).after 4 t = iblk m c 4 t := by dsimp only [dats]

theorem before0 (c : Dev nD) (t : Fin cfg0.N) (d) : (dats m G 0 c).before 0 t d = iblk m c 0 t :=
  ((dats m G 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m G 0 c).before 1 t d = iblk m c 1 t :=
  ((dats m G 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m G 0 c).before 2 t d = iblk m c 2 t :=
  ((dats m G 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m G 0 c).before 3 t d = iblk m c 3 t :=
  ((dats m G 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m G 0 c).before 4 t d = iblk m c 4 t :=
  ((dats m G 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-! ## One grid point -/

abbrev st0 (t : Fin cfg0.N) : Memref sig .tc .smem S1x1x512 .i32 := win0_0.stage (cfg0.slots t 0)
abbrev st1 (t : Fin cfg0.N) : Memref sig .tc .smem S32 .i32 := win0_1.stage (cfg0.slots t 1)
abbrev st2 (t : Fin cfg0.N) : Memref sig .tc .smem S32 .i32 := win0_2.stage (cfg0.slots t 2)
abbrev st3 (t : Fin cfg0.N) : Memref sig .tc .smem S1 .i32 := win0_3.stage (cfg0.slots t 3)
abbrev st4 (t : Fin cfg0.N) : Memref sig .tc .vmem S256x2048 .f32 := win0_4.stage (cfg0.slots t 4)

def bodyPre (c : Dev nD) (t : Fin cfg0.N) : sProp 𝕄 :=
  iprop((dats m G 0 c).Φ t.castSucc ∗ (dats m G 0 c).owesAt () t.castSucc
    ∗ (∃ d, owns (c : Thread nD τ) (st0 t) fullShare ((dats m G 0 c).before 0 t d))
    ∗ (∃ d, owns (c : Thread nD τ) (st1 t) fullShare ((dats m G 0 c).before 1 t d))
    ∗ (∃ d, owns (c : Thread nD τ) (st2 t) fullShare ((dats m G 0 c).before 2 t d))
    ∗ (∃ d, owns (c : Thread nD τ) (st3 t) fullShare ((dats m G 0 c).before 3 t d))
    ∗ (∃ d, owns (c : Thread nD τ) (st4 t) fullShare ((dats m G 0 c).before 4 t d)))
def bodyPost (c : Dev nD) (t : Fin cfg0.N) : sProp 𝕄 :=
  iprop((dats m G 0 c).Φ t.succ ∗ (dats m G 0 c).owesAt () t.succ
    ∗ owns (c : Thread nD τ) (st0 t) fullShare ((dats m G 0 c).after 0 t)
    ∗ owns (c : Thread nD τ) (st1 t) fullShare ((dats m G 0 c).after 1 t)
    ∗ owns (c : Thread nD τ) (st2 t) fullShare ((dats m G 0 c).after 2 t)
    ∗ owns (c : Thread nD τ) (st3 t) fullShare ((dats m G 0 c).after 3 t)
    ∗ owns (c : Thread nD τ) (st4 t) fullShare ((dats m G 0 c).after 4 t))

/-- A whole scratch operand held at contents reading `X`. -/
theorem owns_whole {sp : Space} {s : Shape} {e : EltTy} (c : Dev nD) (a : Memref sig .tc sp s e) (ha : a.IsWhole) (X : s.Idx → Elt F e) :
    (owns (c : Thread nD τ) a fullShare X : sProp 𝕄) ⊢ (a.view.loc (c : Thread nD τ) ↦{fullShare} ha.unread X) := by
  unfold owns
  iintro ⟨%g, %hg, H⟩
  obtain rfl := ha.eq_unread hg
  rw [ha.set_eq_univ]
  iexact H
theorem whole_owns {sp : Space} {s : Shape} {e : EltTy} (c : Dev nD) (a : Memref sig .tc sp s e) (ha : a.IsWhole) (X : s.Idx → Elt F e) :
    (a.view.loc (c : Thread nD τ) ↦{fullShare} ha.unread X) ⊢ (owns (c : Thread nD τ) a fullShare X : sProp 𝕄) := by
  unfold owns
  iintro H
  iexists _
  isplitr
  · ipureintro; exact ha.read_unread X
  rw [ha.set_eq_univ]
  iexact H
theorem owns_set {sp : Space} {s : Shape} {e : EltTy} (c : Dev nD) (a : Memref sig .tc sp s e) (ha : a.IsWhole) (X : s.Idx → Elt F e) :
    (owns (c : Thread nD τ) a fullShare X : sProp 𝕄) ⊢ (a.view.loc (c : Thread nD τ) ↦[a.view.set]{fullShare} ha.unread X) := by
  unfold owns
  iintro ⟨%g, %hg, H⟩
  obtain rfl := ha.eq_unread hg
  iexact H
theorem set_owns {sp : Space} {s : Shape} {e : EltTy} (c : Dev nD) (a : Memref sig .tc sp s e) (ha : a.IsWhole) (X : s.Idx → Elt F e) :
    (a.view.loc (c : Thread nD τ) ↦[a.view.set]{fullShare} ha.unread X) ⊢ (owns (c : Thread nD τ) a fullShare X : sProp 𝕄) := by
  unfold owns
  iintro H
  iexists _
  isplitr
  · ipureintro; exact ha.read_unread X
  iexact H

/-- The guard of the zero fills holds at the first grid point and no other. -/
theorem first_iff : ∀ t : Fin cfg0.N, k0_cond1 (grid0.coords t) = 1#1 ↔ t.val = 0 := by decide +kernel

/-- The word the body reads is the used-block count. -/
theorem used_word (c : Dev nD) (a : Memref sig .tc .smem S1 .i32) (ha : a.IsWhole) :
    BitVec.toNat (View.readAt (Elt F) a.view (Rect.unit (s := S1) ![0] S1.size inb_S1_S1_0).toLoadRect (ha.unread (iblk m c 3 point0)) (Shape.Idx.first (show 0 < S1.numel by decide))) = used m c := by
  rw [ha.readAt_unread]
  unfold used
  congr 2
  funext j
  apply Fin.ext
  match j with
  | ⟨0, _⟩ => rfl

theorem sound_rest (hL : ∀ c, Layout m c (G c)) (c : Dev nD) (t : Fin cfg0.N) (ht : t.val ≠ 0) :
    bodyPre m G c t ⊢ wp frame (wpE (defs₀ (F := F)) Variants.none c none) Set.univ (bodyAt0 t) (fun _ => bodyPost m G c t) := by
  have hc : ¬ k0_cond1 (grid0.coords t) = 1#1 := fun h => ht ((first_iff t).mp h)
  unfold bodyPre bodyPost bodyAt0
  rw [show (dats m G 0 c).Φ t.succ = Phi m G c (t.val + 1) from rfl, show (dats m G 0 c).Φ t.castSucc = Phi m G c t.val from rfl]
  simp only [before0, before1, before2, before3, before4, after0, after1, after2, after3, after4]
  unfold Dat.owesAt Pipeline.owesWithin Phi Inv
  rw [show (dats m G 0 c).owed t.castSucc = 0 from rfl, show (dats m G 0 c).owed t.succ = 0 from rfl]
  iintro ⟨⟨Hz, Hg, ⟨Hs0, Hs1, HsP, HsT⟩, ⟨%f, %hf, Ho⟩⟩, ⟨%W, -, HW⟩, ⟨%d0, H0⟩, ⟨%d1, H1⟩, ⟨%d2, H2⟩, ⟨%d3, H3⟩, ⟨%d4, H4⟩⟩
  ihave H0 := (owns_whole (F := F) c (st0 t) (hstage0_0 ((cfg0.slots t 0).cast nbuf0_0)) (slotBlk m c t)) $$ H0
  ihave H4 := (owns_set (F := F) c (st4 t) (hstage0_4 ((cfg0.slots t 4).cast nbuf0_4)) (tokBlk m c t)) $$ H4
  have hb := body_rest (F := F) c (grid0.coords t) (st0 t) (hstage0_0 ((cfg0.slots t 0).cast nbuf0_0)) (st1 t) (hstage0_1 ((cfg0.slots t 1).cast nbuf0_1)) (st2 t) (hstage0_2 ((cfg0.slots t 2).cast nbuf0_2)) (st3 t) (hstage0_3 ((cfg0.slots t 3).cast nbuf0_3)) (st4 t) (hstage0_4 ((cfg0.slots t 4).cast nbuf0_4))
    (slotBlk m c t) (tokBlk m c t) f (G c) ((hL c).rows t) ((hL c).val t) hc
  iapply (wp_wand_r frame _ Set.univ)
  isplitl [H0 H4 Ho Hs0 Hs1 HW]
  · iapply hb
    isplitl [H0]; · iexact H0
    isplitl [H4]; · iexact H4
    isplitl [Ho]; · iexact Ho
    isplitl [Hs0]; · iexact Hs0
    isplitl [Hs1]; · iexact Hs1
    unfold Owing
    iexists W; iexact HW
  iintro %_ ⟨H0, H4, Ho, Hs0, Hs1, HW⟩
  isplitl [Hz Hg Hs0 Hs1 HsP HsT Ho]
  · isplitl [Hz]; · iexact Hz
    isplitl [Hg]; · iexact Hg
    isplitl [Hs0 Hs1 HsP HsT]
    · isplitl [Hs0]; · iexact Hs0
      isplitl [Hs1]; · iexact Hs1
      isplitl [HsP]; · iexact HsP
      iexact HsT
    iexists _
    isplitr
    swap; · iexact Ho
    ipureintro
    exact fun y hy => done_rows m G c t ht f hf y hy
  isplitl [HW]
  · unfold Owing
    icases HW with ⟨%W', HW⟩
    iexists W'; isplitr; · ipureintro; exact fun _ _ => Or.inl trivial
    iexact HW
  isplitl [H0]; · iapply (whole_owns (F := F) c (st0 t) (hstage0_0 ((cfg0.slots t 0).cast nbuf0_0)) (slotBlk m c t)) $$ H0
  isplitl [H1]; · iexact H1
  isplitl [H2]; · iexact H2
  isplitl [H3]; · iexact H3
  iapply (set_owns (F := F) c (st4 t) (hstage0_4 ((cfg0.slots t 4).cast nbuf0_4)) (tokBlk m c t)) $$ H4

theorem sound_first (hL : ∀ c, Layout m c (G c)) (c : Dev nD) :
    bodyPre m G c point0 ⊢ wp frame (wpE (defs₀ (F := F)) Variants.none c none) Set.univ (bodyAt0 point0) (fun _ => bodyPost m G c point0) := by
  have hc : k0_cond1 (grid0.coords point0) = 1#1 := (first_iff point0).mpr rfl
  unfold bodyPre bodyPost bodyAt0
  rw [show (dats m G 0 c).Φ point0.succ = Phi m G c 1 from rfl, show (dats m G 0 c).Φ point0.castSucc = Phi m G c 0 from rfl]
  simp only [before0, before1, before2, before3, before4, after0, after1, after2, after3, after4]
  unfold Dat.owesAt Pipeline.owesWithin Phi Inv
  rw [show (dats m G 0 c).owed point0.castSucc = 0 from rfl, show (dats m G 0 c).owed point0.succ = 0 from rfl]
  iintro ⟨⟨⟨%z, Hz⟩, Hg, ⟨Hs0, Hs1, HsP, HsT⟩, ⟨%f, %hf, Ho⟩⟩, ⟨%W, -, HW⟩, ⟨%d0, H0⟩, ⟨%d1, H1⟩, ⟨%d2, H2⟩, ⟨%d3, H3⟩, ⟨%d4, H4⟩⟩
  ihave H0 := (owns_whole (F := F) c (st0 point0) (hstage0_0 ((cfg0.slots point0 0).cast nbuf0_0)) (slotBlk m c point0)) $$ H0
  ihave H1 := (owns_whole (F := F) c (st1 point0) (hstage0_1 ((cfg0.slots point0 1).cast nbuf0_1)) (padStarts m c)) $$ H1
  ihave H2 := (owns_whole (F := F) c (st2 point0) (hstage0_2 ((cfg0.slots point0 2).cast nbuf0_2)) (padLens m c)) $$ H2
  ihave H3 := (owns_whole (F := F) c (st3 point0) (hstage0_3 ((cfg0.slots point0 3).cast nbuf0_3)) (iblk m c 3 point0)) $$ H3
  ihave H4 := (owns_set (F := F) c (st4 point0) (hstage0_4 ((cfg0.slots point0 4).cast nbuf0_4)) (tokBlk m c point0)) $$ H4
  have hw := used_word (F := F) m c (st3 point0) (hstage0_3 ((cfg0.slots point0 3).cast nbuf0_3))
  have hb := body_first (F := F) c (grid0.coords point0) (st0 point0) (hstage0_0 ((cfg0.slots point0 0).cast nbuf0_0)) (st1 point0) (hstage0_1 ((cfg0.slots point0 1).cast nbuf0_1)) (st2 point0) (hstage0_2 ((cfg0.slots point0 2).cast nbuf0_2)) (st3 point0) (hstage0_3 ((cfg0.slots point0 3).cast nbuf0_3)) (st4 point0) (hstage0_4 ((cfg0.slots point0 4).cast nbuf0_4))
    (slotBlk m c point0) (padStarts m c) (padLens m c) (iblk m c 3 point0) (tokBlk m c point0) f (G c) (by rw [hw]; exact (hL c).first) ((hL c).val point0) ((hL c).pad) (by rw [hw]; exact (hL c).tail) hc z
  rw [hw] at hb
  iapply (wp_wand_r frame _ Set.univ)
  isplitl [H0 H1 H2 H3 H4 Hz Ho Hs0 Hs1 HsP HsT HW]
  · iapply hb
    isplitl [H0]; · iexact H0
    isplitl [H1]; · iexact H1
    isplitl [H2]; · iexact H2
    isplitl [H3]; · iexact H3
    isplitl [H4]; · iexact H4
    isplitl [Hz]; · iexact Hz
    isplitl [Ho]; · iexact Ho
    isplitl [Hs0]; · iexact Hs0
    isplitl [Hs1]; · iexact Hs1
    isplitl [HsP]; · iexact HsP
    isplitl [HsT]; · iexact HsT
    unfold Owing
    iexists W; iexact HW
  iintro %_ ⟨H0, H1, H2, H3, H4, Hz, Ho, Hs0, Hs1, HsP, HsT, HW⟩
  isplitl [Hz Hg Hs0 Hs1 HsP HsT Ho]
  · isplitl [Hz]; · iexists _; iexact Hz
    isplitl [Hg]; · iexact Hg
    isplitl [Hs0 Hs1 HsP HsT]
    · isplitl [Hs0]; · iexact Hs0
      isplitl [Hs1]; · iexact Hs1
      isplitl [HsP]; · iexact HsP
      iexact HsT
    iexists _
    isplitr
    swap; · iexact Ho
    ipureintro
    exact fun y hy => done_first m G c (hL c) f y hy
  isplitl [HW]
  · unfold Owing
    icases HW with ⟨%W', HW⟩
    iexists W'; isplitr; · ipureintro; exact fun _ _ => Or.inl trivial
    iexact HW
  isplitl [H0]; · iapply (whole_owns (F := F) c (st0 point0) (hstage0_0 ((cfg0.slots point0 0).cast nbuf0_0)) (slotBlk m c point0)) $$ H0
  isplitl [H1]; · iapply (whole_owns (F := F) c (st1 point0) (hstage0_1 ((cfg0.slots point0 1).cast nbuf0_1)) (padStarts m c)) $$ H1
  isplitl [H2]; · iapply (whole_owns (F := F) c (st2 point0) (hstage0_2 ((cfg0.slots point0 2).cast nbuf0_2)) (padLens m c)) $$ H2
  isplitl [H3]; · iapply (whole_owns (F := F) c (st3 point0) (hstage0_3 ((cfg0.slots point0 3).cast nbuf0_3)) (iblk m c 3 point0)) $$ H3
  iapply (set_owns (F := F) c (st4 point0) (hstage0_4 ((cfg0.slots point0 4).cast nbuf0_4)) (tokBlk m c point0)) $$ H4

theorem sound_body (hL : ∀ c, Layout m c (G c)) (c : Dev nD) (t : Fin cfg0.N) :
    bodyPre m G c t ⊢ wp frame (wpE (defs₀ (F := F)) Variants.none c none) Set.univ (bodyAt0 t) (fun _ => bodyPost m G c t) := by
  by_cases ht : t.val = 0
  · obtain rfl : t = point0 := Fin.ext ht
    exact sound_first m G hL c
  · exact sound_rest m G hL c t ht

theorem defs₀_row (t : Fin cfg0.N) :
    defs₀ (F := F) .tc cfg0.body (cfg0.bodyArgs t (cfg0.slots t)) = bodyAt0 t := by
  unfold defs₀; rw [Defs.onTc_tc]

theorem body_obligation (hL : ∀ c, Layout m c (G c)) (c : Dev nD) : BodyObligation (dats (F := F) m G 0 c) (defs₀ (F := F)) Variants.none () Set.univ := fun t => by
  rw [bigSep_W0, bigSep_W0, defs₀_row]
  exact triple_restated (sound_body m G hL c t) rfl .rfl fun _ => .rfl

/-! ## The run -/

/-- The buffers at the end: the result at `G`, the others as the call found them. -/
def ends (c : Dev nD) : (b : Ref sig .tc) → Buf (Elt F) ((c : Thread nD τ).loc b) := Function.update (V m c) main_v23 (G c)

theorem ends_out (c : Dev nD) : ends m G c main_v23 = G c := Function.update_self _ _ _

theorem enters (c : Dev nD) : (Pipeline.ΦDRG osem0 spec0 H0 R0 (V m) (V m) c : sProp 𝕄) ⊢ (dats m G 0 c).Φ 0 := by
  rw [show (dats m G 0 c).Φ 0 = Phi m G c 0 from rfl, Pipeline.ΦDRG_eq, scopedRest0_eq, ownSems_eq]
  unfold Phi Inv R0
  rw [Pipeline.routed_singleton]
  iintro ⟨Hz, Hg, Hs, -, Ho⟩
  isplitl [Hz]; · iexact Hz
  isplitl [Hg]; · iexact Hg
  isplitl [Hs]; · iexact Hs
  iexists _
  isplitr
  swap; · iexact Ho
  ipureintro
  rintro y (⟨t, ht, -⟩ | ⟨h, -⟩)
  · exact absurd ht (Nat.not_lt_zero _)
  · exact absurd h (Nat.lt_irrefl _)

theorem leaves (hL : ∀ c, Layout m c (G c)) (c : Dev nD) : (dats m G 0 c).Φ (Fin.last cfg0.N) ⊢ (Pipeline.ΦDRG osem0 spec0 H0 R0 (V m) (ends m G) c : sProp 𝕄) := by
  rw [show (dats m G 0 c).Φ (Fin.last cfg0.N) = Phi m G c 128 from rfl, Pipeline.ΦDRG_eq, scopedRest0_eq, ownSems_eq]
  unfold Phi Inv R0
  rw [Pipeline.routed_singleton, ends_out]
  iintro ⟨Hz, Hg, Hs, ⟨%f, %hf, Ho⟩⟩
  obtain rfl : f = G c := funext fun y => hf y (done_all m G c (hL c) y)
  isplitl [Hz]; · iexact Hz
  isplitl [Hg]; · iexact Hg
  isplitl [Hs]; · iexact Hs
  isplitr
  · unfold H0; rw [bigSep_empty]; iempintro
  iexact Ho

theorem enters_main : Pipeline.HMain (Ix := Unit) (Name := ℕ) (U := Pipeline.UD sig nD τ) (Lvl := ℕ) cfgs 0 defs₀ Variants.none m (main (F := F)) (V m) :=
  Pipeline.hmain_prefixes cfgs 0 defs₀ Variants.none m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

set_option backward.isDefEq.respectTransparency.types false in
theorem run_main (hL : ∀ c, Layout m c (G c)) : θ_run defs (onTc (τ := τ) (main (F := F))) (s₀ m ρ)
    (fun r => Pipeline.FramePostRG cfgs (dats m G) 0 R0 (V m) (ends m G) r ∧ r.2.sem = fun _ => 0) :=
  Pipeline.θ_run_frame_dmaRG (Q' := _) cfgs (dats m G) (0 : Fin 1) launch0 osem0 defs₀ Variants.none ownSemFacts0 H0 R0 H0_sub R0_sub m ρ main
    (hbody := fun c => (body_obligation m G hL c).loose) (hshare := fun c => (dats m G 0 c).share_full fun _ => rfl)
    (howed := fun _ _ => rfl) (V := V m) (hmain := enters_main m) (hA := A_eq m G) (G := ends m G)
    (hin := enters m G) (hout := leaves m G hL)

/-- THE RUN: the result ends at `G`, the arguments as launched, every semaphore at zero. -/
theorem run_all (hL : ∀ c, Layout m c (G c)) : θ_run defs (onTc (τ := τ) (main (F := F))) ⟨m, fun _ => 0, ρ⟩ (fun r => (∀ c : Dev nD,
      r.2.mem ((c.tc : Thread nD τ).loc main_v23) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1.written c (Finset.mem_singleton_self _)).trans (ends_out m G c),
    ((h.1.toR c).1 4).trans (((dats m G 0 c).arrAt_in 4 rfl _).trans ((A_eq m G c 4).trans (V_main_arg0 m c))),
    ((h.1.toR c).2 main_arg1 (Finset.mem_sdiff.mpr ⟨Pipeline.mem_restRefs_of main_arg1 (by decide) (by decide), by decide⟩)).trans (V_main_arg1 m c),
    ((h.1.toR c).2 main_arg2 (Finset.mem_sdiff.mpr ⟨Pipeline.mem_restRefs_of main_arg2 (by decide) (by decide), by decide⟩)).trans (V_main_arg2 m c),
    ((h.1.toR c).2 main_arg3 (Finset.mem_sdiff.mpr ⟨Pipeline.mem_restRefs_of main_arg3 (by decide) (by decide), by decide⟩)).trans (V_main_arg3 m c)⟩, h.2⟩) (run_main m ρ G hL)

end Cert.Dispatch

end
-- ==== Proof.Slots.lean ====
/- The layout of the slots, in natural numbers: which choice takes which slot, which slots are padding, and that the
   three kinds of slot (a choice's, an expert's padding, an unused block) are apart and leave nothing out. -/
module

public import Mathlib.Data.Nat.Count
public import Mathlib.Algebra.BigOperators.Intervals
public import Mathlib.Algebra.Order.BigOperators.Group.Finset
public import Mathlib.Tactic.Linarith

@[expose] public section

namespace Cert.Slots

-- choice `m` (there are 65536) names expert `E m`
variable (E : ℕ → ℕ)

/-- How many choices name expert `e`. -/
def number (e : ℕ) : ℕ := Nat.count (fun m => E m = e) 65536
/-- How many earlier choices name the expert that choice `m` names. -/
def rank (m : ℕ) : ℕ := Nat.count (fun k => E k = E m) m
/-- The rows of expert `e`: its choices, rounded up to whole blocks of 512. -/
def padded (e : ℕ) : ℕ := (number E e + 511) / 512 * 512
/-- The first row of expert `e`. -/
def start (e : ℕ) : ℕ := ∑ i ∈ Finset.range e, padded E i
/-- The row of choice `m`. -/
def slot (m : ℕ) : ℕ := start E (E m) + rank E m
/-- The rows in use. -/
def rows : ℕ := start E 32

theorem start_succ (e : ℕ) : start E (e + 1) = start E e + padded E e := Finset.sum_range_succ _ _

theorem number_le (e : ℕ) : number E e ≤ padded E e := by unfold padded; omega
theorem padded_lt (e : ℕ) : padded E e < number E e + 512 := by unfold padded; omega
theorem number_le_all (e : ℕ) : number E e ≤ 65536 := Nat.count_le _

theorem start_mono {e e' : ℕ} (h : e ≤ e') : start E e ≤ start E e' :=
  Finset.sum_le_sum_of_subset (Finset.range_mono h)

theorem start_dvd (e : ℕ) : 512 ∣ start E e := by
  induction e with
  | zero => exact ⟨0, by simp [start]⟩
  | succ n ih =>
    rw [start_succ]
    exact (Nat.dvd_add_right ih).2 (by unfold padded; exact Dvd.intro_left _ rfl)

theorem start_le (e : ℕ) (he : e < 32) : start E e + padded E e ≤ rows E := by
  rw [← start_succ]; exact start_mono E (by omega)

theorem rank_lt {m : ℕ} (hm : m < 65536) : rank E m < number E (E m) :=
  Nat.count_strict_mono (p := fun k => E k = E m) rfl hm

theorem sum_count (n : ℕ) (hE : ∀ m < n, E m < 32) : ∑ e ∈ Finset.range 32, Nat.count (fun m => E m = e) n = n := by
  have h := Finset.card_eq_sum_card_fiberwise (f := E) (s := Finset.range n) (t := Finset.range 32)
    (fun m hm => Finset.mem_coe.2 (Finset.mem_range.2 (hE m (Finset.mem_range.1 (Finset.mem_coe.1 hm)))))
  rw [Finset.card_range] at h
  exact (Finset.sum_congr rfl fun e _ => Nat.count_eq_card_filter_range _ _).trans h.symm

theorem sum_number (hE : ∀ m < 65536, E m < 32) : ∑ e ∈ Finset.range 32, number E e = 65536 := sum_count E 65536 hE

theorem start_bound (e : ℕ) : start E e ≤ (∑ i ∈ Finset.range e, number E i) + 511 * e := by
  induction e with
  | zero => exact Nat.zero_le _
  | succ n ih =>
    rw [start_succ, Finset.sum_range_succ]
    have := padded_lt E n
    omega

theorem rows_le (hE : ∀ m < 65536, E m < 32) : rows E ≤ 81888 := by
  have h := start_bound E 32
  rw [sum_number E hE] at h
  exact h

/-- A row below the rows in use is in one expert's rows. -/
theorem find (y : ℕ) : ∀ n, y < start E n → ∃ e < n, start E e ≤ y ∧ y < start E e + padded E e := by
  intro n
  induction n with
  | zero => intro h; exact absurd h (by simp [start])
  | succ n ih =>
    intro h
    by_cases h' : y < start E n
    · obtain ⟨e, he, h1⟩ := ih h'; exact ⟨e, by omega, h1⟩
    · exact ⟨n, by omega, by omega, by rw [← start_succ]; exact h⟩

/-- Rows of different experts are apart. -/
theorem apart {e e' y : ℕ} (h : start E e ≤ y ∧ y < start E e + padded E e) (h' : start E e' ≤ y ∧ y < start E e' + padded E e') : e = e' := by
  rw [← start_succ] at h h'
  rcases Nat.lt_trichotomy e e' with g | g | g
  · have := start_mono E (show e + 1 ≤ e' by omega); omega
  · exact g
  · have := start_mono E (show e' + 1 ≤ e by omega); omega

theorem slot_mem {m : ℕ} (hm : m < 65536) : start E (E m) ≤ slot E m ∧ slot E m < start E (E m) + number E (E m) := by
  have := rank_lt E hm; unfold slot; omega

theorem slot_lt {m : ℕ} (hE : ∀ m < 65536, E m < 32) (hm : m < 65536) : slot E m < rows E := by
  have := slot_mem E hm; have := number_le E (E m); have := start_le E (E m) (hE m hm); omega

/-- Two choices have different slots. -/
theorem slot_inj {m m' : ℕ} (hm : m < 65536) (hm' : m' < 65536) (h : slot E m = slot E m') : m = m' := by
  have h1 := slot_mem E hm; have h2 := slot_mem E hm'
  have n1 := number_le E (E m); have n2 := number_le E (E m')
  have he : E m = E m' := apart E (y := slot E m) ⟨h1.1, by omega⟩ ⟨by omega, by omega⟩
  have hr : rank E m = rank E m' := by unfold slot at h; rw [he] at h; omega
  unfold rank at hr
  rw [he] at hr
  exact Nat.count_injective (p := fun k => E k = E m') he rfl hr

theorem exists_count (p : ℕ → Prop) [DecidablePred p] (r : ℕ) : ∀ n, r < Nat.count p n → ∃ m < n, p m ∧ Nat.count p m = r := by
  intro n
  induction n with
  | zero => intro h; simp at h
  | succ n ih =>
    intro h
    by_cases h' : r < Nat.count p n
    · obtain ⟨m, hm, h1⟩ := ih h'; exact ⟨m, by omega, h1⟩
    · rw [Nat.count_succ] at h
      by_cases hp : p n
      · rw [if_pos hp] at h; exact ⟨n, by omega, hp, by omega⟩
      · rw [if_neg hp] at h; omega

/-- Every one of an expert's first `number` rows is a choice's slot. -/
theorem slot_onto {e r : ℕ} (hr : r < number E e) : ∃ m < 65536, E m = e ∧ slot E m = start E e + r := by
  obtain ⟨m, hm, he, hc⟩ := exists_count (fun m => E m = e) r 65536 hr
  refine ⟨m, hm, he, ?_⟩
  unfold slot rank
  rw [he, hc]

/-- Row `start e + number e + j`, `j` below the padding, is no choice's. -/
theorem pad_ne {m e j : ℕ} (hm : m < 65536) (hj : j < padded E e - number E e) : slot E m ≠ start E e + number E e + j := by
  intro h
  have h1 := slot_mem E hm; have n1 := number_le E (E m); have n2 := number_le E e
  have he : E m = e := apart E (y := slot E m) ⟨h1.1, by omega⟩ ⟨by omega, by omega⟩
  rw [he] at h1
  omega

theorem pad_inj {e e' j j' : ℕ} (hj : j < padded E e - number E e) (hj' : j' < padded E e' - number E e')
    (h : start E e + number E e + j = start E e' + number E e' + j') : e = e' ∧ j = j' := by
  have he : e = e' := apart E (y := start E e + number E e + j) ⟨by omega, by omega⟩ ⟨by omega, by omega⟩
  subst he
  exact ⟨rfl, by omega⟩

/-- Every row is a choice's, an expert's padding, or past the rows in use. -/
theorem cover (y : ℕ) : (∃ m < 65536, slot E m = y) ∨ (∃ e < 32, ∃ j < padded E e - number E e, y = start E e + number E e + j) ∨ rows E ≤ y := by
  by_cases h : y < rows E
  · obtain ⟨e, he, h1, h2⟩ := find E y 32 h
    by_cases hr : y - start E e < number E e
    · obtain ⟨m, hm, -, hs⟩ := slot_onto E hr
      exact .inl ⟨m, hm, by omega⟩
    · exact .inr (.inl ⟨e, he, y - start E e - number E e, by omega, by omega⟩)
  · exact .inr (.inr (by omega))

/-- The rank, counted over all the choices. -/
theorem count_before (m n : ℕ) (h : m ≤ n) : Nat.count (fun k => E k = E m ∧ k < m) n = rank E m := by
  obtain ⟨d, rfl⟩ := Nat.exists_eq_add_of_le h
  rw [Nat.count_add]
  have h1 : Nat.count (fun k => E (m + k) = E m ∧ m + k < m) d = 0 := by
    rw [Nat.count_eq_card_filter_range, Finset.card_eq_zero, Finset.filter_eq_empty_iff]
    intro k _ hk; omega
  have h2 : ∀ j ≤ m, Nat.count (fun k => E k = E m ∧ k < m) j = Nat.count (fun k => E k = E m) j := by
    intro j
    induction j with
    | zero => intro _; rfl
    | succ j ih =>
      intro hj
      rw [Nat.count_succ, Nat.count_succ, ih (by omega)]
      have : (E j = E m ∧ j < m) ↔ E j = E m := ⟨And.left, fun h => ⟨h, by omega⟩⟩
      simp only [this]
  rw [h1, h2 m le_rfl, Nat.add_zero]
  rfl

end Cert.Slots
-- ==== Proof.HostWords.lean ====
/- The index arithmetic of the host, as words: what each array of it holds at an index, in the natural numbers of
   `Slots`. The kernel's host code and the reference compute these arrays by the same operations. -/
module

public import proofs.«01_k».proof.Proof.Slots
public import Idealize.ShloMosaic.Lib.Routing.Words
public import Idealize.ShloMosaic.Lib.Routing.Ops
public import Idealize.ShloMosaic.Lib.Routing.OpsSet

@[expose] public section

noncomputable section

namespace Cert.HostWords

open Idealize.ShloMosaic Idealize.ShloMosaic.ValueIdx Idealize.ShloMosaic.Routing Idealize.ShloMosaic.WordCmp Cert.Slots

abbrev Row : Shape := shape1 32

section Tables
variable (bS : shape0.BroadcastsInDim Row (![] : Fin 0 → Fin Row.rank))
  (b0 : shape0.BroadcastsInDim shape0 (![] : Fin 0 → Fin shape0.rank))
  (hw : Row.ReduceWindows (![32] : Fin 1 → Nat) ![1] ![31] ![0] Row) (hu : 0 < shape0.numel)

/-- Each expert's rows: its count rounded up to whole blocks. -/
def paddedV (n : IVec Row 32) : IVec Row 32 :=
  muli (pyDiv bS (subi (addi n (broadcastInDim Row ![] bS (constantI shape0 32 512#32))) (broadcastInDim Row ![] bS (constantI shape0 32 1#32))) (constantI shape0 32 512#32))
    (broadcastInDim Row ![] bS (constantI shape0 32 512#32))
/-- Where each expert's rows end. -/
def endsV (n : IVec Row 32) : IVec Row 32 :=
  Host.reduceWindow IntOp.addi ![32] ![1] ![31] ![0] (paddedV bS n) (broadcastInDim shape0 ![] b0 (constantI shape0 32 0#32)) hw hu
/-- Where they start. -/
def startsV (n : IVec Row 32) : IVec Row 32 := subi (endsV bS b0 hw hu n) (paddedV bS n)

variable (E : ℕ → ℕ) (n : IVec Row 32) (hn : ∀ e : Fin 32, n (ix1 e) = BitVec.ofNat 32 (number E e.val))
include hn

theorem paddedV_ap (e : Fin 32) : paddedV bS n (ix1 e) = BitVec.ofNat 32 (padded E e.val) := by
  have hle := number_le_all E e.val
  have h1 : subi (addi n (broadcastInDim Row ![] bS (constantI shape0 32 512#32))) (broadcastInDim Row ![] bS (constantI shape0 32 1#32)) (ix1 e)
      = BitVec.ofNat 32 (number E e.val + 511) := by
    rw [subi_ap, addi_ap, bc0, bc0, hn]
    show BitVec.ofNat 32 _ + BitVec.ofNat 32 512 - BitVec.ofNat 32 1 = _
    rw [BitVec.ofNat_add_ofNat, ofNat32_sub (by omega)]
    rfl
  unfold paddedV
  rw [muli_ap, pyDiv_ap bS _ _ _ h1 (b := 512) rfl (by omega) (by decide) (by decide), bc0]
  show BitVec.ofNat 32 _ * BitVec.ofNat 32 512 = _
  rw [BitVec.ofNat_mul_ofNat]; unfold padded; rfl

theorem endsV_ap (e : Fin 32) : endsV bS b0 hw hu n (ix1 e) = BitVec.ofNat 32 (start E (e.val + 1)) := by
  unfold endsV
  rw [cumsum1 (Nm1 := 31) rfl _ (padded E) (paddedV_ap bS E n hn) _ (by rw [bc0]; rfl) hw hu e]
  rfl

theorem startsV_ap (e : Fin 32) : startsV bS b0 hw hu n (ix1 e) = BitVec.ofNat 32 (start E e.val) := by
  unfold startsV
  rw [subi_ap, endsV_ap bS b0 hw hu E n hn, paddedV_ap bS E n hn, start_succ, ofNat32_sub (by omega), Nat.add_sub_cancel]

end Tables

/-- A word below 2³¹ is not negative, so wrapping a negative index round leaves it. -/
theorem wrap_ap {s : Shape} (x lo hi : IVec s 32) (i : s.Idx) {a : ℕ} (hx : x i = BitVec.ofNat 32 a) (ha : a < 2 ^ 31) (hlo : lo i = 0#32) :
    select (cmpi .slt x lo) (addi x hi) x i = BitVec.ofNat 32 a := by
  show Scalar.select (IntOp.cmpi .slt (x i) (lo i)) (addi x hi i) (x i) = _
  rw [hx, hlo, show (0#32 : BitVec 32) = BitVec.ofNat 32 0 from rfl, cmpi_slt_ofNat (w := 32) ha (by decide)]
  simp only [Nat.not_lt_zero, decide_false]
  rfl

/-- A look-up in a vector of 32 by a `[n, m, 1]` array of indices: entry `(p, q)` is the vector's entry of index `(p, q, 0)`. -/
theorem gather_pair {α : Type} {N n m : ℕ} (d : GatherDims (shape1 N) (shape3 n m 1) (shape2 n m)) (hoff : d.offsetDims = [])
    (hcoll : d.collapsedSliceDims = [0]) (hob : d.operandBatchingDims = []) (hsim : d.startIndexMap = [0]) (hivd : d.indexVectorDim = 2)
    (x : (shape1 N).Idx → α) (idx : IVec (shape3 n m 1) 32) (p : Fin n) (q : Fin m) (b : Fin N)
    (hb : idx (ix3 p q (0 : Fin 1)) = BitVec.ofNat 32 b.val) (hN : N < 2 ^ 31) :
    Host.gather d x idx (ix2 p q) = x (ix1 b) := by
  unfold Host.gather
  refine congrArg x (funext fun a => Fin.ext ?_)
  have hbN : ∀ a', a' ∉ d.operandBatchingDims := fun a' => by rw [hob]; exact List.not_mem_nil
  match a with
  | ⟨0, _⟩ =>
    have hk : (0 : Fin 1) ∉ d.sKept := fun h => ((d.mem_sKept 0).1 h).1 (by rw [hcoll]; exact List.mem_singleton.2 rfl)
    have hm : (0 : Fin 1) ∈ d.startIndexMap := by rw [hsim]; exact List.mem_singleton.2 rfl
    have hsl : d.sliceSizes 0 = 1 := d.slice_collapsed 0 (by rw [hcoll]; exact List.mem_singleton.2 rfl)
    show d.start (ix2 p q) idx 0 + d.batchCoord (ix2 p q) 0 + d.offCoord (ix2 p q) 0 = b.val
    rw [d.batchCoord_eq_zero _ _ (hbN 0), d.offCoord_eq_zero _ _ hk]
    simp only [Nat.add_zero]
    unfold GatherDims.start
    rw [dif_pos hm]
    have hkept : d.siKept = [0, 1] := by unfold GatherDims.siKept; rw [hivd]; rfl
    have hbatch : d.batchDims = [0, 1] := by unfold GatherDims.batchDims; rw [hoff]; rfl
    have hget : ∀ (i : ℕ) (hi : i < d.batchDims.length) (X : Fin 2), X.val = i → d.batchDims[i] = X := fun i hi X hX => by
      subst hX
      have h2 : ∀ Y : Fin 2, ([0, 1] : List (Fin 2))[Y.val]'Y.isLt = Y := by decide
      simp only [hbatch]
      exact h2 X
    have hsi : d.siIdx (ix2 p q) ⟨d.startIndexMap.idxOf 0, List.idxOf_lt_length_iff.2 hm⟩ = ix3 p q (0 : Fin 1) := by
      funext b'
      apply Fin.ext
      match b' with
      | ⟨0, _⟩ =>
        unfold GatherDims.siIdx
        rw [dif_neg (by rw [hivd]; show ¬ (_ : ℕ) = 2; simp)]
        unfold GatherDims.siCoord
        simp only [Fin.val_cast]
        have e : ∀ X : Fin 2, X = 0 → (ix2 p q X).val = p.val := fun X h => by subst h; rfl
        exact e _ (hget _ _ 0 (by rw [hkept]; rfl))
      | ⟨1, _⟩ =>
        unfold GatherDims.siIdx
        rw [dif_neg (by rw [hivd]; show ¬ (_ : ℕ) = 2; simp)]
        unfold GatherDims.siCoord
        simp only [Fin.val_cast]
        have e : ∀ X : Fin 2, X = 1 → (ix2 p q X).val = q.val := fun X h => by subst h; rfl
        exact e _ (hget _ _ 1 (by rw [hkept]; rfl))
      | ⟨2, _⟩ =>
        unfold GatherDims.siIdx
        rw [dif_pos (by rw [hivd])]
        show d.startIndexMap.idxOf 0 = 0
        rw [hsim]; rfl
    rw [hsi, hb, StableHlo.Predicate.toInt_ofNat_small _ (by have := b.isLt; omega)]
    show min (((b.val : ℕ) : Int).toNat) (N - d.sliceSizes 0) = b.val
    rw [hsl]
    have := b.isLt
    omega

/-! ## Ranks and numbers, as counts over all the choices -/

abbrev All : Shape := shape1 65536

section Counts
variable (bc : All.BroadcastsInDim (shape2 65536 1) (![0] : Fin 1 → Fin (shape2 65536 1).rank))
  (br : All.BroadcastsInDim (shape2 1 65536) (![1] : Fin 1 → Fin (shape2 1 65536).rank))
  (bcc : (shape2 65536 1).BroadcastsInDim (shape2 65536 65536) (![0, 1] : Fin 2 → Fin (shape2 65536 65536).rank))
  (brr : (shape2 1 65536).BroadcastsInDim (shape2 65536 65536) (![0, 1] : Fin 2 → Fin (shape2 65536 65536).rank))
  (b3 : Row.BroadcastsInDim (shape2 1 32) (![1] : Fin 1 → Fin (shape2 1 32).rank))
  (bc3 : (shape2 65536 1).BroadcastsInDim (shape2 65536 32) (![0, 1] : Fin 2 → Fin (shape2 65536 32).rank))
  (br3 : (shape2 1 32).BroadcastsInDim (shape2 65536 32) (![0, 1] : Fin 2 → Fin (shape2 65536 32).rank))
  (hlt : 1 < 32) (hr : (shape2 65536 65536).ReducesTo [1] All) (hr3 : (shape2 65536 32).ReducesTo [0] Row) (hu : 0 < shape0.numel)

/-- For each choice, how many earlier ones name its expert. -/
def rankV (e : IVec All 32) : IVec All 32 :=
  Host.reduce IntOp.addi (extui 32 (andi (cmpi .eq (broadcastInDim (shape2 65536 65536) ![0, 1] bcc (broadcastInDim (shape2 65536 1) ![0] bc e))
      (broadcastInDim (shape2 65536 65536) ![0, 1] brr (broadcastInDim (shape2 1 65536) ![1] br e)))
    (cmpi .slt (broadcastInDim (shape2 65536 65536) ![0, 1] brr (broadcastInDim (shape2 1 65536) ![1] br (iotaInDim All 32 0)))
      (broadcastInDim (shape2 65536 65536) ![0, 1] bcc (broadcastInDim (shape2 65536 1) ![0] bc (iotaInDim All 32 0))))) hlt)
    (constantI shape0 32 0#32) hr hu

/-- For each expert, how many choices name it. -/
def numberV (e : IVec All 32) : IVec Row 32 :=
  Host.reduce IntOp.addi (extui 32 (cmpi .eq (broadcastInDim (shape2 65536 32) ![0, 1] bc3 (broadcastInDim (shape2 65536 1) ![0] bc e))
      (broadcastInDim (shape2 65536 32) ![0, 1] br3 (broadcastInDim (shape2 1 32) ![1] b3 (iotaInDim Row 32 0)))) hlt)
    (constantI shape0 32 0#32) hr3 hu

variable (E : ℕ → ℕ) (e : IVec All 32) (he : ∀ m : Fin 65536, (e (ix1 m)).toNat = E m.val)
include he

theorem rankV_ap (m : Fin 65536) : rankV bc br bcc brr hlt hr hu e (ix1 m) = BitVec.ofNat 32 (rank E m.val) := by
  unfold rankV
  rw [reduce_count (n := 65536) (m := 65536) (by norm_num) _ hlt hr hu m (fun k => E k = E m.val ∧ k < m.val) ?_, count_before E m.val 65536 (Nat.le_of_lt m.isLt)]
  intro q
  show IntOp.andi (IntOp.cmpi .eq _ _) (IntOp.cmpi .slt _ _) = 1#1 ↔ _
  rw [bcRows, bcCols, bcCols, bcRows, iota1_ap, iota1_ap]
  have hand : ∀ x y : BitVec 1, IntOp.andi x y = 1#1 ↔ x = 1#1 ∧ y = 1#1 := by decide
  rw [hand, cmpi_slt_ofNat_eq_one_iff (w := 32) (by have := q.isLt; omega) (by have := m.isLt; omega), StableHlo.Predicate.cmpi_eq_iff, ← BitVec.toNat_inj, he, he]
  exact and_congr_left fun _ => eq_comm

theorem numberV_ap (x : Fin 32) : numberV bc b3 bc3 br3 hlt hr3 hu e (ix1 x) = BitVec.ofNat 32 (number E x.val) := by
  have hle := number_le_all E x.val
  apply BitVec.eq_of_toNat_eq
  unfold numberV
  rw [StableHlo.Predicate.toNat_reduce_count_rows (n := 65536) (m := 32) (by norm_num) _ hlt hr3 hu, BitVec.toNat_ofNat, Nat.mod_eq_of_lt (by omega)]
  unfold number
  rw [← card_filter_fin 65536 (fun k => E k = x.val)]
  refine congrArg Finset.card (Finset.filter_congr fun p _ => ?_)
  rw [ij_eq_ix2]
  show IntOp.cmpi .eq _ _ = 1#1 ↔ _
  rw [bcRows, bcCols, StableHlo.Predicate.cmpi_eq_iff, ← BitVec.toNat_inj, he]
  show _ = (iotaInDim (shape1 32) 32 0 (ix1 x)).toNat ↔ _
  rw [iota1_ap, BitVec.toNat_ofNat, Nat.mod_eq_of_lt (by have := x.isLt; omega)]

end Counts

end Cert.HostWords
-- ==== Proof.HostReads.lean ====
/- What the kernel's host code leaves in the tables the call reads, as terms over the arguments. -/
module

public import proofs.«01_k».proof.Proof.Run
public import proofs.«01_k».proof.Proof.HostWords
public import Idealize.ShloMosaic.Lib.Claim
public import Idealize.ShloMosaic.Lib.Tactic.CleanTypes
public import Idealize.ShloMosaic.Lib.StableHlo.RunRead

@[expose] public section
set_option maxRecDepth 16384

noncomputable section
namespace Cert.Dispatch

open Cert.KernelIdeal Cert.KernelIdeal.Gen
open Idealize.ShloMosaic Idealize.ShloMosaic.TcCoe Idealize.ShloMosaic.Tactic
open Idealize.ShloMosaic.ValueIdx
variable {F : FTy → Type} [FloatOps F]
variable (m : (ℓ : Loc nD τ sig) → Buf (Elt F) ℓ)

/-- The arguments: the experts, the ranks, the counts. -/
abbrev expertsV (c : Dev nD) : IVec S32768x2 32 := m ((c : Thread nD τ).loc main_arg1)
abbrev ranksV (c : Dev nD) : IVec S32768x2 32 := m ((c : Thread nD τ).loc main_arg2)
abbrev countsV (c : Dev nD) : IVec S32 32 := m ((c : Thread nD τ).loc main_arg3)

/-- The experts' rows, their ends and their starts, from the counts. -/
abbrev padV (n : IVec S32 32) : IVec S32 32 := HostWords.paddedV bcast_S_S32 n
abbrev endV (n : IVec S32 32) : IVec S32 32 := HostWords.endsV bcast_S_S32 bcast_S_S_ reduceWindows_S32_S32_w32s1p31_0 h_S_ n
abbrev startV (n : IVec S32 32) : IVec S32 32 := HostWords.startsV bcast_S_S32 bcast_S_S_ reduceWindows_S32_S32_w32s1p31_0 h_S_ n

theorem read_starts (c : Dev nD) : V m c main_v20 = addi (startV (countsV m c)) (countsV m c) := by
  unfold_abbrev_sides
  simp only [hostOps0, hostOps0_1, hostOps0_2, hostOps0_3, hostOps0_4, hostOps0_5, hostOps0_6, List.flatten_cons, List.flatten_nil, List.append_nil, List.cons_append, List.nil_append]
  after_reads_simp
  simp -implicitDefEqProofs only [StableHlo.TRef.toBuf, StableHlo.TRef.ofBuf, cast_cast, cast_eq]
  clean_types
  simp only [id]
  rfl

theorem read_lens (c : Dev nD) : V m c main_v21 = subi (padV (countsV m c)) (countsV m c) := by
  unfold_abbrev_sides
  simp only [hostOps0, hostOps0_1, hostOps0_2, hostOps0_3, hostOps0_4, hostOps0_5, hostOps0_6, List.flatten_cons, List.flatten_nil, List.append_nil, List.cons_append, List.nil_append]
  after_reads_simp
  simp -implicitDefEqProofs only [StableHlo.TRef.toBuf, StableHlo.TRef.ofBuf, cast_cast, cast_eq]
  clean_types
  simp only [id]
  rfl

theorem read_used (c : Dev nD) : V m c main_v10 = Routing.pyDiv bcast_S_S1 (extractStridedSlice S1 ![31] (endV (countsV m c)) slices_S32_S1_31) (constantI S_ 32 512#32) := by
  unfold_abbrev_sides
  simp only [hostOps0, hostOps0_1, hostOps0_2, hostOps0_3, hostOps0_4, hostOps0_5, hostOps0_6, List.flatten_cons, List.flatten_nil, List.append_nil, List.cons_append, List.nil_append]
  after_reads_simp
  simp -implicitDefEqProofs only [StableHlo.TRef.toBuf, StableHlo.TRef.ofBuf, cast_cast, cast_eq]
  clean_types
  simp only [id]
  rfl

/-- The experts with a negative one wrapped round. -/
abbrev wrapped (e : IVec S32768x2 32) : IVec S32768x2 32 :=
  select (cmpi .slt e (broadcastInDim S32768x2 ![] bcast_S_S32768x2 (constantI S_ 32 0#32))) (addi e (broadcastInDim S32768x2 ![] bcast_S_S32768x2 (constantI S_ 32 32#32))) e

theorem read_slots (c : Dev nD) : V m c main_v22 = shapeCast S128x1x512 (shapeCast S65536 (addi (Host.gather gather_S32_S32768x2x1_S32768x2_n_0_n_n_0_2_1 (startV (countsV m c))
    (broadcastInDim S32768x2x1 ![0, 1] bcast_S32768x2_S32768x2x1_0_1 (wrapped (expertsV m c)))) (ranksV m c)) shapeCasts_S32768x2_S65536) shapeCasts_S65536_S128x1x512 := by
  unfold_abbrev_sides
  simp only [hostOps0, hostOps0_1, hostOps0_2, hostOps0_3, hostOps0_4, hostOps0_5, hostOps0_6, List.flatten_cons, List.flatten_nil, List.append_nil, List.cons_append, List.nil_append]
  after_reads_simp
  simp -implicitDefEqProofs only [StableHlo.TRef.toBuf, StableHlo.TRef.ofBuf, cast_cast, cast_eq]
  clean_types
  simp only [id]
  rfl
end Cert.Dispatch
end
end
-- ==== Proof.Routed.lean ====
/- What `routed` says of the arguments, in the natural numbers of `Slots`. -/
module

public import proofs.«01_k».proof.Pre_routed
public import proofs.«01_k».proof.Proof.HostWords

@[expose] public section

set_option maxRecDepth 16384

noncomputable section

namespace Cert.Routed

open Idealize.ShloMosaic Idealize.ShloMosaic.ValueIdx Idealize.ShloMosaic.Routing Idealize.ShloMosaic.WordCmp Cert.Slots Cert.HostWords

/-- The expert choice `m` names: choice `m % 2` of token `m / 2`. -/
def expert (e : IVec (shape2 32768 2) 32) (m : ℕ) : ℕ :=
  if h : m < 65536 then (e (ix2 (⟨m / 2, by omega⟩ : Fin 32768) (⟨m % 2, by omega⟩ : Fin 2))).toNat else 0

/-- The arguments are as `routed` asks. -/
structure Ok (e r : IVec (shape2 32768 2) 32) (n : IVec (shape1 32) 32) : Prop where
  lt : ∀ m < 65536, expert e m < 32
  rank : ∀ (t : Fin 32768) (k : Fin 2), r (ix2 t k) = BitVec.ofNat 32 (Slots.rank (expert e) (2 * t.val + k.val))
  number : ∀ x : Fin 32, n (ix1 x) = BitVec.ofNat 32 (Slots.number (expert e) x.val)

theorem expert_at (e : IVec (shape2 32768 2) 32) (t : Fin 32768) (k : Fin 2) : e (ix2 t k) = BitVec.ofNat 32 (expert e (2 * t.val + k.val)) := by
  have ht := t.isLt; have hk := k.isLt
  unfold expert
  rw [dif_pos (by omega)]
  have h1 : (⟨(2 * t.val + k.val) / 2, by omega⟩ : Fin 32768) = t := Fin.ext (by show (2 * t.val + k.val) / 2 = t.val; omega)
  have h2 : (⟨(2 * t.val + k.val) % 2, by omega⟩ : Fin 2) = k := Fin.ext (by show (2 * t.val + k.val) % 2 = k.val; omega)
  rw [h1, h2, BitVec.ofNat_toNat, BitVec.setWidth_eq]

theorem flat_at (e : IVec (shape2 32768 2) 32) (h : (shape2 32768 2).ShapeCasts All) (m : Fin 65536) :
    (shapeCast All e h (ix1 m)).toNat = expert e m.val := by
  have hm := m.isLt
  rw [cast21 e h (⟨m.val / 2, by omega⟩ : Fin 32768) (⟨m.val % 2, by omega⟩ : Fin 2) m (by show m.val = m.val / 2 * 2 + m.val % 2; omega)]
  unfold expert
  rw [dif_pos hm]

theorem ok_of {F : FTy → Type} [FloatOps F] [Cert.Pre_routed.Facts] (h2 : FVec F (shape2 32768 2048) .f32) (e r : IVec (shape2 32768 2) 32) (n : IVec (shape1 32) 32)
    (h : (Cert.Pre_routed.fn (F := F) h2 e r n).1 = (fun _ => 1#1) ∧ (Cert.Pre_routed.fn (F := F) h2 e r n).2 = (fun _ => 1#1)) : Ok e r n := by
  have hand : ∀ x y : BitVec 1, IntOp.andi x y = 1#1 → x = 1#1 ∧ y = 1#1 := by decide
  have hflat := flat_at e Cert.Pre_routed.Facts.shapeCasts_S32768x2_S65536
  have key : ∀ m : Fin 65536, expert e m.val < 32 ∧ shapeCast All r Cert.Pre_routed.Facts.shapeCasts_S32768x2_S65536 (ix1 m) = BitVec.ofNat 32 (Slots.rank (expert e) m.val) := by
    intro m
    have h1 := congrFun h.1 (ix1 m)
    change IntOp.andi (IntOp.andi (IntOp.cmpi .sge (shapeCast All e _ (ix1 m)) 0#32) (IntOp.cmpi .slt (shapeCast All e _ (ix1 m)) 32#32))
      (IntOp.cmpi .eq (shapeCast All r _ (ix1 m)) (rankV _ _ _ _ _ _ _ (shapeCast All e _) (ix1 m))) = 1#1 at h1
    obtain ⟨ha, hb⟩ := hand _ _ h1
    rw [StableHlo.Predicate.cmpi_eq_iff, rankV_ap _ _ _ _ _ _ _ (expert e) _ hflat] at hb
    refine ⟨?_, hb⟩
    obtain ⟨hc, hd⟩ := hand _ _ ha
    rw [cmpi_sge_zero, ofBool_decide_eq_one_iff] at hc
    rw [StableHlo.Predicate.slt_iff_toNat hc (by decide)] at hd
    rw [hflat] at hd
    exact hd
  refine ⟨fun m hm => (key ⟨m, hm⟩).1, fun t k => ?_, fun x => ?_⟩
  · have ht := t.isLt; have hk := k.isLt
    rw [← (key ⟨2 * t.val + k.val, by omega⟩).2]
    exact (cast21 r _ t k ⟨2 * t.val + k.val, by omega⟩ (by show 2 * t.val + k.val = t.val * 2 + k.val; omega)).symm
  · have h0 : (Cert.Pre_routed.fn (F := F) h2 e r n).2 = cmpi .eq n (numberV Cert.Pre_routed.Facts.bcast_S65536_S65536x1_0 Cert.Pre_routed.Facts.bcast_S32_S1x32_1
        Cert.Pre_routed.Facts.bcast_S65536x1_S65536x32_0_1 Cert.Pre_routed.Facts.bcast_S1x32_S65536x32_0_1 Cert.Pre_routed.Facts.natLt_1_32
        Cert.Pre_routed.Facts.reducesTo_S65536x32_S32_d0 Cert.Pre_routed.Facts.h_S_ (shapeCast All e Cert.Pre_routed.Facts.shapeCasts_S32768x2_S65536)) := by
      unfold Cert.Pre_routed.fn Cert.Pre_routed.fn_part1 numberV
      dsimp only
    have h1 : IntOp.cmpi .eq (n (ix1 x)) _ = 1#1 := congrFun (h0.symm.trans h.2) (ix1 x)
    rw [StableHlo.Predicate.cmpi_eq_iff, numberV_ap _ _ _ _ _ _ _ (expert e) _ hflat] at h1
    exact h1

end Cert.Routed
-- ==== Proof.LayoutOf.lean ====
/- The tables meet what the launch asks of them, and what the result then holds. -/
module

public import proofs.«01_k».proof.Proof.HostReads
public import proofs.«01_k».proof.Proof.Routed
public import Idealize.ShloMosaic.Lib.Pipeline.ValueKit

@[expose] public section

set_option maxRecDepth 16384

noncomputable section

namespace Cert.Dispatch

open Cert.KernelIdeal Cert.KernelIdeal.Gen
open Idealize.ShloMosaic hiding ix1 ix2 ix3
open Idealize.ShloMosaic.TcCoe Idealize.ShloMosaic.Tactic
open Idealize.ShloMosaic.ValueIdx
variable {F : FTy → Type} [FloatOps F]
variable (m : (ℓ : Loc nD τ sig) → Buf (Elt F) ℓ)

theorem idx : ∀ t, (cfg0.win 0).index t = ![t.val, 0, 0] ∧ (cfg0.win 4).index t = ![t.val, 0] ∧ (cfg0.win 1).index t = ![0] ∧ (cfg0.win 2).index t = ![0] ∧ (cfg0.win 3).index t = ![0] := by
  decide +kernel

theorem tok_at (c : Dev nD) (t : Fin cfg0.N) (k : Fin 256) (x : Fin 2048) (p : Fin 32768) (hp : p.val = t.val * 256 + k.val) :
    tokBlk m c t (ix2 k x) = m ((c : Thread nD τ).loc main_arg0) (ix2 p x) := by
  blk_ext [iblk, V, idx t]
  show t.val * 256 + k.val = p.val
  omega

theorem slot_at (c : Dev nD) (t : Fin cfg0.N) (j : Fin 512) (p : Fin 128) (hp : p.val = t.val) :
    slotBlk m c t (ix3 0 0 j) = V m c main_v22 (ix3 p 0 j) := by
  blk_ext [iblk, idx t]
  exact hp.symm

theorem start_at (c : Dev nD) (e : Fin 32) : padStarts m c (ix1 e) = V m c main_v20 (ix1 e) := by
  blk_ext [iblk, idx point0]

theorem len_at (c : Dev nD) (e : Fin 32) : padLens m c (ix1 e) = V m c main_v21 (ix1 e) := by
  blk_ext [iblk, idx point0]

theorem usedWord_at (c : Dev nD) : (show S1.Idx → Elt F .i32 from iblk m c 3 point0) (ix1 0) = V m c main_v10 (ix1 0) := by
  blk_ext [iblk, idx point0]

theorem used_at (c : Dev nD) : used m c = BitVec.toNat (show BitVec 32 from V m c main_v10 (ix1 0)) :=
  congrArg BitVec.toNat (usedWord_at m c)

/-! ## The tables' entries, as numbers -/

open Routing HostWords Slots

section Ok
variable (c : Dev nD) (hok : Routed.Ok (expertsV m c) (ranksV m c) (countsV m c))

/-- The expert of each choice. -/
abbrev E : ℕ → ℕ := Routed.expert (expertsV m c)

include hok

theorem rows_lt : rows (E m c) ≤ 81888 := rows_le _ hok.lt

/-- All used rows are in the first 160 blocks. -/
theorem rows_blocks : rows (E m c) / 512 * 512 = rows (E m c) ∧ rows (E m c) / 512 ≤ 159 := by
  have h := start_dvd (E m c) 32
  have h2 := rows_lt m c hok
  unfold rows at h2 ⊢
  omega

theorem padStart_val (e : Fin 32) : padFrom (F := F) (padStarts m c) e = start (E m c) e.val + number (E m c) e.val := by
  unfold padFrom
  have h1 := start_le (E m c) e.val e.isLt
  have h2 := rows_lt m c hok
  have h3 := number_le (E m c) e.val
  have h : (show BitVec 32 from padStarts m c (ix1 e)) = BitVec.ofNat 32 (start (E m c) e.val + number (E m c) e.val) := by
    refine (start_at m c e).trans ?_
    rw [read_starts]
    refine (addi_ap _ _ _).trans ?_
    refine (congrArg₂ (fun a b : BitVec 32 => a + b) (startsV_ap _ _ _ _ (E m c) (countsV m c) hok.number e) (hok.number e)).trans ?_
    exact BitVec.ofNat_add_ofNat _ _
  rw [h, BitVec.toNat_ofNat, Nat.mod_eq_of_lt (by omega)]

theorem padLen_val (e : Fin 32) : padLen (F := F) (padLens m c) e = padded (E m c) e.val - number (E m c) e.val := by
  unfold padLen
  have h1 := padded_lt (E m c) e.val
  have h3 := number_le (E m c) e.val
  have h : (show BitVec 32 from padLens m c (ix1 e)) = BitVec.ofNat 32 (padded (E m c) e.val - number (E m c) e.val) := by
    refine (len_at m c e).trans ?_
    rw [read_lens]
    refine (subi_ap _ _ _).trans ?_
    refine (congrArg₂ (fun a b : BitVec 32 => a - b) (paddedV_ap _ (E m c) (countsV m c) hok.number e) (hok.number e)).trans ?_
    exact ofNat32_sub h3
  rw [h, BitVec.toNat_ofNat, Nat.mod_eq_of_lt (by omega)]

theorem used_val : used m c = rows (E m c) / 512 := by
  have h2 := rows_lt m c hok
  rw [used_at]
  have h : (show BitVec 32 from V m c main_v10 (ix1 0)) = BitVec.ofNat 32 (rows (E m c) / 512) := by
    rw [read_used]
    refine pyDiv_ap _ _ _ (ix1 0) (a := rows (E m c)) (b := 512) ?_ rfl (by omega) (by decide) (by decide)
    refine (slice1 31 _ _ 0 (by decide)).trans ?_
    exact endsV_ap _ _ _ _ (E m c) (countsV m c) hok.number ⟨31, by decide⟩
  rw [h, BitVec.toNat_ofNat, Nat.mod_eq_of_lt (by omega)]

theorem table_at (p : Fin 32768) (q : Fin 2) :
    addi (Host.gather gather_S32_S32768x2x1_S32768x2_n_0_n_n_0_2_1 (startV (countsV m c))
      (broadcastInDim S32768x2x1 ![0, 1] bcast_S32768x2_S32768x2x1_0_1 (wrapped (expertsV m c)))) (ranksV m c) (ix2 p q)
    = BitVec.ofNat 32 (slot (E m c) (2 * p.val + q.val)) := by
  have hp := p.isLt; have hq := q.isLt
  have hE := hok.lt (2 * p.val + q.val) (by omega)
  refine (addi_ap _ _ _).trans ?_
  rw [hok.rank p q]
  have h : Host.gather gather_S32_S32768x2x1_S32768x2_n_0_n_n_0_2_1 (startV (countsV m c))
      (broadcastInDim S32768x2x1 ![0, 1] bcast_S32768x2_S32768x2x1_0_1 (wrapped (expertsV m c))) (ix2 p q)
      = BitVec.ofNat 32 (start (E m c) (E m c (2 * p.val + q.val))) := by
    refine (gather_pair _ rfl rfl rfl rfl rfl _ _ p q ⟨E m c (2 * p.val + q.val), hE⟩ ?_ (by decide)).trans ?_
    · refine (broadcastInDim_apply _ _ _ _ (ix2 p q) fun a => ?_).trans ?_
      · match a with
        | ⟨0, _⟩ => rfl
        | ⟨1, _⟩ => rfl
      · exact wrap_ap _ _ _ _ (Routed.expert_at _ p q) (by omega) rfl
    · exact startsV_ap _ _ _ _ (E m c) (countsV m c) hok.number _
  rw [h]
  exact BitVec.ofNat_add_ofNat _ _

theorem slot_small (x : ℕ) (hx : x < 65536) : slot (E m c) x < 81888 :=
  lt_of_lt_of_le (slot_lt (E m c) hok.lt hx) (rows_lt m c hok)

theorem entry_val (t : Fin cfg0.N) (j : Fin 512) : (show BitVec 32 from slotBlk m c t (ix3 0 0 j)) = BitVec.ofNat 32 (slot (E m c) (512 * t.val + j.val)) := by
  have ht : t.val < 128 := lt_of_lt_of_eq t.isLt N_0
  have hj := j.isLt
  refine (slot_at m c t j ⟨t.val, ht⟩ rfl).trans ?_
  rw [read_slots]
  refine (cast13 _ _ (⟨t.val, ht⟩ : Fin 128) (0 : Fin 1) j (⟨512 * t.val + j.val, by omega⟩ : Fin 65536) (by show 512 * t.val + j.val = (t.val * 1 + 0) * 512 + j.val; omega)).trans ?_
  refine (cast21 _ _ (⟨(512 * t.val + j.val) / 2, by omega⟩ : Fin 32768) (⟨(512 * t.val + j.val) % 2, by omega⟩ : Fin 2) _
    (by show 512 * t.val + j.val = (512 * t.val + j.val) / 2 * 2 + (512 * t.val + j.val) % 2; omega)).trans ?_
  refine (table_at m c hok _ _).trans ?_
  show BitVec.ofNat 32 (slot (E m c) (2 * ((512 * t.val + j.val) / 2) + (512 * t.val + j.val) % 2)) = _
  rw [show 2 * ((512 * t.val + j.val) / 2) + (512 * t.val + j.val) % 2 = 512 * t.val + j.val by omega]

theorem entry_nat (t : Fin cfg0.N) (j : Fin 512) : (show BitVec 32 from slotBlk m c t (ix3 0 0 j)).toNat = slot (E m c) (512 * t.val + j.val) := by
  have ht : t.val < 128 := lt_of_lt_of_eq t.isLt N_0
  have hj := j.isLt
  have h2 := slot_small m c hok (512 * t.val + j.val) (by omega)
  rw [entry_val m c hok, BitVec.toNat_ofNat, Nat.mod_eq_of_lt (by omega)]

theorem dest_val (t : Fin cfg0.N) (b : Fin 2) (k : Fin 256) : destAt (F := F) (slotBlk m c t) b k = slot (E m c) (512 * t.val + (2 * k.val + b.val)) :=
  entry_nat m c hok t ⟨2 * k.val + b.val, by have := b.isLt; have := k.isLt; omega⟩

end Ok

/-! ## What the result holds -/

open Classical in
/-- The row of the token whose choice sits there; a zero where no choice does. -/
def laid (c : Dev nD) : Buf (Elt F) (outLoc c) := fun y : S81920x2048.Idx =>
  if h : ∃ x : Fin 65536, slot (E m c) x.val = (y 0).val then
    m ((c : Thread nD τ).loc main_arg0) (ix2 (⟨h.choose.val / 2, by have := h.choose.isLt; omega⟩ : Fin 32768) (y 1))
  else zero (F := F)

theorem laid_hit (c : Dev nD) (y : S81920x2048.Idx) (x : ℕ) (hx : x < 65536) (p : Fin 32768) (hp : p.val = x / 2) (h : slot (E m c) x = (y 0).val) :
    laid m c y = m ((c : Thread nD τ).loc main_arg0) (ix2 p (y 1)) := by
  have hex : ∃ x : Fin 65536, slot (E m c) x.val = (y 0).val := ⟨⟨x, hx⟩, h⟩
  unfold laid
  rw [dif_pos hex]
  have he : hex.choose.val = x := slot_inj (E m c) hex.choose.isLt hx (hex.choose_spec.trans h.symm)
  have hq : (⟨hex.choose.val / 2, by have := hex.choose.isLt; omega⟩ : Fin 32768) = p := Fin.ext (by show hex.choose.val / 2 = p.val; rw [he, hp])
  rw [hq]

theorem laid_miss (c : Dev nD) (y : S81920x2048.Idx) (h : ∀ x < 65536, slot (E m c) x ≠ (y 0).val) : laid m c y = zero (F := F) := by
  unfold laid
  rw [dif_neg]
  rintro ⟨x, hx⟩
  exact h x.val x.isLt hx

theorem layout_of (c : Dev nD) (hok : Routed.Ok (expertsV m c) (ranksV m c) (countsV m c)) : Layout m c (laid m c) := by
  have hdest := dest_val m c hok
  have hfrom := padStart_val m c hok
  have hlen := padLen_val m c hok
  have hused : used m c * 512 = rows (E m c) := by rw [used_val m c hok]; exact (rows_blocks m c hok).1
  have hchoice : ∀ (t : Fin cfg0.N) (b : Fin 2) (k : Fin 256), 512 * t.val + (2 * k.val + b.val) < 65536 := fun t b k => by
    have ht : t.val < 128 := lt_of_lt_of_eq t.isLt N_0
    have := b.isLt; have := k.isLt; omega
  have hpad : ∀ p : Fin (nPad (padLens m c)), ∃ (e : Fin 32) (j : ℕ), j < padded (E m c) e.val - number (E m c) e.val
      ∧ padRow (padStarts m c) (padLens m c) p = start (E m c) e.val + number (E m c) e.val + j
      ∧ e = (padAt (padLens m c) p).1 ∧ j = (padAt (padLens m c) p).2.val := fun p =>
    ⟨(padAt (padLens m c) p).1, (padAt (padLens m c) p).2.val, lt_of_lt_of_eq (padAt (padLens m c) p).2.isLt (hlen _),
      by unfold padRow; rw [hfrom], rfl, rfl⟩
  have hrows : ∀ t, RowsOk (F := F) (slotBlk m c t) := fun t => by
    refine ⟨fun x => ?_, fun b b' k k' h => ?_⟩
    · have hx : x = ix3 0 0 (x 2) := by
        funext a
        match a with
        | ⟨0, _⟩ => exact Fin.ext (by have h : (x 0).val < 1 := (x 0).isLt; show (x 0).val = 0; omega)
        | ⟨1, _⟩ => exact Fin.ext (by have h : (x 1).val < 1 := (x 1).isLt; show (x 1).val = 0; omega)
        | ⟨2, _⟩ => rfl
      rw [hx]
      have ht : t.val < 128 := lt_of_lt_of_eq t.isLt N_0
      have hj : (x 2).val < 512 := (x 2).isLt
      have h1 := entry_nat m c hok t (x 2)
      have h2 := slot_small m c hok (512 * t.val + (x 2).val) (by omega)
      exact lt_of_eq_of_lt h1 (by omega)
    · rw [hdest, hdest] at h
      have h1 := slot_inj (E m c) (hchoice t b k) (hchoice t b' k') h
      have := b.isLt; have := b'.isLt
      exact ⟨Fin.ext (by omega), Fin.ext (by omega)⟩
  refine ⟨⟨hrows point0, fun e => ?_, fun e => ?_, fun p p' h => ?_, fun b k p => ?_, ?_, fun b k => ?_, fun p => ?_⟩, hrows,
    fun t b k y h => ?_, fun p y h => ?_, fun y h => ?_, fun y => ?_⟩
  · have h1 := start_le (E m c) e.val e.isLt
    have h2 := rows_lt m c hok
    have h3 := number_le (E m c) e.val
    have h4 := hfrom e
    have h5 := hlen e
    omega
  · have h1 := padded_lt (E m c) e.val
    have h3 := number_le (E m c) e.val
    have h5 := hlen e
    omega
  · obtain ⟨e, j, hj, hr, he, hje⟩ := hpad p
    obtain ⟨e', j', hj', hr', he', hje'⟩ := hpad p'
    obtain ⟨h1, h2⟩ := pad_inj (E m c) hj hj' (hr.symm.trans (h.trans hr'))
    have h3 : padAt (padLens m c) p = padAt (padLens m c) p' := by
      have ha : (padAt (padLens m c) p).1 = (padAt (padLens m c) p').1 := by rw [← he, ← he']; exact Fin.ext h1
      have hb : (padAt (padLens m c) p).2.val = (padAt (padLens m c) p').2.val := by rw [← hje, ← hje']; exact h2
      exact Sigma.ext ha ((Fin.heq_ext_iff (by rw [ha])).2 hb)
    exact finSigmaFinEquiv.symm.injective h3
  · obtain ⟨e, j, hj, hr, -, -⟩ := hpad p
    rw [hdest, hr]
    exact pad_ne (E m c) (hchoice point0 b k) hj
  · rw [used_val m c hok]; have := (rows_blocks m c hok).2; omega
  · rw [hdest, hused]; exact slot_lt (E m c) hok.lt (hchoice point0 b k)
  · obtain ⟨e, j, hj, hr, -, -⟩ := hpad p
    rw [hr, hused]
    have h1 := start_le (E m c) e.val e.isLt
    omega
  · have hk := k.isLt; have hb := b.isLt
    have ht : t.val < 128 := lt_of_lt_of_eq t.isLt N_0
    refine (laid_hit m c y _ (hchoice t b k) (⟨t.val * 256 + k.val, by omega⟩ : Fin 32768) (by show t.val * 256 + k.val = _; omega) ((hdest t b k).symm.trans h.symm)).trans ?_
    exact (tok_at m c t k (y 1) _ rfl).symm
  · obtain ⟨e, j, hj, hr, -, -⟩ := hpad p
    refine laid_miss m c y fun x hx => ?_
    rw [h, hr]
    exact pad_ne (E m c) hx hj
  · refine laid_miss m c y fun x hx hxy => ?_
    have h1 := slot_lt (E m c) hok.lt hx
    rw [hused] at h
    omega
  · rcases cover (E m c) (y 0).val with ⟨x, hx, h⟩ | ⟨e, he, j, hj, h⟩ | h
    · refine Or.inl ⟨⟨x / 512, by rw [show cfg0.N = 128 from N_0]; omega⟩, ⟨x % 2, by omega⟩, ⟨x % 512 / 2, by omega⟩, ?_⟩
      rw [hdest, ← h]
      show slot (E m c) x = slot (E m c) (512 * (x / 512) + (2 * (x % 512 / 2) + x % 2))
      rw [show 512 * (x / 512) + (2 * (x % 512 / 2) + x % 2) = x by omega]
    · have hj' : j < padLen (F := F) (padLens m c) ⟨e, he⟩ := lt_of_lt_of_eq hj (hlen ⟨e, he⟩).symm
      refine Or.inr (Or.inl ⟨⟨_, pad_lt (F := F) (padLens m c) ⟨e, he⟩ j hj'⟩, ?_⟩)
      · rw [padRow_at (F := F) (padStarts m c) (padLens m c) ⟨e, he⟩ j hj', hfrom]
        exact h
    · exact Or.inr (Or.inr (by rw [hused]; exact h))

end Cert.Dispatch
-- ==== Proof.RefValue.lean ====
/- The reference's array: each choice's token at the choice's slot, zeros elsewhere. -/
module

public import proofs.«01_k».proof.Proof.Gen.ReferenceIdeal
public import proofs.«01_k».proof.Proof.Routed
public import Idealize.ShloMosaic.Lib.Routing.OpsPair

@[expose] public section

set_option maxRecDepth 16384

noncomputable section

namespace Cert.RefValue

open Cert.ReferenceIdeal Cert.ReferenceIdeal.Gen
open Idealize.ShloMosaic Idealize.ShloMosaic.ValueIdx Idealize.ShloMosaic.Routing Cert.Slots Cert.HostWords
variable {F : FTy → Type} [FloatOps F]

/-! ## A scatter of rows -/

/-- Element `(a, b)` of a scatter of `n` rows into `R` rows, one index word each, lands at `(r, c)` exactly when row
    `a`'s word, read signed, is `r`, and `b` is `c`. -/
theorem row_lands {R C n w : Nat} (d : ScatterDims (shape2 R C) (shape2 n 1) (shape2 n C)) (huw : d.updateWindowDims = [1]) (hiw : d.insertedWindowDims = [0])
    (hsd : d.scatterDimsToOperandDims = [0]) (hivd : d.indexVectorDim = 1) (idx : IVec (shape2 n 1) w) (a : Fin n) (b : Fin C) (r : Fin R) (c : Fin C) :
    d.resultIdx? (ix2 a b) idx = some (ix2 r c) ↔ (idx (ix2 a (0 : Fin 1))).toInt = r.val ∧ b = c := by
  have hsk : d.sKept = [1] := by
    show (shape2 R C).kept d.insertedWindowDims = _
    rw [hiw]
    rfl
  have hk : d.siKept = [0] := by
    show (List.finRange 2).filter (fun x => decide (x.val ≠ d.indexVectorDim)) = _
    rw [hivd]
    rfl
  have hu : d.uScatter = [0] := by
    show (shape2 n C).kept d.updateWindowDims = _
    rw [huw]
    rfl
  have e : ∀ (l : List (Fin 2)) (k : ℕ) (h : k < l.length) (x : Fin 2), l = [x] → l[k]'h = x := by
    intro l k h x hl
    subst hl
    have : k = 0 := by simpa using h
    subst this
    rfl
  have hm0 : (0 : Fin 2) ∈ d.scatterDimsToOperandDims := by rw [hsd]; simp
  have hm1 : (1 : Fin 2) ∉ d.scatterDimsToOperandDims := by rw [hsd]; simp
  have hw0 : d.window (ix2 a b) 0 = 0 := by
    unfold ScatterDims.window
    rw [dif_neg (by rw [hsk]; simp)]
  have hw1 : d.window (ix2 a b) 1 = b.val := by
    unfold ScatterDims.window
    rw [dif_pos (by rw [hsk]; simp), e _ _ _ 1 huw]
  have hs1 : d.start (ix2 a b) idx 1 = 0 := by
    unfold ScatterDims.start
    rw [dif_neg hm1]
  have hsi : d.siIdx (ix2 a b) ⟨d.scatterDimsToOperandDims.idxOf 0, List.idxOf_lt_length_iff.2 hm0⟩ = ix2 a (0 : Fin 1) := by
    funext b'
    apply Fin.ext
    match b' with
    | ⟨0, _⟩ =>
      unfold ScatterDims.siIdx
      rw [dif_neg (by rw [hivd]; exact (by decide : (0 : ℕ) ≠ 1))]
      unfold ScatterDims.siCoord
      simp only [Fin.val_cast]
      rw [e _ _ _ 0 hu]
    | ⟨1, _⟩ =>
      exact Nat.lt_one_iff.1 (lt_of_lt_of_eq (Fin.isLt _) rfl)
  have hs0 : d.start (ix2 a b) idx 0 = (idx (ix2 a (0 : Fin 1))).toInt := by
    unfold ScatterDims.start
    rw [dif_pos hm0, hsi]
  rw [resultIdx?_ix2, hw0, hw1, hs0, hs1]
  constructor
  · rintro ⟨h1, h2⟩
    exact ⟨by omega, Fin.ext (by omega)⟩
  · rintro ⟨h1, h2⟩
    subst h2
    exact ⟨by omega, by omega⟩

/-! ## The reference's arrays -/

variable (h2 : FVec F S32768x2048 .f32) (e : IVec S32768x2 32)

/-- The choices in one row. -/
def flat : IVec S65536 32 := shapeCast S65536 e shapeCasts_S32768x2_S65536
/-- Each choice's rank, each expert's number, each expert's start. -/
def ranks : IVec S65536 32 := rankV bcast_S65536_S65536x1_0 bcast_S65536_S1x65536_1 bcast_S65536x1_S65536x65536_0_1 bcast_S1x65536_S65536x65536_0_1 natLt_1_32 reducesTo_S65536x65536_S65536_d1 h_S_ (flat e)
def numbers : IVec S32 32 := numberV bcast_S65536_S65536x1_0 bcast_S32_S1x32_1 bcast_S65536x1_S65536x32_0_1 bcast_S1x32_S65536x32_0_1 natLt_1_32 reducesTo_S65536x32_S32_d0 h_S_ (flat e)
def starts : IVec S32 32 := startsV bcast_S_S32 bcast_S_S_ reduceWindows_S32_S32_w32s1p31_0 h_S_ (numbers e)
/-- A negative index wrapped round, as a column. -/
def column (x : IVec S65536 32) (n : BitVec 32) : IVec S65536x1 32 :=
  broadcastInDim S65536x1 ![0] bcast_S65536_S65536x1_0 (select (cmpi .slt x (broadcastInDim S65536 ![] bcast_S_S65536 (constantI S_ 32 0#32)))
    (addi x (broadcastInDim S65536 ![] bcast_S_S65536 (constantI S_ 32 n))) x)
/-- Each choice's slot, and its token. -/
def slots : IVec S65536 32 := addi (Host.gather gather_S32_S65536x1_S65536_n_0_n_n_0_1_1 (starts e) (column (flat e) 32#32)) (ranks e)
def tokens : IVec S65536 32 := pyDiv bcast_S_S65536 (iotaInDim S65536 32 0) (constantI S_ 32 2#32)
/-- The tokens' rows set at the slots of an array of zeros. -/
def value : FVec F S81920x2048 .f32 :=
  Host.scatter scatter_S81920x2048_S65536x1_S65536x2048_1_0_0_1 (fun _ b => b) (broadcastInDim S81920x2048 ![] bcast_S_S81920x2048 (constant S_ .f32 0x00000000#32))
    (column (slots e) 81920#32) (Host.gather gather_S32768x2048_S65536x1_S65536x2048_1_0_n_n_0_1_12048 h2 (column tokens 32768#32))

theorem column_ap (x : IVec S65536 32) (n : BitVec 32) (p : Fin 65536) {a : ℕ} (hx : x (ix1 p) = BitVec.ofNat 32 a) (ha : a < 2 ^ 31) :
    column x n (ix2 p (0 : Fin 1)) = BitVec.ofNat 32 a := by
  unfold column
  refine (broadcastInDim_apply _ _ _ _ (ix1 p) fun q => ?_).trans ?_
  · match q with
    | ⟨0, _⟩ => rfl
  · exact wrap_ap _ _ _ _ hx ha rfl

variable (hlt : ∀ m < 65536, Routed.expert e m < 32)
include hlt

theorem slots_ap (p : Fin 65536) : slots e (ix1 p) = BitVec.ofNat 32 (slot (Routed.expert e) p.val) := by
  have hflat := Routed.flat_at e shapeCasts_S32768x2_S65536
  have hE := hlt p.val p.isLt
  have hx : flat e (ix1 p) = BitVec.ofNat 32 (Routed.expert e p.val) := by
    rw [← hflat p, BitVec.ofNat_toNat, BitVec.setWidth_eq]
    rfl
  have hn : ∀ x : Fin 32, numbers e (ix1 x) = BitVec.ofNat 32 (number (Routed.expert e) x.val) := fun x =>
    numberV_ap _ _ _ _ _ _ _ (Routed.expert e) (flat e) hflat x
  have h1 : Host.gather gather_S32_S65536x1_S65536_n_0_n_n_0_1_1 (starts e) (column (flat e) 32#32) (ix1 p)
      = BitVec.ofNat 32 (start (Routed.expert e) (Routed.expert e p.val)) :=
    (gather_take1 _ rfl rfl rfl rfl _ _ p ⟨Routed.expert e p.val, hE⟩ (column_ap _ _ p hx (by omega)) (by decide)).trans
      (startsV_ap _ _ _ _ (Routed.expert e) (numbers e) hn _)
  have h2 : ranks e (ix1 p) = BitVec.ofNat 32 (Slots.rank (Routed.expert e) p.val) := rankV_ap _ _ _ _ _ _ _ (Routed.expert e) (flat e) hflat p
  refine (addi_ap _ _ _).trans ?_
  rw [h1, h2]
  exact BitVec.ofNat_add_ofNat _ _

omit hlt in
theorem tokens_ap (p : Fin 65536) : tokens (ix1 p) = BitVec.ofNat 32 (p.val / 2) :=
  pyDiv_ap _ _ _ _ (iota1_ap p) rfl (by have := p.isLt; omega) (by decide) (by decide)

omit hlt in
theorem update_ap (p : Fin 65536) (z : Fin 2048) (q : Fin 32768) (hq : q.val = p.val / 2) :
    Host.gather gather_S32768x2048_S65536x1_S65536x2048_1_0_n_n_0_1_12048 h2 (column tokens 32768#32) (ix2 p z) = h2 (ix2 q z) := by
  refine gather_row _ rfl rfl rfl rfl rfl h2 _ p z q ?_ (by decide)
  rw [hq]
  exact column_ap _ _ p (tokens_ap p) (by have := p.isLt; omega)

theorem lands (p : Fin 65536) (z : Fin 2048) (r : Fin 81920) (c : Fin 2048) :
    (scatter_S81920x2048_S65536x1_S65536x2048_1_0_0_1).resultIdx? (ix2 p z) (column (slots e) 81920#32) = some (ix2 r c) ↔ slot (Routed.expert e) p.val = r.val ∧ z = c := by
  have hb : slot (Routed.expert e) p.val < 81888 := lt_of_lt_of_le (slot_lt (Routed.expert e) hlt p.isLt) (rows_le _ hlt)
  refine (row_lands _ rfl rfl rfl rfl _ p z r c).trans ?_
  have hi : (column (slots e) 81920#32 (ix2 p (0 : Fin 1))).toInt = ((slot (Routed.expert e) p.val : ℕ) : Int) :=
    (congrArg BitVec.toInt (column_ap _ _ p (slots_ap e hlt p) (by omega))).trans (StableHlo.Predicate.toInt_ofNat_small (a := slot (Routed.expert e) p.val) (by omega))
  exact ⟨fun q => ⟨Int.ofNat_inj.1 (hi.symm.trans q.1), q.2⟩, fun q => ⟨hi.trans (congrArg Int.ofNat q.1), q.2⟩⟩

theorem value_hit (y : S81920x2048.Idx) (x : ℕ) (hx : x < 65536) (p : Fin 32768) (hp : p.val = x / 2) (h : slot (Routed.expert e) x = (y 0).val) :
    value h2 e y = h2 (ix2 p (y 1)) := by
  obtain ⟨r, c, rfl⟩ : ∃ (r : Fin 81920) (c : Fin 2048), y = ix2 r c := ⟨y 0, y 1, eq_ix2 y⟩
  refine scatter_set_hit _ _ _ _ _ _ (fun k hk => ?_) (ix2 (⟨x, hx⟩ : Fin 65536) c) ((lands e hlt ⟨x, hx⟩ c r c).2 ⟨h, rfl⟩)
  obtain ⟨a, b, rfl⟩ : ∃ (a : Fin 65536) (b : Fin 2048), k = ix2 a b := ⟨k 0, k 1, eq_ix2 k⟩
  obtain ⟨h1, rfl⟩ := (lands e hlt a b r c).1 hk
  have ha : a.val = x := slot_inj (Routed.expert e) a.isLt hx (h1.trans h.symm)
  exact update_ap h2 a b p (by rw [ha, hp])

theorem value_miss (y : S81920x2048.Idx) (h : ∀ x < 65536, slot (Routed.expert e) x ≠ (y 0).val) : value h2 e y = Scalar.ofBits .f32 0x00000000#32 := by
  obtain ⟨r, c, rfl⟩ : ∃ (r : Fin 81920) (c : Fin 2048), y = ix2 r c := ⟨y 0, y 1, eq_ix2 y⟩
  refine (scatter_set_miss _ _ _ _ _ (fun k hk => ?_)).trans rfl
  obtain ⟨a, b, rfl⟩ : ∃ (a : Fin 65536) (b : Fin 2048), k = ix2 a b := ⟨k 0, k 1, eq_ix2 k⟩
  exact h a.val a.isLt ((lands e hlt a b r c).1 hk).1

end Cert.RefValue
-- ==== Proof.SameText2.lean ====
/- The experts' kernel as printed and the kernel idealized have one text: at any float values they are the same program. -/
module

public import proofs.«01_k».proof.Defs
public import proofs.«01_k».proof.Proof.Gen.Kernel2
public import proofs.«01_k».proof.Proof.Gen.Kernel2Ideal

@[expose] public section

set_option maxRecDepth 16384
set_option maxHeartbeats 4000000

noncomputable section

namespace Cert.SameText2

open Idealize.ShloMosaic Idealize.SL.Sem

/-- The call's body. -/
theorem defs₀_eq : Cert.Kernel2.defs₀ (F := Bits) = Cert.Kernel2Ideal.defs₀ (F := Bits) := by
  unfold Cert.Kernel2.defs₀ Cert.Kernel2Ideal.defs₀
  refine congrArg Defs.onTc ?_
  funext l x
  match l, x with
  | 0, (t, s) => rfl
  | ⟨n + 1, h⟩, _ => exact absurd h (Nat.not_lt.2 (Nat.le_add_left _ _))

/-- The call's windows. -/
theorem pcfgs_eq : Cert.Kernel2.pcfgs (F := Bits) = Cert.Kernel2Ideal.pcfgs (F := Bits) := rfl

theorem defs_eq : Cert.Kernel2.defs (F := Bits) = Cert.Kernel2Ideal.defs (F := Bits) :=
  congrArg (Pipeline.defs (Cert.Kernel2Ideal.pcfgs (F := Bits))) defs₀_eq

/-- The host code around the call. -/
theorem main_eq : Cert.Kernel2.main (F := Bits) = Cert.Kernel2Ideal.main (F := Bits) := by
  with_unfolding_all rfl

end Cert.SameText2
-- ==== Proof.MoeBody.lean ====
/- One grid point of the experts' call: a block of 512 slots through its expert, or a block of zeros. -/
module

public import proofs.«01_k».proof.Proof.Gen.Kernel2Ideal.Launch
public import proofs.«01_k».proof.Proof.Gen.Kernel2Ideal.Skeleton
public import Idealize.ShloMosaic.Lib.Tactic
public import Idealize.ShloMosaic.Lib.Exec
public import Idealize.ShloMosaic.Lib.Pipeline.Frame
public import Idealize.ShloMosaic.Lib.WholeRead
public import Idealize.ShloMosaic.Lib.VecWindow
public import Idealize.ShloMosaic.Lib.Pipeline.ValueKit

@[expose] public section

set_option maxRecDepth 16384

noncomputable section

namespace Cert.Moe

open Cert.Kernel2Ideal Cert.Kernel2Ideal.Gen
open Idealize.ShloMosaic hiding ix1 ix2 ix3
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section

variable (c : Dev nD) (i : grid0.Coords)
  (arg3 : Memref sig .tc .vmem S512x2048 .f32) (harg3 : arg3.IsWhole) (arg4 : Memref sig .tc .vmem S1x2048x1024 .bf16) (harg4 : arg4.IsWhole)
  (arg5 : Memref sig .tc .vmem S1x2048x1024 .bf16) (harg5 : arg5.IsWhole) (arg6 : Memref sig .tc .vmem S1x1024x2048 .bf16) (harg6 : arg6.IsWhole)
  (arg7 : Memref sig .tc .vmem S512x2048 .f32) (harg7 : arg7.IsWhole)
  (X3 : S512x2048.Idx → Elt F .f32) (X4 X5 : S1x2048x1024.Idx → Elt F .bf16) (X6 : S1x1024x2048.Idx → Elt F .bf16) (X7 : S512x2048.Idx → Elt F .f32)

abbrev tab0 : Memref sig .tc .smem S160 .i32 := Memref.whole main_v33
abbrev tab1 : Memref sig .tc .smem S1 .i32 := Memref.whole main_v21

/-- The word the body loads from the one-word table. -/
theorem tab1_word (T : S1.Idx → Elt F .i32) :
    View.readAt (Elt F) tab1.view (Rect.unit (s := S1) ![0] S1.size inb_S1_S1_0).toLoadRect T (Shape.Idx.first (show 0 < S1.numel by decide)) = T (ix1 0) := by
  refine congrArg T (?_ : (_ : S1.Idx) = _)
  funext a
  fin_cases a; rfl

/-- The first and the second 512 of a weight block's 1024 hidden columns. -/
def lo (X : S1x2048x1024.Idx → Elt F .bf16) : Vec F S1x2048x512 .bf16 := fun x => X ((Rect.unit (s := S1x2048x1024) ![0, 0, 0] S1x2048x512.size inb_S1x2048x1024_S1x2048x512_0_0_0).toLoadRect.idx x)
def hi (X : S1x2048x1024.Idx → Elt F .bf16) : Vec F S1x2048x512 .bf16 := fun x => X ((Rect.unit (s := S1x2048x1024) ![0, 0, 512] S1x2048x512.size inb_S1x2048x1024_S1x2048x512_0_0_512).toLoadRect.idx x)
/-- The first and the second 512 of the last weight block's 1024 rows. -/
def top (X : S1x1024x2048.Idx → Elt F .bf16) : Vec F S1x512x2048 .bf16 := fun x => X ((Rect.unit (s := S1x1024x2048) ![0, 0, 0] S1x512x2048.size inb_S1x1024x2048_S1x512x2048_0_0_0).toLoadRect.idx x)
def bot (X : S1x1024x2048.Idx → Elt F .bf16) : Vec F S1x512x2048 .bf16 := fun x => X ((Rect.unit (s := S1x1024x2048) ![0, 512, 0] S1x512x2048.size inb_S1x1024x2048_S1x512x2048_0_512_0).toLoadRect.idx x)

/-- What a used block's point leaves. -/
def through : Vec F S512x2048 .f32 := k0_pay1 (k0_pay5 X3 (hi X4) (hi X5) (bot X6)) (k0_pay4 X3 (lo X4) (lo X5) (top X6))

/-- A used block's point. -/
theorem body_used (T : S1.Idx → Elt F .i32) (q : PosShare TreeShare)
    (h1 : k0_cond1 i (T (ix1 0)) = 1#1) (h2 : ¬ k0_cond2 i (T (ix1 0)) = 1#1) :
    (iprop((tab1.view.loc (c : Thread nD τ) ↦{q} T) ∗ (arg3.view.loc (c : Thread nD τ) ↦{fullShare} harg3.unread X3) ∗ (arg4.view.loc (c : Thread nD τ) ↦{fullShare} harg4.unread X4)
      ∗ (arg5.view.loc (c : Thread nD τ) ↦{fullShare} harg5.unread X5) ∗ (arg6.view.loc (c : Thread nD τ) ↦{fullShare} harg6.unread X6) ∗ (arg7.view.loc (c : Thread nD τ) ↦{fullShare} harg7.unread X7)) : sProp 𝕄)
    ⊢ wp frame (wpE (defs₀ (F := F)) Variants.none c none) Set.univ (cc0_moe i tab0 (Memref.isWhole_whole _) tab1 (Memref.isWhole_whole _) arg3 harg3 arg4 harg4 arg5 harg5 arg6 harg6 arg7 harg7)
      (fun _ => iprop((tab1.view.loc (c : Thread nD τ) ↦{q} T) ∗ (arg3.view.loc (c : Thread nD τ) ↦{fullShare} harg3.unread X3) ∗ (arg4.view.loc (c : Thread nD τ) ↦{fullShare} harg4.unread X4)
      ∗ (arg5.view.loc (c : Thread nD τ) ↦{fullShare} harg5.unread X5) ∗ (arg6.view.loc (c : Thread nD τ) ↦{fullShare} harg6.unread X6) ∗ (arg7.view.loc (c : Thread nD τ) ↦{fullShare} harg7.unread (through X3 X4 X5 X6)))) := by
  rw [cc0_moe_eq_skeleton]
  sl_unfold [cc0_moe_skel]
  iintro ⟨HT, H3, H4, H5, H6, H7⟩
  have h1' : k0_cond1 i (View.readAt (Elt F) tab1.view (Rect.unit (s := S1) ![0] S1.size inb_S1_S1_0).toLoadRect T (Shape.Idx.first (show 0 < S1.numel by decide))) = 1#1 := by rw [tab1_word]; exact h1
  have h2' : ¬ k0_cond2 i (View.readAt (Elt F) tab1.view (Rect.unit (s := S1) ![0] S1.size inb_S1_S1_0).toLoadRect T (Shape.Idx.first (show 0 < S1.numel by decide))) = 1#1 := by rw [tab1_word]; exact h2
  sl_exec
  sl_step
  isplitl [HT]; · iexact HT
  isplitl [H3]; · iexact H3
  isplitl [H4]; · iexact H4
  isplitl [H5]; · iexact H5
  isplitl [H6]; · iexact H6
  ihave H7 := (show (arg7.view.loc (c : Thread nD τ) ↦{fullShare} _) ⊢ (arg7.view.loc (c : Thread nD τ) ↦{fullShare} harg7.unread (through X3 X4 X5 X6)) from Entails.of_eq (congrArg _ ?h)) $$ H7
  case h =>
    refine harg7.eq_unread ?_
    refine (View.read_writes_full (Val := Elt F) arg7.view _ inb_S512x2048_S512x2048_0_0 _ _).trans ?_
    unfold body_used.sl.v37 body_used.sl.H7_1 body_used.sl.r_1
    rw [View.readCov_full (Val := Elt F) arg7.view]
    have e3 : View.readAt (Elt F) arg3.view (Rect.unit (s := S512x2048) ![0, 0] S512x2048.size inb_S512x2048_S512x2048_0_0).toLoadRect (harg3.unread X3) = X3 :=
      (View.readAt_full (Val := Elt F) arg3.view (harg3.unread X3) inb_S512x2048_S512x2048_0_0).trans (harg3.read_unread X3)
    have e4 : ∀ B : LoadRect S1x2048x1024, View.readAt (Elt F) arg4.view B (harg4.unread X4) = fun x => X4 (B.idx x) := fun B => funext fun x => harg4.readAt_unread X4 B x
    have e5 : ∀ B : LoadRect S1x2048x1024, View.readAt (Elt F) arg5.view B (harg5.unread X5) = fun x => X5 (B.idx x) := fun B => funext fun x => harg5.readAt_unread X5 B x
    have e6 : ∀ B : LoadRect S1x1024x2048, View.readAt (Elt F) arg6.view B (harg6.unread X6) = fun x => X6 (B.idx x) := fun B => funext fun x => harg6.readAt_unread X6 B x
    rw [e3, e4, e4, e5, e5, e6, e6]
    rfl
  iexact H7

/-- An unused block's point: zeros. -/
theorem body_unused (T : S1.Idx → Elt F .i32) (q : PosShare TreeShare)
    (h1 : ¬ k0_cond1 i (T (ix1 0)) = 1#1) (h2 : k0_cond2 i (T (ix1 0)) = 1#1) :
    (iprop((tab1.view.loc (c : Thread nD τ) ↦{q} T) ∗ (arg3.view.loc (c : Thread nD τ) ↦{fullShare} harg3.unread X3) ∗ (arg4.view.loc (c : Thread nD τ) ↦{fullShare} harg4.unread X4)
      ∗ (arg5.view.loc (c : Thread nD τ) ↦{fullShare} harg5.unread X5) ∗ (arg6.view.loc (c : Thread nD τ) ↦{fullShare} harg6.unread X6) ∗ (arg7.view.loc (c : Thread nD τ) ↦{fullShare} harg7.unread X7)) : sProp 𝕄)
    ⊢ wp frame (wpE (defs₀ (F := F)) Variants.none c none) Set.univ (cc0_moe i tab0 (Memref.isWhole_whole _) tab1 (Memref.isWhole_whole _) arg3 harg3 arg4 harg4 arg5 harg5 arg6 harg6 arg7 harg7)
      (fun _ => iprop((tab1.view.loc (c : Thread nD τ) ↦{q} T) ∗ (arg3.view.loc (c : Thread nD τ) ↦{fullShare} harg3.unread X3) ∗ (arg4.view.loc (c : Thread nD τ) ↦{fullShare} harg4.unread X4)
      ∗ (arg5.view.loc (c : Thread nD τ) ↦{fullShare} harg5.unread X5) ∗ (arg6.view.loc (c : Thread nD τ) ↦{fullShare} harg6.unread X6) ∗ (arg7.view.loc (c : Thread nD τ) ↦{fullShare} harg7.unread (k0_pay2 (F := F))))) := by
  rw [cc0_moe_eq_skeleton]
  sl_unfold [cc0_moe_skel]
  iintro ⟨HT, H3, H4, H5, H6, H7⟩
  have h1' : ¬ k0_cond1 i (View.readAt (Elt F) tab1.view (Rect.unit (s := S1) ![0] S1.size inb_S1_S1_0).toLoadRect T (Shape.Idx.first (show 0 < S1.numel by decide))) = 1#1 := by rw [tab1_word]; exact h1
  have h2' : k0_cond2 i (View.readAt (Elt F) tab1.view (Rect.unit (s := S1) ![0] S1.size inb_S1_S1_0).toLoadRect T (Shape.Idx.first (show 0 < S1.numel by decide))) = 1#1 := by rw [tab1_word]; exact h2
  sl_exec
  sl_step
  isplitl [HT]; · iexact HT
  isplitl [H3]; · iexact H3
  isplitl [H4]; · iexact H4
  isplitl [H5]; · iexact H5
  isplitl [H6]; · iexact H6
  ihave H7 := (show (arg7.view.loc (c : Thread nD τ) ↦{fullShare} _) ⊢ (arg7.view.loc (c : Thread nD τ) ↦{fullShare} harg7.unread (k0_pay2 (F := F))) from Entails.of_eq (congrArg _ ?h)) $$ H7
  case h =>
    refine harg7.eq_unread ?_
    exact View.read_writes_full (Val := Elt F) arg7.view _ inb_S512x2048_S512x2048_0_0 (k0_pay2 (F := F)) _
  iexact H7

end

end Cert.Moe

end
-- ==== Proof.MoeRun.lean ====
/- The launch of the experts' call: what each grid point leaves, and the run of the whole call. -/
module

public import proofs.«01_k».proof.Proof.MoeBody
public import Idealize.ShloMosaic.Lib.Pipeline.FrameValue

@[expose] public section

set_option maxRecDepth 16384

noncomputable section

namespace Cert.Moe

open Cert.Kernel2Ideal Cert.Kernel2Ideal.Gen
open Idealize.ShloMosaic hiding ix1 ix2 ix3
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the call finds them -/

/-- The buffers after the host operations before the call. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor
theorem fresh3 : (hostOps0_3 : List (HloOp τ sig (Elt F))).Forall fun op => op.fresh = ∅ := by
  simp only [List.Forall]; repeat' constructor
theorem fresh4 : (hostOps0_4 : List (HloOp τ sig (Elt F))).Forall fun op => op.fresh = ∅ := by
  simp only [List.Forall]; repeat' constructor
theorem fresh5 : (hostOps0_5 : List (HloOp τ sig (Elt F))).Forall fun op => op.fresh = ∅ := by
  simp only [List.Forall]; repeat' constructor
theorem fresh6 : (hostOps0_6 : List (HloOp τ sig (Elt F))).Forall fun op => op.fresh = ∅ := by
  simp only [List.Forall]; repeat' constructor

set_option maxHeartbeats 800000 in
theorem enters_main : Pipeline.HMainP (Ix := Unit) (Name := ℕ) (U := UR sig nD τ) (Lvl := ℕ) (pcfgs (F := F)) 0 defs₀ Variants.none m (main (F := F)) (V m) :=
  Pipeline.hmainP_prefixes (pcfgs (F := F)) 0 defs₀ Variants.none m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨fresh0, fresh1, fresh2, fresh3, fresh4, fresh5, fresh6⟩) main_chain

variable (a : (pcfg0 (F := F)).Adm)

/-- The word of the one-word table: how many blocks are used. -/
abbrev word : BitVec 32 := (show S1.Idx → Elt F .i32 from a.1 1) (ix1 0)

/-- Window `w`'s block at point `t`. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V m c (Pipeline.arrRef spec0 w))

abbrev rows (c : Dev nD) (t : Fin (cfg0 a).N) : S512x2048.Idx → Elt F .f32 := iblk m a c 0 t
abbrev wOne (c : Dev nD) (t : Fin (cfg0 a).N) : S1x2048x1024.Idx → Elt F .bf16 := iblk m a c 1 t
abbrev wThree (c : Dev nD) (t : Fin (cfg0 a).N) : S1x2048x1024.Idx → Elt F .bf16 := iblk m a c 2 t
abbrev wTwo (c : Dev nD) (t : Fin (cfg0 a).N) : S1x1024x2048.Idx → Elt F .bf16 := iblk m a c 3 t

/-- What point `t` leaves in the result's block. -/
def left (c : Dev nD) (t : Fin (cfg0 a).N) : S512x2048.Idx → Elt F .f32 :=
  if k0_cond1 (grid0.coords t) (word a) = 1#1 then through (rows m a c t) (wOne m a c t) (wThree m a c t) (wTwo m a c t) else k0_pay2 (F := F)

def dats (_ : Fin 1) (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => left m a c t
  Φ t := iprop(Pipeline.ΦA spec0 c ∗ Pipeline.ΦT pre0 a.1 c)
  q _ := fullShare
  owed _ := 0

theorem A_eq (c : Dev nD) (w : Fin (cfg0 a).W) : (dats m a 0 c).A w = V m c (Pipeline.arrRef spec0 w) := by
  dsimp only [dats]
theorem after0 (c : Dev nD) (t : Fin (cfg0 a).N) : (dats m a 0 c).after 0 t = iblk m a c 0 t := by dsimp only [dats]; rfl
theorem after1 (c : Dev nD) (t : Fin (cfg0 a).N) : (dats m a 0 c).after 1 t = iblk m a c 1 t := by dsimp only [dats]; rfl
theorem after2 (c : Dev nD) (t : Fin (cfg0 a).N) : (dats m a 0 c).after 2 t = iblk m a c 2 t := by dsimp only [dats]; rfl
theorem after3 (c : Dev nD) (t : Fin (cfg0 a).N) : (dats m a 0 c).after 3 t = iblk m a c 3 t := by dsimp only [dats]; rfl
theorem after4 (c : Dev nD) (t : Fin (cfg0 a).N) : (dats m a 0 c).after 4 t = left m a c t := by dsimp only [dats]; rfl

theorem before0 (c : Dev nD) (t : Fin (cfg0 a).N) (d) : (dats m a 0 c).before 0 t d = iblk m a c 0 t :=
  ((dats m a 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfg0 a).N) (d) : (dats m a 0 c).before 1 t d = iblk m a c 1 t :=
  ((dats m a 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfg0 a).N) (d) : (dats m a 0 c).before 2 t d = iblk m a c 2 t :=
  ((dats m a 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfg0 a).N) (d) : (dats m a 0 c).before 3 t d = iblk m a c 3 t :=
  ((dats m a 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## One grid point -/

/-- Exactly one of the body's two conditions holds. -/
theorem one_of (i : grid0.Coords) (v : BitVec 32) :
    (k0_cond1 i v = 1#1 ∧ ¬ k0_cond2 i v = 1#1) ∨ (¬ k0_cond1 i v = 1#1 ∧ k0_cond2 i v = 1#1) := by
  unfold k0_cond1 k0_cond2
  generalize BitVec.ofNat 32 (i 0).val = x
  have e : v.sle x = !(x.slt v) := by
    rw [Bool.eq_iff_iff, BitVec.sle_iff_toInt_le, Bool.not_eq_true', ← Bool.not_eq_true, BitVec.slt_iff_toInt_lt, not_lt]
  dsimp only [Scalar.cmpi, Scalar.extui, IntOp.cmpi]
  rw [e]
  cases x.slt v
  · right; decide
  · left; decide

theorem idle_out (t : Fin (cfg0 a).N) : (cfg0 a).idle 4 ((cfg0 a).grid.coords t) = false := by
  show (!(k0_cond1 (grid0.coords t) (a.1.atD 1 ![0]) == 1#1) && !(k0_cond2 (grid0.coords t) (a.1.atD 1 ![0]) == 1#1)) = false
  rcases one_of (grid0.coords t) (a.1.atD 1 ![0]) with ⟨h, -⟩ | ⟨-, h⟩ <;> rw [h] <;> simp

abbrev st0 (t : Fin (cfg0 a).N) : Memref sig .tc .vmem S512x2048 .f32 := spec0_0.stage ((cfg0 a).slots t 0)
abbrev st1 (t : Fin (cfg0 a).N) : Memref sig .tc .vmem S1x2048x1024 .bf16 := spec0_1.stage ((cfg0 a).slots t 1)
abbrev st2 (t : Fin (cfg0 a).N) : Memref sig .tc .vmem S1x2048x1024 .bf16 := spec0_2.stage ((cfg0 a).slots t 2)
abbrev st3 (t : Fin (cfg0 a).N) : Memref sig .tc .vmem S1x1024x2048 .bf16 := spec0_3.stage ((cfg0 a).slots t 3)
abbrev st4 (t : Fin (cfg0 a).N) : Memref sig .tc .vmem S512x2048 .f32 := spec0_4.stage ((cfg0 a).slots t 4)
theorem wh0 (t : Fin (cfg0 a).N) : (st0 a t).IsWhole := hstage0_0 (Fin.cast nbuf0_0 ((cfg0 a).slots t 0))
theorem wh1 (t : Fin (cfg0 a).N) : (st1 a t).IsWhole := hstage0_1 (Fin.cast nbuf0_1 ((cfg0 a).slots t 1))
theorem wh2 (t : Fin (cfg0 a).N) : (st2 a t).IsWhole := hstage0_2 (Fin.cast nbuf0_2 ((cfg0 a).slots t 2))
theorem wh3 (t : Fin (cfg0 a).N) : (st3 a t).IsWhole := hstage0_3 (Fin.cast nbuf0_3 ((cfg0 a).slots t 3))
theorem wh4 (t : Fin (cfg0 a).N) : (st4 a t).IsWhole := hstage0_4 (Fin.cast nbuf0_4 ((cfg0 a).slots t 4))

abbrev bodyAt (t : Fin (cfg0 a).N) : Prog (TpuEff nD τ sig (Elt F) Λ₀ .tc) PUnit :=
  cc0_moe (grid0.coords t) tab0 (Memref.isWhole_whole _) tab1 (Memref.isWhole_whole _) (st0 a t) (wh0 a t) (st1 a t) (wh1 a t) (st2 a t) (wh2 a t) (st3 a t) (wh3 a t) (st4 a t) (wh4 a t)

def bodyPre (c : Dev nD) (t : Fin (cfg0 a).N) : sProp 𝕄 :=
  iprop((dats m a 0 c).Φ t.castSucc ∗ (dats m a 0 c).owesAt () t.castSucc
    ∗ (∃ d, owns (c : Thread nD τ) (st0 a t) fullShare ((dats m a 0 c).before 0 t d))
    ∗ (∃ d, owns (c : Thread nD τ) (st1 a t) fullShare ((dats m a 0 c).before 1 t d))
    ∗ (∃ d, owns (c : Thread nD τ) (st2 a t) fullShare ((dats m a 0 c).before 2 t d))
    ∗ (∃ d, owns (c : Thread nD τ) (st3 a t) fullShare ((dats m a 0 c).before 3 t d))
    ∗ (∃ d, owns (c : Thread nD τ) (st4 a t) fullShare ((dats m a 0 c).before 4 t d)))
def bodyPost (c : Dev nD) (t : Fin (cfg0 a).N) : sProp 𝕄 :=
  iprop((dats m a 0 c).Φ t.succ ∗ (dats m a 0 c).owesAt () t.succ
    ∗ owns (c : Thread nD τ) (st0 a t) fullShare ((dats m a 0 c).after 0 t)
    ∗ owns (c : Thread nD τ) (st1 a t) fullShare ((dats m a 0 c).after 1 t)
    ∗ owns (c : Thread nD τ) (st2 a t) fullShare ((dats m a 0 c).after 2 t)
    ∗ owns (c : Thread nD τ) (st3 a t) fullShare ((dats m a 0 c).after 3 t)
    ∗ owns (c : Thread nD τ) (st4 a t) fullShare ((dats m a 0 c).after 4 t))

theorem owns_whole {sp : Space} {s : Shape} {e : EltTy} (c : Dev nD) (r : Memref sig .tc sp s e) (hr : r.IsWhole) (X : s.Idx → Elt F e) :
    (owns (c : Thread nD τ) r fullShare X : sProp 𝕄) ⊢ (r.view.loc (c : Thread nD τ) ↦{fullShare} hr.unread X) := by
  unfold owns
  iintro ⟨%g, %hg, H⟩
  obtain rfl := hr.eq_unread hg
  rw [hr.set_eq_univ]
  iexact H
theorem whole_owns {sp : Space} {s : Shape} {e : EltTy} (c : Dev nD) (r : Memref sig .tc sp s e) (hr : r.IsWhole) (X : s.Idx → Elt F e) :
    (r.view.loc (c : Thread nD τ) ↦{fullShare} hr.unread X) ⊢ (owns (c : Thread nD τ) r fullShare X : sProp 𝕄) := by
  unfold owns
  iintro H
  iexists _
  isplitr
  · ipureintro; exact hr.read_unread X
  rw [hr.set_eq_univ]
  iexact H

/-- The two tables held at a share. -/
theorem tables_eq (c : Dev nD) : (Pipeline.ΦT pre0 a.1 c : sProp 𝕄)
    = iprop((tab0.view.loc (c : Thread nD τ) ↦{fullShare.right} (show S160.Idx → Elt F .i32 from a.1 0)) ∗ (tab1.view.loc (c : Thread nD τ) ↦{fullShare.right} (show S1.Idx → Elt F .i32 from a.1 1))) := by
  unfold Pipeline.ΦT Pipeline.prefHeld
  exact bigSep_univ_eq_bigSepL [(0 : Fin 2), (1 : Fin 2)] (by decide) (by decide) _

/-- One point's triple on the buffers it touches. -/
theorem point (c : Dev nD) (t : Fin (cfg0 a).N) (X7 : S512x2048.Idx → Elt F .f32) :
    (iprop((tab1.view.loc (c : Thread nD τ) ↦{fullShare.right} (show S1.Idx → Elt F .i32 from a.1 1)) ∗ ((st0 a t).view.loc (c : Thread nD τ) ↦{fullShare} (wh0 a t).unread (rows m a c t)) ∗ ((st1 a t).view.loc (c : Thread nD τ) ↦{fullShare} (wh1 a t).unread (wOne m a c t))
      ∗ ((st2 a t).view.loc (c : Thread nD τ) ↦{fullShare} (wh2 a t).unread (wThree m a c t)) ∗ ((st3 a t).view.loc (c : Thread nD τ) ↦{fullShare} (wh3 a t).unread (wTwo m a c t)) ∗ ((st4 a t).view.loc (c : Thread nD τ) ↦{fullShare} (wh4 a t).unread X7)) : sProp 𝕄)
    ⊢ wp frame (wpE (defs₀ (F := F)) Variants.none c none) Set.univ (bodyAt a t)
      (fun _ => iprop((tab1.view.loc (c : Thread nD τ) ↦{fullShare.right} (show S1.Idx → Elt F .i32 from a.1 1)) ∗ ((st0 a t).view.loc (c : Thread nD τ) ↦{fullShare} (wh0 a t).unread (rows m a c t)) ∗ ((st1 a t).view.loc (c : Thread nD τ) ↦{fullShare} (wh1 a t).unread (wOne m a c t))
      ∗ ((st2 a t).view.loc (c : Thread nD τ) ↦{fullShare} (wh2 a t).unread (wThree m a c t)) ∗ ((st3 a t).view.loc (c : Thread nD τ) ↦{fullShare} (wh3 a t).unread (wTwo m a c t)) ∗ ((st4 a t).view.loc (c : Thread nD τ) ↦{fullShare} (wh4 a t).unread (left m a c t)))) := by
  rcases one_of (grid0.coords t) (word a) with ⟨h1, h2⟩ | ⟨h1, h2⟩
  · rw [show left m a c t = through (rows m a c t) (wOne m a c t) (wThree m a c t) (wTwo m a c t) from if_pos h1]
    exact body_used (F := F) c (grid0.coords t) (st0 a t) (wh0 a t) (st1 a t) (wh1 a t) (st2 a t) (wh2 a t) (st3 a t) (wh3 a t) (st4 a t) (wh4 a t)
      (rows m a c t) (wOne m a c t) (wThree m a c t) (wTwo m a c t) X7 (show S1.Idx → Elt F .i32 from a.1 1) fullShare.right h1 h2
  · rw [show left m a c t = k0_pay2 (F := F) from if_neg h1]
    exact body_unused (F := F) c (grid0.coords t) (st0 a t) (wh0 a t) (st1 a t) (wh1 a t) (st2 a t) (wh2 a t) (st3 a t) (wh3 a t) (st4 a t) (wh4 a t)
      (rows m a c t) (wOne m a c t) (wThree m a c t) (wTwo m a c t) X7 (show S1.Idx → Elt F .i32 from a.1 1) fullShare.right h1 h2

theorem sound_body (c : Dev nD) (t : Fin (cfg0 a).N) :
    bodyPre m a c t ⊢ wp frame (wpE (defs₀ (F := F)) Variants.none c none) Set.univ (bodyAt a t) (fun _ => bodyPost m a c t) := by
  unfold bodyPre bodyPost
  rw [show (dats m a 0 c).Φ t.succ = iprop(Pipeline.ΦA spec0 c ∗ Pipeline.ΦT pre0 a.1 c) from rfl, show (dats m a 0 c).Φ t.castSucc = iprop(Pipeline.ΦA spec0 c ∗ Pipeline.ΦT pre0 a.1 c) from rfl, tables_eq]
  simp only [before0, before1, before2, before3, after0, after1, after2, after3, after4]
  unfold Dat.owesAt Pipeline.owesWithin
  rw [show (dats m a 0 c).owed t.castSucc = 0 from rfl, show (dats m a 0 c).owed t.succ = 0 from rfl]
  iintro ⟨⟨Hg, HT0, HT1⟩, ⟨%W, -, HW⟩, ⟨%d0, H0⟩, ⟨%d1, H1⟩, ⟨%d2, H2⟩, ⟨%d3, H3⟩, ⟨%d4, H4⟩⟩
  ihave H0 := (owns_whole (F := F) c (st0 a t) (wh0 a t) (rows m a c t)) $$ H0
  ihave H1 := (owns_whole (F := F) c (st1 a t) (wh1 a t) (wOne m a c t)) $$ H1
  ihave H2 := (owns_whole (F := F) c (st2 a t) (wh2 a t) (wThree m a c t)) $$ H2
  ihave H3 := (owns_whole (F := F) c (st3 a t) (wh3 a t) (wTwo m a c t)) $$ H3
  ihave H4 := (owns_whole (F := F) c (st4 a t) (wh4 a t) ((dats m a 0 c).before 4 t d4)) $$ H4
  iapply (wp_wand_r frame _ Set.univ)
  isplitl [HT1 H0 H1 H2 H3 H4]
  · iapply (point m a c t ((dats m a 0 c).before 4 t d4))
    isplitl [HT1]; · iexact HT1
    isplitl [H0]; · iexact H0
    isplitl [H1]; · iexact H1
    isplitl [H2]; · iexact H2
    isplitl [H3]; · iexact H3
    iexact H4
  iintro %_ ⟨HT1, H0, H1, H2, H3, H4⟩
  isplitl [Hg HT0 HT1]
  · isplitl [Hg]; · iexact Hg
    isplitl [HT0]; · iexact HT0
    iexact HT1
  isplitl [HW]
  · iexists W; isplitr; · ipureintro; exact fun _ _ => Or.inl trivial
    iexact HW
  isplitl [H0]; · iapply (whole_owns (F := F) c (st0 a t) (wh0 a t) (rows m a c t)) $$ H0
  isplitl [H1]; · iapply (whole_owns (F := F) c (st1 a t) (wh1 a t) (wOne m a c t)) $$ H1
  isplitl [H2]; · iapply (whole_owns (F := F) c (st2 a t) (wh2 a t) (wThree m a c t)) $$ H2
  isplitl [H3]; · iapply (whole_owns (F := F) c (st3 a t) (wh3 a t) (wTwo m a c t)) $$ H3
  iapply (whole_owns (F := F) c (st4 a t) (wh4 a t) (left m a c t)) $$ H4

theorem defs₀_row (t : Fin (cfg0 a).N) :
    defs₀ (F := F) .tc (cfg0 a).body ((cfg0 a).bodyArgs t ((cfg0 a).slots t)) = bodyAt a t := by
  unfold defs₀; rw [Defs.onTc_tc]

theorem body_obligation (c : Dev nD) : BodyObligation (dats (F := F) m a 0 c) (defs₀ (F := F)) Variants.none () Set.univ := fun t => by
  rw [bigSep_W0, bigSep_W0, defs₀_row, idle_out]
  exact triple_restated (sound_body m a c t) rfl .rfl fun _ => .rfl

/-! ## The run -/

set_option backward.isDefEq.respectTransparency.types false in
theorem run_main (hpf : ∀ c k, V m c (pre0.ref k) = a.1 k) : θ_run defs (onTc (τ := τ) (main (F := F))) (s₀ m ρ)
    (fun r => Pipeline.FramePost (Pipeline.pin (pcfgs (F := F)) fun _ => a) (dats m a) 0 (V m) r ∧ r.2.sem = fun _ => 0) :=
  Pipeline.θ_run_frameP (Q' := _) (pcfgs (F := F)) (fun _ => a) (dats m a) (0 : Fin 1) launch0 defs₀ Variants.none m ρ main
    (hbody := fun c => (body_obligation m a c).loose) (hshare := fun c => (dats m a 0 c).share_full fun _ => rfl)
    (howed := fun _ _ => rfl) (V := V m) (hmain := enters_main m) (hA := A_eq m a) (hpf := hpf) (hΦ := fun _ _ => rfl)

end Cert.Moe

end
-- ==== Proof.MoeReads.lean ====
/- What the host code leaves in the buffers the experts' call reads. -/
module

public import proofs.«01_k».proof.Proof.MoeRun
public import proofs.«01_k».proof.Proof.HostWords
public import Idealize.ShloMosaic.Lib.Claim
public import Idealize.ShloMosaic.Lib.Tactic.CleanTypes
public import Idealize.ShloMosaic.Lib.StableHlo.RunRead

@[expose] public section
set_option maxRecDepth 16384

noncomputable section
namespace Cert.Moe

open Cert.Kernel2Ideal Cert.Kernel2Ideal.Gen
open Idealize.ShloMosaic Idealize.ShloMosaic.TcCoe Idealize.ShloMosaic.Tactic
open Idealize.ShloMosaic.ValueIdx
variable {F : FTy → Type} [FloatOps F]
variable (m : (ℓ : Loc nD τ sig) → Buf (Elt F) ℓ)

/-- The counts. -/
abbrev countsV (c : Dev nD) : IVec S32 32 := m ((c : Thread nD τ).loc main_arg1)
/-- Where each expert's rows end. -/
abbrev endV (n : IVec S32 32) : IVec S32 32 := HostWords.endsV bcast_S_S32 bcast_S_S_ reduceWindows_S32_S32_w32s1p31_0 h_S_ n
/-- How many blocks are used. -/
abbrev usedV (n : IVec S32 32) : IVec S1 32 := Routing.pyDiv bcast_S_S1 (extractStridedSlice S1 ![31] (endV n) slices_S32_S1_31) (constantI S_ 32 512#32)
/-- Each block's expert, the last expert behind them. -/
abbrev expertV (n : IVec S32 32) : IVec S160 32 :=
  minsi (Host.reduce IntOp.addi (extui 32 (cmpi .sle (broadcastInDim S160x32 ![0, 1] bcast_S1x32_S160x32_0_1 (broadcastInDim S1x32 ![1] bcast_S32_S1x32_1 (endV n)))
    (broadcastInDim S160x32 ![0, 1] bcast_S160x1_S160x32_0_1 (broadcastInDim S160x1 ![0] bcast_S160_S160x1_0 (muli (iotaInDim S160 32 0) (broadcastInDim S160 ![] bcast_S_S160 (constantI S_ 32 512#32)))))) natLt_1_32)
    (constantI S_ 32 0#32) reducesTo_S160x32_S160_d1 h_S_) (broadcastInDim S160 ![] bcast_S_S160 (constantI S_ 32 31#32))
/-- Each block's number, the last used block's behind them. -/
abbrev lastV (n : IVec S32 32) : IVec S160 32 :=
  minsi (iotaInDim S160 32 0) (broadcastInDim S160 ![0] bcast_S1_S160_0 (subi (usedV n) (broadcastInDim S1 ![] bcast_S_S1 (constantI S_ 32 1#32))))

theorem read_used (c : Dev nD) : V m c main_v21 = usedV (countsV m c) := by
  unfold_abbrev_sides
  simp only [hostOps0, hostOps0_1, hostOps0_2, hostOps0_3, hostOps0_4, hostOps0_5, hostOps0_6, List.flatten_cons, List.flatten_nil, List.append_nil, List.cons_append, List.nil_append]
  after_reads_simp
  simp -implicitDefEqProofs only [StableHlo.TRef.toBuf, StableHlo.TRef.ofBuf, cast_cast, cast_eq]
  clean_types
  simp only [id]
  rfl

theorem read_expert (c : Dev nD) : V m c main_v33 = Host.gather gather_S160_S160x1_S160_n_0_n_n_0_1_1 (expertV (countsV m c))
    (broadcastInDim S160x1 ![0] bcast_S160_S160x1_0 (select (cmpi .slt (lastV (countsV m c)) (broadcastInDim S160 ![] bcast_S_S160 (constantI S_ 32 0#32)))
      (addi (lastV (countsV m c)) (broadcastInDim S160 ![] bcast_S_S160 (constantI S_ 32 160#32))) (lastV (countsV m c)))) := by
  unfold_abbrev_sides
  simp only [hostOps0, hostOps0_1, hostOps0_2, hostOps0_3, hostOps0_4, hostOps0_5, hostOps0_6, List.flatten_cons, List.flatten_nil, List.append_nil, List.cons_append, List.nil_append]
  after_reads_simp
  simp -implicitDefEqProofs only [StableHlo.TRef.toBuf, StableHlo.TRef.ofBuf, cast_cast, cast_eq]
  clean_types
  simp only [id]
  rfl

theorem read_one (c : Dev nD) : V m c main_v34 = truncf .bf16 (show FVec F S32x2048x1024 .f32 from m ((c : Thread nD τ).loc main_arg2)) bitsLt_bf16_f32 := by
  unfold_abbrev_sides
  simp only [hostOps0, hostOps0_1, hostOps0_2, hostOps0_3, hostOps0_4, hostOps0_5, hostOps0_6, List.flatten_cons, List.flatten_nil, List.append_nil, List.cons_append, List.nil_append]
  after_reads_simp

theorem read_three (c : Dev nD) : V m c main_v35 = truncf .bf16 (show FVec F S32x2048x1024 .f32 from m ((c : Thread nD τ).loc main_arg3)) bitsLt_bf16_f32 := by
  unfold_abbrev_sides
  simp only [hostOps0, hostOps0_1, hostOps0_2, hostOps0_3, hostOps0_4, hostOps0_5, hostOps0_6, List.flatten_cons, List.flatten_nil, List.append_nil, List.cons_append, List.nil_append]
  after_reads_simp

theorem read_two (c : Dev nD) : V m c main_v36 = truncf .bf16 (show FVec F S32x1024x2048 .f32 from m ((c : Thread nD τ).loc main_arg4)) bitsLt_bf16_f32 := by
  unfold_abbrev_sides
  simp only [hostOps0, hostOps0_1, hostOps0_2, hostOps0_3, hostOps0_4, hostOps0_5, hostOps0_6, List.flatten_cons, List.flatten_nil, List.append_nil, List.cons_append, List.nil_append]
  after_reads_simp

theorem V_arg0 (c : Dev nD) : V m c main_arg0 = m ((c : Thread nD τ).loc main_arg0) := by
  refine StableHlo.after_of_forall_not_mem (b := Proc.devRef .tc main_arg0) _ _ (List.forall_iff_forall_mem.mp ?_)
  simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, Finset.mem_singleton]
  repeat' apply And.intro
  all_goals exact StableHlo.devRef_ne_of_ne (by decide)

theorem V_arg1 (c : Dev nD) : V m c main_arg1 = m ((c : Thread nD τ).loc main_arg1) := by
  refine StableHlo.after_of_forall_not_mem (b := Proc.devRef .tc main_arg1) _ _ (List.forall_iff_forall_mem.mp ?_)
  simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, Finset.mem_singleton]
  repeat' apply And.intro
  all_goals exact StableHlo.devRef_ne_of_ne (by decide)

theorem V_arg2 (c : Dev nD) : V m c main_arg2 = m ((c : Thread nD τ).loc main_arg2) := by
  refine StableHlo.after_of_forall_not_mem (b := Proc.devRef .tc main_arg2) _ _ (List.forall_iff_forall_mem.mp ?_)
  simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, Finset.mem_singleton]
  repeat' apply And.intro
  all_goals exact StableHlo.devRef_ne_of_ne (by decide)

theorem V_arg3 (c : Dev nD) : V m c main_arg3 = m ((c : Thread nD τ).loc main_arg3) := by
  refine StableHlo.after_of_forall_not_mem (b := Proc.devRef .tc main_arg3) _ _ (List.forall_iff_forall_mem.mp ?_)
  simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, Finset.mem_singleton]
  repeat' apply And.intro
  all_goals exact StableHlo.devRef_ne_of_ne (by decide)

theorem V_arg4 (c : Dev nD) : V m c main_arg4 = m ((c : Thread nD τ).loc main_arg4) := by
  refine StableHlo.after_of_forall_not_mem (b := Proc.devRef .tc main_arg4) _ _ (List.forall_iff_forall_mem.mp ?_)
  simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, Finset.mem_singleton]
  repeat' apply And.intro
  all_goals exact StableHlo.devRef_ne_of_ne (by decide)

end Cert.Moe
end
-- ==== Proof.MoeCount.lean ====
/- The blocks of the experts' runs, as natural numbers, and the words the host code computes of them. -/
module

public import proofs.«01_k».proof.Pre_tallied
public import proofs.«01_k».proof.Proof.HostWords
public import Idealize.ShloMosaic.Lib.Routing.OpsSet
public import Idealize.ShloMosaic.Lib.WordArith

@[expose] public section

set_option maxRecDepth 16384

noncomputable section

namespace Cert.MoeCount

open Idealize.ShloMosaic Idealize.ShloMosaic.ValueIdx Idealize.ShloMosaic.Routing Idealize.ShloMosaic.WordCmp Cert.HostWords

/-! ## Natural numbers -/

section Nat
variable (N : ℕ → ℕ)

/-- How many blocks of 512 rows expert `e` has, each of them begun. -/
def blocks (e : ℕ) : ℕ := (N e + 511) / 512
/-- The first block of expert `k`. -/
def edge (k : ℕ) : ℕ := ((List.range k).map (blocks N)).sum
/-- The expert of block `i`: how many experts' blocks end at or before it. -/
def own (i : ℕ) : ℕ := Nat.count (fun e => edge N (e + 1) ≤ i) 32

theorem edge_succ (k : ℕ) : edge N (k + 1) = edge N k + blocks N k := by
  unfold edge
  rw [List.range_succ, List.map_append, List.sum_append, List.map_singleton, List.sum_singleton]

theorem rows_sum (k : ℕ) : ((List.range k).map fun e => blocks N e * 512).sum = edge N k * 512 := by
  induction k with
  | zero => rfl
  | succ k ih =>
    rw [List.range_succ, List.map_append, List.sum_append, List.map_singleton, List.sum_singleton, ih, edge_succ, Nat.add_mul]

theorem edge_mono {j k : ℕ} (h : j ≤ k) : edge N j ≤ edge N k := by
  induction h with
  | refl => exact le_rfl
  | step _ ih => exact ih.trans (by rw [edge_succ]; omega)

theorem edge_between (k : ℕ) :
    ((List.range k).map N).sum ≤ edge N k * 512 ∧ edge N k * 512 ≤ ((List.range k).map N).sum + 511 * k := by
  induction k with
  | zero => exact ⟨le_rfl, le_rfl⟩
  | succ k ih =>
    rw [edge_succ, List.range_succ, List.map_append, List.sum_append, List.map_singleton, List.sum_singleton]
    have hb : blocks N k = (N k + 511) / 512 := rfl
    omega

theorem own_lt {i : ℕ} (h : i < edge N 32) : own N i < 32 := by
  unfold own
  rw [Nat.count_succ, if_neg (by show ¬ edge N 32 ≤ i; omega)]
  have := Nat.count_le (p := fun e => edge N (e + 1) ≤ i) (n := 31)
  omega

theorem own_all {i : ℕ} (h : edge N 32 ≤ i) : own N i = 32 := by
  unfold own
  exact Nat.count_iff_forall.2 fun e he => (edge_mono N (by omega)).trans h

/-- A slot is behind an expert's rows exactly when its block is behind the expert's blocks. -/
theorem own_slot (s : ℕ) : Nat.count (fun e => edge N (e + 1) * 512 ≤ s) 32 = own N (s / 512) := by
  unfold own
  congr 1
  funext e
  exact propext ⟨fun h => by omega, fun h => by omega⟩

end Nat

/-- The counts are numbers that add up to all the choices. -/
structure Ok (n : IVec (shape1 32) 32) (N : ℕ → ℕ) : Prop where
  at_ : ∀ e : Fin 32, n (ix1 e) = BitVec.ofNat 32 (N e.val)
  le : ∀ e, N e ≤ 65536
  sum : ((List.range 32).map N).sum = 65536

/-- The counts as naturals. -/
def nums (n : IVec (shape1 32) 32) (e : ℕ) : ℕ := if h : e < 32 then (n (ix1 ⟨e, h⟩)).toNat else 0

theorem sum_le (N : ℕ → ℕ) (h : ∀ e, N e ≤ 65536) (k : ℕ) : ((List.range k).map N).sum ≤ 65536 * k := by
  induction k with
  | zero => exact le_rfl
  | succ k ih =>
    rw [List.range_succ, List.map_append, List.sum_append, List.map_singleton, List.sum_singleton]
    have := h k
    omega

theorem ok_of {F : FTy → Type} [FloatOps F] [Cert.Pre_tallied.Facts] (x : FVec F (shape2 81920 2048) .f32) (n : IVec (shape1 32) 32)
    (w1 w3 : FVec F (shape3 32 2048 1024) .f32) (w2 : FVec F (shape3 32 1024 2048) .f32)
    (h : (Cert.Pre_tallied.fn (F := F) x n w1 w3 w2).1 = (fun _ => 1#1) ∧ (Cert.Pre_tallied.fn (F := F) x n w1 w3 w2).2 = (fun _ => 1#1)) :
    Ok n (nums n) := by
  have hand : ∀ x y : BitVec 1, IntOp.andi x y = 1#1 → x = 1#1 ∧ y = 1#1 := by decide
  have hat : ∀ e : Fin 32, n (ix1 e) = BitVec.ofNat 32 (nums n e.val) := fun e => by
    unfold nums
    rw [dif_pos e.isLt, BitVec.ofNat_toNat, BitVec.setWidth_eq]
  have hle : ∀ e, nums n e ≤ 65536 := fun e => by
    unfold nums
    split
    · rename_i he
      have h1 := congrFun h.1 (ix1 (⟨e, he⟩ : Fin 32))
      change IntOp.andi (IntOp.cmpi .sge (n (ix1 ⟨e, he⟩)) 0#32) (IntOp.cmpi .sle (n (ix1 ⟨e, he⟩)) 65536#32) = 1#1 at h1
      obtain ⟨ha, hb⟩ := hand _ _ h1
      rw [cmpi_sge_zero, ofBool_decide_eq_one_iff] at ha
      rw [← BitVec.setWidth_eq (n (ix1 ⟨e, he⟩)), ← BitVec.ofNat_toNat, show (65536#32 : BitVec 32) = BitVec.ofNat 32 65536 from rfl,
        cmpi_sle_ofNat_eq_one_iff (w := 32) ha (by decide)] at hb
      exact hb
    · omega
  refine ⟨hat, hle, ?_⟩
  have h2 := congrFun h.2 ix0
  change IntOp.cmpi .eq (Host.reduce IntOp.addi n (constantI shape0 32 0#32) _ _ ix0) 65536#32 = 1#1 at h2
  rw [StableHlo.Predicate.cmpi_eq_iff, reduce_sum n (nums n) hat] at h2
  have h3 := congrArg BitVec.toNat h2
  rw [BitVec.toNat_ofNat] at h3
  have h4 := sum_le _ hle 32
  rw [Nat.mod_eq_of_lt (by omega)] at h3
  exact h3

/-! ## Words -/

section Words
variable {n : IVec (shape1 32) 32} {N : ℕ → ℕ} (ok : Ok n N)
include ok

theorem edge_bounds : 128 ≤ edge N 32 ∧ edge N 32 ≤ 159 := by
  have h := edge_between N 32
  have := ok.sum
  omega

theorem edge_le_all {k : ℕ} (hk : k ≤ 32) : edge N k ≤ 159 := (edge_mono N hk).trans (edge_bounds ok).2

theorem padded_at (bS : (shape0 : Shape).BroadcastsInDim Row (![] : Fin 0 → Fin Row.rank)) (e : Fin 32) :
    paddedV bS n (ix1 e) = BitVec.ofNat 32 (blocks N e.val * 512) := by
  have hle := ok.le e.val
  have h1 : subi (addi n (broadcastInDim Row ![] bS (constantI shape0 32 512#32))) (broadcastInDim Row ![] bS (constantI shape0 32 1#32)) (ix1 e)
      = BitVec.ofNat 32 (N e.val + 511) := by
    rw [subi_ap, addi_ap, bc0, bc0, ok.at_]
    show BitVec.ofNat 32 _ + BitVec.ofNat 32 512 - BitVec.ofNat 32 1 = _
    rw [BitVec.ofNat_add_ofNat, ofNat32_sub (by omega)]
    rfl
  unfold paddedV
  rw [muli_ap, pyDiv_ap bS _ _ _ h1 (b := 512) rfl (by omega) (by decide) (by decide), bc0]
  show BitVec.ofNat 32 _ * BitVec.ofNat 32 512 = _
  rw [BitVec.ofNat_mul_ofNat]; unfold blocks; rfl

theorem ends_at (bS : (shape0 : Shape).BroadcastsInDim Row (![] : Fin 0 → Fin Row.rank))
    (b0 : (shape0 : Shape).BroadcastsInDim shape0 (![] : Fin 0 → Fin shape0.rank))
    (hw : Row.ReduceWindows (![32] : Fin 1 → ℕ) ![1] ![31] ![0] Row) (hu : 0 < shape0.numel) (e : Fin 32) :
    endsV bS b0 hw hu n (ix1 e) = BitVec.ofNat 32 (edge N (e.val + 1) * 512) := by
  unfold endsV
  rw [cumsum1 (Nm1 := 31) rfl _ (fun e => blocks N e * 512) (padded_at ok bS) _ (by rw [bc0]; rfl) hw hu e, rows_sum]

/-- How many experts' rows end at or before position `p i`, counted along a row. -/
theorem count_at {M : ℕ} (x : IVec (shape1 32) 32) (hx : ∀ e : Fin 32, x (ix1 e) = BitVec.ofNat 32 (edge N (e.val + 1) * 512))
    (q : IVec (shape1 M) 32) (p : ℕ → ℕ) (i : Fin M) (hq : q (ix1 i) = BitVec.ofNat 32 (p i.val)) (hp : p i.val < 2 ^ 31)
    (h1 : (shape1 32).BroadcastsInDim (shape2 1 32) (![1] : Fin 1 → Fin (shape2 1 32).rank))
    (h2 : (shape2 1 32).BroadcastsInDim (shape2 M 32) (![0, 1] : Fin 2 → Fin (shape2 M 32).rank))
    (h3 : (shape1 M).BroadcastsInDim (shape2 M 1) (![0] : Fin 1 → Fin (shape2 M 1).rank))
    (h4 : (shape2 M 1).BroadcastsInDim (shape2 M 32) (![0, 1] : Fin 2 → Fin (shape2 M 32).rank))
    (hw : 1 < 32) (hr : (shape2 M 32).ReducesTo [1] (shape1 M)) (hu : 0 < shape0.numel) :
    Host.reduce IntOp.addi (extui 32 (cmpi .sle (broadcastInDim (shape2 M 32) ![0, 1] h2 (broadcastInDim (shape2 1 32) ![1] h1 x))
      (broadcastInDim (shape2 M 32) ![0, 1] h4 (broadcastInDim (shape2 M 1) ![0] h3 q))) hw) (constantI shape0 32 0#32) hr hu (ix1 i)
      = BitVec.ofNat 32 (own N (p i.val / 512)) := by
  rw [← own_slot]
  refine reduce_count (by decide) _ hw hr hu i (fun e => edge N (e + 1) * 512 ≤ p i.val) fun e => ?_
  show IntOp.cmpi .sle (broadcastInDim (shape2 M 32) ![0, 1] h2 (broadcastInDim (shape2 1 32) ![1] h1 x) (ix2 i e)) (broadcastInDim (shape2 M 32) ![0, 1] h4 (broadcastInDim (shape2 M 1) ![0] h3 q) (ix2 i e)) = 1#1 ↔ _
  rw [bcRows h3 h4, bcCols h1 h2, hx, hq]
  have he := e.isLt
  have := edge_le_all ok (k := e.val + 1) (by omega)
  rw [cmpi_sle_ofNat_eq_one_iff (w := 32) (by show _ < 2 ^ 31; omega) hp]

end Words

theorem minsi_word {a b : ℕ} (ha : a < 2 ^ 31) (hb : b < 2 ^ 31) : IntOp.minsi (BitVec.ofNat 32 a) (BitVec.ofNat 32 b) = BitVec.ofNat 32 (min a b) := by
  apply BitVec.eq_of_toNat_eq
  have ea : (BitVec.ofNat 32 a).toNat = a := by rw [BitVec.toNat_ofNat, Nat.mod_eq_of_lt (by omega)]
  have eb : (BitVec.ofNat 32 b).toNat = b := by rw [BitVec.toNat_ofNat, Nat.mod_eq_of_lt (by omega)]
  rw [Idealize.ShloMosaic.WordArith.toNat_minsi_of_lt _ _ (by omega) (by omega), ea, eb, BitVec.toNat_ofNat, Nat.mod_eq_of_lt (by omega)]

end Cert.MoeCount
end
-- ==== Proof.MoeTables.lean ====
/- The two tables the experts' call reads, entry by entry, and the blocks its windows take by them. -/
module

public import proofs.«01_k».proof.Proof.MoeReads
public import proofs.«01_k».proof.Proof.MoeCount

@[expose] public section
set_option maxRecDepth 16384

noncomputable section
namespace Cert.Moe

open Cert.Kernel2Ideal Cert.Kernel2Ideal.Gen
open Idealize.ShloMosaic hiding ix1 ix2 ix3
open Idealize.ShloMosaic.TcCoe Idealize.ShloMosaic.Tactic
open Idealize.ShloMosaic.ValueIdx Idealize.ShloMosaic.Routing Idealize.ShloMosaic.WordCmp Cert.MoeCount
variable {F : FTy → Type} [FloatOps F]

/-! ## The words -/

section Words
variable {n : IVec S32 32} {N : ℕ → ℕ} (ok : Ok n N)
include ok

theorem used_at : usedV n (ix1 (0 : Fin 1)) = BitVec.ofNat 32 (edge N 32) := by
  have h := edge_bounds ok
  have h1 : extractStridedSlice S1 ![31] (endV n) slices_S32_S1_31 (ix1 (0 : Fin 1)) = BitVec.ofNat 32 (edge N 32 * 512) :=
    (slice1 31 (endV n) slices_S32_S1_31 (0 : Fin 1) (by decide)).trans (ends_at ok _ _ _ _ (31 : Fin 32))
  refine (pyDiv_ap bcast_S_S1 _ _ _ h1 (b := 512) rfl (by omega) (by decide) (by decide)).trans ?_
  rw [Nat.mul_div_cancel _ (by decide)]

theorem expert_at (i : Fin 160) : expertV n (ix1 i) = BitVec.ofNat 32 (min (own N i.val) 31) := by
  have hi := i.isLt
  have h1 : muli (iotaInDim S160 32 0) (broadcastInDim S160 ![] bcast_S_S160 (constantI S_ 32 512#32)) (ix1 i) = BitVec.ofNat 32 (i.val * 512) := by
    rw [muli_ap]
    refine (congrArg₂ (fun a b : BitVec 32 => a * b) (iota1_ap i) (bc0 _ _ _)).trans ?_
    exact BitVec.ofNat_mul_ofNat _ _
  have h2 := count_at ok (endV n) (ends_at ok _ _ _ _) _ (fun i => i * 512) i h1 (by show i.val * 512 < 2 ^ 31; omega)
    bcast_S32_S1x32_1 bcast_S1x32_S160x32_0_1 bcast_S160_S160x1_0 bcast_S160x1_S160x32_0_1 natLt_1_32 reducesTo_S160x32_S160_d1 h_S_
  have ho : own N i.val ≤ 32 := Nat.count_le _
  refine (congrArg₂ IntOp.minsi h2 (bc0 bcast_S_S160 (constantI S_ 32 31#32) (ix1 i))).trans ?_
  rw [show (fun i => i * 512) i.val / 512 = i.val from Nat.mul_div_cancel _ (by decide)]
  exact minsi_word (by omega) (by decide)

theorem last_at (i : Fin 160) : lastV n (ix1 i) = BitVec.ofNat 32 (min i.val (edge N 32 - 1)) := by
  have hi := i.isLt
  have h := edge_bounds ok
  have h1 : broadcastInDim S160 ![0] bcast_S1_S160_0 (subi (usedV n) (broadcastInDim S1 ![] bcast_S_S1 (constantI S_ 32 1#32))) (ix1 i)
      = BitVec.ofNat 32 (edge N 32 - 1) := by
    refine (broadcastInDim_apply _ bcast_S1_S160_0 _ _ (ix1 (0 : Fin 1)) fun a => ?_).trans ?_
    · match a with
      | ⟨0, _⟩ => rfl
    · rw [subi_ap, used_at ok]
      refine (congrArg (fun b : BitVec 32 => BitVec.ofNat 32 (edge N 32) - b) (bc0 _ _ _)).trans ?_
      exact ofNat32_sub (b := 1) (by omega)
  refine (congrArg₂ IntOp.minsi (iota1_ap i) h1).trans ?_
  exact minsi_word (by omega) (by omega)

theorem looked_at (i : Fin 160) : Host.gather gather_S160_S160x1_S160_n_0_n_n_0_1_1 (expertV n)
    (broadcastInDim S160x1 ![0] bcast_S160_S160x1_0 (select (cmpi .slt (lastV n) (broadcastInDim S160 ![] bcast_S_S160 (constantI S_ 32 0#32)))
      (addi (lastV n) (broadcastInDim S160 ![] bcast_S_S160 (constantI S_ 32 160#32))) (lastV n))) (ix1 i)
      = BitVec.ofNat 32 (own N (min i.val (edge N 32 - 1))) := by
  have hi := i.isLt
  have h := edge_bounds ok
  refine (gather_take1 gather_S160_S160x1_S160_n_0_n_n_0_1_1 rfl rfl rfl rfl (expertV n) _ i (⟨min i.val (edge N 32 - 1), by omega⟩ : Fin 160) ?_ (by decide)).trans ?_
  · refine (bcCol bcast_S160_S160x1_0 _ i).trans ?_
    exact HostWords.wrap_ap _ _ _ _ (last_at ok i) (by omega) (bc0 _ _ _)
  · rw [expert_at ok]
    have := own_lt N (i := min i.val (edge N 32 - 1)) (by omega)
    show BitVec.ofNat 32 (min (own N (min i.val (edge N 32 - 1))) 31) = _
    rw [Nat.min_eq_left (by omega)]

end Words

/-! ## The windows' blocks -/

/-- The tables hold the numbers of the runs. -/
structure Tab (pf : pre0.Contents (Elt F)) (N : ℕ → ℕ) : Prop where
  used : (show S1.Idx → BitVec 32 from pf 1) (ix1 (0 : Fin 1)) = BitVec.ofNat 32 (edge N 32)
  expert : ∀ i : Fin 160, (show S160.Idx → BitVec 32 from pf 0) (ix1 i) = BitVec.ofNat 32 (own N (min i.val (edge N 32 - 1)))
  pos : 1 ≤ edge N 32
  le : edge N 32 ≤ 159

section Maps
variable {pf : pre0.Contents (Elt F)} {N : ℕ → ℕ} (h : Tab pf N) (i : grid0.Coords)
include h

theorem coord_lt : (i 0).val < 160 := (i 0).isLt

theorem map_rows : cc0_transform_0 inb_S1_S1_0 numel1_S1 pf i = ![min (i 0).val (edge N 32 - 1), 0] := by
  have hi := coord_lt h i
  have h1 := h.pos
  have h2 := h.le
  have e : pf.at 1 (Rect.unit (s := S1) ![0] S1.size inb_S1_S1_0) numel1_S1 = BitVec.ofNat 32 (edge N 32) := by
    refine Eq.trans (congrArg (show S1.Idx → BitVec 32 from pf 1) ?_) h.used
    funext a
    match a with
    | ⟨0, _⟩ => exact Fin.ext (Nat.lt_one_iff.1 (Fin.isLt _))
  have e1 : Scalar.subi (BitVec.ofNat 32 (edge N 32)) 1#32 = BitVec.ofNat 32 (edge N 32 - 1) := ofNat32_sub h1
  have e2 : Scalar.minsi (BitVec.ofNat 32 (i 0).val) (BitVec.ofNat 32 (edge N 32 - 1)) = BitVec.ofNat 32 (min (i 0).val (edge N 32 - 1)) :=
    minsi_word (by omega) (by omega)
  have e3 : (BitVec.ofNat 32 (min (i 0).val (edge N 32 - 1))).toNat = min (i 0).val (edge N 32 - 1) := by
    rw [BitVec.toNat_ofNat, Nat.mod_eq_of_lt (by omega)]
  unfold cc0_transform_0
  dsimp only
  rw [e, e1, e2, e3]
  rfl

theorem own_small : own N (min (i 0).val (edge N 32 - 1)) < 32 := own_lt N (by have := h.pos; omega)

theorem look : (pf.at 0 (Rect.unit (s := S160) (k0_off1 i) S1.size (k0_off1_inb i)) numel1_S1 : BitVec 32).toNat = own N (min (i 0).val (edge N 32 - 1)) := by
  have hi := coord_lt h i
  have ho := own_small h i
  have e : pf.at 0 (Rect.unit (s := S160) (k0_off1 i) S1.size (k0_off1_inb i)) numel1_S1 = BitVec.ofNat 32 (own N (min (i 0).val (edge N 32 - 1))) := by
    refine Eq.trans (congrArg (show S160.Idx → BitVec 32 from pf 0) ?_) (h.expert ⟨(i 0).val, hi⟩)
    funext a
    match a with
    | ⟨0, _⟩ =>
      apply Fin.ext
      show (BitVec.ofNat 32 (i 0).val).toNat + 0 * 1 = (i 0).val
      rw [BitVec.toNat_ofNat, Nat.mod_eq_of_lt (by omega)]
      omega
  rw [e, BitVec.toNat_ofNat, Nat.mod_eq_of_lt (by omega)]

theorem map_one : cc0_transform_1 k0_off1_inb numel1_S1 pf i = ![own N (min (i 0).val (edge N 32 - 1)), 0, 0] := by
  rw [← look h i]; rfl
theorem map_three : cc0_transform_2 k0_off1_inb numel1_S1 pf i = ![own N (min (i 0).val (edge N 32 - 1)), 0, 0] := by
  rw [← look h i]; rfl
theorem map_two : cc0_transform_3 k0_off1_inb numel1_S1 pf i = ![own N (min (i 0).val (edge N 32 - 1)), 0, 0] := by
  rw [← look h i]; rfl

end Maps

theorem ok_tab {pf : pre0.Contents (Elt F)} {N : ℕ → ℕ} (h : Tab pf N) : ok0 pf := by
  refine ⟨fun i => ?_, fun i => ?_, fun i => ?_, fun i => ?_⟩
  · refine ⟨fun a => ?_, .inl rfl⟩
    rw [map_rows h]
    have h2 := h.le
    match a with
    | ⟨0, _⟩ => show (min (i 0).val (edge N 32 - 1) + 1) * 512 ≤ 81920; omega
    | ⟨1, _⟩ => show (0 + 1) * 2048 ≤ 2048; omega
  · have ho := own_small h i
    refine ⟨fun a => ?_, .inr (.inr ⟨by decide, rfl, ?_, rfl⟩)⟩
    · rw [map_one h]
      match a with
      | ⟨0, _⟩ => show (own N (min (i 0).val (edge N 32 - 1)) + 1) * 1 ≤ 32; omega
      | ⟨1, _⟩ => show (0 + 1) * 2048 ≤ 2048; omega
      | ⟨2, _⟩ => show (0 + 1) * 1024 ≤ 1024; omega
    · rfl
  · have ho := own_small h i
    refine ⟨fun a => ?_, .inr (.inr ⟨by decide, rfl, ?_, rfl⟩)⟩
    · rw [map_three h]
      match a with
      | ⟨0, _⟩ => show (own N (min (i 0).val (edge N 32 - 1)) + 1) * 1 ≤ 32; omega
      | ⟨1, _⟩ => show (0 + 1) * 2048 ≤ 2048; omega
      | ⟨2, _⟩ => show (0 + 1) * 1024 ≤ 1024; omega
    · rfl
  · have ho := own_small h i
    refine ⟨fun a => ?_, .inr (.inr ⟨by decide, rfl, ?_, rfl⟩)⟩
    · rw [map_two h]
      match a with
      | ⟨0, _⟩ => show (own N (min (i 0).val (edge N 32 - 1)) + 1) * 1 ≤ 32; omega
      | ⟨1, _⟩ => show (0 + 1) * 1024 ≤ 1024; omega
      | ⟨2, _⟩ => show (0 + 1) * 2048 ≤ 2048; omega
    · rfl

/-! ## The tables of a launch -/

variable (m : (ℓ : Loc nD τ sig) → Buf (Elt F) ℓ)

/-- The one device. -/
abbrev dev : Dev nD := (0 : Fin 1)
theorem dev_eq (c : Dev nD) : c = dev := Subsingleton.elim (α := Fin 1) _ _

/-- The tables as the call finds them. -/
def tabs : pre0.Contents (Elt F) := fun k => V m dev (pre0.ref k)

theorem tabs_used : tabs m 1 = usedV (countsV m dev) := by unfold tabs; exact read_used m dev
theorem tabs_expert : tabs m 0 = V m dev main_v33 := rfl

theorem tab_of {N : ℕ → ℕ} (ok : Ok (countsV m dev) N) : Tab (tabs m) N := by
  have hb := edge_bounds ok
  refine ⟨?_, ?_, by omega, hb.2⟩
  · rw [tabs_used]; exact used_at ok
  · rw [tabs_expert, read_expert]; exact looked_at ok

/-- The tables with their blocks in range. -/
def adm {N : ℕ → ℕ} (ok : Ok (countsV m dev) N) : (pcfg0 (F := F)).Adm := ⟨tabs m, ok_tab (tab_of m ok)⟩

theorem adm_eq {N : ℕ → ℕ} (ok : Ok (countsV m dev) N) (c : Dev nD) (k : Fin pre0.K) : V m c (pre0.ref k) = (adm m ok).1 k := by
  rw [dev_eq c]; rfl

end Cert.Moe
end
-- ==== Proof.MoeOut.lean ====
/- What the experts' call leaves: the result block by block, the arguments as launched. -/
module

public import proofs.«01_k».proof.Proof.MoeTables
public import Idealize.ShloMosaic.Lib.Pipeline.ValueKit

@[expose] public section

set_option maxRecDepth 16384

noncomputable section

namespace Cert.Moe

open Cert.Kernel2Ideal Cert.Kernel2Ideal.Gen
open Idealize.ShloMosaic hiding ix1 ix2 ix3
open Idealize.ShloMosaic.TcCoe Idealize.ShloMosaic.Tactic
open Idealize.ShloMosaic.ValueIdx Cert.MoeCount
open Idealize.SL.Sem
attribute [local irreducible] edge own

variable {F : FTy → Type} [FloatOps F]
variable (m : (ℓ : Loc nD τ sig) → Buf (Elt F) ℓ) (ρ : Dev nD → PrngReg)

/-! ## The grid -/

theorem out_index : ∀ t : Fin grid0.N, cc0_transform_4 (grid0.coords t) = ![t.val, 0] := by decide +kernel
theorem out_flush : ∀ t : Fin grid0.N, Pipeline.Window.flushOf grid0 true cc0_transform_4 t = true := by decide +kernel
theorem coord : ∀ t : Fin grid0.N, (grid0.coords t 0).val = t.val := by decide +kernel

variable (a : (pcfg0 (F := F)).Adm)

/-- The point of row `s`. -/
def pointOf (s : ℕ) (h : s < 81920) : Fin (cfg0 a).N := ⟨s / 512, by show s / 512 < grid0.N; rw [N_0]; omega⟩

/-- The result: row `s` is row `s % 512` of what point `s / 512` leaves. -/
def result (c : Dev nD) : S81920x2048.Idx → Elt F .f32 := fun y =>
  left m a c (pointOf a (y 0).val (y 0).isLt) (ix2 (⟨(y 0).val % 512, Nat.mod_lt _ (by decide)⟩ : Fin 512) (y 1))

theorem result_of (c : Dev nD) (t : Fin (cfg0 a).N) (y : S512x2048.Idx) (z : S81920x2048.Idx) (h0 : (z 0).val = t.val * 512 + (y 0).val)
    (h1 : (z 1).val = (y 1).val) : result m a c z = left m a c t y := by
  have hy : (y 0).val < 512 := (y 0).isLt
  have ht : pointOf a (z 0).val (z 0).isLt = t := Fin.ext (by show (z 0).val / 512 = t.val; omega)
  unfold result
  rw [ht]
  congr 1
  funext x
  match x with
  | ⟨0, _⟩ => exact Fin.ext (by show (z 0).val % 512 = (y 0).val; omega)
  | ⟨1, _⟩ => exact Fin.ext h1

theorem emb4 (t : Fin (cfg0 a).N) (y : S512x2048.Idx) (b : Fin 2) :
    (((((cfg0 a).win 4).rect t).emb y : S81920x2048.Idx) b).val = cc0_transform_4 (grid0.coords t) b * S512x2048.size b + (y b).val :=
  Pipeline.Window.rect_emb_val ((cfg0 a).win 4) t y b
theorem embR (t : Fin (cfg0 a).N) (y : S512x2048.Idx) (b : Fin 2) :
    (((((cfg0 a).win 0).rect t).emb y : S81920x2048.Idx) b).val = cc0_transform_0 inb_S1_S1_0 numel1_S1 a.1 (grid0.coords t) b * S512x2048.size b + (y b).val :=
  Pipeline.Window.rect_emb_val ((cfg0 a).win 0) t y b
theorem embA (t : Fin (cfg0 a).N) (y : S1x2048x1024.Idx) (b : Fin 3) :
    (((((cfg0 a).win 1).rect t).emb y : S32x2048x1024.Idx) b).val = cc0_transform_1 k0_off1_inb numel1_S1 a.1 (grid0.coords t) b * S1x2048x1024.size b + (y b).val :=
  Pipeline.Window.rect_emb_val ((cfg0 a).win 1) t y b
theorem embB (t : Fin (cfg0 a).N) (y : S1x2048x1024.Idx) (b : Fin 3) :
    (((((cfg0 a).win 2).rect t).emb y : S32x2048x1024.Idx) b).val = cc0_transform_2 k0_off1_inb numel1_S1 a.1 (grid0.coords t) b * S1x2048x1024.size b + (y b).val :=
  Pipeline.Window.rect_emb_val ((cfg0 a).win 2) t y b
theorem embC (t : Fin (cfg0 a).N) (y : S1x1024x2048.Idx) (b : Fin 3) :
    (((((cfg0 a).win 3).rect t).emb y : S32x1024x2048.Idx) b).val = cc0_transform_3 k0_off1_inb numel1_S1 a.1 (grid0.coords t) b * S1x1024x2048.size b + (y b).val :=
  Pipeline.Window.rect_emb_val ((cfg0 a).win 3) t y b

theorem emb0 (t : Fin (cfg0 a).N) (y : S512x2048.Idx) : (((((cfg0 a).win 4).rect t).emb y : S81920x2048.Idx) (0 : Fin 2)).val = t.val * 512 + (y 0).val := by
  rw [emb4, out_index]; rfl
theorem emb1 (t : Fin (cfg0 a).N) (y : S512x2048.Idx) : (((((cfg0 a).win 4).rect t).emb y : S81920x2048.Idx) (1 : Fin 2)).val = (y 1).val := by
  rw [emb4, out_index]
  show 0 * 2048 + (y 1).val = (y 1).val
  omega

theorem covered (i : S81920x2048.Idx) : ∃ t : Fin (cfg0 a).N, ((cfg0 a).win 4).flush t = true ∧ i ∈ (((cfg0 a).win 4).blk t).view.set := by
  have hi : (i 0).val < 81920 := (i 0).isLt
  have hj : (i 1).val < 2048 := (i 1).isLt
  let y : S512x2048.Idx := ix2 (⟨(i 0).val % 512, Nat.mod_lt _ (by decide)⟩ : Fin 512) (⟨(i 1).val, hj⟩ : Fin 2048)
  have e : (((cfg0 a).win 4).blk (pointOf a (i 0).val hi)).view.emb y = i := by
    funext x
    match x with
    | ⟨0, _⟩ =>
      refine Fin.ext ((emb0 a (pointOf a (i 0).val hi) y).trans ?_)
      show (i 0).val / 512 * 512 + (i 0).val % 512 = (i 0).val
      omega
    | ⟨1, _⟩ => exact Fin.ext (emb1 a (pointOf a (i 0).val hi) y)
  exact ⟨pointOf a (i 0).val hi, out_flush _, Finset.mem_map.mpr ⟨y, Finset.mem_univ _, e⟩⟩

attribute [local irreducible] result left

theorem arr_out (c : Dev nD) : (dats m a 0 c).arrAt 4 (cfg0 a).N = result m a c := by
  refine (dats m a 0 c).arrAt_eq_of_emb 4 (result m a c) (fun t _ y => ?_) (fun i => ?_)
  · rw [after4]
    exact (result_of m a c t y (((cfg0 a).win 4).rect t |>.emb y) (emb0 a t y) (emb1 a t y)).symm
  · exact covered a i

set_option backward.isDefEq.respectTransparency.types false in
/-- THE RUN: the result block by block, the arguments as launched, every semaphore at zero. -/
theorem run_all (hpf : ∀ c k, V m c (pre0.ref k) = a.1 k) : θ_run defs (onTc (τ := τ) (main (F := F))) ⟨m, fun _ => 0, ρ⟩ (fun r => (∀ c : Dev nD,
      r.2.mem ((c.tc : Thread nD τ).loc main_v37) = result m a c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 4).trans (arr_out m a c),
    ((h.1 c).1 0).trans (((dats m a 0 c).arrAt_in 0 rfl _).trans ((A_eq m a c 0).trans (V_arg0 m c))),
    ((h.1 c).2 main_arg1 (Pipeline.mem_restRefs_of main_arg1 (by decide) (by exact (by decide : ∀ w : Fin 5, (spec0 w).arr.view.ref ≠ main_arg1)))).trans (V_arg1 m c),
    ((h.1 c).2 main_arg2 (Pipeline.mem_restRefs_of main_arg2 (by decide) (by exact (by decide : ∀ w : Fin 5, (spec0 w).arr.view.ref ≠ main_arg2)))).trans (V_arg2 m c),
    ((h.1 c).2 main_arg3 (Pipeline.mem_restRefs_of main_arg3 (by decide) (by exact (by decide : ∀ w : Fin 5, (spec0 w).arr.view.ref ≠ main_arg3)))).trans (V_arg3 m c),
    ((h.1 c).2 main_arg4 (Pipeline.mem_restRefs_of main_arg4 (by decide) (by exact (by decide : ∀ w : Fin 5, (spec0 w).arr.view.ref ≠ main_arg4)))).trans (V_arg4 m c)⟩, h.2⟩) (run_main m ρ a hpf)

/-! ## The blocks a point reads -/

section Blocks
variable {N : ℕ → ℕ} (h : Tab a.1 N)
include h

theorem rows_at (c : Dev nD) (t : Fin (cfg0 a).N) (r : Fin 512) (k : Fin 2048) (s : Fin 81920) (hs : s.val = min t.val (edge N 32 - 1) * 512 + r.val) :
    rows m a c t (ix2 r k) = m ((c.tc : Thread nD τ).loc main_arg0) (ix2 s k) := by
  rw [← V_arg0 m c]
  refine congrArg (show S81920x2048.Idx → Elt F .f32 from V m c main_arg0) (?_ : ((((cfg0 a).win 0).rect t).emb (ix2 r k) : S81920x2048.Idx) = ix2 s k)
  refine funext fun x => Fin.ext ((embR a t (ix2 r k) x).trans ?_)
  rw [map_rows h, coord]
  match x with
  | ⟨0, _⟩ => exact hs.symm
  | ⟨1, _⟩ => show 0 * 2048 + k.val = k.val; omega

theorem one_at (c : Dev nD) (t : Fin (cfg0 a).N) (k : Fin 2048) (j : Fin 1024) (e : Fin 32) (he : e.val = own N (min t.val (edge N 32 - 1))) :
    wOne m a c t (ix3 (0 : Fin 1) k j) = V m c main_v34 (ix3 e k j) := by
  refine congrArg (show S32x2048x1024.Idx → Elt F .bf16 from V m c main_v34) (?_ : ((((cfg0 a).win 1).rect t).emb (ix3 (0 : Fin 1) k j) : S32x2048x1024.Idx) = ix3 e k j)
  refine funext fun x => Fin.ext ((embA a t (ix3 (0 : Fin 1) k j) x).trans ?_)
  rw [map_one h, coord, ← he]
  match x with
  | ⟨0, _⟩ => show e.val * 1 + 0 = e.val; omega
  | ⟨1, _⟩ => show 0 * 2048 + k.val = k.val; omega
  | ⟨2, _⟩ => show 0 * 1024 + j.val = j.val; omega

theorem three_at (c : Dev nD) (t : Fin (cfg0 a).N) (k : Fin 2048) (j : Fin 1024) (e : Fin 32) (he : e.val = own N (min t.val (edge N 32 - 1))) :
    wThree m a c t (ix3 (0 : Fin 1) k j) = V m c main_v35 (ix3 e k j) := by
  refine congrArg (show S32x2048x1024.Idx → Elt F .bf16 from V m c main_v35) (?_ : ((((cfg0 a).win 2).rect t).emb (ix3 (0 : Fin 1) k j) : S32x2048x1024.Idx) = ix3 e k j)
  refine funext fun x => Fin.ext ((embB a t (ix3 (0 : Fin 1) k j) x).trans ?_)
  rw [map_three h, coord, ← he]
  match x with
  | ⟨0, _⟩ => show e.val * 1 + 0 = e.val; omega
  | ⟨1, _⟩ => show 0 * 2048 + k.val = k.val; omega
  | ⟨2, _⟩ => show 0 * 1024 + j.val = j.val; omega

theorem two_at (c : Dev nD) (t : Fin (cfg0 a).N) (j : Fin 1024) (d : Fin 2048) (e : Fin 32) (he : e.val = own N (min t.val (edge N 32 - 1))) :
    wTwo m a c t (ix3 (0 : Fin 1) j d) = V m c main_v36 (ix3 e j d) := by
  refine congrArg (show S32x1024x2048.Idx → Elt F .bf16 from V m c main_v36) (?_ : ((((cfg0 a).win 3).rect t).emb (ix3 (0 : Fin 1) j d) : S32x1024x2048.Idx) = ix3 e j d)
  refine funext fun x => Fin.ext ((embC a t (ix3 (0 : Fin 1) j d) x).trans ?_)
  rw [map_two h, coord, ← he]
  match x with
  | ⟨0, _⟩ => show e.val * 1 + 0 = e.val; omega
  | ⟨1, _⟩ => show 0 * 1024 + j.val = j.val; omega
  | ⟨2, _⟩ => show 0 * 2048 + d.val = d.val; omega

/-- A point is used exactly when its block is one of the used ones. -/
theorem cond_iff (t : Fin (cfg0 a).N) : k0_cond1 (grid0.coords t) (word a) = 1#1 ↔ t.val < edge N 32 := by
  have ht : t.val < 160 := lt_of_lt_of_eq t.isLt N_0
  have h2 := h.le
  have hw : word a = BitVec.ofNat 32 (edge N 32) := h.used
  have key : ∀ b : BitVec 1, IntOp.cmpi .ne (b.setWidth 32) 0#32 = 1#1 ↔ b = 1#1 := by decide
  rw [hw]
  unfold k0_cond1
  dsimp only
  rw [coord]
  exact (key _).trans (WordCmp.cmpi_slt_ofNat_eq_one_iff (w := 32) (by show t.val < 2 ^ 31; omega) (by show edge N 32 < 2 ^ 31; omega))

end Blocks

end Cert.Moe
end
-- ==== Proof.MoeRef.lean ====
/- The reference's rows: each slot through the products of its own expert, zeros behind the last run. -/
module

public import proofs.«01_k».proof.Proof.Gen.Reference2Ideal
public import proofs.«01_k».proof.Proof.MoeCount
public import Idealize.ShloMosaic.Lib.Pointwise
public import Idealize.ShloMosaic.Lib.Claim

@[expose] public section

set_option maxRecDepth 16384

noncomputable section

namespace Cert.MoeRef

open Cert.Reference2Ideal Cert.Reference2Ideal.Gen
open Idealize.ShloMosaic hiding ix1 ix2 ix3
open Idealize.ShloMosaic.TcCoe Idealize.ShloMosaic.Tactic
open Idealize.ShloMosaic.ValueIdx Idealize.ShloMosaic.Routing Idealize.ShloMosaic.WordCmp Cert.MoeCount

variable (x : FVec Ideal S81920x2048 .f32) (n : IVec S32 32) (w1 w3 : FVec Ideal S32x2048x1024 .f32) (w2 : FVec Ideal S32x1024x2048 .f32)

/-- One hidden entry of a row `x` at an expert: `a` and `b` are the columns of its two weights. The gate, smoothed by its
    own logistic, times the linear part. -/
def act (x a b : Fin 2048 → EReal) : EReal :=
  (∑ k, x k * a k) * Ideal.logistic (∑ k, x k * a k) * ∑ k, x k * b k

/-- One entry of a row `x` through an expert: `a`, `b` its two hidden weights, `c` the column of its last one. -/
def expert (x : Fin 2048 → EReal) (a b : Fin 2048 → Fin 1024 → EReal) (c : Fin 1024 → EReal) : EReal :=
  ∑ j, act x (fun k => a k j) (fun k => b k j) * c j

/-- Each slot's hidden row at each expert. -/
def hiddenV : FVec Ideal S81920x32x1024 .f32 :=
  mulf (mulf (Host.dotGeneral dot_S81920x2048_S32x2048x1024_S81920x32x1024_1_1_0_02_n_n none x w1)
    (Host.divf (broadcastInDim S81920x32x1024 ![] bcast_S_S81920x32x1024 (constant S_ .f32 0x3F800000#32))
      (addf (broadcastInDim S81920x32x1024 ![] bcast_S_S81920x32x1024 (constant S_ .f32 0x3F800000#32))
        (Host.exp (Host.negf (Host.dotGeneral dot_S81920x2048_S32x2048x1024_S81920x32x1024_1_1_0_02_n_n none x w1))))))
    (Host.dotGeneral dot_S81920x2048_S32x2048x1024_S81920x32x1024_1_1_0_02_n_n none x w3)

/-- Each slot's row at each expert. -/
def feedV : FVec Ideal S32x81920x2048 .f32 := Host.dotGeneral dot_S81920x32x1024_S32x1024x2048_S32x81920x2048_2_1_0_2_1_0 none (hiddenV x w1 w3) w2

/-- Each slot's expert. -/
def ownV : IVec S81920 32 :=
  Host.reduce IntOp.addi (extui 32 (cmpi .sle (broadcastInDim S81920x32 ![0, 1] bcast_S1x32_S81920x32_0_1 (broadcastInDim S1x32 ![1] bcast_S32_S1x32_1
      (HostWords.endsV bcast_S_S32 bcast_S_S_ reduceWindows_S32_S32_w32s1p31_0 h_S_ n)))
    (broadcastInDim S81920x32 ![0, 1] bcast_S81920x1_S81920x32_0_1 (broadcastInDim S81920x1 ![0] bcast_S81920_S81920x1_0 (iotaInDim S81920 32 0)))) natLt_1_32)
    (constantI S_ 32 0#32) reducesTo_S81920x32_S81920_d1 h_S_

/-- Whether the slot is the expert's. -/
def maskV : IVec S32x81920 1 :=
  cmpi .eq (broadcastInDim S32x81920 ![0, 1] bcast_S1x81920_S32x81920_0_1 (broadcastInDim S1x81920 ![1] bcast_S81920_S1x81920_1 (ownV n)))
    (broadcastInDim S32x81920 ![0, 1] bcast_S32x1_S32x81920_0_1 (broadcastInDim S32x1 ![0] bcast_S32_S32x1_0 (iotaInDim S32 32 0)))

/-- The reference's array. -/
def value : FVec Ideal S81920x2048 .f32 :=
  Host.reduceAdd (select (broadcastInDim S32x81920x2048 ![0, 1, 2] bcast_S32x81920x1_S32x81920x2048_0_1_2 (broadcastInDim S32x81920x1 ![0, 1] bcast_S32x81920_S32x81920x1_0_1 (maskV n)))
    (feedV x w1 w3 w2) (broadcastInDim S32x81920x2048 ![] bcast_S_S32x81920x2048 (id (constant S_ .f32 0x00000000#32)))) (constant S_ .f32 0x00000000#32)
    reducesTo_S32x81920x2048_S81920x2048_d0 h_S_

theorem hidden_at (s : Fin 81920) (e : Fin 32) (j : Fin 1024) :
    hiddenV x w1 w3 (ix3 s e j) = act (fun k => x (ix2 s k)) (fun k => w1 (ix3 e k j)) (fun k => w3 (ix3 e k j)) := by
  unfold hiddenV
  pointwise
  rfl

theorem feed_at (e : Fin 32) (s : Fin 81920) (d : Fin 2048) :
    feedV x w1 w3 w2 (ix3 e s d)
      = expert (fun k => x (ix2 s k)) (fun k j => w1 (ix3 e k j)) (fun k j => w3 (ix3 e k j)) (fun j => w2 (ix3 e j d)) := by
  have h : feedV x w1 w3 w2 (ix3 e s d) = ∑ j : Fin 1024, hiddenV x w1 w3 (ix3 s e j) * w2 (ix3 e j d) := by
    unfold feedV
    pointwise
    rfl
  rw [h]
  exact Finset.sum_congr rfl fun j _ => by rw [hidden_at]

theorem mask_at {N : ℕ → ℕ} (ok : Ok n N) (e : Fin 32) (s : Fin 81920) : maskV n (ix2 e s) = BitVec.ofBool (decide (own N (s.val / 512) = e.val)) := by
  unfold maskV
  have hs := s.isLt
  have h1 : ownV n (ix1 s) = BitVec.ofNat 32 (own N (s.val / 512)) :=
    count_at ok _ (ends_at ok _ _ _ _) _ (fun i => i) s (iota1_ap s) (by show s.val < 2 ^ 31; omega) _ _ _ _ _ _ _
  have ho : own N (s.val / 512) ≤ 32 := Nat.count_le _
  show IntOp.cmpi .eq (broadcastInDim (shape2 32 81920) ![0, 1] bcast_S1x81920_S32x81920_0_1 (broadcastInDim (shape2 1 81920) ![1] bcast_S81920_S1x81920_1 (ownV n)) (ix2 e s))
    (broadcastInDim (shape2 32 81920) ![0, 1] bcast_S32x1_S32x81920_0_1 (broadcastInDim (shape2 32 1) ![0] bcast_S32_S32x1_0 (iotaInDim (shape1 32) 32 0)) (ix2 e s)) = _
  rw [bcCols, bcRows, iota1_ap, h1]
  have he := e.isLt
  have key : (BitVec.ofNat 32 (own N (s.val / 512)) = BitVec.ofNat 32 e.val) ↔ own N (s.val / 512) = e.val :=
    ⟨fun h => by
      have h2 := congrArg BitVec.toNat h
      rw [BitVec.toNat_ofNat, BitVec.toNat_ofNat, Nat.mod_eq_of_lt (by omega), Nat.mod_eq_of_lt (by omega)] at h2
      exact h2, fun h => by rw [h]⟩
  by_cases hc : own N (s.val / 512) = e.val
  · rw [decide_eq_true hc, hc]; exact StableHlo.Predicate.cmpi_eq_iff.2 rfl
  · rw [decide_eq_false hc]
    have h3 : IntOp.cmpi .eq (BitVec.ofNat 32 (own N (s.val / 512))) (BitVec.ofNat 32 e.val) ≠ 1#1 := fun h => hc (key.1 (StableHlo.Predicate.cmpi_eq_iff.1 h))
    generalize IntOp.cmpi .eq (BitVec.ofNat 32 (own N (s.val / 512))) (BitVec.ofNat 32 e.val) = b at h3
    revert b; decide

theorem sum_at (s : Fin 81920) (d : Fin 2048) :
    value x n w1 w3 w2 (ix2 s d) = ∑ e : Fin 32, Scalar.select (maskV n (ix2 e s)) (feedV x w1 w3 w2 (ix3 e s d)) (0 : EReal) := by
  unfold value
  pointwise
  refine Finset.sum_congr rfl fun e _ => congrArg (Scalar.select _ _) ?_
  exact Ideal.ofBits_zero_f32

/-- A slot within the runs has the row of its own expert; the rest have zeros. -/
theorem value_at {N : ℕ → ℕ} (ok : Ok n N) (s : Fin 81920) (d : Fin 2048) :
    value x n w1 w3 w2 (ix2 s d)
      = if h : own N (s.val / 512) < 32 then
          expert (fun k => x (ix2 s k)) (fun k j => w1 (ix3 ⟨own N (s.val / 512), h⟩ k j)) (fun k j => w3 (ix3 ⟨own N (s.val / 512), h⟩ k j))
            (fun j => w2 (ix3 ⟨own N (s.val / 512), h⟩ j d))
        else 0 := by
  have hm : ∀ e : Fin 32, Scalar.select (maskV n (ix2 e s)) (feedV x w1 w3 w2 (ix3 e s d)) (0 : EReal)
      = if own N (s.val / 512) = e.val then feedV x w1 w3 w2 (ix3 e s d) else 0 := fun e => by
    rw [mask_at n ok]
    by_cases hc : own N (s.val / 512) = e.val
    · rw [decide_eq_true hc, if_pos hc]; rfl
    · rw [decide_eq_false hc, if_neg hc]; rfl
  rw [sum_at, Finset.sum_congr rfl fun e _ => hm e]
  split
  · rename_i h
    rw [Finset.sum_eq_single (⟨own N (s.val / 512), h⟩ : Fin 32) (fun e _ he => if_neg fun hc => he (Fin.ext hc.symm))
      (fun hn => absurd (Finset.mem_univ _) hn), if_pos rfl, feed_at]
  · rename_i h
    exact Finset.sum_eq_zero fun e _ => if_neg fun hc => h (lt_of_eq_of_lt hc e.isLt)

end Cert.MoeRef
end
-- ==== Proof.MoeMath.lean ====
/- A used block's point over the extended reals: each row through the three products of its expert. -/
module

public import proofs.«01_k».proof.Proof.MoeBody
public import proofs.«01_k».proof.Proof.MoeRef
public import Idealize.ShloMosaic.Lib.Pointwise
public import Idealize.ShloMosaic.Lib.Claim

@[expose] public section

set_option maxRecDepth 16384

noncomputable section

namespace Cert.Moe

open Cert.Kernel2Ideal Cert.Kernel2Ideal.Gen
open Idealize.ShloMosaic hiding ix1 ix2 ix3
open Idealize.ShloMosaic.TcCoe Idealize.ShloMosaic.Tactic
open Idealize.ShloMosaic.ValueIdx Cert.MoeRef

variable (X3 : S512x2048.Idx → EReal) (X4 X5 : S1x2048x1024.Idx → EReal) (X6 : S1x1024x2048.Idx → EReal)

theorem first_at (A B : S1x2048x512.Idx → EReal) (C : S1x512x2048.Idx → EReal) (r : Fin 512) (d : Fin 2048) :
    k0_pay4 (F := Ideal) X3 A B C (ix2 r d)
      = ∑ j : Fin 512, act (fun k => X3 (ix2 r k)) (fun k => A (ix3 (0 : Fin 1) k j)) (fun k => B (ix3 (0 : Fin 1) k j)) * C (ix3 (0 : Fin 1) j d) := by
  unfold k0_pay4 k0_pay3
  dsimp only
  pointwise
  rfl

theorem second_at (A B : S1x2048x512.Idx → EReal) (C : S1x512x2048.Idx → EReal) (r : Fin 512) (d : Fin 2048) :
    k0_pay5 (F := Ideal) X3 A B C (ix2 r d)
      = ∑ j : Fin 512, act (fun k => X3 (ix2 r k)) (fun k => A (ix3 (0 : Fin 1) k j)) (fun k => B (ix3 (0 : Fin 1) k j)) * C (ix3 (0 : Fin 1) j d) := by
  unfold k0_pay5 k0_pay3
  dsimp only
  pointwise
  rfl

theorem lo_at (k : Fin 2048) (j : Fin 512) : lo (F := Ideal) X4 (ix3 (0 : Fin 1) k j) = X4 (ix3 (0 : Fin 1) k (Fin.castAdd 512 j)) := by
  unfold lo
  refine congrArg X4 (funext fun x => Fin.ext ?_)
  match x with
  | ⟨0, _⟩ => rfl
  | ⟨1, _⟩ => show 0 + 1 * k.val = k.val; omega
  | ⟨2, _⟩ => show 0 + 1 * j.val = j.val; omega

theorem hi_at (k : Fin 2048) (j : Fin 512) : hi (F := Ideal) X4 (ix3 (0 : Fin 1) k j) = X4 (ix3 (0 : Fin 1) k (Fin.natAdd 512 j)) := by
  unfold hi
  refine congrArg X4 (funext fun x => Fin.ext ?_)
  match x with
  | ⟨0, _⟩ => rfl
  | ⟨1, _⟩ => show 0 + 1 * k.val = k.val; omega
  | ⟨2, _⟩ => show 512 + 1 * j.val = 512 + j.val; omega

theorem top_at (j : Fin 512) (d : Fin 2048) : top (F := Ideal) X6 (ix3 (0 : Fin 1) j d) = X6 (ix3 (0 : Fin 1) (Fin.castAdd 512 j) d) := by
  unfold top
  refine congrArg X6 (funext fun x => Fin.ext ?_)
  match x with
  | ⟨0, _⟩ => rfl
  | ⟨1, _⟩ => show 0 + 1 * j.val = j.val; omega
  | ⟨2, _⟩ => show 0 + 1 * d.val = d.val; omega

theorem bot_at (j : Fin 512) (d : Fin 2048) : bot (F := Ideal) X6 (ix3 (0 : Fin 1) j d) = X6 (ix3 (0 : Fin 1) (Fin.natAdd 512 j) d) := by
  unfold bot
  refine congrArg X6 (funext fun x => Fin.ext ?_)
  match x with
  | ⟨0, _⟩ => rfl
  | ⟨1, _⟩ => show 512 + 1 * j.val = 512 + j.val; omega
  | ⟨2, _⟩ => show 0 + 1 * d.val = d.val; omega

/-- The two halves of the hidden row together: the row through the whole expert. -/
theorem through_at (r : Fin 512) (d : Fin 2048) :
    through (F := Ideal) X3 X4 X5 X6 (ix2 r d)
      = expert (fun k => X3 (ix2 r k)) (fun k j => X4 (ix3 (0 : Fin 1) k j)) (fun k j => X5 (ix3 (0 : Fin 1) k j)) (fun j => X6 (ix3 (0 : Fin 1) j d)) := by
  have h : through (F := Ideal) X3 X4 X5 X6 (ix2 r d)
      = k0_pay4 (F := Ideal) X3 (lo X4) (lo X5) (top X6) (ix2 r d) + k0_pay5 (F := Ideal) X3 (hi X4) (hi X5) (bot X6) (ix2 r d) := by
    unfold through k0_pay1
    pointwise
  rw [h, first_at, second_at]
  simp only [lo_at, hi_at, top_at, bot_at]
  exact (Fin.sum_univ_add (a := 512) (b := 512) fun j => act (fun k => X3 (ix2 r k)) (fun k => X4 (ix3 (0 : Fin 1) k j)) (fun k => X5 (ix3 (0 : Fin 1) k j)) * X6 (ix3 (0 : Fin 1) j d)).symm

end Cert.Moe
end
-- ==== Proof.MoeValue.lean ====
/- What the feed-forward call leaves, over the extended reals, is the reference's array. -/
module

public import proofs.«01_k».proof.Proof.MoeOut
public import proofs.«01_k».proof.Proof.MoeMath
public import proofs.«01_k».proof.Proof.MoeRef
public import Idealize.ShloMosaic.Lib.Pointwise

@[expose] public section

set_option maxRecDepth 16384

noncomputable section

namespace Cert.Moe

open Cert.Kernel2Ideal Cert.Kernel2Ideal.Gen
open Idealize.ShloMosaic hiding ix1 ix2 ix3
open Idealize.ShloMosaic.TcCoe Idealize.ShloMosaic.Tactic
open Idealize.ShloMosaic.ValueIdx Cert.MoeRef Cert.MoeCount

attribute [local irreducible] edge own

variable (m : (ℓ : Loc nD τ sig) → Buf (Elt Ideal) ℓ) (a : (pcfg0 (F := Ideal)).Adm) (c : Dev nD)

/-- The arguments' arrays. -/
def X : S81920x2048.Idx → EReal := m ((c.tc : Thread nD τ).loc main_arg0)
def A : S32x2048x1024.Idx → EReal := m ((c.tc : Thread nD τ).loc main_arg2)
def B : S32x2048x1024.Idx → EReal := m ((c.tc : Thread nD τ).loc main_arg3)
def C : S32x1024x2048.Idx → EReal := m ((c.tc : Thread nD τ).loc main_arg4)

/-- The weights' change of format does nothing to them. -/
theorem narrow_one : (V m c main_v34 : S32x2048x1024.Idx → EReal) = A m c := read_one m c
theorem narrow_three : (V m c main_v35 : S32x2048x1024.Idx → EReal) = B m c := read_three m c
theorem narrow_two : (V m c main_v36 : S32x1024x2048.Idx → EReal) = C m c := read_two m c

theorem zeros_at (y : S512x2048.Idx) : (k0_pay2 (F := Ideal) : S512x2048.Idx → EReal) y = 0 := by
  unfold k0_pay2
  exact Ideal.ofBits_zero_f32

/-- A used block's rows are its slots through its expert. -/
theorem used_block {N : ℕ → ℕ} (h : Tab a.1 N) (t : Fin (cfg0 a).N) (ht : t.val < edge N 32) (r : Fin 512) (d : Fin 2048) (s : Fin 81920) (hs : s.val = t.val * 512 + r.val)
    (e : Fin 32) (he : e.val = own N t.val) :
    left m a c t (ix2 r d) = expert (fun k => X m c (ix2 s k)) (fun k j => A m c (ix3 e k j)) (fun k j => B m c (ix3 e k j)) (fun j => C m c (ix3 e j d)) := by
  have hm : min t.val (edge N 32 - 1) = t.val := by omega
  unfold left
  rw [if_pos ((cond_iff a h t).2 ht)]
  refine (through_at _ _ _ _ r d).trans ?_
  have e1 : (fun k => rows m a c t (ix2 r k)) = fun k => X m c (ix2 s k) := funext fun k => rows_at m a h c t r k s (by rw [hm]; exact hs)
  have e2 : (fun k j => wOne m a c t (ix3 (0 : Fin 1) k j)) = fun k j => A m c (ix3 e k j) := funext fun k => funext fun j =>
    (one_at m a h c t k j e (by rw [hm]; exact he)).trans (congrFun (narrow_one m c) _)
  have e3 : (fun k j => wThree m a c t (ix3 (0 : Fin 1) k j)) = fun k j => B m c (ix3 e k j) := funext fun k => funext fun j =>
    (three_at m a h c t k j e (by rw [hm]; exact he)).trans (congrFun (narrow_three m c) _)
  have e4 : (fun j => wTwo m a c t (ix3 (0 : Fin 1) j d)) = fun j => C m c (ix3 e j d) := funext fun j =>
    (two_at m a h c t j d e (by rw [hm]; exact he)).trans (congrFun (narrow_two m c) _)
  exact congr (congr (congr (congrArg expert e1) e2) e3) e4

theorem unused_block {N : ℕ → ℕ} (h : Tab a.1 N) (t : Fin (cfg0 a).N) (ht : ¬ t.val < edge N 32) (y : S512x2048.Idx) :
    left m a c t y = (0 : EReal) := by
  unfold left
  rw [if_neg (fun hc => ht ((cond_iff a h t).1 hc))]
  exact zeros_at y

theorem value_eq {N : ℕ → ℕ} (h : Tab a.1 N) (n : IVec Cert.Reference2Ideal.S32 32) (ok : Ok n N) :
    MoeRef.value (X m c) n (A m c) (B m c) (C m c) = result m a c := by
  funext y
  obtain ⟨s, d, rfl⟩ : ∃ (s : Fin 81920) (d : Fin 2048), y = ix2 s d := ⟨y 0, y 1, (ix2_eta y).symm⟩
  have hs := s.isLt
  rw [value_at _ n _ _ _ ok]
  unfold result
  by_cases ht : s.val / 512 < edge N 32
  · rw [dif_pos (own_lt N ht)]
    exact (used_block m a c h _ ht _ d s (by show s.val = s.val / 512 * 512 + s.val % 512; omega) _ rfl).symm
  · rw [dif_neg (by rw [own_all N (by omega)]; omega)]
    exact (unused_block m a c h _ ht _).symm

end Cert.Moe
end
-- ==== Proof.OutBody.lean ====
/- One grid point of the output projection's call: its block of the residual stream and of the second norm's rows. -/
module

public import proofs.«01_k».proof.Proof.Gen.Kernel3Ideal.Value
public import Idealize.ShloMosaic.Lib.Tactic

@[expose] public section
set_option maxRecDepth 16384

noncomputable section
namespace Cert.Out

open Cert.Kernel3Ideal Cert.Kernel3Ideal.Gen
open Idealize.ShloMosaic Idealize.ShloMosaic.TcCoe Idealize.ShloMosaic.Tactic
variable {F : FTy → Type} [FloatOps F]

theorem hz : (![0, 0] : Fin 2 → Nat) = fun _ => 0 := funext fun a => by fin_cases a <;> rfl

theorem top_inb : ∀ a : Fin 2, (![0, 0] : Fin 2 → Nat) a + S1024x2048.size a ≤ S2048x2048.size a := by decide
theorem bot_inb : ∀ a : Fin 2, (![1024, 0] : Fin 2 → Nat) a + S1024x2048.size a ≤ S2048x2048.size a := by decide

section

variable (i : grid0.Coords) (x0 : Vec F S512x1024 .bf16) (x1 : Vec F S512x1024 .bf16) (x2 : Vec F S512x2048 .f32) (x3 : Vec F S8x12288 .f32) (x4 : Vec F S2048x2048 .bf16) (x5 : Vec F S1x2048 .f32) (x6 : Vec F S2048x128 .bf16) (x7 : Vec F S1x128 .f32)

/-- The gated projection of a block of rows: the two mixers' halves through the two halves of the weights. -/
def gatedB : FVec F S512x2048 .f32 :=
  k0_pay3 x0 (View.ld x4 (Rect.unit (s := S2048x2048) ![0, 0] S1024x2048.size top_inb)) x1
    (View.ld x4 (Rect.unit (s := S2048x2048) ![1024, 0] S1024x2048.size bot_inb))
    (View.ld x3 (Rect.unit (s := S8x12288) (k0_off1 i) S1x2048.size (k0_off1_inb i)))
/-- The block of the residual stream. -/
def x1B : FVec F S512x2048 .f32 := k0_pay4 x2 (gatedB i x0 x1 x3 x4)
/-- The block of the second norm's rows. -/
def h2B : FVec F S512x2048 .f32 :=
  k0_pay5 x2 (gatedB i x0 x1 x3 x4) (View.ld x3 (Rect.unit (s := S8x12288) (k0_off2 i) S1x2048.size (k0_off2_inb i)))
    (View.ld x3 (Rect.unit (s := S8x12288) (k0_off3 i) S1x2048.size (k0_off3_inb i))) x5

end

section

variable (c : Dev nD) (i : grid0.Coords)
  (arg1 : Memref sig .tc .vmem S512x1024 .bf16) (harg1 : arg1.IsWhole)
  (arg2 : Memref sig .tc .vmem S512x1024 .bf16) (harg2 : arg2.IsWhole)
  (arg3 : Memref sig .tc .vmem S512x2048 .f32) (harg3 : arg3.IsWhole)
  (arg4 : Memref sig .tc .vmem S8x12288 .f32) (harg4 : arg4.IsWhole)
  (arg5 : Memref sig .tc .vmem S2048x2048 .bf16) (harg5 : arg5.IsWhole)
  (arg6 : Memref sig .tc .vmem S1x2048 .f32) (harg6 : arg6.IsWhole)
  (arg7 : Memref sig .tc .vmem S2048x128 .bf16) (harg7 : arg7.IsWhole)
  (arg8 : Memref sig .tc .vmem S1x128 .f32) (harg8 : arg8.IsWhole)
  (arg9 : Memref sig .tc .vmem S512x2048 .f32) (harg9 : arg9.IsWhole)
  (arg10 : Memref sig .tc .vmem S512x2048 .f32) (harg10 : arg10.IsWhole)
  (arg11 : Memref sig .tc .vmem S512x128 .f32) (harg11 : arg11.IsWhole)
  (arg12 : Memref sig .tc .vmem S8x128 .f32) (harg12 : arg12.IsWhole)
  (arg13 : Memref sig .tc .vmem S8x128 .f32) (harg13 : arg13.IsWhole)
  (x0 : Vec F S512x1024 .bf16) (x1 : Vec F S512x1024 .bf16) (x2 : Vec F S512x2048 .f32) (x3 : Vec F S8x12288 .f32) (x4 : Vec F S2048x2048 .bf16) (x5 : Vec F S1x2048 .f32) (x6 : Vec F S2048x128 .bf16) (x7 : Vec F S1x128 .f32)

theorem out_A_8 (hc : cond0_0 i) : out0_A_8 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 = x1B i x0 x1 x2 x3 x4 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread, View.ld_unit_zero (S := S512x1024) hz, View.ld_unit_zero (S := S512x2048) hz, View.ld_unit_zero (S := S1x2048) hz]
  rfl

theorem out_B_8 (hc : ¬cond0_0 i) (s : Vec F S8x128 .f32) : out0_B_8 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 s = x1B i x0 x1 x2 x3 x4 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 s)]
  unfold kernelRun0_B
  dsimp only
  sl_unfold_words
  rw [View.canon_unit_zero hz]
  simp only [View.readAt_eq_ld, harg1.read_unread, harg2.read_unread, harg3.read_unread, harg4.read_unread, harg5.read_unread, harg6.read_unread, View.ld_unit_zero (S := S512x1024) hz, View.ld_unit_zero (S := S512x2048) hz, View.ld_unit_zero (S := S1x2048) hz]
  rfl

theorem out_A_9 (hc : cond0_0 i) : out0_A_9 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 = h2B i x0 x1 x2 x3 x4 x5 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread, View.ld_unit_zero (S := S512x1024) hz, View.ld_unit_zero (S := S512x2048) hz, View.ld_unit_zero (S := S1x2048) hz]
  rfl

theorem out_B_9 (hc : ¬cond0_0 i) (s : Vec F S8x128 .f32) : out0_B_9 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 s = h2B i x0 x1 x2 x3 x4 x5 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 s)]
  unfold kernelRun0_B
  dsimp only
  sl_unfold_words
  rw [View.canon_unit_zero hz]
  simp only [View.readAt_eq_ld, harg1.read_unread, harg2.read_unread, harg3.read_unread, harg4.read_unread, harg5.read_unread, harg6.read_unread, View.ld_unit_zero (S := S512x1024) hz, View.ld_unit_zero (S := S512x2048) hz, View.ld_unit_zero (S := S1x2048) hz]
  rfl

end

end Cert.Out
end
-- ==== Proof.OutReads.lean ====
/- What a grid point of the output projection's call reads: rows of the mixers' outputs and of the residual stream, its
   sequence's modulation, the weights. -/
module

public import proofs.«01_k».proof.Proof.OutBody
public import Idealize.ShloMosaic.Lib.Claim
public import Idealize.ShloMosaic.Lib.Tactic.CleanTypes
public import Idealize.ShloMosaic.Lib.StableHlo.RunRead
public import Idealize.ShloMosaic.Lib.Pointwise
public import Idealize.ShloMosaic.Lib.Pipeline.ValueKit

@[expose] public section

set_option maxRecDepth 16384

noncomputable section

namespace Cert.Out

open Cert.Kernel3Ideal Cert.Kernel3Ideal.Gen
open Idealize.ShloMosaic hiding ix1 ix2 ix3
open Idealize.ShloMosaic.TcCoe Idealize.ShloMosaic.Tactic
open Idealize.ShloMosaic.ValueIdx

variable {F : FTy → Type} [FloatOps F]
variable (m : (ℓ : Loc nD τ sig) → Buf (Elt F) ℓ) (c : Dev nD) (t : Fin cfg0.N)

/-- Where each window's block lies at a point, and the row of the modulation a point reads. -/
theorem places : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] :=
  (by decide +kernel : ∀ t : Fin grid0.N, _)

theorem gate_row : ∀ t : Fin cfg0.N, k0_off1 (grid0.coords t) = ![t.val / 8, 4096] := (by decide +kernel : ∀ t : Fin grid0.N, _)
theorem shift_row : ∀ t : Fin cfg0.N, k0_off2 (grid0.coords t) = ![t.val / 8, 6144] := (by decide +kernel : ∀ t : Fin grid0.N, _)
theorem scale_row : ∀ t : Fin cfg0.N, k0_off3 (grid0.coords t) = ![t.val / 8, 8192] := (by decide +kernel : ∀ t : Fin grid0.N, _)

theorem ya_at (r : Fin 512) (k : Fin 1024) (s : Fin 32768) (hs : s.val = t.val * 512 + r.val) :
    (iblk m c 0 t : S512x1024.Idx → Elt F .bf16) (ix2 r k) = (m ((c : Thread nD τ).loc main_arg0) : S32768x1024.Idx → Elt F .bf16) (ix2 s k) := by
  blk_ext [iblk, V, places t]
  exact hs.symm

theorem yb_at (r : Fin 512) (k : Fin 1024) (s : Fin 32768) (hs : s.val = t.val * 512 + r.val) :
    (iblk m c 1 t : S512x1024.Idx → Elt F .bf16) (ix2 r k) = (m ((c : Thread nD τ).loc main_arg1) : S32768x1024.Idx → Elt F .bf16) (ix2 s k) := by
  blk_ext [iblk, V, places t]
  exact hs.symm

theorem x_at (r : Fin 512) (k : Fin 2048) (s : Fin 32768) (hs : s.val = t.val * 512 + r.val) :
    (iblk m c 2 t : S512x2048.Idx → Elt F .f32) (ix2 r k) = (m ((c : Thread nD τ).loc main_arg2) : S32768x2048.Idx → Elt F .f32) (ix2 s k) := by
  blk_ext [iblk, V, places t]
  exact hs.symm

theorem mod_at (r : Fin 8) (k : Fin 12288) :
    (iblk m c 3 t : S8x12288.Idx → Elt F .f32) (ix2 r k) = (m ((c : Thread nD τ).loc main_arg3) : S8x12288.Idx → Elt F .f32) (ix2 r k) := by
  blk_ext [iblk, V, places t]

theorem w_at (r k : Fin 2048) :
    (iblk m c 4 t : S2048x2048.Idx → Elt F .bf16) (ix2 r k) = truncf .bf16 (show FVec F S2048x2048 .f32 from m ((c : Thread nD τ).loc main_arg4)) bitsLt_bf16_f32 (ix2 r k) := by
  blk_ext [iblk, V, places t]

theorem g_at (k : Fin 2048) :
    (iblk m c 5 t : S1x2048.Idx → Elt F .f32) (ix2 (0 : Fin 1) k) = (m ((c : Thread nD τ).loc main_arg5) : S2048.Idx → Elt F .f32) (ix1 k) := by
  have he : (win0_5.blk t).view.emb (ix2 (0 : Fin 1) k) = (ix2 (0 : Fin 1) k : S1x2048.Idx) := by
    blk_ext [places t]
  have hv : (V m c main_v7 : S1x2048.Idx → Elt F .f32) = shapeCast S1x2048 (m ((c : Thread nD τ).loc main_arg5)) shapeCasts_S2048_S1x2048 := by
    unfold_abbrev_sides
    simp only [hostOps0, hostOps0_1, hostOps0_2, hostOps0_3, hostOps0_4, List.flatten_cons, List.flatten_nil, List.append_nil, List.cons_append, List.nil_append]
    after_reads_simp
    rfl
  refine (congrArg (V m c main_v7 : S1x2048.Idx → Elt F .f32) he).trans ?_
  rw [hv]
  pointwise
  rfl

/-- Every point leaves its block of the residual stream and its block of the second norm's rows. -/
theorem leaves_x1 : (outsAt0 m c t.val t.isLt).1 = x1B (grid0.coords t) (iblk m c 0 t) (iblk m c 1 t) (iblk m c 2 t) (iblk m c 3 t) (iblk m c 4 t) := by
  by_cases h0 : t.val % 64 = 0
  · simp only [outsAt0_A m c t h0]
    rw [out_A_8]
  · simp only [outsAt0_B m c t h0]
    rw [out_B_8]

theorem leaves_h2 : (outsAt0 m c t.val t.isLt).2.1 = h2B (grid0.coords t) (iblk m c 0 t) (iblk m c 1 t) (iblk m c 2 t) (iblk m c 3 t) (iblk m c 4 t) (iblk m c 5 t) := by
  by_cases h0 : t.val % 64 = 0
  · simp only [outsAt0_A m c t h0]
    rw [out_A_9]
  · simp only [outsAt0_B m c t h0]
    rw [out_B_9]

end Cert.Out
end
-- ==== Proof.OutMath.lean ====
/- One grid point of the output projection's call over the extended reals, entry by entry. -/
module

public import proofs.«01_k».proof.Proof.OutBody
public import Idealize.ShloMosaic.Lib.Pointwise
public import Idealize.ShloMosaic.Lib.Claim
public import Idealize.ShloMosaic.Lib.Pipeline.ValueKit

@[expose] public section

set_option maxRecDepth 16384

noncomputable section

namespace Cert.Out

open Cert.Kernel3Ideal Cert.Kernel3Ideal.Gen
open Idealize.ShloMosaic hiding ix1 ix2 ix3
open Idealize.ShloMosaic.TcCoe Idealize.ShloMosaic.Tactic
open Idealize.ShloMosaic.ValueIdx

/-- One entry of the residual stream: `x` the entry before, `g` its gate, `a` and `b` the two mixers' rows, `u` and `v` the
    halves of the weights' column. -/
def stream (x g : EReal) (a b u v : Fin 1024 → EReal) : EReal := x + g * ((∑ k, a k * u k) + ∑ k, b k * v k)

/-- One entry of a row `y` after the norm: `g` its weight, `s` and `t` its scale and shift. -/
def normed (y : Fin 2048 → EReal) (d : Fin 2048) (g s t : EReal) : EReal :=
  y d * Ideal.rsqrt (Ideal.div (∑ k, y k * y k) (Ideal.ofBits .f32 0x45000000#32) + Ideal.ofBits .f32 0x358637BD#32) * g * (1 + s) + t

section

variable (v21 v25 : Vec Ideal S512x1024 .bf16) (v22 v26 : Vec Ideal S1024x2048 .bf16) (v31 v38 v40 v51 : Vec Ideal S1x2048 .f32) (v32 v34 : FVec Ideal S512x2048 .f32)

theorem stream_at (r : Fin 512) (d : Fin 2048) :
    k0_pay4 (F := Ideal) v32 (k0_pay3 v21 v22 v25 v26 v31) (ix2 r d)
      = stream (v32 (ix2 r d)) (v31 (ix2 (0 : Fin 1) d)) (fun k => v21 (ix2 r k)) (fun k => v25 (ix2 r k)) (fun k => v22 (ix2 k d)) (fun k => v26 (ix2 k d)) := by
  unfold k0_pay4 k0_pay3
  pointwise
  rfl

theorem normed_at (r : Fin 512) (d : Fin 2048) :
    k0_pay5 (F := Ideal) v32 v34 v38 v40 v51 (ix2 r d)
      = normed (fun k => k0_pay4 (F := Ideal) v32 v34 (ix2 r k)) d (v51 (ix2 (0 : Fin 1) d)) (v40 (ix2 (0 : Fin 1) d)) (v38 (ix2 (0 : Fin 1) d)) := by
  unfold k0_pay5 k0_pay4
  pointwise
  rfl

end

section

variable (i : grid0.Coords) (x0 x1 : Vec Ideal S512x1024 .bf16) (x2 : Vec Ideal S512x2048 .f32) (x3 : Vec Ideal S8x12288 .f32) (x4 : Vec Ideal S2048x2048 .bf16) (x5 : Vec Ideal S1x2048 .f32)

theorem row_at (off : Fin 2 → ℕ) (inb : ∀ a, off a + S1x2048.size a ≤ S8x12288.size a) (b : Fin 8) (n : ℕ) (ho : off = ![b.val, n]) (d : Fin 2048) (hn : n + d.val < 12288) :
    View.ld (Val := Elt Ideal) (e' := .f32) x3 (Rect.unit (s := S8x12288) off S1x2048.size inb) (ix2 (0 : Fin 1) d) = x3 (ix2 b (⟨n + d.val, hn⟩ : Fin 12288)) := by
  refine View.ld_unit_apply_of _ _ _ _ _ _ fun a => ?_
  subst ho
  match a with
  | ⟨0, _⟩ => rfl
  | ⟨1, _⟩ => rfl

theorem top_at (k : Fin 1024) (d : Fin 2048) :
    View.ld (Val := Elt Ideal) (e' := .bf16) x4 (Rect.unit (s := S2048x2048) ![0, 0] S1024x2048.size top_inb) (ix2 k d) = x4 (ix2 (Fin.castAdd 1024 k) d) := by
  refine View.ld_unit_apply_of _ _ _ _ _ _ fun a => ?_
  match a with
  | ⟨0, _⟩ => exact (Nat.zero_add _).symm
  | ⟨1, _⟩ => exact (Nat.zero_add _).symm

theorem bot_at (k : Fin 1024) (d : Fin 2048) :
    View.ld (Val := Elt Ideal) (e' := .bf16) x4 (Rect.unit (s := S2048x2048) ![1024, 0] S1024x2048.size bot_inb) (ix2 k d) = x4 (ix2 (Fin.natAdd 1024 k) d) := by
  refine View.ld_unit_apply_of _ _ _ _ _ _ fun a => ?_
  match a with
  | ⟨0, _⟩ => rfl
  | ⟨1, _⟩ => exact (Nat.zero_add _).symm

/-- The block of the residual stream, at an entry: `b` is the block's sequence. -/
theorem x1B_at (b : Fin 8) (ho : k0_off1 i = ![b.val, 4096]) (r : Fin 512) (d : Fin 2048) :
    x1B i x0 x1 x2 x3 x4 (ix2 r d)
      = stream (x2 (ix2 r d)) (x3 (ix2 b (⟨4096 + d.val, by omega⟩ : Fin 12288))) (fun k => x0 (ix2 r k)) (fun k => x1 (ix2 r k))
        (fun k => x4 (ix2 (Fin.castAdd 1024 k) d)) (fun k => x4 (ix2 (Fin.natAdd 1024 k) d)) := by
  unfold x1B gatedB
  rw [stream_at, row_at x3 _ _ b 4096 ho d (by omega)]
  exact congr (congrArg _ (funext fun k => top_at x4 k d)) (funext fun k => bot_at x4 k d)

/-- The block of the second norm's rows, at an entry. -/
theorem h2B_at (b : Fin 8) (h2 : k0_off2 i = ![b.val, 6144]) (h3 : k0_off3 i = ![b.val, 8192]) (r : Fin 512) (d : Fin 2048) :
    h2B i x0 x1 x2 x3 x4 x5 (ix2 r d)
      = normed (fun k => x1B i x0 x1 x2 x3 x4 (ix2 r k)) d (x5 (ix2 (0 : Fin 1) d)) (x3 (ix2 b (⟨8192 + d.val, by omega⟩ : Fin 12288)))
        (x3 (ix2 b (⟨6144 + d.val, by omega⟩ : Fin 12288))) := by
  unfold h2B
  rw [normed_at, row_at x3 _ _ b 6144 h2 d (by omega), row_at x3 _ _ b 8192 h3 d (by omega)]
  rfl

end

end Cert.Out
end
-- ==== Proof.OutRef.lean ====
/- The reference's residual stream and second norm, entry by entry. -/
module

public import proofs.«01_k».proof.Proof.Gen.Reference3Ideal
public import proofs.«01_k».proof.Proof.HostWords
public import proofs.«01_k».proof.Proof.OutMath
public import Idealize.ShloMosaic.Lib.Routing.OpsPair
public import Idealize.ShloMosaic.Lib.Pointwise
public import Idealize.ShloMosaic.Lib.Claim

@[expose] public section

set_option maxRecDepth 16384

noncomputable section

namespace Cert.OutRef

open Cert.Reference3Ideal Cert.Reference3Ideal.Gen
open Idealize.ShloMosaic hiding ix1 ix2 ix3
open Idealize.ShloMosaic.TcCoe Idealize.ShloMosaic.Tactic
open Idealize.ShloMosaic.ValueIdx Idealize.ShloMosaic.Routing Cert.HostWords Cert.Out

variable (ya yb : FVec Ideal S32768x1024 .bf16) (x : FVec Ideal S32768x2048 .f32) (md : FVec Ideal S8x12288 .f32) (w : FVec Ideal S2048x2048 .f32) (g : FVec Ideal S2048 .f32)

/-- Each token's sequence, and as a column with a negative one wrapped round. -/
def sequences : IVec S32768 32 := pyDiv bcast_S_S32768 (iotaInDim S32768 32 0) (constantI S_ 32 4096#32)
def column : IVec S32768x1 32 :=
  broadcastInDim S32768x1 ![0] bcast_S32768_S32768x1_0 (select (cmpi .slt sequences (broadcastInDim S32768 ![] bcast_S_S32768 (constantI S_ 32 0#32)))
    (addi sequences (broadcastInDim S32768 ![] bcast_S_S32768 (constantI S_ 32 8#32))) sequences)
/-- Each token's modulation. -/
def modV : FVec Ideal S32768x12288 .f32 := Host.gather gather_S8x12288_S32768x1_S32768x12288_1_0_n_n_0_1_112288 md column
/-- The mixers' rows side by side. -/
def bothV : FVec Ideal S32768x2048 .f32 :=
  concatenate S32768x2048 1 [⟨S32768x1024, extf .f32 ya bitsLt_bf16_f32⟩, ⟨S32768x1024, extf .f32 yb bitsLt_bf16_f32⟩] concatenates_S32768x1024_S32768x1024_S32768x2048_d1
/-- The residual stream. -/
def streamV : FVec Ideal S32768x2048 .f32 :=
  addf x (mulf (extractStridedSlice S32768x2048 ![0, 4096] (modV md) slices_S32768x12288_S32768x2048_0_4096)
    (Host.dotGeneral dot_S32768x2048_S2048x2048_S32768x2048_1_0_0_1_n_n none (bothV ya yb) w))
/-- The rows `y` after the norm. -/
def normV (y : FVec Ideal S32768x2048 .f32) : FVec Ideal S32768x2048 .f32 :=
  addf (mulf (mulf (mulf y (broadcastInDim S32768x2048 ![0, 1] bcast_S32768x1_S32768x2048_0_1 (Host.rsqrt (addf (Host.divf (broadcastInDim S32768x1 ![0] bcast_S32768_S32768x1_0
        (Host.reduceAdd (mulf y y) (constant S_ .f32 0x00000000#32) reducesTo_S32768x2048_S32768_d1 h_S_))
        (broadcastInDim S32768x1 ![] bcast_S_S32768x1 (constant S_ .f32 0x45000000#32))) (broadcastInDim S32768x1 ![] bcast_S_S32768x1 (constant S_ .f32 0x358637BD#32))))))
      (broadcastInDim S32768x2048 ![0, 1] bcast_S1x2048_S32768x2048_0_1 (broadcastInDim S1x2048 ![1] bcast_S2048_S1x2048_1 g)))
    (addf (broadcastInDim S32768x2048 ![] bcast_S_S32768x2048 (constant S_ .f32 0x3F800000#32))
      (extractStridedSlice S32768x2048 ![0, 8192] (modV md) slices_S32768x12288_S32768x2048_0_8192)))
    (extractStridedSlice S32768x2048 ![0, 6144] (modV md) slices_S32768x12288_S32768x2048_0_6144)

theorem column_at (p : Fin 32768) : column (ix2 p (0 : Fin 1)) = BitVec.ofNat 32 (p.val / 4096) := by
  have hp := p.isLt
  have hx : sequences (ix1 p) = BitVec.ofNat 32 (p.val / 4096) := pyDiv_ap _ _ _ _ (iota1_ap p) rfl (by omega) (by decide) (by decide)
  unfold column
  refine (broadcastInDim_apply _ _ _ _ (ix1 p) fun q => ?_).trans ?_
  · match q with
    | ⟨0, _⟩ => rfl
  · exact wrap_ap _ _ _ _ hx (by omega) rfl

theorem mod_at (p : Fin 32768) (z : Fin 12288) (b : Fin 8) (hb : b.val = p.val / 4096) : modV md (ix2 p z) = md (ix2 b z) := by
  unfold modV
  refine gather_row _ rfl rfl rfl rfl rfl md _ p z b ?_ (by decide)
  rw [hb]
  exact column_at p

theorem both_left (p : Fin 32768) (k : Fin 1024) : bothV ya yb (ix2 p (Fin.castAdd 1024 k : Fin 2048)) = ya (ix2 p k) := by
  unfold bothV
  refine (concatenate_pair_apply_left (s₁ := S32768x1024) (s₂ := S32768x1024) (t := S32768x2048) (1 : Fin 2) (extf .f32 ya bitsLt_bf16_f32 : FVec Ideal S32768x1024 .f32) (extf .f32 yb bitsLt_bf16_f32 : FVec Ideal S32768x1024 .f32)
    concatenates_S32768x1024_S32768x1024_S32768x2048_d1 (ix2 p (Fin.castAdd 1024 k : Fin 2048)) rfl (ix2 p k) fun q => ?_).trans rfl
  match q with
  | ⟨0, _⟩ => rfl
  | ⟨1, _⟩ => rfl

theorem both_right (p : Fin 32768) (k : Fin 1024) : bothV ya yb (ix2 p (Fin.natAdd 1024 k : Fin 2048)) = yb (ix2 p k) := by
  unfold bothV
  refine (concatenate_pair_apply_right (s₁ := S32768x1024) (s₂ := S32768x1024) (t := S32768x2048) (1 : Fin 2) (extf .f32 ya bitsLt_bf16_f32 : FVec Ideal S32768x1024 .f32) (extf .f32 yb bitsLt_bf16_f32 : FVec Ideal S32768x1024 .f32)
    concatenates_S32768x1024_S32768x1024_S32768x2048_d1 (ix2 p (Fin.natAdd 1024 k : Fin 2048)) rfl rfl (ix2 p k) (fun q hq => ?_) (Nat.add_comm k.val 1024)).trans rfl
  match q with
  | ⟨0, _⟩ => rfl
  | ⟨1, _⟩ => exact absurd rfl hq

theorem streamV_at (p : Fin 32768) (d : Fin 2048) (b : Fin 8) (hb : b.val = p.val / 4096) :
    streamV ya yb x md w (ix2 p d)
      = stream (x (ix2 p d)) (md (ix2 b (⟨4096 + d.val, by omega⟩ : Fin 12288))) (fun k => ya (ix2 p k)) (fun k => yb (ix2 p k))
        (fun k => w (ix2 (Fin.castAdd 1024 k) d)) (fun k => w (ix2 (Fin.natAdd 1024 k) d)) := by
  have h : streamV ya yb x md w (ix2 p d) = x (ix2 p d) + modV md (ix2 p (⟨4096 + d.val, by omega⟩ : Fin 12288)) * ∑ k : Fin 2048, bothV ya yb (ix2 p k) * w (ix2 k d) := by
    unfold streamV
    generalize modV md = M
    generalize bothV ya yb = B
    pointwise
    rfl
  rw [h, mod_at md p _ b hb, Fin.sum_univ_add (a := 1024) (b := 1024)]
  simp only [both_left, both_right]
  rfl

theorem normV_at (y : FVec Ideal S32768x2048 .f32) (p : Fin 32768) (d : Fin 2048) (b : Fin 8) (hb : b.val = p.val / 4096) :
    normV md g y (ix2 p d)
      = normed (fun k => y (ix2 p k)) d (g (ix1 d)) (md (ix2 b (⟨8192 + d.val, by omega⟩ : Fin 12288))) (md (ix2 b (⟨6144 + d.val, by omega⟩ : Fin 12288))) := by
  rw [← mod_at md p _ b hb, ← mod_at md p _ b hb]
  unfold normV
  generalize modV md = M
  pointwise
  rfl

end Cert.OutRef
end
-- ==== Proof.OutValue.lean ====
/- What the output projection's call leaves is the reference's two arrays: row `s` is row `s % 512` of the block of point
   `s / 512`, whose sequence is `s / 4096`. -/
module

public import proofs.«01_k».proof.Proof.OutReads
public import proofs.«01_k».proof.Proof.OutRef

@[expose] public section

set_option maxRecDepth 16384

noncomputable section

namespace Cert.Out

open Cert.Kernel3Ideal Cert.Kernel3Ideal.Gen
open Idealize.ShloMosaic hiding ix1 ix2 ix3
open Idealize.ShloMosaic.TcCoe Idealize.ShloMosaic.Tactic
open Idealize.ShloMosaic.ValueIdx

variable (m : (ℓ : Loc nD τ sig) → Buf (Elt Ideal) ℓ) (c : Dev nD)

/-- The arguments. -/
def YA : FVec Ideal S32768x1024 .bf16 := m ((c : Thread nD τ).loc main_arg0)
def YB : FVec Ideal S32768x1024 .bf16 := m ((c : Thread nD τ).loc main_arg1)
def XX : FVec Ideal S32768x2048 .f32 := m ((c : Thread nD τ).loc main_arg2)
def MD : FVec Ideal S8x12288 .f32 := m ((c : Thread nD τ).loc main_arg3)
def WW : FVec Ideal S2048x2048 .f32 := m ((c : Thread nD τ).loc main_arg4)
def GG : FVec Ideal S2048 .f32 := m ((c : Thread nD τ).loc main_arg5)

/-- A row of the residual stream's block is the reference's row. -/
theorem row_stream (t : Fin cfg0.N) (r : Fin 512) (d : Fin 2048) (s : Fin 32768) (hs : s.val = t.val * 512 + r.val) :
    x1B (grid0.coords t) (iblk m c 0 t) (iblk m c 1 t) (iblk m c 2 t) (iblk m c 3 t) (iblk m c 4 t) (ix2 r d)
      = OutRef.streamV (YA m c) (YB m c) (XX m c) (MD m c) (WW m c) (ix2 s d) := by
  have hN : t.val < 64 := lt_of_lt_of_eq t.isLt N_0
  have hr := r.isLt
  have hb : (⟨t.val / 8, by omega⟩ : Fin 8).val = s.val / 4096 := by show t.val / 8 = _; omega
  refine (x1B_at _ _ _ _ _ _ ⟨t.val / 8, by omega⟩ (gate_row t) r d).trans (Eq.trans ?_ (OutRef.streamV_at _ _ _ _ _ s d _ hb).symm)
  refine congr (congr (congr (congr (congr (congrArg stream (x_at m c t r d s hs)) (mod_at m c t _ _)) (funext fun k => ya_at m c t r k s hs)) (funext fun k => yb_at m c t r k s hs))
    (funext fun k => ?_)) (funext fun k => ?_)
  · exact (w_at m c t _ d).trans rfl
  · exact (w_at m c t _ d).trans rfl

/-- And so is a row of the second norm's block. -/
theorem row_norm (t : Fin cfg0.N) (r : Fin 512) (d : Fin 2048) (s : Fin 32768) (hs : s.val = t.val * 512 + r.val) :
    h2B (grid0.coords t) (iblk m c 0 t) (iblk m c 1 t) (iblk m c 2 t) (iblk m c 3 t) (iblk m c 4 t) (iblk m c 5 t) (ix2 r d)
      = OutRef.normV (MD m c) (GG m c) (OutRef.streamV (YA m c) (YB m c) (XX m c) (MD m c) (WW m c)) (ix2 s d) := by
  have hN : t.val < 64 := lt_of_lt_of_eq t.isLt N_0
  have hr := r.isLt
  have hb : (⟨t.val / 8, by omega⟩ : Fin 8).val = s.val / 4096 := by show t.val / 8 = _; omega
  refine (h2B_at _ _ _ _ _ _ _ ⟨t.val / 8, by omega⟩ (shift_row t) (scale_row t) r d).trans (Eq.trans ?_ (OutRef.normV_at _ _ _ s d _ hb).symm)
  refine congr (congr (congr (congrFun (congrArg normed (funext fun k => row_stream m c t r k s hs)) d) (g_at m c t d)) (mod_at m c t _ _)) (mod_at m c t _ _)

theorem stream_eq : OutRef.streamV (YA m c) (YB m c) (XX m c) (MD m c) (WW m c) = Value.G8 m c := by
  funext y
  have h0 : (y 0).val < 32768 := (y 0).isLt
  have h1 : (y 1).val < 2048 := (y 1).isLt
  have hp : Value.pt8Of y = (y 0).val / 512 := by
    show 1 * ((y 0).val / 512 - 0) + 1 * ((y 1).val / 2048 - 0) = _
    omega
  have hN : cfg0.N = 64 := N_0
  have ht : Value.pt8Of y < cfg0.N := by omega
  unfold Value.G8
  rw [dif_pos ht, ← Value.outsAt0_sweep m c _ ht]
  refine Eq.trans ?_ (congrFun (leaves_x1 m c ⟨Value.pt8Of y, ht⟩).symm (Value.loc8Of y))
  have hl : Value.loc8Of y = ix2 (⟨(y 0).val % 512, by omega⟩ : Fin 512) (⟨(y 1).val, h1⟩ : Fin 2048) := by
    funext x
    match x with
    | ⟨0, _⟩ => rfl
    | ⟨1, _⟩ => exact Fin.ext (Nat.mod_eq_of_lt h1)
  rw [hl]
  refine Eq.trans ?_ (row_stream m c _ _ _ ⟨(y 0).val, h0⟩ ?_).symm
  · exact congrArg _ (ix2_eta y).symm
  · show (y 0).val = Value.pt8Of y * 512 + (y 0).val % 512
    omega

theorem norm_eq : OutRef.normV (MD m c) (GG m c) (OutRef.streamV (YA m c) (YB m c) (XX m c) (MD m c) (WW m c)) = Value.G9 m c := by
  funext y
  have h0 : (y 0).val < 32768 := (y 0).isLt
  have h1 : (y 1).val < 2048 := (y 1).isLt
  have hp : Value.pt9Of y = (y 0).val / 512 := by
    show 1 * ((y 0).val / 512 - 0) + 1 * ((y 1).val / 2048 - 0) = _
    omega
  have hN : cfg0.N = 64 := N_0
  have ht : Value.pt9Of y < cfg0.N := by omega
  unfold Value.G9
  rw [dif_pos ht, ← Value.outsAt0_sweep m c _ ht]
  refine Eq.trans ?_ (congrFun (leaves_h2 m c ⟨Value.pt9Of y, ht⟩).symm (Value.loc9Of y))
  have hl : Value.loc9Of y = ix2 (⟨(y 0).val % 512, by omega⟩ : Fin 512) (⟨(y 1).val, h1⟩ : Fin 2048) := by
    funext x
    match x with
    | ⟨0, _⟩ => rfl
    | ⟨1, _⟩ => exact Fin.ext (Nat.mod_eq_of_lt h1)
  rw [hl]
  refine Eq.trans ?_ (row_norm m c _ _ _ ⟨(y 0).val, h0⟩ ?_).symm
  · exact congrArg _ (ix2_eta y).symm
  · show (y 0).val = Value.pt9Of y * 512 + (y 0).val % 512
    omega

end Cert.Out
end
-- ==== Proof.MixTile.lean ====
/- One grid point of the input projections' call: the block's gated mixing, tile by tile. -/
module

public import proofs.«01_k».proof.Proof.Gen.Kernel4Ideal.Value
public import Idealize.ShloMosaic.Lib.Tactic
public import Idealize.ShloMosaic.Lib.Pointwise
public import Idealize.ShloMosaic.Lib.Claim
public import Idealize.ShloMosaic.Lib.Pipeline.ValueKit

@[expose] public section
set_option maxRecDepth 16384

noncomputable section
namespace Cert.Mix

open Cert.Kernel4Ideal Cert.Kernel4Ideal.Gen
open Idealize.ShloMosaic hiding ix1 ix2 ix3
open Idealize.ShloMosaic.TcCoe Idealize.ShloMosaic.Tactic
open Idealize.ShloMosaic.ValueIdx
variable {F : FTy → Type} [FloatOps F]

theorem u_inb : ∀ (p : Fin 4) (a : Fin 2), (![0, 256 * p.val] : Fin 2 → Nat) a + S2048x256.size a ≤ S2048x2048.size a := by decide
theorem v_inb : ∀ (p : Fin 4) (a : Fin 2), (![0, 1024 + 256 * p.val] : Fin 2 → Nat) a + S2048x256.size a ≤ S2048x2048.size a := by decide
theorem g_inb : ∀ (g : Fin 8) (a : Fin 2), (![0, 128 * g.val] : Fin 2 → Nat) a + S1x128.size a ≤ S1x1024.size a := by decide
theorem w_inb : ∀ (g : Fin 8) (a : Fin 3), (![g.val, 0, 0] : Fin 3 → Nat) a + S1x128x128.size a ≤ S8x128x128.size a := by decide
theorem b_inb : ∀ (g : Fin 8) (a : Fin 2), (![0, g.val] : Fin 2 → Nat) a + S128x1.size a ≤ S128x8.size a := by decide
theorem half_slices (s : Fin 2) : S512x256.Slices ![0, 128 * s.val] S512x128 := by revert s; decide
theorem rows_slices (r : Fin 4) : S512x128.Slices ![128 * r.val, 0] S128x128 := by revert r; decide
theorem rows_inb : ∀ (r : Fin 4) (a : Fin 2), (![128 * r.val, 0] : Fin 2 → Nat) a + S128x1024.size a ≤ S512x1024.size a := by decide

theorem t_inb : ∀ (p : Fin 4) (s : Fin 2) (r : Fin 4) (a : Fin 2), (![128 * r.val, 256 * p.val + 128 * s.val] : Fin 2 → Nat) a + S128x128.size a ≤ S512x1024.size a := by decide
theorem hz : (![0, 0] : Fin 2 → Nat) = fun _ => 0 := funext fun a => by fin_cases a <;> rfl

/-- The group of a pair's half. -/
def group (p : Fin 4) (s : Fin 2) : Fin 8 := ⟨2 * p.val + s.val, by omega⟩

/-- The mask of the mixing weights: a position takes from those of its own chunk and of earlier ones. -/
def maskB : IVec S128x128 1 := k0_pay8 k0_pay4 k0_pay5 k0_pay6 k0_pay7 0#32

section

variable (v : FVec F S512x256 .f32) (s : Fin 2) (g b : Vec F S1x128 .f32)

/-- A pair's half of the activated columns. -/
def halfB : FVec F S512x128 .f32 := extractStridedSlice S512x128 ![0, 128 * s.val] v (half_slices s)
/-- Its distance from the mean of its row. -/
def centredB : FVec F S512x128 .f32 :=
  subf (halfB v s) (broadcastTo S512x128 (divf (shapeCast S512x1 (multiReduction .add [1] S512 (halfB v s) 0x00000000#32 reduces_S512x128_S512 (.inl rfl) rfl) shapeCasts_S512_S512x1)
    (broadcast S512x1 (Scalar.ofBits .f32 0x43000000#32))) broadcasts_S512x1_S512x128)
/-- The layer norm of the rows. -/
def layerB : FVec F S512x128 .bf16 :=
  truncf .bf16 (addf (mulf (mulf (centredB v s) (broadcastTo S512x128 (rsqrt (addf (divf (shapeCast S512x1 (multiReduction .add [1] S512 (mulf (centredB v s) (centredB v s)) 0x00000000#32
      reduces_S512x128_S512 (.inl rfl) rfl) shapeCasts_S512_S512x1) (broadcast S512x1 (Scalar.ofBits .f32 0x43000000#32))) (broadcast S512x1 (Scalar.ofBits .f32 0x358637BD#32)))) broadcasts_S512x1_S512x128))
    (broadcastTo S512x128 (shapeCast S1x128 g shapeCasts_S1x128_S1x128) broadcasts_S1x128_S512x128))
    (broadcastTo S512x128 (shapeCast S1x128 b shapeCasts_S1x128_S1x128) broadcasts_S1x128_S512x128)) bitsLt_bf16_f32

end

section

variable (u : FVec F S512x128 .f32) (v : FVec F S512x128 .bf16) (w : Vec F S1x128x128 .f32) (b : Vec F S128x1 .f32) (r : Fin 4)

/-- The masked weights. -/
def weightB : FVec F S128x128 .bf16 :=
  truncf .bf16 (select maskB (shapeCast S128x128 w shapeCasts_S1x128x128_S128x128) (broadcast S128x128 (Scalar.ofBits .f32 0x00000000#32))) bitsLt_bf16_f32
/-- One group of one block of 128 rows: the gate times the mixed positions. -/
def mixB : FVec F S128x128 .f32 :=
  mulf (extractStridedSlice S128x128 ![128 * r.val, 0] u (rows_slices r))
    (addf (matmul dot_S128x128_S128x128_S128x128_1_0_0_1_n_n none (weightB w) (extractStridedSlice S128x128 ![128 * r.val, 0] v (rows_slices r)) (constant S128x128 .f32 0x00000000#32))
      (broadcastTo S128x128 (shapeCast S128x1 b shapeCasts_S128x1_S128x1) broadcasts_S128x1_S128x128))

end

/-- The sum of the squares of each row of a tile, after what was summed before. -/
def squaresB (a : FVec F S128x1 .f32) (t : FVec F S128x128 .f32) : FVec F S128x1 .f32 :=
  addf a (shapeCast S128x1 (multiReduction .add [1] S128 (mulf t t) 0x00000000#32 reduces_S128x128_S128 (.inl rfl) rfl) shapeCasts_S128_S128x1)

section

variable (i : grid0.Coords) (x0 : Vec F S512x2048 .f32) (x1 : Vec F S8x12288 .f32) (x2 : Vec F S1x2048 .f32) (x3 : Vec F S2048x2048 .bf16) (x5 x6 : Vec F S1x1024 .f32) (x7 : Vec F S8x128x128 .f32) (x8 : Vec F S128x8 .f32) (x12 : Vec F S1x1024 .f32)

/-- The block's rows after the norm. -/
def rowsB : FVec F S512x2048 .bf16 :=
  k0_pay3 (View.ld x1 (Rect.unit (s := S8x12288) (k0_off1 i) S1x2048.size (k0_off1_inb i)))
    (k0_pay2 x0 x2 (View.ld x1 (Rect.unit (s := S8x12288) (k0_off2 i) S1x2048.size (k0_off2_inb i))))

variable (h : FVec F S512x2048 .bf16)

/-- One group of one block of 128 rows, from the normed rows `h`. -/
def tileB (p : Fin 4) (s : Fin 2) (r : Fin 4) : FVec F S128x128 .f32 :=
  mixB (halfB (k0_pay13 h (View.ld x3 (Rect.unit (s := S2048x2048) ![0, 256 * p.val] S2048x256.size (u_inb p)))) s)
    (layerB (k0_pay13 h (View.ld x3 (Rect.unit (s := S2048x2048) ![0, 1024 + 256 * p.val] S2048x256.size (v_inb p)))) s
      (View.ld x5 (Rect.unit (s := S1x1024) ![0, 128 * (group p s).val] S1x128.size (g_inb (group p s))))
      (View.ld x6 (Rect.unit (s := S1x1024) ![0, 128 * (group p s).val] S1x128.size (g_inb (group p s)))))
    (View.ld x7 (Rect.unit (s := S8x128x128) ![(group p s).val, 0, 0] S1x128x128.size (w_inb (group p s))))
    (View.ld x8 (Rect.unit (s := S128x8) ![0, (group p s).val] S128x1.size (b_inb (group p s)))) r

/-- The squares of a block's rows, summed group by group. -/
def sumsB (r : Fin 4) : FVec F S128x1 .f32 :=
  squaresB (squaresB (squaresB (squaresB (squaresB (squaresB (squaresB (squaresB (broadcast S128x1 (Scalar.ofBits .f32 0x00000000#32))
    (tileB x3 x5 x6 x7 x8 h 0 0 r)) (tileB x3 x5 x6 x7 x8 h 0 1 r)) (tileB x3 x5 x6 x7 x8 h 1 0 r)) (tileB x3 x5 x6 x7 x8 h 1 1 r))
    (tileB x3 x5 x6 x7 x8 h 2 0 r)) (tileB x3 x5 x6 x7 x8 h 2 1 r)) (tileB x3 x5 x6 x7 x8 h 3 0 r)) (tileB x3 x5 x6 x7 x8 h 3 1 r)

/-- The gated mixing of the whole block, before its norm. -/
def gatedB : Vec F S512x1024 .f32 := fun y =>
  tileB x3 x5 x6 x7 x8 h ⟨(y 1).val / 256, by have : (y 1).val < 1024 := (y 1).isLt; omega⟩
    ⟨(y 1).val / 128 % 2, by omega⟩ ⟨(y 0).val / 128, by have : (y 0).val < 512 := (y 0).isLt; omega⟩
    (ix2 (⟨(y 0).val % 128, by omega⟩ : Fin 128) (⟨(y 1).val % 128, by omega⟩ : Fin 128))

/-- A block of 128 rows after the norm. -/
def normB (r : Fin 4) : FVec F S128x1024 .bf16 :=
  k0_pay175 (sumsB x3 x5 x6 x7 x8 h r) (View.ld (gatedB x3 x5 x6 x7 x8 h) (Rect.unit (s := S512x1024) ![128 * r.val, 0] S128x1024.size (rows_inb r))) x12

/-- The whole block after the norm. -/
def outB : Vec F S512x1024 .bf16 := fun y =>
  normB x3 x5 x6 x7 x8 x12 h ⟨(y 0).val / 128, by have : (y 0).val < 512 := (y 0).isLt; omega⟩
    (ix2 (⟨(y 0).val % 128, by omega⟩ : Fin 128) (⟨(y 1).val, (y 1).isLt⟩ : Fin 1024))

end

theorem gated_emb (x3 : Vec F S2048x2048 .bf16) (x5 x6 : Vec F S1x1024 .f32) (x7 : Vec F S8x128x128 .f32) (x8 : Vec F S128x8 .f32) (h : FVec F S512x2048 .bf16)
    (p : Fin 4) (s : Fin 2) (r : Fin 4) (a c : Fin 128) (y : S512x1024.Idx) (h0 : (y 0).val = 128 * r.val + a.val) (h1 : (y 1).val = 256 * p.val + 128 * s.val + c.val) :
    gatedB x3 x5 x6 x7 x8 h y = tileB x3 x5 x6 x7 x8 h p s r (ix2 a c) := by
  have e1 : (y 1).val / 256 = p.val := by omega
  have e2 : (y 1).val / 128 % 2 = s.val := by omega
  have e3 : (y 0).val / 128 = r.val := by omega
  have e4 : (y 0).val % 128 = a.val := by omega
  have e5 : (y 1).val % 128 = c.val := by omega
  unfold gatedB
  congr 1 <;> first | exact congrFun (congrFun (congrArg _ (Fin.ext e1)) _) _ | skip
  all_goals simp only [e1, e2, e3, e4, e5, Fin.eta]

theorem out_emb (x3 : Vec F S2048x2048 .bf16) (x5 x6 : Vec F S1x1024 .f32) (x7 : Vec F S8x128x128 .f32) (x8 : Vec F S128x8 .f32) (x12 : Vec F S1x1024 .f32) (h : FVec F S512x2048 .bf16)
    (r : Fin 4) (a : Fin 128) (c : Fin 1024) (y : S512x1024.Idx) (h0 : (y 0).val = 128 * r.val + a.val) (h1 : (y 1).val = c.val) :
    outB x3 x5 x6 x7 x8 x12 h y = normB x3 x5 x6 x7 x8 x12 h r (ix2 a c) := by
  have e3 : (y 0).val / 128 = r.val := by omega
  have e4 : (y 0).val % 128 = a.val := by omega
  unfold outB
  simp only [e3, e4, h1, Fin.eta]

theorem gated_rect (x3 : Vec F S2048x2048 .bf16) (x5 x6 : Vec F S1x1024 .f32) (x7 : Vec F S8x128x128 .f32) (x8 : Vec F S128x8 .f32) (h : FVec F S512x2048 .bf16)
    (p : Fin 4) (s : Fin 2) (r : Fin 4) (inb : ∀ a, (![128 * r.val, 256 * p.val + 128 * s.val] : Fin 2 → Nat) a + S128x128.size a ≤ S512x1024.size a) (x : S128x128.Idx) :
    gatedB x3 x5 x6 x7 x8 h ((Rect.unit (s := S512x1024) ![128 * r.val, 256 * p.val + 128 * s.val] S128x128.size inb).emb x) = shapeCast S128x128 (tileB x3 x5 x6 x7 x8 h p s r) shapeCasts_S128x128_S128x128 x := by
  rw [shapeCast_self]
  have h0 := ValueKit.rect_emb_unit_val (s := S512x1024) ![128 * r.val, 256 * p.val + 128 * s.val] S128x128.size inb x 0
  have h1 := ValueKit.rect_emb_unit_val (s := S512x1024) ![128 * r.val, 256 * p.val + 128 * s.val] S128x128.size inb x 1
  generalize (Rect.unit (s := S512x1024) ![128 * r.val, 256 * p.val + 128 * s.val] S128x128.size inb).emb x = y at h0 h1 ⊢
  obtain ⟨a, c, rfl⟩ : ∃ a c : Fin 128, x = ix2 a c := ⟨x 0, x 1, (ix2_eta x).symm⟩
  exact gated_emb x3 x5 x6 x7 x8 h p s r a c y h0 h1

theorem out_rect (x3 : Vec F S2048x2048 .bf16) (x5 x6 : Vec F S1x1024 .f32) (x7 : Vec F S8x128x128 .f32) (x8 : Vec F S128x8 .f32) (x12 : Vec F S1x1024 .f32) (h : FVec F S512x2048 .bf16)
    (r : Fin 4) (inb : ∀ a, (![128 * r.val, 0] : Fin 2 → Nat) a + S128x1024.size a ≤ S512x1024.size a) (x : S128x1024.Idx) :
    outB x3 x5 x6 x7 x8 x12 h ((Rect.unit (s := S512x1024) ![128 * r.val, 0] S128x1024.size inb).emb x) = normB x3 x5 x6 x7 x8 x12 h r x := by
  have h0 := ValueKit.rect_emb_unit_val (s := S512x1024) ![128 * r.val, 0] S128x1024.size inb x 0
  have h1 := ValueKit.rect_emb_unit_val (s := S512x1024) ![128 * r.val, 0] S128x1024.size inb x 1
  generalize (Rect.unit (s := S512x1024) ![128 * r.val, 0] S128x1024.size inb).emb x = y at h0 h1 ⊢
  obtain ⟨a, c, rfl⟩ : ∃ (a : Fin 128) (c : Fin 1024), x = ix2 a c := ⟨x 0, x 1, (ix2_eta x).symm⟩
  exact out_emb x3 x5 x6 x7 x8 x12 h r a c y h0 (h1.trans (Nat.zero_add _))

end Cert.Mix
end
-- ==== Proof.MixRun.lean ====
/- One grid point of the input projections' call: the gated mixing of its block, as the thirty-two stores leave it. -/
module

public import proofs.«01_k».proof.Proof.MixTile

@[expose] public section
set_option maxRecDepth 16384

noncomputable section
namespace Cert.Mix

open Cert.Kernel4Ideal Cert.Kernel4Ideal.Gen
open Idealize.ShloMosaic hiding ix1 ix2 ix3
open Idealize.ShloMosaic.TcCoe Idealize.ShloMosaic.Tactic
open Idealize.ShloMosaic.ValueIdx
variable {F : FTy → Type} [FloatOps F]

section

variable (c : Dev nD) (i : grid0.Coords)
  (arg1 : Memref sig .tc .vmem S512x2048 .f32) (harg1 : arg1.IsWhole)
  (arg2 : Memref sig .tc .vmem S8x12288 .f32) (harg2 : arg2.IsWhole)
  (arg3 : Memref sig .tc .vmem S1x2048 .f32) (harg3 : arg3.IsWhole)
  (arg4 : Memref sig .tc .vmem S2048x2048 .bf16) (harg4 : arg4.IsWhole)
  (arg5 : Memref sig .tc .vmem S2048x1920 .bf16) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S8x128x128 .f32) (harg8 : arg8.IsWhole)
  (arg9 : Memref sig .tc .vmem S128x8 .f32) (harg9 : arg9.IsWhole)
  (arg10 : Memref sig .tc .vmem S1x256 .f32) (harg10 : arg10.IsWhole)
  (arg11 : Memref sig .tc .vmem S256x128 .bf16) (harg11 : arg11.IsWhole)
  (arg12 : Memref sig .tc .vmem S1x128 .f32) (harg12 : arg12.IsWhole)
  (arg13 : Memref sig .tc .vmem S1x1024 .f32) (harg13 : arg13.IsWhole)
  (arg14 : Memref sig .tc .vmem S512x128 .f32) (harg14 : arg14.IsWhole)
  (arg15 : Memref sig .tc .vmem S512x128 .f32) (harg15 : arg15.IsWhole)
  (arg16 : Memref sig .tc .vmem S512x1024 .bf16) (harg16 : arg16.IsWhole)
  (arg17 : Memref sig .tc .vmem S1x16x512x64 .bf16) (harg17 : arg17.IsWhole)
  (arg18 : Memref sig .tc .vmem S1x8x512x64 .bf16) (harg18 : arg18.IsWhole)
  (arg19 : Memref sig .tc .vmem S512x64 .bf16) (harg19 : arg19.IsWhole)
  (arg20 : Memref sig .tc .vmem S1x80x512 .bf16) (harg20 : arg20.IsWhole)
  (arg21 : Memref sig .tc .vmem S512x64 .bf16) (harg21 : arg21.IsWhole)
  (arg22 : Memref sig .tc .vmem S1x8x512 .f32) (harg22 : arg22.IsWhole)
  (arg23 : Memref sig .tc .vmem S512x1024 .f32) (harg23 : arg23.IsWhole)
  (x0 : Vec F S512x2048 .f32) (x1 : Vec F S8x12288 .f32) (x2 : Vec F S1x2048 .f32) (x3 : Vec F S2048x2048 .bf16) (x4 : Vec F S2048x1920 .bf16) (x5 : Vec F S1x1024 .f32) (x6 : Vec F S1x1024 .f32) (x7 : Vec F S8x128x128 .f32) (x8 : Vec F S128x8 .f32) (x9 : Vec F S1x256 .f32) (x10 : Vec F S256x128 .bf16) (x11 : Vec F S1x128 .f32) (x12 : Vec F S1x1024 .f32) (x13 : Vec F S512x128 .f32) (x14 : Vec F S512x128 .f32)

set_option maxHeartbeats 8000000 in
theorem scratch_eq (y : S512x1024.Idx) :
    View.canon (kernelRun0_A.sl.HS0_32 c i arg1 harg1 arg2 harg2 arg3 harg3 arg4 harg4 arg6 harg6 arg7 harg7 arg8 harg8 arg9 harg9 x0 x1 x2 x3 x5 x6 x7 x8) y = gatedB x3 x5 x6 x7 x8 (rowsB i x0 x1 x2) y := by
  refine View.canon_apply_of_pieces (gatedB x3 x5 x6 x7 x8 (rowsB i x0 x1 x2)) (kernelRun0_A.sl.HS0_32 c i arg1 harg1 arg2 harg2 arg3 harg3 arg4 harg4 arg6 harg6 arg7 harg7 arg8 harg8 arg9 harg9 x0 x1 x2 x3 x5 x6 x7 x8) ?_ y (View.cover_of_tiledL (kernelRun0_A.sl.HS0_32 c i arg1 harg1 arg2 harg2 arg3 harg3 arg4 harg4 arg6 harg6 arg7 harg7 arg8 harg8 arg9 harg9 x0 x1 x2 x3 x5 x6 x7 x8) S128x128.size (by sl_kernel_rfl) y)
  unfold kernelRun0_A.sl.HS0_32
  refine List.forall_mem_cons.2 ⟨fun x => (congrFun (?_ : _ = shapeCast S128x128 (tileB x3 x5 x6 x7 x8 (rowsB i x0 x1 x2) 3 1 3) shapeCasts_S128x128_S128x128) x).trans (gated_rect x3 x5 x6 x7 x8 (rowsB i x0 x1 x2) 3 1 3 (t_inb 3 1 3) x).symm,
    List.forall_mem_cons.2 ⟨fun x => (congrFun (?_ : _ = shapeCast S128x128 (tileB x3 x5 x6 x7 x8 (rowsB i x0 x1 x2) 3 1 2) shapeCasts_S128x128_S128x128) x).trans (gated_rect x3 x5 x6 x7 x8 (rowsB i x0 x1 x2) 3 1 2 (t_inb 3 1 2) x).symm,
    List.forall_mem_cons.2 ⟨fun x => (congrFun (?_ : _ = shapeCast S128x128 (tileB x3 x5 x6 x7 x8 (rowsB i x0 x1 x2) 3 1 1) shapeCasts_S128x128_S128x128) x).trans (gated_rect x3 x5 x6 x7 x8 (rowsB i x0 x1 x2) 3 1 1 (t_inb 3 1 1) x).symm,
    List.forall_mem_cons.2 ⟨fun x => (congrFun (?_ : _ = shapeCast S128x128 (tileB x3 x5 x6 x7 x8 (rowsB i x0 x1 x2) 3 1 0) shapeCasts_S128x128_S128x128) x).trans (gated_rect x3 x5 x6 x7 x8 (rowsB i x0 x1 x2) 3 1 0 (t_inb 3 1 0) x).symm,
    List.forall_mem_cons.2 ⟨fun x => (congrFun (?_ : _ = shapeCast S128x128 (tileB x3 x5 x6 x7 x8 (rowsB i x0 x1 x2) 3 0 3) shapeCasts_S128x128_S128x128) x).trans (gated_rect x3 x5 x6 x7 x8 (rowsB i x0 x1 x2) 3 0 3 (t_inb 3 0 3) x).symm,
    List.forall_mem_cons.2 ⟨fun x => (congrFun (?_ : _ = shapeCast S128x128 (tileB x3 x5 x6 x7 x8 (rowsB i x0 x1 x2) 3 0 2) shapeCasts_S128x128_S128x128) x).trans (gated_rect x3 x5 x6 x7 x8 (rowsB i x0 x1 x2) 3 0 2 (t_inb 3 0 2) x).symm,
    List.forall_mem_cons.2 ⟨fun x => (congrFun (?_ : _ = shapeCast S128x128 (tileB x3 x5 x6 x7 x8 (rowsB i x0 x1 x2) 3 0 1) shapeCasts_S128x128_S128x128) x).trans (gated_rect x3 x5 x6 x7 x8 (rowsB i x0 x1 x2) 3 0 1 (t_inb 3 0 1) x).symm,
    List.forall_mem_cons.2 ⟨fun x => (congrFun (?_ : _ = shapeCast S128x128 (tileB x3 x5 x6 x7 x8 (rowsB i x0 x1 x2) 3 0 0) shapeCasts_S128x128_S128x128) x).trans (gated_rect x3 x5 x6 x7 x8 (rowsB i x0 x1 x2) 3 0 0 (t_inb 3 0 0) x).symm,
    List.forall_mem_cons.2 ⟨fun x => (congrFun (?_ : _ = shapeCast S128x128 (tileB x3 x5 x6 x7 x8 (rowsB i x0 x1 x2) 2 1 3) shapeCasts_S128x128_S128x128) x).trans (gated_rect x3 x5 x6 x7 x8 (rowsB i x0 x1 x2) 2 1 3 (t_inb 2 1 3) x).symm,
    List.forall_mem_cons.2 ⟨fun x => (congrFun (?_ : _ = shapeCast S128x128 (tileB x3 x5 x6 x7 x8 (rowsB i x0 x1 x2) 2 1 2) shapeCasts_S128x128_S128x128) x).trans (gated_rect x3 x5 x6 x7 x8 (rowsB i x0 x1 x2) 2 1 2 (t_inb 2 1 2) x).symm,
    List.forall_mem_cons.2 ⟨fun x => (congrFun (?_ : _ = shapeCast S128x128 (tileB x3 x5 x6 x7 x8 (rowsB i x0 x1 x2) 2 1 1) shapeCasts_S128x128_S128x128) x).trans (gated_rect x3 x5 x6 x7 x8 (rowsB i x0 x1 x2) 2 1 1 (t_inb 2 1 1) x).symm,
    List.forall_mem_cons.2 ⟨fun x => (congrFun (?_ : _ = shapeCast S128x128 (tileB x3 x5 x6 x7 x8 (rowsB i x0 x1 x2) 2 1 0) shapeCasts_S128x128_S128x128) x).trans (gated_rect x3 x5 x6 x7 x8 (rowsB i x0 x1 x2) 2 1 0 (t_inb 2 1 0) x).symm,
    List.forall_mem_cons.2 ⟨fun x => (congrFun (?_ : _ = shapeCast S128x128 (tileB x3 x5 x6 x7 x8 (rowsB i x0 x1 x2) 2 0 3) shapeCasts_S128x128_S128x128) x).trans (gated_rect x3 x5 x6 x7 x8 (rowsB i x0 x1 x2) 2 0 3 (t_inb 2 0 3) x).symm,
    List.forall_mem_cons.2 ⟨fun x => (congrFun (?_ : _ = shapeCast S128x128 (tileB x3 x5 x6 x7 x8 (rowsB i x0 x1 x2) 2 0 2) shapeCasts_S128x128_S128x128) x).trans (gated_rect x3 x5 x6 x7 x8 (rowsB i x0 x1 x2) 2 0 2 (t_inb 2 0 2) x).symm,
    List.forall_mem_cons.2 ⟨fun x => (congrFun (?_ : _ = shapeCast S128x128 (tileB x3 x5 x6 x7 x8 (rowsB i x0 x1 x2) 2 0 1) shapeCasts_S128x128_S128x128) x).trans (gated_rect x3 x5 x6 x7 x8 (rowsB i x0 x1 x2) 2 0 1 (t_inb 2 0 1) x).symm,
    List.forall_mem_cons.2 ⟨fun x => (congrFun (?_ : _ = shapeCast S128x128 (tileB x3 x5 x6 x7 x8 (rowsB i x0 x1 x2) 2 0 0) shapeCasts_S128x128_S128x128) x).trans (gated_rect x3 x5 x6 x7 x8 (rowsB i x0 x1 x2) 2 0 0 (t_inb 2 0 0) x).symm,
    List.forall_mem_cons.2 ⟨fun x => (congrFun (?_ : _ = shapeCast S128x128 (tileB x3 x5 x6 x7 x8 (rowsB i x0 x1 x2) 1 1 3) shapeCasts_S128x128_S128x128) x).trans (gated_rect x3 x5 x6 x7 x8 (rowsB i x0 x1 x2) 1 1 3 (t_inb 1 1 3) x).symm,
    List.forall_mem_cons.2 ⟨fun x => (congrFun (?_ : _ = shapeCast S128x128 (tileB x3 x5 x6 x7 x8 (rowsB i x0 x1 x2) 1 1 2) shapeCasts_S128x128_S128x128) x).trans (gated_rect x3 x5 x6 x7 x8 (rowsB i x0 x1 x2) 1 1 2 (t_inb 1 1 2) x).symm,
    List.forall_mem_cons.2 ⟨fun x => (congrFun (?_ : _ = shapeCast S128x128 (tileB x3 x5 x6 x7 x8 (rowsB i x0 x1 x2) 1 1 1) shapeCasts_S128x128_S128x128) x).trans (gated_rect x3 x5 x6 x7 x8 (rowsB i x0 x1 x2) 1 1 1 (t_inb 1 1 1) x).symm,
    List.forall_mem_cons.2 ⟨fun x => (congrFun (?_ : _ = shapeCast S128x128 (tileB x3 x5 x6 x7 x8 (rowsB i x0 x1 x2) 1 1 0) shapeCasts_S128x128_S128x128) x).trans (gated_rect x3 x5 x6 x7 x8 (rowsB i x0 x1 x2) 1 1 0 (t_inb 1 1 0) x).symm,
    List.forall_mem_cons.2 ⟨fun x => (congrFun (?_ : _ = shapeCast S128x128 (tileB x3 x5 x6 x7 x8 (rowsB i x0 x1 x2) 1 0 3) shapeCasts_S128x128_S128x128) x).trans (gated_rect x3 x5 x6 x7 x8 (rowsB i x0 x1 x2) 1 0 3 (t_inb 1 0 3) x).symm,
    List.forall_mem_cons.2 ⟨fun x => (congrFun (?_ : _ = shapeCast S128x128 (tileB x3 x5 x6 x7 x8 (rowsB i x0 x1 x2) 1 0 2) shapeCasts_S128x128_S128x128) x).trans (gated_rect x3 x5 x6 x7 x8 (rowsB i x0 x1 x2) 1 0 2 (t_inb 1 0 2) x).symm,
    List.forall_mem_cons.2 ⟨fun x => (congrFun (?_ : _ = shapeCast S128x128 (tileB x3 x5 x6 x7 x8 (rowsB i x0 x1 x2) 1 0 1) shapeCasts_S128x128_S128x128) x).trans (gated_rect x3 x5 x6 x7 x8 (rowsB i x0 x1 x2) 1 0 1 (t_inb 1 0 1) x).symm,
    List.forall_mem_cons.2 ⟨fun x => (congrFun (?_ : _ = shapeCast S128x128 (tileB x3 x5 x6 x7 x8 (rowsB i x0 x1 x2) 1 0 0) shapeCasts_S128x128_S128x128) x).trans (gated_rect x3 x5 x6 x7 x8 (rowsB i x0 x1 x2) 1 0 0 (t_inb 1 0 0) x).symm,
    List.forall_mem_cons.2 ⟨fun x => (congrFun (?_ : _ = shapeCast S128x128 (tileB x3 x5 x6 x7 x8 (rowsB i x0 x1 x2) 0 1 3) shapeCasts_S128x128_S128x128) x).trans (gated_rect x3 x5 x6 x7 x8 (rowsB i x0 x1 x2) 0 1 3 (t_inb 0 1 3) x).symm,
    List.forall_mem_cons.2 ⟨fun x => (congrFun (?_ : _ = shapeCast S128x128 (tileB x3 x5 x6 x7 x8 (rowsB i x0 x1 x2) 0 1 2) shapeCasts_S128x128_S128x128) x).trans (gated_rect x3 x5 x6 x7 x8 (rowsB i x0 x1 x2) 0 1 2 (t_inb 0 1 2) x).symm,
    List.forall_mem_cons.2 ⟨fun x => (congrFun (?_ : _ = shapeCast S128x128 (tileB x3 x5 x6 x7 x8 (rowsB i x0 x1 x2) 0 1 1) shapeCasts_S128x128_S128x128) x).trans (gated_rect x3 x5 x6 x7 x8 (rowsB i x0 x1 x2) 0 1 1 (t_inb 0 1 1) x).symm,
    List.forall_mem_cons.2 ⟨fun x => (congrFun (?_ : _ = shapeCast S128x128 (tileB x3 x5 x6 x7 x8 (rowsB i x0 x1 x2) 0 1 0) shapeCasts_S128x128_S128x128) x).trans (gated_rect x3 x5 x6 x7 x8 (rowsB i x0 x1 x2) 0 1 0 (t_inb 0 1 0) x).symm,
    List.forall_mem_cons.2 ⟨fun x => (congrFun (?_ : _ = shapeCast S128x128 (tileB x3 x5 x6 x7 x8 (rowsB i x0 x1 x2) 0 0 3) shapeCasts_S128x128_S128x128) x).trans (gated_rect x3 x5 x6 x7 x8 (rowsB i x0 x1 x2) 0 0 3 (t_inb 0 0 3) x).symm,
    List.forall_mem_cons.2 ⟨fun x => (congrFun (?_ : _ = shapeCast S128x128 (tileB x3 x5 x6 x7 x8 (rowsB i x0 x1 x2) 0 0 2) shapeCasts_S128x128_S128x128) x).trans (gated_rect x3 x5 x6 x7 x8 (rowsB i x0 x1 x2) 0 0 2 (t_inb 0 0 2) x).symm,
    List.forall_mem_cons.2 ⟨fun x => (congrFun (?_ : _ = shapeCast S128x128 (tileB x3 x5 x6 x7 x8 (rowsB i x0 x1 x2) 0 0 1) shapeCasts_S128x128_S128x128) x).trans (gated_rect x3 x5 x6 x7 x8 (rowsB i x0 x1 x2) 0 0 1 (t_inb 0 0 1) x).symm,
    List.forall_mem_cons.2 ⟨fun x => (congrFun (?_ : _ = shapeCast S128x128 (tileB x3 x5 x6 x7 x8 (rowsB i x0 x1 x2) 0 0 0) shapeCasts_S128x128_S128x128) x).trans (gated_rect x3 x5 x6 x7 x8 (rowsB i x0 x1 x2) 0 0 0 (t_inb 0 0 0) x).symm,
    fun p hp => absurd hp List.not_mem_nil⟩⟩⟩⟩⟩⟩⟩⟩⟩⟩⟩⟩⟩⟩⟩⟩⟩⟩⟩⟩⟩⟩⟩⟩⟩⟩⟩⟩⟩⟩⟩⟩
  all_goals
    sl_unfold_words
    simp only [View.readAt_eq_ld, harg1.read_unread, harg2.read_unread, harg3.read_unread, harg4.read_unread, harg6.read_unread, harg7.read_unread, harg8.read_unread, harg9.read_unread, View.ld_unit_zero (S := S512x2048) hz, View.ld_unit_zero (S := S1x2048) hz]
    rfl

end

end Cert.Mix
end
-- ==== Proof.MixOut.lean ====
/- One grid point of the input projections' call: its block of the gated mixing after the norm. -/
module

public import proofs.«01_k».proof.Proof.MixRun

@[expose] public section
set_option maxRecDepth 16384

noncomputable section
namespace Cert.Mix

open Cert.Kernel4Ideal Cert.Kernel4Ideal.Gen
open Idealize.ShloMosaic hiding ix1 ix2 ix3
open Idealize.ShloMosaic.TcCoe Idealize.ShloMosaic.Tactic
open Idealize.ShloMosaic.ValueIdx
variable {F : FTy → Type} [FloatOps F]

section

variable (c : Dev nD) (i : grid0.Coords)
  (arg1 : Memref sig .tc .vmem S512x2048 .f32) (harg1 : arg1.IsWhole)
  (arg2 : Memref sig .tc .vmem S8x12288 .f32) (harg2 : arg2.IsWhole)
  (arg3 : Memref sig .tc .vmem S1x2048 .f32) (harg3 : arg3.IsWhole)
  (arg4 : Memref sig .tc .vmem S2048x2048 .bf16) (harg4 : arg4.IsWhole)
  (arg5 : Memref sig .tc .vmem S2048x1920 .bf16) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S8x128x128 .f32) (harg8 : arg8.IsWhole)
  (arg9 : Memref sig .tc .vmem S128x8 .f32) (harg9 : arg9.IsWhole)
  (arg10 : Memref sig .tc .vmem S1x256 .f32) (harg10 : arg10.IsWhole)
  (arg11 : Memref sig .tc .vmem S256x128 .bf16) (harg11 : arg11.IsWhole)
  (arg12 : Memref sig .tc .vmem S1x128 .f32) (harg12 : arg12.IsWhole)
  (arg13 : Memref sig .tc .vmem S1x1024 .f32) (harg13 : arg13.IsWhole)
  (arg14 : Memref sig .tc .vmem S512x128 .f32) (harg14 : arg14.IsWhole)
  (arg15 : Memref sig .tc .vmem S512x128 .f32) (harg15 : arg15.IsWhole)
  (arg16 : Memref sig .tc .vmem S512x1024 .bf16) (harg16 : arg16.IsWhole)
  (arg17 : Memref sig .tc .vmem S1x16x512x64 .bf16) (harg17 : arg17.IsWhole)
  (arg18 : Memref sig .tc .vmem S1x8x512x64 .bf16) (harg18 : arg18.IsWhole)
  (arg19 : Memref sig .tc .vmem S512x64 .bf16) (harg19 : arg19.IsWhole)
  (arg20 : Memref sig .tc .vmem S1x80x512 .bf16) (harg20 : arg20.IsWhole)
  (arg21 : Memref sig .tc .vmem S512x64 .bf16) (harg21 : arg21.IsWhole)
  (arg22 : Memref sig .tc .vmem S1x8x512 .f32) (harg22 : arg22.IsWhole)
  (arg23 : Memref sig .tc .vmem S512x1024 .f32) (harg23 : arg23.IsWhole)
  (x0 : Vec F S512x2048 .f32) (x1 : Vec F S8x12288 .f32) (x2 : Vec F S1x2048 .f32) (x3 : Vec F S2048x2048 .bf16) (x4 : Vec F S2048x1920 .bf16) (x5 : Vec F S1x1024 .f32) (x6 : Vec F S1x1024 .f32) (x7 : Vec F S8x128x128 .f32) (x8 : Vec F S128x8 .f32) (x9 : Vec F S1x256 .f32) (x10 : Vec F S256x128 .bf16) (x11 : Vec F S1x128 .f32) (x12 : Vec F S1x1024 .f32) (x13 : Vec F S512x128 .f32) (x14 : Vec F S512x128 .f32)

theorem norm_congr {A A' : FVec F S128x1 .f32} {B B' : Vec F S128x1024 .f32} {C C' : Vec F S1x1024 .f32} (hA : A = A') (hB : B = B') (hC : C = C') :
    k0_pay175 A B C = k0_pay175 A' B' C' := by rw [hA, hB, hC]

theorem read_eq (r : Fin 4) (inb : ∀ a, (![128 * r.val, 0] : Fin 2 → Nat) a + S128x1024.size a ≤ S512x1024.size a) :
    arg23.view.readCov (kernelRun0_A.sl.HS0_32 c i arg1 harg1 arg2 harg2 arg3 harg3 arg4 harg4 arg6 harg6 arg7 harg7 arg8 harg8 arg9 harg9 x0 x1 x2 x3 x5 x6 x7 x8) (Rect.unit (s := S512x1024) ![128 * r.val, 0] S128x1024.size inb).toLoadRect
      = View.ld (gatedB x3 x5 x6 x7 x8 (rowsB i x0 x1 x2)) (Rect.unit (s := S512x1024) ![128 * r.val, 0] S128x1024.size (rows_inb r)) := by
  rw [View.readCov_eq_canon']
  funext j
  exact scratch_eq c i arg1 harg1 arg2 harg2 arg3 harg3 arg4 harg4 arg6 harg6 arg7 harg7 arg8 harg8 arg9 harg9 x0 x1 x2 x3 x5 x6 x7 x8 _

theorem gain_eq : View.readAt (Elt F) arg13.view (Rect.unit (s := S1x1024) ![0, 0] S1x1024.size inb_S1x1024_S1x1024_0_0).toLoadRect (harg13.unread x12) = x12 := by
  rw [View.readAt_eq_ld, harg13.read_unread, View.ld_unit_zero (S := S1x1024) hz]

set_option maxHeartbeats 8000000 in
theorem out_A_15 : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 = outB x3 x5 x6 x7 x8 x12 (rowsB i x0 x1 x2) := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14)]
  funext y
  refine View.canon_apply_of_pieces (outB x3 x5 x6 x7 x8 x12 (rowsB i x0 x1 x2)) _ ?_ y (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 y)
  unfold kernelRun0_A
  dsimp only
  refine List.forall_mem_cons.2 ⟨fun x => (congrFun (?_ : _ = normB x3 x5 x6 x7 x8 x12 (rowsB i x0 x1 x2) 3) x).trans (out_rect x3 x5 x6 x7 x8 x12 (rowsB i x0 x1 x2) 3 (rows_inb 3) x).symm,
    List.forall_mem_cons.2 ⟨fun x => (congrFun (?_ : _ = normB x3 x5 x6 x7 x8 x12 (rowsB i x0 x1 x2) 2) x).trans (out_rect x3 x5 x6 x7 x8 x12 (rowsB i x0 x1 x2) 2 (rows_inb 2) x).symm,
    List.forall_mem_cons.2 ⟨fun x => (congrFun (?_ : _ = normB x3 x5 x6 x7 x8 x12 (rowsB i x0 x1 x2) 1) x).trans (out_rect x3 x5 x6 x7 x8 x12 (rowsB i x0 x1 x2) 1 (rows_inb 1) x).symm,
    List.forall_mem_cons.2 ⟨fun x => (congrFun (?_ : _ = normB x3 x5 x6 x7 x8 x12 (rowsB i x0 x1 x2) 0) x).trans (out_rect x3 x5 x6 x7 x8 x12 (rowsB i x0 x1 x2) 0 (rows_inb 0) x).symm,
    fun p hp => absurd hp List.not_mem_nil⟩⟩⟩⟩
  · refine norm_congr ?_ (read_eq c i arg1 harg1 arg2 harg2 arg3 harg3 arg4 harg4 arg6 harg6 arg7 harg7 arg8 harg8 arg9 harg9 arg23 x0 x1 x2 x3 x5 x6 x7 x8 3 _) (gain_eq arg13 harg13 x12)
    sl_unfold_words
    simp only [View.readAt_eq_ld, harg1.read_unread, harg2.read_unread, harg3.read_unread, harg4.read_unread, harg6.read_unread, harg7.read_unread, harg8.read_unread, harg9.read_unread, View.ld_unit_zero (S := S512x2048) hz, View.ld_unit_zero (S := S1x2048) hz]
    rfl
  · refine norm_congr ?_ (read_eq c i arg1 harg1 arg2 harg2 arg3 harg3 arg4 harg4 arg6 harg6 arg7 harg7 arg8 harg8 arg9 harg9 arg23 x0 x1 x2 x3 x5 x6 x7 x8 2 _) (gain_eq arg13 harg13 x12)
    sl_unfold_words
    simp only [View.readAt_eq_ld, harg1.read_unread, harg2.read_unread, harg3.read_unread, harg4.read_unread, harg6.read_unread, harg7.read_unread, harg8.read_unread, harg9.read_unread, View.ld_unit_zero (S := S512x2048) hz, View.ld_unit_zero (S := S1x2048) hz]
    rfl
  · refine norm_congr ?_ (read_eq c i arg1 harg1 arg2 harg2 arg3 harg3 arg4 harg4 arg6 harg6 arg7 harg7 arg8 harg8 arg9 harg9 arg23 x0 x1 x2 x3 x5 x6 x7 x8 1 _) (gain_eq arg13 harg13 x12)
    sl_unfold_words
    simp only [View.readAt_eq_ld, harg1.read_unread, harg2.read_unread, harg3.read_unread, harg4.read_unread, harg6.read_unread, harg7.read_unread, harg8.read_unread, harg9.read_unread, View.ld_unit_zero (S := S512x2048) hz, View.ld_unit_zero (S := S1x2048) hz]
    rfl
  · refine norm_congr ?_ (read_eq c i arg1 harg1 arg2 harg2 arg3 harg3 arg4 harg4 arg6 harg6 arg7 harg7 arg8 harg8 arg9 harg9 arg23 x0 x1 x2 x3 x5 x6 x7 x8 0 _) (gain_eq arg13 harg13 x12)
    sl_unfold_words
    simp only [View.readAt_eq_ld, harg1.read_unread, harg2.read_unread, harg3.read_unread, harg4.read_unread, harg6.read_unread, harg7.read_unread, harg8.read_unread, harg9.read_unread, View.ld_unit_zero (S := S512x2048) hz, View.ld_unit_zero (S := S1x2048) hz]
    rfl

end

end Cert.Mix
end
-- ==== Proof.MixReads.lean ====
/- What a grid point of the input projections' call reads: rows of the input, its sequence's modulation, the weights. -/
module

public import proofs.«01_k».proof.Proof.MixOut
public import Idealize.ShloMosaic.Lib.Claim
public import Idealize.ShloMosaic.Lib.Tactic.CleanTypes
public import Idealize.ShloMosaic.Lib.StableHlo.RunRead
public import Idealize.ShloMosaic.Lib.Pointwise
public import Idealize.ShloMosaic.Lib.Pipeline.ValueKit

@[expose] public section

set_option maxRecDepth 16384

noncomputable section

namespace Cert.Mix

open Cert.Kernel4Ideal Cert.Kernel4Ideal.Gen
open Idealize.ShloMosaic hiding ix1 ix2 ix3
open Idealize.ShloMosaic.TcCoe Idealize.ShloMosaic.Tactic
open Idealize.ShloMosaic.ValueIdx

variable {F : FTy → Type} [FloatOps F]
variable (m : (ℓ : Loc nD τ sig) → Buf (Elt F) ℓ) (c : Dev nD) (t : Fin cfg0.N)

/-- Where each window's block lies at a point, and the row of the modulation a point reads. -/
theorem places : ∀ t : Fin cfg0.N, win0_0.index t = ![t.val, 0] ∧ win0_1.index t = ![0, 0] ∧ win0_2.index t = ![0, 0] ∧ win0_3.index t = ![0, 0]
    ∧ win0_5.index t = ![0, 0] ∧ win0_6.index t = ![0, 0] ∧ win0_7.index t = ![0, 0, 0] ∧ win0_8.index t = ![0, 0] ∧ win0_12.index t = ![0, 0] ∧ win0_15.index t = ![t.val, 0] :=
  (by decide +kernel : ∀ t : Fin grid0.N, _)

theorem shift_row : ∀ t : Fin cfg0.N, k0_off1 (grid0.coords t) = ![t.val / 8, 0] := (by decide +kernel : ∀ t : Fin grid0.N, _)
theorem scale_row : ∀ t : Fin cfg0.N, k0_off2 (grid0.coords t) = ![t.val / 8, 2048] := (by decide +kernel : ∀ t : Fin grid0.N, _)
theorem out_flush : ∀ t : Fin cfg0.N, (cfg0.win 15).flush t = true := (by decide +kernel : ∀ t : Fin grid0.N, _)

theorem x_at (r : Fin 512) (k : Fin 2048) (s : Fin 32768) (hs : s.val = t.val * 512 + r.val) :
    (iblk m c 0 t : S512x2048.Idx → Elt F .f32) (ix2 r k) = (m ((c : Thread nD τ).loc main_arg0) : S32768x2048.Idx → Elt F .f32) (ix2 s k) := by
  blk_ext [iblk, V, places t]
  exact hs.symm

theorem mod_at (r : Fin 8) (k : Fin 12288) :
    (iblk m c 1 t : S8x12288.Idx → Elt F .f32) (ix2 r k) = (m ((c : Thread nD τ).loc main_arg1) : S8x12288.Idx → Elt F .f32) (ix2 r k) := by
  blk_ext [iblk, V, places t]

theorem g_at (k : Fin 2048) :
    (iblk m c 2 t : S1x2048.Idx → Elt F .f32) (ix2 (0 : Fin 1) k) = (m ((c : Thread nD τ).loc main_arg2) : S2048.Idx → Elt F .f32) (ix1 k) := by
  have he : (win0_2.blk t).view.emb (ix2 (0 : Fin 1) k) = (ix2 (0 : Fin 1) k : S1x2048.Idx) := by
    blk_ext [places t]
  have hv : (V m c main_v8 : S1x2048.Idx → Elt F .f32) = shapeCast S1x2048 (m ((c : Thread nD τ).loc main_arg2)) shapeCasts_S2048_S1x2048 := by
    unfold_abbrev_sides
    simp only [hostOps0, hostOps0_1, hostOps0_2, hostOps0_3, hostOps0_4, List.flatten_cons, List.flatten_nil, List.append_nil, List.cons_append, List.nil_append]
    after_reads_simp
    rfl
  refine (congrArg (V m c main_v8 : S1x2048.Idx → Elt F .f32) he).trans ?_
  rw [hv]
  pointwise
  rfl

theorem w_at (r k : Fin 2048) :
    (iblk m c 3 t : S2048x2048.Idx → Elt F .bf16) (ix2 r k)
      = truncf .bf16 (show FVec F S2048x3912 .f32 from m ((c : Thread nD τ).loc main_arg3)) bitsLt_bf16_f32 (ix2 r (⟨k.val, by omega⟩ : Fin 3912)) := by
  have he : (win0_3.blk t).view.emb (ix2 r k) = (ix2 r k : S2048x2048.Idx) := by
    blk_ext [places t]
  have hv : (V m c main_v1 : S2048x2048.Idx → Elt F .bf16)
      = extractStridedSlice S2048x2048 ![0, 0] (truncf .bf16 (show FVec F S2048x3912 .f32 from m ((c : Thread nD τ).loc main_arg3)) bitsLt_bf16_f32) slices_S2048x3912_S2048x2048_0_0 := by
    unfold_abbrev_sides
    simp only [hostOps0, hostOps0_1, hostOps0_2, hostOps0_3, hostOps0_4, List.flatten_cons, List.flatten_nil, List.append_nil, List.cons_append, List.nil_append]
    after_reads_simp
  refine (congrArg (V m c main_v1 : S2048x2048.Idx → Elt F .bf16) he).trans ?_
  rw [hv]
  refine congrArg (truncf .bf16 (show FVec F S2048x3912 .f32 from m ((c : Thread nD τ).loc main_arg3)) bitsLt_bf16_f32) (funext fun a => Fin.ext ?_)
  match a with
  | ⟨0, _⟩ => exact Nat.zero_add _
  | ⟨1, _⟩ => exact Nat.zero_add _

/-- Eight groups of 128 side by side. -/
theorem lanes_at {α : Type} (x : S8x128.Idx → α) (z : Fin 1024) :
    shapeCast S1x1024 x shapeCasts_S8x128_S1x1024 (ix2 (0 : Fin 1) z) = x (ix2 (⟨z.val / 128, by omega⟩ : Fin 8) (⟨z.val % 128, by omega⟩ : Fin 128)) := by
  refine shapeCast_apply x shapeCasts_S8x128_S1x1024 _ _ ?_
  rw [Shape.rowMajor_val_two, Shape.rowMajor_val_two]
  show z.val / 128 * 128 + z.val % 128 = 0 * 1024 + z.val
  omega

theorem lng_at (z : Fin 1024) :
    (iblk m c 5 t : S1x1024.Idx → Elt F .f32) (ix2 (0 : Fin 1) z)
      = (m ((c : Thread nD τ).loc main_arg4) : S8x128.Idx → Elt F .f32) (ix2 (⟨z.val / 128, by omega⟩ : Fin 8) (⟨z.val % 128, by omega⟩ : Fin 128)) := by
  have he : (win0_5.blk t).view.emb (ix2 (0 : Fin 1) z) = (ix2 (0 : Fin 1) z : S1x1024.Idx) := by
    blk_ext [places t]
  have hv : (V m c main_v9 : S1x1024.Idx → Elt F .f32) = shapeCast S1x1024 (m ((c : Thread nD τ).loc main_arg4)) shapeCasts_S8x128_S1x1024 := by
    unfold_abbrev_sides
    simp only [hostOps0, hostOps0_1, hostOps0_2, hostOps0_3, hostOps0_4, List.flatten_cons, List.flatten_nil, List.append_nil, List.cons_append, List.nil_append]
    after_reads_simp
    rfl
  refine (congrArg (V m c main_v9 : S1x1024.Idx → Elt F .f32) he).trans ?_
  rw [hv]
  exact lanes_at _ z

theorem lnb_at (z : Fin 1024) :
    (iblk m c 6 t : S1x1024.Idx → Elt F .f32) (ix2 (0 : Fin 1) z)
      = (m ((c : Thread nD τ).loc main_arg5) : S8x128.Idx → Elt F .f32) (ix2 (⟨z.val / 128, by omega⟩ : Fin 8) (⟨z.val % 128, by omega⟩ : Fin 128)) := by
  have he : (win0_6.blk t).view.emb (ix2 (0 : Fin 1) z) = (ix2 (0 : Fin 1) z : S1x1024.Idx) := by
    blk_ext [places t]
  have hv : (V m c main_v10 : S1x1024.Idx → Elt F .f32) = shapeCast S1x1024 (m ((c : Thread nD τ).loc main_arg5)) shapeCasts_S8x128_S1x1024 := by
    unfold_abbrev_sides
    simp only [hostOps0, hostOps0_1, hostOps0_2, hostOps0_3, hostOps0_4, List.flatten_cons, List.flatten_nil, List.append_nil, List.cons_append, List.nil_append]
    after_reads_simp
    rfl
  refine (congrArg (V m c main_v10 : S1x1024.Idx → Elt F .f32) he).trans ?_
  rw [hv]
  exact lanes_at _ z

theorem ws_at (g : Fin 8) (i j : Fin 128) :
    (iblk m c 7 t : S8x128x128.Idx → Elt F .f32) (ix3 g i j) = (m ((c : Thread nD τ).loc main_arg6) : S8x128x128.Idx → Elt F .f32) (ix3 g i j) := by
  blk_ext [iblk, V, places t]

theorem bs_at (i : Fin 128) (g : Fin 8) :
    (iblk m c 8 t : S128x8.Idx → Elt F .f32) (ix2 i g) = (m ((c : Thread nD τ).loc main_arg7) : S8x128.Idx → Elt F .f32) (ix2 g i) := by
  have he : (win0_8.blk t).view.emb (ix2 i g) = (ix2 i g : S128x8.Idx) := by
    blk_ext [places t]
  have hv : (V m c main_v11 : S128x8.Idx → Elt F .f32) = transpose S128x8 [1, 0] (m ((c : Thread nD τ).loc main_arg7) : S8x128.Idx → Elt F .f32) transposes_S8x128_S128x8_1_0 := by
    unfold_abbrev_sides
    simp only [hostOps0, hostOps0_1, hostOps0_2, hostOps0_3, hostOps0_4, List.flatten_cons, List.flatten_nil, List.append_nil, List.cons_append, List.nil_append]
    after_reads_simp
  refine (congrArg (V m c main_v11 : S128x8.Idx → Elt F .f32) he).trans ?_
  rw [hv]
  pointwise
  rfl

theorem ga_at (k : Fin 1024) :
    (iblk m c 12 t : S1x1024.Idx → Elt F .f32) (ix2 (0 : Fin 1) k) = (m ((c : Thread nD τ).loc main_arg12) : S1024.Idx → Elt F .f32) (ix1 k) := by
  have he : (win0_12.blk t).view.emb (ix2 (0 : Fin 1) k) = (ix2 (0 : Fin 1) k : S1x1024.Idx) := by
    blk_ext [places t]
  have hv : (V m c main_v13 : S1x1024.Idx → Elt F .f32) = shapeCast S1x1024 (m ((c : Thread nD τ).loc main_arg12)) shapeCasts_S1024_S1x1024 := by
    unfold_abbrev_sides
    simp only [hostOps0, hostOps0_1, hostOps0_2, hostOps0_3, hostOps0_4, List.flatten_cons, List.flatten_nil, List.append_nil, List.cons_append, List.nil_append]
    after_reads_simp
    rfl
  refine (congrArg (V m c main_v13 : S1x1024.Idx → Elt F .f32) he).trans ?_
  rw [hv]
  pointwise
  rfl

end Cert.Mix
end
-- ==== Proof.MixMath.lean ====
/- One grid point of the input projections' call over the extended reals, entry by entry. -/
module

public import proofs.«01_k».proof.Proof.MixTile
public import proofs.«01_k».proof.Proof.OutMath
public import Idealize.ShloMosaic.Lib.Pointwise
public import Idealize.ShloMosaic.Lib.Claim
public import Idealize.ShloMosaic.Lib.Pipeline.ValueKit

@[expose] public section

set_option maxRecDepth 16384

noncomputable section

namespace Cert.Mix

open Cert.Kernel4Ideal Cert.Kernel4Ideal.Gen
open Idealize.ShloMosaic hiding ix1 ix2 ix3
open Idealize.ShloMosaic.TcCoe Idealize.ShloMosaic.Tactic
open Idealize.ShloMosaic.ValueIdx

/-- The activation. -/
def gelu (x : EReal) : EReal :=
  Ideal.ofBits .f32 0x3F000000#32 * x * (1 + Ideal.tanh (Ideal.ofBits .f32 0x3F4C422A#32 * (x + Ideal.ofBits .f32 0x3D372713#32 * (x * x * x))))

/-- A row's distance from its mean. -/
def centred (v : Fin 128 → EReal) (c : Fin 128) : EReal := v c - Ideal.div (∑ k, v k) (Ideal.ofBits .f32 0x43000000#32)
/-- One entry of a row after the layer norm with weight `g` and bias `b`. -/
def layered (v : Fin 128 → EReal) (c : Fin 128) (g b : EReal) : EReal :=
  centred v c * Ideal.rsqrt (Ideal.div (∑ k, centred v k * centred v k) (Ideal.ofBits .f32 0x43000000#32) + Ideal.ofBits .f32 0x358637BD#32) * g + b
/-- A mixing weight, zero from a later chunk. -/
def weight (a j : Fin 128) (w : EReal) : EReal := if j.val / 64 ≤ a.val / 64 then w else 0

theorem act_at (h : FVec Ideal S512x2048 .bf16) (w : Vec Ideal S2048x256 .bf16) (r : Fin 512) (c : Fin 256) :
    k0_pay13 (F := Ideal) h w (ix2 r c) = gelu (∑ k : Fin 2048, h (ix2 r k) * w (ix2 k c)) := by
  unfold k0_pay13
  pointwise
  rfl

theorem rows_at (x : Vec Ideal S512x2048 .f32) (g s t : Vec Ideal S1x2048 .f32) (r : Fin 512) (d : Fin 2048) :
    k0_pay3 (F := Ideal) t (k0_pay2 x g s) (ix2 r d)
      = Cert.Out.normed (fun k => x (ix2 r k)) d (g (ix2 (0 : Fin 1) d)) (s (ix2 (0 : Fin 1) d)) (t (ix2 (0 : Fin 1) d)) := by
  unfold k0_pay3 k0_pay2
  pointwise
  rfl

theorem half_at (v : FVec Ideal S512x256 .f32) (s : Fin 2) (r : Fin 512) (c : Fin 128) :
    halfB v s (ix2 r c) = v (ix2 r (⟨128 * s.val + c.val, by omega⟩ : Fin 256)) := by
  refine congrArg v (funext fun a => Fin.ext ?_)
  match a with
  | ⟨0, _⟩ => exact Nat.zero_add _
  | ⟨1, _⟩ => rfl

theorem layer_at (v : FVec Ideal S512x256 .f32) (s : Fin 2) (g b : Vec Ideal S1x128 .f32) (r : Fin 512) (c : Fin 128) :
    layerB v s g b (ix2 r c) = layered (fun k => halfB v s (ix2 r k)) c (g (ix2 (0 : Fin 1) c)) (b (ix2 (0 : Fin 1) c)) := by
  unfold layerB centredB
  generalize halfB v s = u
  pointwise
  rfl

/-- A position's chunk, as the mask's rows and columns have it. -/
def rowChunk : IVec S128x128 32 := k0_pay4
def colChunk : IVec S128x128 32 := select (andi k0_pay6 (cmpi .ne k0_pay7 (broadcast S128x128 0#32))) (subi k0_pay5 (broadcast S128x128 1#32)) k0_pay5

theorem rowChunk_at (a j : Fin 128) : rowChunk (ix2 a j) = BitVec.ofNat 32 (a.val / 64) := by
  have hl : ∀ a : Fin 128, rowChunk (ix2 a (0 : Fin 128)) = BitVec.ofNat 32 (a.val / 64) := by decide +kernel
  exact hl a

theorem colChunk_at (a j : Fin 128) : colChunk (ix2 a j) = BitVec.ofNat 32 (j.val / 64) := by
  have hr : ∀ j : Fin 128, colChunk (ix2 (0 : Fin 128) j) = BitVec.ofNat 32 (j.val / 64) := by decide +kernel
  exact hr j

theorem chunks_le (a j : Fin 128) : Scalar.cmpi .sge (BitVec.ofNat 32 (a.val / 64)) (BitVec.ofNat 32 (j.val / 64)) = BitVec.ofBool (decide (j.val / 64 ≤ a.val / 64)) := by
  have h : ∀ x y : Fin 2, Scalar.cmpi .sge (BitVec.ofNat 32 x.val) (BitVec.ofNat 32 y.val) = BitVec.ofBool (decide (y.val ≤ x.val)) := by decide
  exact h ⟨a.val / 64, by omega⟩ ⟨j.val / 64, by omega⟩

theorem mask_at (a j : Fin 128) : maskB (ix2 a j) = BitVec.ofBool (decide (j.val / 64 ≤ a.val / 64)) := by
  have h : maskB (ix2 a j) = Scalar.cmpi .sge (rowChunk (ix2 a j)) (colChunk (ix2 a j)) := rfl
  rw [h, rowChunk_at, colChunk_at, chunks_le]

theorem weight_at (w : Vec Ideal S1x128x128 .f32) (a j : Fin 128) : weightB w (ix2 a j) = weight a j (w (ix3 (0 : Fin 1) a j)) := by
  have h : weightB w (ix2 a j) = if maskB (ix2 a j) = 1#1 then w (ix3 (0 : Fin 1) a j) else Ideal.ofBits .f32 0x00000000#32 := by
    unfold weightB
    generalize maskB = M
    pointwise
    rfl
  rw [h, mask_at, weight]
  by_cases hc : j.val / 64 ≤ a.val / 64
  · simp only [hc, decide_true, BitVec.ofBool_true, if_true]
    exact if_pos rfl
  · simp only [hc, decide_false, if_false]
    exact (if_neg (by decide)).trans Ideal.ofBits_zero_f32

theorem mix_at (u : FVec Ideal S512x128 .f32) (v : FVec Ideal S512x128 .bf16) (w : Vec Ideal S1x128x128 .f32) (b : Vec Ideal S128x1 .f32) (r : Fin 4) (a c : Fin 128) :
    mixB u v w b r (ix2 a c) = u (ix2 (⟨128 * r.val + a.val, by omega⟩ : Fin 512) c)
      * ((∑ j : Fin 128, weight a j (w (ix3 (0 : Fin 1) a j)) * v (ix2 (⟨128 * r.val + j.val, by omega⟩ : Fin 512) c)) + b (ix2 a (0 : Fin 1))) := by
  simp only [← weight_at]
  unfold mixB
  generalize weightB w = M
  pointwise
  rfl

theorem squares_at (A : FVec Ideal S128x1 .f32) (t : FVec Ideal S128x128 .f32) (a : Fin 128) :
    squaresB A t (ix2 a (0 : Fin 1)) = A (ix2 a (0 : Fin 1)) + ∑ k : Fin 128, t (ix2 a k) * t (ix2 a k) := by
  unfold squaresB
  pointwise
  rfl

theorem norm_at (A : FVec Ideal S128x1 .f32) (B : Vec Ideal S128x1024 .f32) (C : Vec Ideal S1x1024 .f32) (a : Fin 128) (z : Fin 1024) :
    k0_pay175 (F := Ideal) A B C (ix2 a z)
      = B (ix2 a z) * Ideal.rsqrt (A (ix2 a (0 : Fin 1)) * Ideal.ofBits .f32 0x3A800000#32 + Ideal.ofBits .f32 0x358637BD#32) * C (ix2 (0 : Fin 1) z) := by
  unfold k0_pay175
  pointwise
  rfl

/-- One entry of the gated mixing: `x` a block's normed rows, `wu` the gate's column, `wv` the group's columns, `g` and `b` the
    layer norm's weight and bias, `ws` and `bs` the position's mixing weights and bias. -/
def entry (x : Fin 128 → Fin 2048 → EReal) (a c : Fin 128) (wu : Fin 2048 → EReal) (wv : Fin 128 → Fin 2048 → EReal) (g b : EReal) (ws : Fin 128 → EReal) (bs : EReal) : EReal :=
  gelu (∑ k, x a k * wu k) * ((∑ j, weight a j (ws j) * layered (fun k => gelu (∑ d, x j d * wv k d)) c g b) + bs)

/-- The gated mixing of a block of 128 positions: the gates are the first 1024 columns of `w`, the mixed values the next 1024. -/
def gated (x : Fin 128 → Fin 2048 → EReal) (w : Fin 2048 → Fin 2048 → EReal) (g b : Fin 1024 → EReal) (ws : Fin 8 → Fin 128 → Fin 128 → EReal) (bs : Fin 8 → Fin 128 → EReal)
    (a : Fin 128) (z : Fin 1024) : EReal :=
  entry x a ⟨z.val % 128, by omega⟩ (fun k => w k ⟨z.val, by omega⟩) (fun k d => w d ⟨1024 + 128 * (z.val / 128) + k.val, by omega⟩) (g z) (b z)
    (ws ⟨z.val / 128, by omega⟩ a) (bs ⟨z.val / 128, by omega⟩ a)

/-- One entry of a row `y` of 1024 after the norm with weight `g`. -/
def unit (y : Fin 1024 → EReal) (z : Fin 1024) (g : EReal) : EReal :=
  y z * Ideal.rsqrt (Ideal.div (∑ k, y k * y k) (Ideal.ofBits .f32 0x44800000#32) + Ideal.ofBits .f32 0x358637BD#32) * g

/-- A sum over 1024 entries is the sum of eight sums over 128. -/
theorem sum_groups (f : Fin 1024 → EReal) : ∑ z, f z = ∑ g : Fin 8, ∑ c : Fin 128, f ⟨128 * g.val + c.val, by omega⟩ := by
  rw [← Fintype.sum_prod_type' (f := fun (g : Fin 8) (c : Fin 128) => f ⟨128 * g.val + c.val, by omega⟩)]
  refine (Fintype.sum_equiv (finProdFinEquiv (m := 8) (n := 128)) _ _ fun q => congrArg f (Fin.ext ?_)).symm
  exact Nat.add_comm _ _

/-- Dividing by 1024 is multiplying by its inverse. -/
theorem div_1024 (x : EReal) : Ideal.div x (Ideal.ofBits .f32 0x44800000#32) = x * Ideal.ofBits .f32 0x3A800000#32 := by
  have h1 : Ideal.ofBits .f32 0x44800000#32 = ((1024 : ℝ) : EReal) := by
    simp [Ideal.ofBits, Ideal.ieee]
    rw [← EReal.coe_mul]
    norm_num
  have h2 : Ideal.ofBits .f32 0x3A800000#32 = ((1024⁻¹ : ℝ) : EReal) := by
    simp [Ideal.ofBits, Ideal.ieee]
    rw [← EReal.coe_mul]
    norm_num
  rw [h1, h2, Ideal.div, if_neg (by norm_num), EReal.coe_inv]

section

variable (x3 : Vec Ideal S2048x2048 .bf16) (x5 x6 : Vec Ideal S1x1024 .f32) (x7 : Vec Ideal S8x128x128 .f32) (x8 : Vec Ideal S128x8 .f32) (x12 : Vec Ideal S1x1024 .f32) (h : FVec Ideal S512x2048 .bf16)

theorem cols_at (o : ℕ) (inb : ∀ a : Fin 2, (![0, o] : Fin 2 → Nat) a + S2048x256.size a ≤ S2048x2048.size a) (k : Fin 2048) (c : Fin 256) (hc : o + c.val < 2048) :
    View.ld (Val := Elt Ideal) (e' := .bf16) x3 (Rect.unit (s := S2048x2048) ![0, o] S2048x256.size inb) (ix2 k c) = x3 (ix2 k (⟨o + c.val, hc⟩ : Fin 2048)) := by
  refine View.ld_unit_apply_of _ _ _ _ _ _ fun a => ?_
  match a with
  | ⟨0, _⟩ => exact (Nat.zero_add _).symm
  | ⟨1, _⟩ => rfl

theorem lane_at (x : Vec Ideal S1x1024 .f32) (g : Fin 8) (c : Fin 128) :
    View.ld (Val := Elt Ideal) (e' := .f32) x (Rect.unit (s := S1x1024) ![0, 128 * g.val] S1x128.size (g_inb g)) (ix2 (0 : Fin 1) c) = x (ix2 (0 : Fin 1) (⟨128 * g.val + c.val, by omega⟩ : Fin 1024)) := by
  refine View.ld_unit_apply_of _ _ _ _ _ _ fun a => ?_
  match a with
  | ⟨0, _⟩ => rfl
  | ⟨1, _⟩ => rfl

theorem spatial_at (g : Fin 8) (a j : Fin 128) :
    View.ld (Val := Elt Ideal) (e' := .f32) x7 (Rect.unit (s := S8x128x128) ![g.val, 0, 0] S1x128x128.size (w_inb g)) (ix3 (0 : Fin 1) a j) = x7 (ix3 g a j) := by
  refine View.ld_unit_apply_of _ _ _ _ _ _ fun q => ?_
  match q with
  | ⟨0, _⟩ => rfl
  | ⟨1, _⟩ => exact (Nat.zero_add _).symm
  | ⟨2, _⟩ => exact (Nat.zero_add _).symm

theorem bias_at (g : Fin 8) (a : Fin 128) :
    View.ld (Val := Elt Ideal) (e' := .f32) x8 (Rect.unit (s := S128x8) ![0, g.val] S128x1.size (b_inb g)) (ix2 a (0 : Fin 1)) = x8 (ix2 a g) := by
  refine View.ld_unit_apply_of _ _ _ _ _ _ fun q => ?_
  match q with
  | ⟨0, _⟩ => exact (Nat.zero_add _).symm
  | ⟨1, _⟩ => rfl

theorem tile_at (p : Fin 4) (s : Fin 2) (r : Fin 4) (a c : Fin 128) :
    tileB x3 x5 x6 x7 x8 h p s r (ix2 a c)
      = entry (fun j k => h (ix2 (⟨128 * r.val + j.val, by omega⟩ : Fin 512) k)) a c (fun k => x3 (ix2 k (⟨256 * p.val + (128 * s.val + c.val), by omega⟩ : Fin 2048)))
        (fun k d => x3 (ix2 d (⟨1024 + 256 * p.val + (128 * s.val + k.val), by omega⟩ : Fin 2048))) (x5 (ix2 (0 : Fin 1) (⟨128 * (group p s).val + c.val, by omega⟩ : Fin 1024)))
        (x6 (ix2 (0 : Fin 1) (⟨128 * (group p s).val + c.val, by omega⟩ : Fin 1024))) (fun j => x7 (ix3 (group p s) a j)) (x8 (ix2 a (group p s))) := by
  unfold tileB entry
  rw [mix_at]
  simp only [layer_at, half_at, act_at]
  simp only [cols_at x3 (256 * p.val) (u_inb p) _ (⟨128 * s.val + c.val, by omega⟩ : Fin 256) (show 256 * p.val + (128 * s.val + c.val) < 2048 by omega)]
  simp only [fun k (q : Fin 128) => cols_at x3 (1024 + 256 * p.val) (v_inb p) k (⟨128 * s.val + q.val, by omega⟩ : Fin 256) (show 1024 + 256 * p.val + (128 * s.val + q.val) < 2048 by omega)]
  exact congrArg (_ * ·) (congrArg₂ (· + ·) (Finset.sum_congr rfl fun j _ => congrArg₂ (· * ·) (congrArg (weight a j) (spatial_at x7 (group p s) a j))
    (congrArg₂ (layered _ c) (lane_at x5 (group p s) c) (lane_at x6 (group p s) c))) (bias_at x8 (group p s) a))

theorem gated_at (r : Fin 4) (a : Fin 128) (z : Fin 1024) :
    gatedB x3 x5 x6 x7 x8 h (ix2 (⟨128 * r.val + a.val, by omega⟩ : Fin 512) z)
      = gated (fun j k => h (ix2 (⟨128 * r.val + j.val, by omega⟩ : Fin 512) k)) (fun k q => x3 (ix2 k q)) (fun q => x5 (ix2 (0 : Fin 1) q)) (fun q => x6 (ix2 (0 : Fin 1) q))
        (fun g i j => x7 (ix3 g i j)) (fun g i => x8 (ix2 i g)) a z := by
  obtain ⟨p, s, c, rfl⟩ : ∃ (p : Fin 4) (s : Fin 2) (c : Fin 128), z = ⟨256 * p.val + 128 * s.val + c.val, by omega⟩ :=
    ⟨⟨z.val / 256, by omega⟩, ⟨z.val / 128 % 2, by omega⟩, ⟨z.val % 128, by omega⟩, Fin.ext (by show z.val = 256 * (z.val / 256) + 128 * (z.val / 128 % 2) + z.val % 128; omega)⟩
  rw [gated_emb x3 x5 x6 x7 x8 h p s r a c _ rfl rfl, tile_at]
  have e1 : (256 * p.val + 128 * s.val + c.val) / 128 = 2 * p.val + s.val := by omega
  have e2 : (256 * p.val + 128 * s.val + c.val) % 128 = c.val := by omega
  have e3 : 256 * p.val + (128 * s.val + c.val) = 256 * p.val + 128 * s.val + c.val := by omega
  have e4 : 128 * (2 * p.val + s.val) + c.val = 256 * p.val + 128 * s.val + c.val := by omega
  have e5 : ∀ k : ℕ, 1024 + 256 * p.val + (128 * s.val + k) = 1024 + 128 * (2 * p.val + s.val) + k := fun k => by omega
  unfold gated group
  simp only [e1, e2, e3, e4, e5]

theorem sums_at (r : Fin 4) (a : Fin 128) :
    sumsB x3 x5 x6 x7 x8 h r (ix2 a (0 : Fin 1))
      = ∑ z : Fin 1024, gatedB x3 x5 x6 x7 x8 h (ix2 (⟨128 * r.val + a.val, by omega⟩ : Fin 512) z) * gatedB x3 x5 x6 x7 x8 h (ix2 (⟨128 * r.val + a.val, by omega⟩ : Fin 512) z) := by
  rw [sum_groups, Fin.sum_univ_eight]
  unfold sumsB
  simp only [squares_at]
  have t : ∀ (p : Fin 4) (s : Fin 2) (g : Fin 8) (c : Fin 128), g.val = 2 * p.val + s.val →
      tileB x3 x5 x6 x7 x8 h p s r (ix2 a c) = gatedB x3 x5 x6 x7 x8 h (ix2 (⟨128 * r.val + a.val, by omega⟩ : Fin 512) (⟨128 * g.val + c.val, by omega⟩ : Fin 1024)) := fun p s g c hg =>
    (gated_emb x3 x5 x6 x7 x8 h p s r a c _ rfl (by show 128 * g.val + c.val = _; omega)).symm
  simp only [fun c => t 0 0 0 c rfl, fun c => t 0 1 1 c rfl, fun c => t 1 0 2 c rfl, fun c => t 1 1 3 c rfl, fun c => t 2 0 4 c rfl, fun c => t 2 1 5 c rfl, fun c => t 3 0 6 c rfl, fun c => t 3 1 7 c rfl]
  have hzero : (broadcast S128x1 (Scalar.ofBits .f32 0x00000000#32) : FVec Ideal S128x1 .f32) (ix2 a (0 : Fin 1)) = 0 := Ideal.ofBits_zero_f32
  rw [hzero, zero_add]

theorem norm_row_at (r : Fin 4) (a : Fin 128) (z : Fin 1024) :
    normB x3 x5 x6 x7 x8 x12 h r (ix2 a z)
      = unit (fun q => gatedB x3 x5 x6 x7 x8 h (ix2 (⟨128 * r.val + a.val, by omega⟩ : Fin 512) q)) z (x12 (ix2 (0 : Fin 1) z)) := by
  unfold normB
  rw [norm_at, sums_at, ← div_1024]
  have hl : View.ld (Val := Elt Ideal) (e' := .f32) (gatedB x3 x5 x6 x7 x8 h) (Rect.unit (s := S512x1024) ![128 * r.val, 0] S128x1024.size (rows_inb r)) (ix2 a z)
      = gatedB x3 x5 x6 x7 x8 h (ix2 (⟨128 * r.val + a.val, by omega⟩ : Fin 512) z) := by
    refine View.ld_unit_apply_of _ _ _ _ _ _ fun q => ?_
    match q with
    | ⟨0, _⟩ => rfl
    | ⟨1, _⟩ => exact (Nat.zero_add _).symm
  rw [hl]
  rfl

theorem out_at (r : Fin 4) (a : Fin 128) (z : Fin 1024) :
    outB x3 x5 x6 x7 x8 x12 h (ix2 (⟨128 * r.val + a.val, by omega⟩ : Fin 512) z)
      = unit (gated (fun j k => h (ix2 (⟨128 * r.val + j.val, by omega⟩ : Fin 512) k)) (fun k q => x3 (ix2 k q)) (fun q => x5 (ix2 (0 : Fin 1) q)) (fun q => x6 (ix2 (0 : Fin 1) q))
        (fun g i j => x7 (ix3 g i j)) (fun g i => x8 (ix2 i g)) a) z (x12 (ix2 (0 : Fin 1) z)) := by
  rw [out_emb x3 x5 x6 x7 x8 x12 h r a z _ rfl rfl, norm_row_at]
  simp only [gated_at]

end

end Cert.Mix
end
-- ==== Proof.MixRef.lean ====
/- The reference's gated mixing after the norm, entry by entry. -/
module

public import proofs.«01_k».proof.Proof.Gen.Reference4Ideal
public import proofs.«01_k».proof.Proof.HostWords
public import proofs.«01_k».proof.Proof.MixMath
public import Idealize.ShloMosaic.Lib.Routing.OpsPair
public import Idealize.ShloMosaic.Lib.Pointwise
public import Idealize.ShloMosaic.Lib.Claim

@[expose] public section

set_option maxRecDepth 16384

noncomputable section

namespace Cert.MixRef

open Cert.Reference4Ideal Cert.Reference4Ideal.Gen
open Idealize.ShloMosaic hiding ix1 ix2 ix3 ix4
open Idealize.ShloMosaic.TcCoe Idealize.ShloMosaic.Tactic
open Idealize.ShloMosaic.ValueIdx Idealize.ShloMosaic.Routing Cert.HostWords Cert.Mix

variable (x : FVec Ideal S32768x2048 .f32) (md : FVec Ideal S8x12288 .f32) (g : FVec Ideal S2048 .f32) (w : FVec Ideal S2048x3912 .f32)
  (lg lb : FVec Ideal S8x128 .f32) (ws : FVec Ideal S8x128x128 .f32) (bs : FVec Ideal S8x128 .f32) (ga : FVec Ideal S1024 .f32)

/-- Each token's sequence, and as a column with a negative one wrapped round. -/
def sequences : IVec S32768 32 := pyDiv bcast_S_S32768 (iotaInDim S32768 32 0) (id (constantI S_ 32 4096#32))
def column : IVec S32768x1 32 :=
  broadcastInDim S32768x1 ![0] bcast_S32768_S32768x1_0 (select (cmpi .slt sequences (broadcastInDim S32768 ![] bcast_S_S32768 (constantI S_ 32 0#32)))
    (addi sequences (broadcastInDim S32768 ![] bcast_S_S32768 (constantI S_ 32 8#32))) sequences)
/-- Each token's modulation. -/
def modV : FVec Ideal S32768x12288 .f32 := Host.gather gather_S8x12288_S32768x1_S32768x12288_1_0_n_n_0_1_112288 md column
/-- The input's rows after the norm. -/
def rowsV : FVec Ideal S32768x2048 .f32 :=
  addf (mulf (mulf (mulf x (broadcastInDim S32768x2048 ![0, 1] bcast_S32768x1_S32768x2048_0_1 (Host.rsqrt (addf (Host.divf (broadcastInDim S32768x1 ![0] bcast_S32768_S32768x1_0
        (Host.reduceAdd (mulf x x) (constant S_ .f32 0x00000000#32) reducesTo_S32768x2048_S32768_d1 h_S_))
        (broadcastInDim S32768x1 ![] bcast_S_S32768x1 (constant S_ .f32 0x45000000#32))) (broadcastInDim S32768x1 ![] bcast_S_S32768x1 (constant S_ .f32 0x358637BD#32))))))
      (broadcastInDim S32768x2048 ![0, 1] bcast_S1x2048_S32768x2048_0_1 (broadcastInDim S1x2048 ![1] bcast_S2048_S1x2048_1 g)))
    (addf (broadcastInDim S32768x2048 ![] bcast_S_S32768x2048 (constant S_ .f32 0x3F800000#32))
      (extractStridedSlice S32768x2048 ![0, 2048] (modV md) slices_S32768x12288_S32768x2048_0_2048)))
    (extractStridedSlice S32768x2048 ![0, 0] (modV md) slices_S32768x12288_S32768x2048_0_0)
/-- The rows `h` projected to the gates, and to the values the mixing takes. -/
def gateV (h : FVec Ideal S32768x2048 .f32) : FVec Ideal S32768x1024 .f32 :=
  Host.dotGeneral dot_S32768x2048_S2048x1024_S32768x1024_1_0_0_1_n_n none h (extractStridedSlice S2048x1024 ![0, 0] w slices_S2048x3912_S2048x1024_0_0)
def valueV (h : FVec Ideal S32768x2048 .f32) : FVec Ideal S32768x1024 .f32 :=
  Host.dotGeneral dot_S32768x2048_S2048x1024_S32768x1024_1_0_0_1_n_n none h (extractStridedSlice S2048x1024 ![0, 1024] w slices_S2048x3912_S2048x1024_0_1024)
/-- The smooth gate of every entry. -/
def geluV (y : FVec Ideal S32768x1024 .f32) : FVec Ideal S32768x1024 .f32 :=
  mulf y (mulf (broadcastInDim S32768x1024 ![] bcast_S_S32768x1024 (constant S_ .f32 0x3F000000#32))
    (addf (broadcastInDim S32768x1024 ![] bcast_S_S32768x1024 (constant S_ .f32 0x3F800000#32)) (Host.tanh (mulf (broadcastInDim S32768x1024 ![] bcast_S_S32768x1024 (constant S_ .f32 0x3F4C422A#32))
      (addf y (mulf (broadcastInDim S32768x1024 ![] bcast_S_S32768x1024 (constant S_ .f32 0x3D372713#32)) (mulf (mulf y y) y)))))))
/-- Blocks of 128 positions and groups of 128 columns. -/
def groupsV (y : FVec Ideal S32768x1024 .f32) : FVec Ideal S256x128x8x128 .f32 := shapeCast S256x128x8x128 (geluV y) shapeCasts_S32768x1024_S256x128x8x128
/-- Each group's distance from its mean. -/
def centredV (v : FVec Ideal S256x128x8x128 .f32) : FVec Ideal S256x128x8x128 .f32 :=
  subf v (broadcastInDim S256x128x8x128 ![0, 1, 2, 3] bcast_S256x128x8x1_S256x128x8x128_0_1_2_3 (Host.divf (broadcastInDim S256x128x8x1 ![0, 1, 2] bcast_S256x128x8_S256x128x8x1_0_1_2
    (Host.reduceAdd v (constant S_ .f32 0x00000000#32) reducesTo_S256x128x8x128_S256x128x8_d3 h_S_)) (broadcastInDim S256x128x8x1 ![] bcast_S_S256x128x8x1 (constant S_ .f32 0x43000000#32))))
/-- The rest of the layer norm. -/
def layerV (d : FVec Ideal S256x128x8x128 .f32) : FVec Ideal S256x128x8x128 .f32 :=
  addf (mulf (mulf d (broadcastInDim S256x128x8x128 ![0, 1, 2, 3] bcast_S256x128x8x1_S256x128x8x128_0_1_2_3 (Host.rsqrt (addf (Host.divf (broadcastInDim S256x128x8x1 ![0, 1, 2] bcast_S256x128x8_S256x128x8x1_0_1_2
      (Host.reduceAdd (mulf d d) (constant S_ .f32 0x00000000#32) reducesTo_S256x128x8x128_S256x128x8_d3 h_S_)) (broadcastInDim S256x128x8x1 ![] bcast_S_S256x128x8x1 (constant S_ .f32 0x43000000#32)))
      (broadcastInDim S256x128x8x1 ![] bcast_S_S256x128x8x1 (constant S_ .f32 0x358637BD#32))))))
    (broadcastInDim S256x128x8x128 ![0, 1, 2, 3] bcast_S1x1x8x128_S256x128x8x128_0_1_2_3 (broadcastInDim S1x1x8x128 ![2, 3] bcast_S8x128_S1x1x8x128_2_3 lg)))
    (broadcastInDim S256x128x8x128 ![0, 1, 2, 3] bcast_S1x1x8x128_S256x128x8x128_0_1_2_3 (broadcastInDim S1x1x8x128 ![2, 3] bcast_S8x128_S1x1x8x128_2_3 lb))
/-- Each position's chunk of 64, down a column and along a row. -/
def downV : IVec S128x1 32 := pyDiv bcast_S_S128x1 (broadcastInDim S128x1 ![0] bcast_S128_S128x1_0 (iotaInDim S128 32 0)) (id (constantI S_ 32 64#32))
def alongV : IVec S1x128 32 := pyDiv bcast_S_S1x128 (broadcastInDim S1x128 ![1] bcast_S128_S1x128_1 (iotaInDim S128 32 0)) (id (constantI S_ 32 64#32))
/-- Which positions mix into which. -/
def maskV : IVec S128x128 1 := cmpi .sge (broadcastInDim S128x128 ![0, 1] bcast_S128x1_S128x128_0_1 downV) (broadcastInDim S128x128 ![0, 1] bcast_S1x128_S128x128_0_1 alongV)
/-- The mixing weights, zero from a later chunk. -/
def weightsV : FVec Ideal S8x128x128 .f32 :=
  select (broadcastInDim S8x128x128 ![0, 1, 2] bcast_S1x128x128_S8x128x128_0_1_2 (broadcastInDim S1x128x128 ![1, 2] bcast_S128x128_S1x128x128_1_2 maskV)) ws
    (broadcastInDim S8x128x128 ![] bcast_S_S8x128x128 (id (constant S_ .f32 0x00000000#32)))
/-- The values `v` mixed by the weights `u`. -/
def mixedV (v : FVec Ideal S256x128x8x128 .f32) (u : FVec Ideal S8x128x128 .f32) : FVec Ideal S256x128x8x128 .f32 :=
  addf (transpose S256x128x8x128 [1, 3, 0, 2] (Host.dotGeneral dot_S256x128x8x128_S8x128x128_S8x256x128x128_1_2_03_1_2_0 none v u) transposes_S8x256x128x128_S256x128x8x128_1_3_0_2)
    (broadcastInDim S256x128x8x128 ![0, 1, 2, 3] bcast_S1x128x8x1_S256x128x8x128_0_1_2_3 (broadcastInDim S1x128x8x1 ![1, 2] bcast_S128x8_S1x128x8x1_1_2
      (transpose S128x8 [1, 0] bs transposes_S8x128_S128x8_1_0)))
/-- The gated mixing of the rows `h`. -/
def gatedV (h : FVec Ideal S32768x2048 .f32) : FVec Ideal S32768x1024 .f32 :=
  mulf (geluV (gateV w h)) (shapeCast S32768x1024 (mixedV bs (layerV lg lb (centredV (groupsV (valueV w h)))) (weightsV ws)) shapeCasts_S256x128x8x128_S32768x1024)
/-- The rows `y` after their norm. -/
def unitV (y : FVec Ideal S32768x1024 .f32) : FVec Ideal S32768x1024 .bf16 :=
  truncf .bf16 (mulf (mulf y (broadcastInDim S32768x1024 ![0, 1] bcast_S32768x1_S32768x1024_0_1 (Host.rsqrt (addf (Host.divf (broadcastInDim S32768x1 ![0] bcast_S32768_S32768x1_0
      (Host.reduceAdd (mulf y y) (constant S_ .f32 0x00000000#32) reducesTo_S32768x1024_S32768_d1 h_S_)) (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 ga))) bitsLt_bf16_f32
/-- The reference's result. -/
def yaV : FVec Ideal S32768x1024 .bf16 := unitV ga (gatedV w lg lb ws bs (rowsV x md g))

theorem column_at (p : Fin 32768) : column (ix2 p (0 : Fin 1)) = BitVec.ofNat 32 (p.val / 4096) := by
  have hp := p.isLt
  have hx : sequences (ix1 p) = BitVec.ofNat 32 (p.val / 4096) := pyDiv_ap _ _ _ _ (iota1_ap p) rfl (by omega) (by decide) (by decide)
  unfold column
  refine (broadcastInDim_apply _ _ _ _ (ix1 p) fun q => ?_).trans ?_
  · match q with
    | ⟨0, _⟩ => rfl
  · exact wrap_ap _ _ _ _ hx (by omega) rfl

theorem mod_at (p : Fin 32768) (z : Fin 12288) (b : Fin 8) (hb : b.val = p.val / 4096) : modV md (ix2 p z) = md (ix2 b z) := by
  unfold modV
  refine gather_row _ rfl rfl rfl rfl rfl md _ p z b ?_ (by decide)
  rw [hb]
  exact column_at p

theorem rowsV_at (p : Fin 32768) (d : Fin 2048) (b : Fin 8) (hb : b.val = p.val / 4096) :
    rowsV x md g (ix2 p d)
      = Cert.Out.normed (fun k => x (ix2 p k)) d (g (ix1 d)) (md (ix2 b (⟨2048 + d.val, by omega⟩ : Fin 12288))) (md (ix2 b (⟨d.val, by omega⟩ : Fin 12288))) := by
  rw [← mod_at md p _ b hb, ← mod_at md p _ b hb]
  unfold rowsV
  generalize modV md = M
  pointwise
  rfl

theorem gateV_at (h : FVec Ideal S32768x2048 .f32) (p : Fin 32768) (z : Fin 1024) :
    gateV w h (ix2 p z) = ∑ k : Fin 2048, h (ix2 p k) * w (ix2 k (⟨z.val, by omega⟩ : Fin 3912)) := by
  unfold gateV
  pointwise
  rfl

theorem valueV_at (h : FVec Ideal S32768x2048 .f32) (p : Fin 32768) (z : Fin 1024) :
    valueV w h (ix2 p z) = ∑ k : Fin 2048, h (ix2 p k) * w (ix2 k (⟨1024 + z.val, by omega⟩ : Fin 3912)) := by
  unfold valueV
  pointwise
  rfl

theorem geluV_at (y : FVec Ideal S32768x1024 .f32) (p : Fin 32768) (z : Fin 1024) : geluV y (ix2 p z) = gelu (y (ix2 p z)) := by
  have h : geluV y (ix2 p z) = y (ix2 p z) * (Ideal.ofBits .f32 0x3F000000#32 * (1 + Ideal.tanh (Ideal.ofBits .f32 0x3F4C422A#32
      * (y (ix2 p z) + Ideal.ofBits .f32 0x3D372713#32 * (y (ix2 p z) * y (ix2 p z) * y (ix2 p z)))))) := by
    unfold geluV
    pointwise
  rw [h, gelu, ← mul_assoc, mul_comm (y (ix2 p z)) (Ideal.ofBits .f32 0x3F000000#32)]

theorem groupsV_at (y : FVec Ideal S32768x1024 .f32) (b : Fin 256) (i : Fin 128) (q : Fin 8) (c : Fin 128) :
    groupsV y (ix4 b i q c) = gelu (y (ix2 (⟨128 * b.val + i.val, by omega⟩ : Fin 32768) (⟨128 * q.val + c.val, by omega⟩ : Fin 1024))) := by
  rw [← geluV_at]
  unfold groupsV
  refine shapeCast_apply _ _ _ _ ?_
  rw [Shape.rowMajor_val_two, Shape.rowMajor_val_four]
  show (128 * b.val + i.val) * 1024 + (128 * q.val + c.val) = ((b.val * 128 + i.val) * 8 + q.val) * 128 + c.val
  omega

theorem centredV_at (v : FVec Ideal S256x128x8x128 .f32) (b : Fin 256) (i : Fin 128) (q : Fin 8) (c : Fin 128) :
    centredV v (ix4 b i q c) = centred (fun k => v (ix4 b i q k)) c := by
  unfold centredV
  pointwise
  rfl

theorem layerV_at (v : FVec Ideal S256x128x8x128 .f32) (b : Fin 256) (i : Fin 128) (q : Fin 8) (c : Fin 128) :
    layerV lg lb (centredV v) (ix4 b i q c) = layered (fun k => v (ix4 b i q k)) c (lg (ix2 q c)) (lb (ix2 q c)) := by
  have h : ∀ d : FVec Ideal S256x128x8x128 .f32, layerV lg lb d (ix4 b i q c)
      = d (ix4 b i q c) * Ideal.rsqrt (Ideal.div (∑ k : Fin 128, d (ix4 b i q k) * d (ix4 b i q k)) (Ideal.ofBits .f32 0x43000000#32) + Ideal.ofBits .f32 0x358637BD#32) * lg (ix2 q c) + lb (ix2 q c) := by
    intro d
    unfold layerV
    pointwise
    rfl
  rw [h]
  simp only [centredV_at]
  rfl

theorem maskV_at (a j : Fin 128) : maskV (ix2 a j) = BitVec.ofBool (decide (j.val / 64 ≤ a.val / 64)) := by
  have ha := a.isLt
  have hj := j.isLt
  have h1 : downV (ix2 a (0 : Fin 1)) = BitVec.ofNat 32 (a.val / 64) := pyDiv_ap _ _ _ _ rfl rfl (by omega) (by decide) (by decide)
  have h2 : alongV (ix2 (0 : Fin 1) j) = BitVec.ofNat 32 (j.val / 64) := pyDiv_ap _ _ _ _ rfl rfl (by omega) (by decide) (by decide)
  have h : maskV (ix2 a j) = Scalar.cmpi .sge (downV (ix2 a (0 : Fin 1))) (alongV (ix2 (0 : Fin 1) j)) := by
    unfold maskV
    generalize downV = A
    generalize alongV = B
    pointwise
    rfl
  rw [h, h1, h2, chunks_le]

theorem weightsV_at (q : Fin 8) (a j : Fin 128) : weightsV ws (ix3 q a j) = weight a j (ws (ix3 q a j)) := by
  have h : weightsV ws (ix3 q a j) = if maskV (ix2 a j) = 1#1 then ws (ix3 q a j) else Ideal.ofBits .f32 0x00000000#32 := by
    unfold weightsV
    generalize maskV = M
    pointwise
    exact congrArg (Scalar.select _ _) Ideal.ofBits_zero_f32
  rw [h, maskV_at, weight]
  by_cases hc : j.val / 64 ≤ a.val / 64
  · simp only [hc, decide_true, BitVec.ofBool_true, if_true]
    exact if_pos rfl
  · simp only [hc, decide_false, if_false]
    exact (if_neg (by decide)).trans Ideal.ofBits_zero_f32

theorem mixedV_at (v : FVec Ideal S256x128x8x128 .f32) (u : FVec Ideal S8x128x128 .f32) (b : Fin 256) (a : Fin 128) (q : Fin 8) (c : Fin 128) :
    mixedV bs v u (ix4 b a q c) = (∑ j : Fin 128, u (ix3 q a j) * v (ix4 b j q c)) + bs (ix2 q a) := by
  have h : mixedV bs v u (ix4 b a q c) = (∑ j : Fin 128, v (ix4 b j q c) * u (ix3 q a j)) + bs (ix2 q a) := by
    unfold mixedV
    pointwise
    rfl
  rw [h]
  exact congrArg (· + _) (Finset.sum_congr rfl fun j _ => mul_comm _ _)

theorem gatedV_at (h : FVec Ideal S32768x2048 .f32) (b : Fin 256) (a : Fin 128) (p : Fin 32768) (hp : p.val = 128 * b.val + a.val) (z : Fin 1024) :
    gatedV w lg lb ws bs h (ix2 p z)
      = gated (fun j k => h (ix2 (⟨128 * b.val + j.val, by omega⟩ : Fin 32768) k)) (fun k q => w (ix2 k (⟨q.val, by omega⟩ : Fin 3912)))
        (fun q => lg (ix2 (⟨q.val / 128, by omega⟩ : Fin 8) (⟨q.val % 128, by omega⟩ : Fin 128))) (fun q => lb (ix2 (⟨q.val / 128, by omega⟩ : Fin 8) (⟨q.val % 128, by omega⟩ : Fin 128)))
        (fun q i j => ws (ix3 q i j)) (fun q i => bs (ix2 q i)) a z := by
  have hl : 128 * b.val + a.val < 32768 := by
    clear hp
    omega
  obtain rfl : p = ⟨128 * b.val + a.val, hl⟩ := Fin.ext hp
  have hm : ∀ Y : FVec Ideal S256x128x8x128 .f32, shapeCast S32768x1024 Y shapeCasts_S256x128x8x128_S32768x1024 (ix2 (⟨128 * b.val + a.val, by omega⟩ : Fin 32768) z)
      = Y (ix4 b a (⟨z.val / 128, by omega⟩ : Fin 8) (⟨z.val % 128, by omega⟩ : Fin 128)) := by
    intro Y
    refine shapeCast_apply _ _ _ _ ?_
    rw [Shape.rowMajor_val_two, Shape.rowMajor_val_four]
    show ((b.val * 128 + a.val) * 8 + z.val / 128) * 128 + z.val % 128 = (128 * b.val + a.val) * 1024 + z.val
    omega
  have h0 : gatedV w lg lb ws bs h (ix2 (⟨128 * b.val + a.val, by omega⟩ : Fin 32768) z)
      = geluV (gateV w h) (ix2 (⟨128 * b.val + a.val, by omega⟩ : Fin 32768) z)
        * shapeCast S32768x1024 (mixedV bs (layerV lg lb (centredV (groupsV (valueV w h)))) (weightsV ws)) shapeCasts_S256x128x8x128_S32768x1024 (ix2 (⟨128 * b.val + a.val, by omega⟩ : Fin 32768) z) := rfl
  rw [h0, hm, geluV_at, mixedV_at, gateV_at]
  simp only [layerV_at, weightsV_at, groupsV_at, valueV_at]
  unfold gated entry
  simp only [Nat.add_assoc]

theorem unitV_at (y : FVec Ideal S32768x1024 .f32) (p : Fin 32768) (z : Fin 1024) : unitV ga y (ix2 p z) = unit (fun k => y (ix2 p k)) z (ga (ix1 z)) := by
  unfold unitV
  pointwise
  rfl

end Cert.MixRef
end
-- ==== Proof.MixValue.lean ====
/- What the input projections' call leaves as its first result is the reference's array: row `s` is row `s % 512` of the
   block of point `s / 512`, whose sequence is `s / 4096` and whose 128-position block is `s / 128`. -/
module

public import proofs.«01_k».proof.Proof.MixReads
public import proofs.«01_k».proof.Proof.MixRef

@[expose] public section

set_option maxRecDepth 16384

noncomputable section

namespace Cert.Mix

open Cert.Kernel4Ideal Cert.Kernel4Ideal.Gen
open Idealize.ShloMosaic hiding ix1 ix2 ix3 ix4
open Idealize.ShloMosaic.TcCoe Idealize.ShloMosaic.Tactic
open Idealize.ShloMosaic.ValueIdx

variable (m : (ℓ : Loc nD τ sig) → Buf (Elt Ideal) ℓ) (c : Dev nD)

/-- The arguments. -/
def XX : FVec Ideal S32768x2048 .f32 := m ((c : Thread nD τ).loc main_arg0)
def MD : FVec Ideal S8x12288 .f32 := m ((c : Thread nD τ).loc main_arg1)
def GG : FVec Ideal S2048 .f32 := m ((c : Thread nD τ).loc main_arg2)
def WW : FVec Ideal S2048x3912 .f32 := m ((c : Thread nD τ).loc main_arg3)
def LG : FVec Ideal S8x128 .f32 := m ((c : Thread nD τ).loc main_arg4)
def LB : FVec Ideal S8x128 .f32 := m ((c : Thread nD τ).loc main_arg5)
def WS : FVec Ideal S8x128x128 .f32 := m ((c : Thread nD τ).loc main_arg6)
def BS : FVec Ideal S8x128 .f32 := m ((c : Thread nD τ).loc main_arg7)
def GA : FVec Ideal S1024 .f32 := m ((c : Thread nD τ).loc main_arg12)

/-- The reference's array of them. -/
abbrev YY : FVec Ideal S32768x1024 .bf16 := MixRef.yaV (XX m c) (MD m c) (GG m c) (WW m c) (LG m c) (LB m c) (WS m c) (BS m c) (GA m c)

/-- The rows a point computes are the reference's. -/
theorem normed_rows (t : Fin cfg0.N) (r : Fin 512) (d : Fin 2048) (s : Fin 32768) (hs : s.val = t.val * 512 + r.val) :
    rowsB (grid0.coords t) (iblk m c 0 t) (iblk m c 1 t) (iblk m c 2 t) (ix2 r d) = MixRef.rowsV (XX m c) (MD m c) (GG m c) (ix2 s d) := by
  have hN : t.val < 64 := lt_of_lt_of_eq t.isLt N_0
  have hr := r.isLt
  have hb : (⟨t.val / 8, by omega⟩ : Fin 8).val = s.val / 4096 := by show t.val / 8 = _; omega
  have hl : ∀ (o : ℕ) (off : Fin 2 → Nat) (ho : off = ![t.val / 8, o]) (inb : ∀ a, off a + S1x2048.size a ≤ S8x12288.size a) (hd : o + d.val < 12288),
      View.ld (Val := Elt Ideal) (e' := .f32) (iblk m c 1 t) (Rect.unit (s := S8x12288) off S1x2048.size inb) (ix2 (0 : Fin 1) d)
        = MD m c (ix2 (⟨t.val / 8, by omega⟩ : Fin 8) (⟨o + d.val, hd⟩ : Fin 12288)) := by
    intro o off ho inb hd
    subst ho
    refine (View.ld_unit_apply_of _ _ _ _ _ (ix2 (⟨t.val / 8, by omega⟩ : Fin 8) (⟨o + d.val, hd⟩ : Fin 12288)) fun a => ?_).trans (mod_at m c t _ _)
    match a with
    | ⟨0, _⟩ => rfl
    | ⟨1, _⟩ => rfl
  unfold rowsB
  rw [rows_at, MixRef.rowsV_at _ _ _ s d _ hb]
  refine congr (congr (congr (congrFun (congrArg Cert.Out.normed (funext fun k => x_at m c t r k s hs)) d) (g_at m c t d)) (hl 2048 _ (scale_row t) _ (by omega))) ?_
  refine (hl 0 _ (shift_row t) _ (by omega)).trans ?_
  exact congrArg (fun k => MD m c (ix2 (⟨t.val / 8, by omega⟩ : Fin 8) k)) (Fin.ext (Nat.zero_add _))

/-- And so are the rows it leaves. -/
theorem left_rows (t : Fin cfg0.N) (y : S512x1024.Idx) (s : Fin 32768) (hs : s.val = t.val * 512 + (y 0).val) (z : Fin 1024) (hz : z.val = (y 1).val) :
    outB (iblk m c 3 t) (iblk m c 5 t) (iblk m c 6 t) (iblk m c 7 t) (iblk m c 8 t) (iblk m c 12 t)
      (rowsB (grid0.coords t) (iblk m c 0 t) (iblk m c 1 t) (iblk m c 2 t)) y = YY m c (ix2 s z) := by
  have hN : t.val < 64 := lt_of_lt_of_eq t.isLt N_0
  have h0 : (y 0).val < 512 := (y 0).isLt
  have h1 : (y 1).val < 1024 := (y 1).isLt
  have hy : y = ix2 (⟨128 * (⟨(y 0).val / 128, by omega⟩ : Fin 4).val + (⟨(y 0).val % 128, by omega⟩ : Fin 128).val, by show 128 * ((y 0).val / 128) + (y 0).val % 128 < 512; omega⟩ : Fin 512) z := by
    funext x
    match x with
    | ⟨0, _⟩ => exact Fin.ext (by show (y 0).val = 128 * ((y 0).val / 128) + (y 0).val % 128; omega)
    | ⟨1, _⟩ => exact Fin.ext hz.symm
  have hg : (fun q => MixRef.gatedV (WW m c) (LG m c) (LB m c) (WS m c) (BS m c) (MixRef.rowsV (XX m c) (MD m c) (GG m c)) (ix2 s q))
      = gated (fun j k => rowsB (grid0.coords t) (iblk m c 0 t) (iblk m c 1 t) (iblk m c 2 t) (ix2 (⟨128 * ((y 0).val / 128) + j.val, by omega⟩ : Fin 512) k))
        (fun k q => (iblk m c 3 t : S2048x2048.Idx → EReal) (ix2 k q)) (fun q => (iblk m c 5 t : S1x1024.Idx → EReal) (ix2 (0 : Fin 1) q)) (fun q => (iblk m c 6 t : S1x1024.Idx → EReal) (ix2 (0 : Fin 1) q))
        (fun g i j => (iblk m c 7 t : S8x128x128.Idx → EReal) (ix3 g i j)) (fun g i => (iblk m c 8 t : S128x8.Idx → EReal) (ix2 i g)) (⟨(y 0).val % 128, by omega⟩ : Fin 128) := by
    funext q
    refine (MixRef.gatedV_at _ _ _ _ _ _ (⟨t.val * 4 + (y 0).val / 128, by omega⟩ : Fin 256) (⟨(y 0).val % 128, by omega⟩ : Fin 128) s
      (by show s.val = 128 * (t.val * 4 + (y 0).val / 128) + (y 0).val % 128; omega) q).trans ?_
    refine congrFun (congrFun (congr (congr (congr (congr (congr (congrArg gated (funext fun j => funext fun k => ?_)) (funext fun k => funext fun p => ?_)) (funext fun p => ?_)) (funext fun p => ?_))
      (funext fun g => funext fun i => funext fun j => ?_)) (funext fun g => funext fun i => ?_)) _) q
    · refine (normed_rows m c t _ k _ ?_).symm
      show 128 * (t.val * 4 + (y 0).val / 128) + j.val = t.val * 512 + (128 * ((y 0).val / 128) + j.val)
      omega
    · exact (w_at m c t k p).symm
    · exact (lng_at m c t p).symm
    · exact (lnb_at m c t p).symm
    · exact (ws_at m c t g i j).symm
    · exact (bs_at m c t i g).symm
  have hr := MixRef.unitV_at (GA m c) (MixRef.gatedV (WW m c) (LG m c) (LB m c) (WS m c) (BS m c) (MixRef.rowsV (XX m c) (MD m c) (GG m c))) s z
  rw [hg] at hr
  refine Eq.trans ?_ hr.symm
  refine (congrArg _ hy).trans ((out_at _ _ _ _ _ _ _ _ _ _).trans ?_)
  exact congrArg (unit _ z) (ga_at m c t z)

theorem leaves (t : Fin cfg0.N) : (dats m 0 c).after 15 t = outB (iblk m c 3 t) (iblk m c 5 t) (iblk m c 6 t) (iblk m c 7 t) (iblk m c 8 t) (iblk m c 12 t)
      (rowsB (grid0.coords t) (iblk m c 0 t) (iblk m c 1 t) (iblk m c 2 t)) := by
  rw [after0_15]
  simp only [outsAt0]
  rw [out_A_15]

theorem emb_out (t : Fin cfg0.N) (y : S512x1024.Idx) (b : Fin 2) :
    ((((cfg0.win 15).rect t).emb y : S32768x1024.Idx) b).val = win0_15.index t b * S512x1024.size b + (y b).val :=
  Pipeline.Window.rect_emb_val (cfg0.win 15) t y b

theorem emb_row (t : Fin cfg0.N) (y : S512x1024.Idx) : ((((cfg0.win 15).rect t).emb y : S32768x1024.Idx) (0 : Fin 2)).val = t.val * 512 + (y 0).val := by
  rw [emb_out, (places t).2.2.2.2.2.2.2.2.2]; rfl
theorem emb_col (t : Fin cfg0.N) (y : S512x1024.Idx) : ((((cfg0.win 15).rect t).emb y : S32768x1024.Idx) (1 : Fin 2)).val = (y 1).val := by
  rw [emb_out, (places t).2.2.2.2.2.2.2.2.2]
  show 0 * 1024 + (y 1).val = (y 1).val
  omega

theorem covered (i : S32768x1024.Idx) : ∃ t : Fin cfg0.N, (cfg0.win 15).flush t = true ∧ i ∈ ((cfg0.win 15).blk t).view.set := by
  have hi : (i 0).val < 32768 := (i 0).isLt
  have hj : (i 1).val < 1024 := (i 1).isLt
  have hN : cfg0.N = 64 := N_0
  let y : S512x1024.Idx := ix2 (⟨(i 0).val % 512, Nat.mod_lt _ (by decide)⟩ : Fin 512) (⟨(i 1).val, hj⟩ : Fin 1024)
  have ht : (i 0).val / 512 < cfg0.N := by omega
  have e : ((cfg0.win 15).blk ⟨(i 0).val / 512, ht⟩).view.emb y = i := by
    funext x
    match x with
    | ⟨0, _⟩ =>
      refine Fin.ext ((emb_row ⟨(i 0).val / 512, ht⟩ y).trans ?_)
      show (i 0).val / 512 * 512 + (i 0).val % 512 = (i 0).val
      omega
    | ⟨1, _⟩ => exact Fin.ext (emb_col ⟨(i 0).val / 512, ht⟩ y)
  exact ⟨⟨(i 0).val / 512, ht⟩, out_flush _, Finset.mem_map.mpr ⟨y, Finset.mem_univ _, e⟩⟩

/-- The call's first result. -/
theorem result_eq : (dats m 0 c).arrAt 15 cfg0.N = YY m c := by
  refine (dats m 0 c).arrAt_eq_of_emb 15 (YY m c) (fun t _ y => ?_) (fun i => covered i)
  rw [leaves]
  refine (left_rows m c t y ⟨_, ((((cfg0.win 15).rect t).emb y : S32768x1024.Idx) (0 : Fin 2)).isLt⟩ (emb_row t y) ⟨_, ((((cfg0.win 15).rect t).emb y : S32768x1024.Idx) (1 : Fin 2)).isLt⟩ (emb_col t y)).trans ?_
  refine congrArg (YY m c) (funext fun x => ?_)
  match x with
  | ⟨0, _⟩ => rfl
  | ⟨1, _⟩ => rfl

end Cert.Mix
end
-- ==== Proof.MixTurn.lean ====
/- One grid point of the input projections' call: its block of the queries, turned by their positions' angles. -/
module

public import proofs.«01_k».proof.Proof.MixRun

@[expose] public section
set_option maxRecDepth 16384

noncomputable section
namespace Cert.Mix

open Cert.Kernel4Ideal Cert.Kernel4Ideal.Gen
open Idealize.ShloMosaic hiding ix1 ix2 ix3 ix4
open Idealize.ShloMosaic.TcCoe Idealize.ShloMosaic.Tactic
open Idealize.ShloMosaic.ValueIdx
variable {F : FTy → Type} [FloatOps F]

theorem q_inb : ∀ (p : Fin 4) (a : Fin 2), (![0, 256 * p.val] : Fin 2 → Nat) a + S2048x256.size a ≤ S2048x1920.size a := by decide
theorem head_slices (e : Fin 2) : S512x128.Slices ![0, 64 * e.val] S512x64 := by revert e; decide
theorem head_inb : ∀ (p : Fin 4) (s e : Fin 2) (a : Fin 4), (![0, 4 * p.val + 2 * s.val + e.val, 0, 0] : Fin 4 → Nat) a + S1x1x512x64.size a ≤ S1x16x512x64.size a := by decide

/-- The weights of four heads of the queries. -/
def columnsB (x4 : Vec F S2048x1920 .bf16) (p : Fin 4) : Vec F S2048x256 .bf16 := View.ld x4 (Rect.unit (s := S2048x1920) ![0, 256 * p.val] S2048x256.size (q_inb p))
/-- Two heads of the queries side by side, turned by the angles whose cosines and sines are `cs` and `sn`, and scaled. -/
def turnB (h : FVec F S512x2048 .bf16) (w : Vec F S2048x256 .bf16) (cs sn : Vec F S512x128 .f32) (s : Fin 2) : FVec F S512x128 .f32 :=
  mulf (addf (mulf (halfB (k0_pay182 h w) s) cs)
    (mulf (select k0_pay180 (dynamicRotate 1 96#32 none (halfB (k0_pay182 h w) s) rotates_S512x128_d1) (dynamicRotate 1 32#32 none (halfB (k0_pay182 h w) s) rotates_S512x128_d1)) (k0_pay181 sn sn)))
    (broadcast S512x128 (Scalar.ofBits .f32 0x3E38AA3B#32))
/-- One of the two. -/
def headB (t : FVec F S512x128 .f32) (e : Fin 2) : FVec F S1x1x512x64 .bf16 :=
  shapeCast S1x1x512x64 (truncf .bf16 (extractStridedSlice S512x64 ![0, 64 * e.val] t (head_slices e)) bitsLt_bf16_f32) shapeCasts_S512x64_S1x1x512x64
/-- The whole block of queries. -/
def queryB (x4 : Vec F S2048x1920 .bf16) (x13 x14 : Vec F S512x128 .f32) (h : FVec F S512x2048 .bf16) : Vec F S1x16x512x64 .bf16 := fun y =>
  headB (turnB h (columnsB x4 ⟨(y 1).val / 4, by have : (y 1).val < 16 := (y 1).isLt; omega⟩) x13 x14
    ⟨(y 1).val / 2 % 2, by omega⟩) ⟨(y 1).val % 2, by omega⟩ (ix4 (0 : Fin 1) (0 : Fin 1) (⟨(y 2).val, (y 2).isLt⟩ : Fin 512) (⟨(y 3).val, (y 3).isLt⟩ : Fin 64))

theorem query_emb (x4 : Vec F S2048x1920 .bf16) (x13 x14 : Vec F S512x128 .f32) (h : FVec F S512x2048 .bf16) (p : Fin 4) (s e : Fin 2) (r : Fin 512) (d : Fin 64)
    (y : S1x16x512x64.Idx) (h1 : (y 1).val = 4 * p.val + 2 * s.val + e.val) (h2 : (y 2).val = r.val) (h3 : (y 3).val = d.val) :
    queryB x4 x13 x14 h y = headB (turnB h (columnsB x4 p) x13 x14 s) e (ix4 (0 : Fin 1) (0 : Fin 1) r d) := by
  have e1 : (y 1).val / 4 = p.val := by omega
  have e2 : (y 1).val / 2 % 2 = s.val := by omega
  have e3 : (y 1).val % 2 = e.val := by omega
  unfold queryB
  simp only [e1, e2, e3, h2, h3, Fin.eta]

theorem query_rect (x4 : Vec F S2048x1920 .bf16) (x13 x14 : Vec F S512x128 .f32) (h : FVec F S512x2048 .bf16) (p : Fin 4) (s e : Fin 2)
    (inb : ∀ a, (![0, 4 * p.val + 2 * s.val + e.val, 0, 0] : Fin 4 → Nat) a + S1x1x512x64.size a ≤ S1x16x512x64.size a) (x : S1x1x512x64.Idx) :
    queryB x4 x13 x14 h ((Rect.unit (s := S1x16x512x64) ![0, 4 * p.val + 2 * s.val + e.val, 0, 0] S1x1x512x64.size inb).emb x)
      = headB (turnB h (columnsB x4 p) x13 x14 s) e x := by
  have h1 := ValueKit.rect_emb_unit_val (s := S1x16x512x64) ![0, 4 * p.val + 2 * s.val + e.val, 0, 0] S1x1x512x64.size inb x 1
  have h2 := ValueKit.rect_emb_unit_val (s := S1x16x512x64) ![0, 4 * p.val + 2 * s.val + e.val, 0, 0] S1x1x512x64.size inb x 2
  have h3 := ValueKit.rect_emb_unit_val (s := S1x16x512x64) ![0, 4 * p.val + 2 * s.val + e.val, 0, 0] S1x1x512x64.size inb x 3
  generalize (Rect.unit (s := S1x16x512x64) ![0, 4 * p.val + 2 * s.val + e.val, 0, 0] S1x1x512x64.size inb).emb x = y at h1 h2 h3 ⊢
  have hx : x = ix4 (0 : Fin 1) (0 : Fin 1) (⟨(x 2).val, (x 2).isLt⟩ : Fin 512) (⟨(x 3).val, (x 3).isLt⟩ : Fin 64) := by
    have x0 : (x 0).val < 1 := (x 0).isLt
    have x1 : (x 1).val < 1 := (x 1).isLt
    funext a
    match a with
    | ⟨0, _⟩ => exact Fin.ext (Nat.lt_one_iff.mp x0)
    | ⟨1, _⟩ => exact Fin.ext (Nat.lt_one_iff.mp x1)
    | ⟨2, _⟩ => rfl
    | ⟨3, _⟩ => rfl
  have x1 : (x 1).val = 0 := Nat.lt_one_iff.mp (x 1).isLt
  refine (query_emb x4 x13 x14 h p s e _ _ y (h1.trans ?_) (h2.trans (Nat.zero_add _)) (h3.trans (Nat.zero_add _))).trans (congrArg _ hx.symm)
  rw [x1]
  rfl

section

variable (c : Dev nD) (i : grid0.Coords)
  (arg1 : Memref sig .tc .vmem S512x2048 .f32) (harg1 : arg1.IsWhole)
  (arg2 : Memref sig .tc .vmem S8x12288 .f32) (harg2 : arg2.IsWhole)
  (arg3 : Memref sig .tc .vmem S1x2048 .f32) (harg3 : arg3.IsWhole)
  (arg4 : Memref sig .tc .vmem S2048x2048 .bf16) (harg4 : arg4.IsWhole)
  (arg5 : Memref sig .tc .vmem S2048x1920 .bf16) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S8x128x128 .f32) (harg8 : arg8.IsWhole)
  (arg9 : Memref sig .tc .vmem S128x8 .f32) (harg9 : arg9.IsWhole)
  (arg10 : Memref sig .tc .vmem S1x256 .f32) (harg10 : arg10.IsWhole)
  (arg11 : Memref sig .tc .vmem S256x128 .bf16) (harg11 : arg11.IsWhole)
  (arg12 : Memref sig .tc .vmem S1x128 .f32) (harg12 : arg12.IsWhole)
  (arg13 : Memref sig .tc .vmem S1x1024 .f32) (harg13 : arg13.IsWhole)
  (arg14 : Memref sig .tc .vmem S512x128 .f32) (harg14 : arg14.IsWhole)
  (arg15 : Memref sig .tc .vmem S512x128 .f32) (harg15 : arg15.IsWhole)
  (arg16 : Memref sig .tc .vmem S512x1024 .bf16) (harg16 : arg16.IsWhole)
  (arg17 : Memref sig .tc .vmem S1x16x512x64 .bf16) (harg17 : arg17.IsWhole)
  (arg18 : Memref sig .tc .vmem S1x8x512x64 .bf16) (harg18 : arg18.IsWhole)
  (arg19 : Memref sig .tc .vmem S512x64 .bf16) (harg19 : arg19.IsWhole)
  (arg20 : Memref sig .tc .vmem S1x80x512 .bf16) (harg20 : arg20.IsWhole)
  (arg21 : Memref sig .tc .vmem S512x64 .bf16) (harg21 : arg21.IsWhole)
  (arg22 : Memref sig .tc .vmem S1x8x512 .f32) (harg22 : arg22.IsWhole)
  (arg23 : Memref sig .tc .vmem S512x1024 .f32) (harg23 : arg23.IsWhole)
  (x0 : Vec F S512x2048 .f32) (x1 : Vec F S8x12288 .f32) (x2 : Vec F S1x2048 .f32) (x3 : Vec F S2048x2048 .bf16) (x4 : Vec F S2048x1920 .bf16) (x5 : Vec F S1x1024 .f32) (x6 : Vec F S1x1024 .f32) (x7 : Vec F S8x128x128 .f32) (x8 : Vec F S128x8 .f32) (x9 : Vec F S1x256 .f32) (x10 : Vec F S256x128 .bf16) (x11 : Vec F S1x128 .f32) (x12 : Vec F S1x1024 .f32) (x13 : Vec F S512x128 .f32) (x14 : Vec F S512x128 .f32)

set_option maxHeartbeats 8000000 in
theorem out_A_16 : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 = queryB x4 x13 x14 (rowsB i x0 x1 x2) := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14)]
  funext y
  refine View.canon_apply_of_pieces (queryB x4 x13 x14 (rowsB i x0 x1 x2)) _ ?_ y (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 y)
  unfold kernelRun0_A
  dsimp only
  refine List.forall_mem_cons.2 ⟨fun x => (congrFun (?_ : _ = headB (turnB (rowsB i x0 x1 x2) (columnsB x4 3) x13 x14 1) 1) x).trans (query_rect x4 x13 x14 (rowsB i x0 x1 x2) 3 1 1 (head_inb 3 1 1) x).symm,
    List.forall_mem_cons.2 ⟨fun x => (congrFun (?_ : _ = headB (turnB (rowsB i x0 x1 x2) (columnsB x4 3) x13 x14 1) 0) x).trans (query_rect x4 x13 x14 (rowsB i x0 x1 x2) 3 1 0 (head_inb 3 1 0) x).symm,
    List.forall_mem_cons.2 ⟨fun x => (congrFun (?_ : _ = headB (turnB (rowsB i x0 x1 x2) (columnsB x4 3) x13 x14 0) 1) x).trans (query_rect x4 x13 x14 (rowsB i x0 x1 x2) 3 0 1 (head_inb 3 0 1) x).symm,
    List.forall_mem_cons.2 ⟨fun x => (congrFun (?_ : _ = headB (turnB (rowsB i x0 x1 x2) (columnsB x4 3) x13 x14 0) 0) x).trans (query_rect x4 x13 x14 (rowsB i x0 x1 x2) 3 0 0 (head_inb 3 0 0) x).symm,
    List.forall_mem_cons.2 ⟨fun x => (congrFun (?_ : _ = headB (turnB (rowsB i x0 x1 x2) (columnsB x4 2) x13 x14 1) 1) x).trans (query_rect x4 x13 x14 (rowsB i x0 x1 x2) 2 1 1 (head_inb 2 1 1) x).symm,
    List.forall_mem_cons.2 ⟨fun x => (congrFun (?_ : _ = headB (turnB (rowsB i x0 x1 x2) (columnsB x4 2) x13 x14 1) 0) x).trans (query_rect x4 x13 x14 (rowsB i x0 x1 x2) 2 1 0 (head_inb 2 1 0) x).symm,
    List.forall_mem_cons.2 ⟨fun x => (congrFun (?_ : _ = headB (turnB (rowsB i x0 x1 x2) (columnsB x4 2) x13 x14 0) 1) x).trans (query_rect x4 x13 x14 (rowsB i x0 x1 x2) 2 0 1 (head_inb 2 0 1) x).symm,
    List.forall_mem_cons.2 ⟨fun x => (congrFun (?_ : _ = headB (turnB (rowsB i x0 x1 x2) (columnsB x4 2) x13 x14 0) 0) x).trans (query_rect x4 x13 x14 (rowsB i x0 x1 x2) 2 0 0 (head_inb 2 0 0) x).symm,
    List.forall_mem_cons.2 ⟨fun x => (congrFun (?_ : _ = headB (turnB (rowsB i x0 x1 x2) (columnsB x4 1) x13 x14 1) 1) x).trans (query_rect x4 x13 x14 (rowsB i x0 x1 x2) 1 1 1 (head_inb 1 1 1) x).symm,
    List.forall_mem_cons.2 ⟨fun x => (congrFun (?_ : _ = headB (turnB (rowsB i x0 x1 x2) (columnsB x4 1) x13 x14 1) 0) x).trans (query_rect x4 x13 x14 (rowsB i x0 x1 x2) 1 1 0 (head_inb 1 1 0) x).symm,
    List.forall_mem_cons.2 ⟨fun x => (congrFun (?_ : _ = headB (turnB (rowsB i x0 x1 x2) (columnsB x4 1) x13 x14 0) 1) x).trans (query_rect x4 x13 x14 (rowsB i x0 x1 x2) 1 0 1 (head_inb 1 0 1) x).symm,
    List.forall_mem_cons.2 ⟨fun x => (congrFun (?_ : _ = headB (turnB (rowsB i x0 x1 x2) (columnsB x4 1) x13 x14 0) 0) x).trans (query_rect x4 x13 x14 (rowsB i x0 x1 x2) 1 0 0 (head_inb 1 0 0) x).symm,
    List.forall_mem_cons.2 ⟨fun x => (congrFun (?_ : _ = headB (turnB (rowsB i x0 x1 x2) (columnsB x4 0) x13 x14 1) 1) x).trans (query_rect x4 x13 x14 (rowsB i x0 x1 x2) 0 1 1 (head_inb 0 1 1) x).symm,
    List.forall_mem_cons.2 ⟨fun x => (congrFun (?_ : _ = headB (turnB (rowsB i x0 x1 x2) (columnsB x4 0) x13 x14 1) 0) x).trans (query_rect x4 x13 x14 (rowsB i x0 x1 x2) 0 1 0 (head_inb 0 1 0) x).symm,
    List.forall_mem_cons.2 ⟨fun x => (congrFun (?_ : _ = headB (turnB (rowsB i x0 x1 x2) (columnsB x4 0) x13 x14 0) 1) x).trans (query_rect x4 x13 x14 (rowsB i x0 x1 x2) 0 0 1 (head_inb 0 0 1) x).symm,
    List.forall_mem_cons.2 ⟨fun x => (congrFun (?_ : _ = headB (turnB (rowsB i x0 x1 x2) (columnsB x4 0) x13 x14 0) 0) x).trans (query_rect x4 x13 x14 (rowsB i x0 x1 x2) 0 0 0 (head_inb 0 0 0) x).symm,
    fun p hp => absurd hp List.not_mem_nil⟩⟩⟩⟩⟩⟩⟩⟩⟩⟩⟩⟩⟩⟩⟩⟩
  all_goals
    sl_unfold_words
    simp only [View.readAt_eq_ld, harg1.read_unread, harg2.read_unread, harg3.read_unread, harg5.read_unread, harg14.read_unread, harg15.read_unread, View.ld_unit_zero (S := S512x2048) hz, View.ld_unit_zero (S := S1x2048) hz, View.ld_unit_zero (S := S512x128) hz]
    rfl

end

end Cert.Mix
end
-- ==== Proof.MixTurnMath.lean ====
/- The queries' block, entry by entry, on the ideal floats. -/
module

public import proofs.«01_k».proof.Proof.MixTurn
public import proofs.«01_k».proof.Proof.MixMath
public import Idealize.ShloMosaic.Lib.KernelVsHost

@[expose] public section

set_option maxRecDepth 16384

noncomputable section

namespace Cert.Mix

open Cert.Kernel4Ideal Cert.Kernel4Ideal.Gen
open Idealize.ShloMosaic hiding ix1 ix2 ix3 ix4
open Idealize.ShloMosaic.TcCoe Idealize.ShloMosaic.Tactic
open Idealize.ShloMosaic.ValueIdx

/-- An entry of two heads `u` side by side, each turned half against half by the angles whose cosines and sines are `cs` and `sn`, and scaled. -/
def turned (u cs sn : Fin 128 → EReal) (l : Fin 128) : EReal :=
  (u l * cs l + (if l.val % 64 < 32 then -(u ⟨(l.val + 32) % 128, by omega⟩) else u ⟨(l.val + 96) % 128, by omega⟩) * sn l) * Ideal.ofBits .f32 0x3E38AA3B#32

theorem first_half (r : Fin 512) (l : Fin 128) : k0_pay180 (ix2 r l) = BitVec.ofBool (decide (l.val % 64 < 32)) := by
  have h : ∀ l : Fin 128, k0_pay180 (ix2 (0 : Fin 512) l) = BitVec.ofBool (decide (l.val % 64 < 32)) := by decide +kernel
  exact h l

theorem project_at (h : FVec Ideal S512x2048 .bf16) (w : Vec Ideal S2048x256 .bf16) (r : Fin 512) (c : Fin 256) :
    k0_pay182 (F := Ideal) h w (ix2 r c) = ∑ k : Fin 2048, h (ix2 r k) * w (ix2 k c) := by
  unfold k0_pay182
  pointwise
  rfl

theorem back_at (u : FVec Ideal S512x128 .f32) (r : Fin 512) (l : Fin 128) :
    dynamicRotate 1 96#32 none u rotates_S512x128_d1 (ix2 r l) = u (ix2 r (⟨(l.val + 32) % 128, by omega⟩ : Fin 128)) := by
  refine dynamicRotate_apply _ _ _ _ _ _ fun b => ?_
  match b with
  | ⟨0, _⟩ => rfl
  | ⟨1, _⟩ => rfl

theorem forth_at (u : FVec Ideal S512x128 .f32) (r : Fin 512) (l : Fin 128) :
    dynamicRotate 1 32#32 none u rotates_S512x128_d1 (ix2 r l) = u (ix2 r (⟨(l.val + 96) % 128, by omega⟩ : Fin 128)) := by
  refine dynamicRotate_apply _ _ _ _ _ _ fun b => ?_
  match b with
  | ⟨0, _⟩ => rfl
  | ⟨1, _⟩ => rfl

theorem sine_at (sn : Vec Ideal S512x128 .f32) (r : Fin 512) (l : Fin 128) :
    k0_pay181 (F := Ideal) sn sn (ix2 r l) = if l.val % 64 < 32 then -(sn (ix2 r l)) else sn (ix2 r l) := by
  have h : k0_pay181 (F := Ideal) sn sn (ix2 r l) = if k0_pay180 (ix2 r l) = 1#1 then Ideal.ofBits .f32 0x00000000#32 - sn (ix2 r l) else sn (ix2 r l) := rfl
  rw [h, first_half, Ideal.ofBits_zero_f32]
  by_cases hc : l.val % 64 < 32
  · simp only [hc, decide_true, BitVec.ofBool_true, if_true]
    exact zero_sub _
  · simp only [hc, decide_false, if_false]
    exact if_neg (by decide)

theorem turn_at (h : FVec Ideal S512x2048 .bf16) (w : Vec Ideal S2048x256 .bf16) (cs sn : Vec Ideal S512x128 .f32) (s : Fin 2) (r : Fin 512) (l : Fin 128) :
    turnB h w cs sn s (ix2 r l)
      = turned (fun j => ∑ k : Fin 2048, h (ix2 r k) * w (ix2 k (⟨128 * s.val + j.val, by omega⟩ : Fin 256))) (fun j => cs (ix2 r j)) (fun j => sn (ix2 r j)) l := by
  have h0 : turnB h w cs sn s (ix2 r l) = (halfB (k0_pay182 h w) s (ix2 r l) * cs (ix2 r l)
      + (if k0_pay180 (ix2 r l) = 1#1 then dynamicRotate 1 96#32 none (halfB (k0_pay182 h w) s) rotates_S512x128_d1 (ix2 r l) else dynamicRotate 1 32#32 none (halfB (k0_pay182 h w) s) rotates_S512x128_d1 (ix2 r l))
        * k0_pay181 (F := Ideal) sn sn (ix2 r l)) * Ideal.ofBits .f32 0x3E38AA3B#32 := rfl
  rw [h0, sine_at, back_at, forth_at, first_half]
  simp only [half_at, project_at]
  unfold turned
  by_cases hc : l.val % 64 < 32
  · simp only [hc, decide_true, BitVec.ofBool_true, if_true]
    rw [if_pos (by decide), mul_neg, neg_mul]
  · simp only [hc, decide_false, if_false]
    rw [if_neg (by decide)]

theorem head_at (t : FVec Ideal S512x128 .f32) (e : Fin 2) (r : Fin 512) (d : Fin 64) :
    headB t e (ix4 (0 : Fin 1) (0 : Fin 1) r d) = t (ix2 r (⟨64 * e.val + d.val, by omega⟩ : Fin 128)) := by
  unfold headB
  refine (shapeCast_apply _ shapeCasts_S512x64_S1x1x512x64 _ (ix2 r d) ?_).trans ?_
  · rw [Shape.rowMajor_val_two, Shape.rowMajor_val_four]
    show r.val * 64 + d.val = ((0 * 1 + 0) * 512 + r.val) * 64 + d.val
    omega
  · refine congrArg t (funext fun a => Fin.ext ?_)
    match a with
    | ⟨0, _⟩ => exact Nat.zero_add _
    | ⟨1, _⟩ => rfl

end Cert.Mix
end
-- ==== Proof.MixTurnRef.lean ====
/- The reference's queries, entry by entry. -/
module

public import proofs.«01_k».proof.Proof.MixRef
public import proofs.«01_k».proof.Proof.MixTurnMath

@[expose] public section

set_option maxRecDepth 16384

noncomputable section

namespace Cert.MixRef

open Cert.Reference4Ideal Cert.Reference4Ideal.Gen
open Idealize.ShloMosaic hiding ix1 ix2 ix3 ix4
open Idealize.ShloMosaic.TcCoe Idealize.ShloMosaic.Tactic
open Idealize.ShloMosaic.ValueIdx Idealize.ShloMosaic.Routing Cert.HostWords Cert.Mix

variable (x : FVec Ideal S32768x2048 .f32) (md : FVec Ideal S8x12288 .f32) (g : FVec Ideal S2048 .f32) (w : FVec Ideal S2048x3912 .f32) (cs sn : FVec Ideal S32768x128 .f32)

/-- The rows `h` projected to the queries, two heads by two. -/
def projV (h : FVec Ideal S32768x2048 .f32) : FVec Ideal S32768x8x2x64 .f32 :=
  shapeCast S32768x8x2x64 (Host.dotGeneral dot_S32768x2048_S2048x1024_S32768x1024_1_0_0_1_n_n none h (extractStridedSlice S2048x1024 ![0, 2048] w slices_S2048x3912_S2048x1024_0_2048)) shapeCasts_S32768x1024_S32768x8x2x64
/-- A table of angles, two heads by two. -/
def tableV (a : FVec Ideal S32768x128 .f32) : FVec Ideal S32768x1x2x64 .f32 := shapeCast S32768x1x2x64 a shapeCasts_S32768x128_S32768x1x2x64
/-- Each head's second half, negated, and its first. -/
def swapV (q : FVec Ideal S32768x8x2x64 .f32) : FVec Ideal S32768x8x2x64 .f32 :=
  concatenate S32768x8x2x64 3 [⟨S32768x8x2x32, Host.negf (extractStridedSlice S32768x8x2x32 ![0, 0, 0, 32] q slices_S32768x8x2x64_S32768x8x2x32_0_0_0_32)⟩,
    ⟨S32768x8x2x32, extractStridedSlice S32768x8x2x32 ![0, 0, 0, 0] q slices_S32768x8x2x64_S32768x8x2x32_0_0_0_0⟩] concatenates_S32768x8x2x32_S32768x8x2x32_S32768x8x2x64_d3
/-- The heads turned and scaled. -/
def turnV (q q' : FVec Ideal S32768x8x2x64 .f32) (a b : FVec Ideal S32768x1x2x64 .f32) : FVec Ideal S32768x8x2x64 .f32 :=
  mulf (addf (mulf q (broadcastInDim S32768x8x2x64 ![0, 1, 2, 3] bcast_S32768x1x2x64_S32768x8x2x64_0_1_2_3 a))
      (mulf q' (broadcastInDim S32768x8x2x64 ![0, 1, 2, 3] bcast_S32768x1x2x64_S32768x8x2x64_0_1_2_3 b)))
    (broadcastInDim S32768x8x2x64 ![] bcast_S_S32768x8x2x64 (constant S_ .f32 0x3E38AA3B#32))
/-- The heads of each sequence. -/
def headsV (q : FVec Ideal S32768x8x2x64 .f32) : FVec Ideal S8x16x4096x64 .bf16 :=
  truncf .bf16 (transpose S8x16x4096x64 [0, 2, 1, 3] (shapeCast S8x4096x16x64 q shapeCasts_S32768x8x2x64_S8x4096x16x64) transposes_S8x4096x16x64_S8x16x4096x64_0_2_1_3) bitsLt_bf16_f32
/-- The reference's queries. -/
def queryV : FVec Ideal S8x16x4096x64 .bf16 :=
  headsV (turnV (projV w (rowsV x md g)) (swapV (projV w (rowsV x md g))) (tableV cs) (tableV sn))

theorem projV_at (h : FVec Ideal S32768x2048 .f32) (s : Fin 32768) (p : Fin 8) (e : Fin 2) (d : Fin 64) :
    projV w h (ix4 s p e d) = ∑ k : Fin 2048, h (ix2 s k) * w (ix2 k (⟨2048 + (128 * p.val + (64 * e.val + d.val)), by omega⟩ : Fin 3912)) := by
  have hd : ∀ z : Fin 1024, Host.dotGeneral dot_S32768x2048_S2048x1024_S32768x1024_1_0_0_1_n_n none h (extractStridedSlice S2048x1024 ![0, 2048] w slices_S2048x3912_S2048x1024_0_2048) (ix2 s z)
      = ∑ k : Fin 2048, h (ix2 s k) * w (ix2 k (⟨2048 + z.val, by omega⟩ : Fin 3912)) := by
    intro z
    pointwise
    rfl
  unfold projV
  refine (shapeCast_apply _ shapeCasts_S32768x1024_S32768x8x2x64 _ (ix2 s (⟨128 * p.val + (64 * e.val + d.val), by omega⟩ : Fin 1024)) ?_).trans (hd _)
  rw [Shape.rowMajor_val_two, Shape.rowMajor_val_four]
  show s.val * 1024 + (128 * p.val + (64 * e.val + d.val)) = ((s.val * 8 + p.val) * 2 + e.val) * 64 + d.val
  omega

theorem tableV_at (a : FVec Ideal S32768x128 .f32) (s : Fin 32768) (e : Fin 2) (d : Fin 64) :
    tableV a (ix4 s (0 : Fin 1) e d) = a (ix2 s (⟨64 * e.val + d.val, by omega⟩ : Fin 128)) := by
  unfold tableV
  refine shapeCast_apply _ shapeCasts_S32768x128_S32768x1x2x64 _ _ ?_
  rw [Shape.rowMajor_val_two, Shape.rowMajor_val_four]
  show s.val * 128 + (64 * e.val + d.val) = ((s.val * 1 + 0) * 2 + e.val) * 64 + d.val
  omega

theorem swapV_at (q : FVec Ideal S32768x8x2x64 .f32) (s : Fin 32768) (p : Fin 8) (e : Fin 2) (d : Fin 64) :
    swapV q (ix4 s p e d) = if h : d.val < 32 then -(q (ix4 s p e (⟨32 + d.val, by omega⟩ : Fin 64))) else q (ix4 s p e (⟨d.val - 32, by omega⟩ : Fin 64)) := by
  unfold swapV
  rw [concatenate_pair_apply]
  by_cases h : d.val < 32
  · rw [dif_pos h]
    refine (dif_pos (show d.val < 32 from h)).trans ?_
    refine congrArg (fun i => -(q i)) (funext fun a => Fin.ext ?_)
    match a with
    | ⟨0, _⟩ => exact Nat.zero_add _
    | ⟨1, _⟩ => exact Nat.zero_add _
    | ⟨2, _⟩ => exact Nat.zero_add _
    | ⟨3, _⟩ => rfl
  · rw [dif_neg h]
    refine (dif_neg (show ¬ d.val < 32 from h)).trans ?_
    refine congrArg q (funext fun a => Fin.ext ?_)
    match a with
    | ⟨0, _⟩ => exact Nat.zero_add _
    | ⟨1, _⟩ => exact Nat.zero_add _
    | ⟨2, _⟩ => exact Nat.zero_add _
    | ⟨3, _⟩ => exact Nat.zero_add _

theorem turnV_at (q q' : FVec Ideal S32768x8x2x64 .f32) (a b : FVec Ideal S32768x1x2x64 .f32) (s : Fin 32768) (p : Fin 8) (e : Fin 2) (d : Fin 64) :
    turnV q q' a b (ix4 s p e d) = (q (ix4 s p e d) * a (ix4 s (0 : Fin 1) e d) + q' (ix4 s p e d) * b (ix4 s (0 : Fin 1) e d)) * Ideal.ofBits .f32 0x3E38AA3B#32 := by
  unfold turnV
  pointwise
  rfl

theorem headsV_at (q : FVec Ideal S32768x8x2x64 .f32) (b : Fin 8) (n : Fin 16) (i : Fin 4096) (d : Fin 64) (s : Fin 32768) (hs : s.val = 4096 * b.val + i.val) :
    headsV q (ix4 b n i d) = q (ix4 s (⟨n.val / 2, by omega⟩ : Fin 8) (⟨n.val % 2, by omega⟩ : Fin 2) d) := by
  have h : headsV q (ix4 b n i d) = shapeCast S8x4096x16x64 q shapeCasts_S32768x8x2x64_S8x4096x16x64 (ix4 b i n d) := by
    unfold headsV
    generalize shapeCast S8x4096x16x64 q shapeCasts_S32768x8x2x64_S8x4096x16x64 = Y
    pointwise
    rfl
  rw [h]
  refine shapeCast_apply _ shapeCasts_S32768x8x2x64_S8x4096x16x64 _ _ ?_
  rw [Shape.rowMajor_val_four, Shape.rowMajor_val_four]
  show ((s.val * 8 + n.val / 2) * 2 + n.val % 2) * 64 + d.val = ((b.val * 4096 + i.val) * 16 + n.val) * 64 + d.val
  omega

theorem queryV_at (b : Fin 8) (n : Fin 16) (i : Fin 4096) (d : Fin 64) (s : Fin 32768) (hs : s.val = 4096 * b.val + i.val) :
    queryV x md g w cs sn (ix4 b n i d)
      = turned (fun l => ∑ k : Fin 2048, rowsV x md g (ix2 s k) * w (ix2 k (⟨2048 + (128 * (n.val / 2) + l.val), by omega⟩ : Fin 3912))) (fun l => cs (ix2 s l)) (fun l => sn (ix2 s l))
        (⟨64 * (n.val % 2) + d.val, by omega⟩ : Fin 128) := by
  unfold queryV
  rw [headsV_at _ b n i d s hs, turnV_at, swapV_at, tableV_at, tableV_at]
  simp only [projV_at]
  unfold turned
  have hd := d.isLt
  by_cases h : d.val < 32
  · have h' : (64 * (n.val % 2) + d.val) % 64 < 32 := by omega
    have e : (64 * (n.val % 2) + d.val + 32) % 128 = 64 * (n.val % 2) + (32 + d.val) := by omega
    simp only [h, h', e, dif_pos, if_pos]
  · have h' : ¬ (64 * (n.val % 2) + d.val) % 64 < 32 := by omega
    have e : (64 * (n.val % 2) + d.val + 96) % 128 = 64 * (n.val % 2) + (d.val - 32) := by omega
    simp only [h, h', e, dif_neg, if_neg, not_false_eq_true]

end Cert.MixRef
end
-- ==== Proof.MixTurnValue.lean ====
/- What the input projections' call leaves as its second result is the reference's queries: position `i` of sequence `b` is
   row `i % 512` of the block of point `8 b + i / 512`. -/
module

public import proofs.«01_k».proof.Proof.MixValue
public import proofs.«01_k».proof.Proof.MixTurnRef

@[expose] public section

set_option maxRecDepth 16384

noncomputable section

namespace Cert.Mix

open Cert.Kernel4Ideal Cert.Kernel4Ideal.Gen
open Idealize.ShloMosaic hiding ix1 ix2 ix3 ix4
open Idealize.ShloMosaic.TcCoe Idealize.ShloMosaic.Tactic
open Idealize.ShloMosaic.ValueIdx

variable (m : (ℓ : Loc nD τ sig) → Buf (Elt Ideal) ℓ) (c : Dev nD)

/-- The angles' cosines and sines. -/
def CS : FVec Ideal S32768x128 .f32 := m ((c : Thread nD τ).loc main_arg13)
def SN : FVec Ideal S32768x128 .f32 := m ((c : Thread nD τ).loc main_arg14)

/-- The reference's queries. -/
abbrev QQ : FVec Ideal S8x16x4096x64 .bf16 := MixRef.queryV (XX m c) (MD m c) (GG m c) (WW m c) (CS m c) (SN m c)

theorem query_places : ∀ t : Fin cfg0.N, win0_4.index t = ![0, 0] ∧ win0_13.index t = ![t.val, 0] ∧ win0_14.index t = ![t.val, 0] ∧ win0_16.index t = ![t.val / 8, 0, t.val % 8, 0] :=
  (by decide +kernel : ∀ t : Fin grid0.N, _)
theorem query_flush : ∀ t : Fin cfg0.N, (cfg0.win 16).flush t = true := (by decide +kernel : ∀ t : Fin grid0.N, _)

theorem cos_at (t : Fin cfg0.N) (r : Fin 512) (l : Fin 128) (s : Fin 32768) (hs : s.val = t.val * 512 + r.val) :
    (iblk m c 13 t : S512x128.Idx → Elt Ideal .f32) (ix2 r l) = CS m c (ix2 s l) := by
  unfold CS
  blk_ext [iblk, V, query_places t]
  exact hs.symm

theorem sin_at (t : Fin cfg0.N) (r : Fin 512) (l : Fin 128) (s : Fin 32768) (hs : s.val = t.val * 512 + r.val) :
    (iblk m c 14 t : S512x128.Idx → Elt Ideal .f32) (ix2 r l) = SN m c (ix2 s l) := by
  unfold SN
  blk_ext [iblk, V, query_places t]
  exact hs.symm

theorem wq_at (t : Fin cfg0.N) (r : Fin 2048) (k : Fin 1920) (hk : k.val < 1024) :
    (iblk m c 4 t : S2048x1920.Idx → Elt Ideal .bf16) (ix2 r k) = WW m c (ix2 r (⟨2048 + k.val, by omega⟩ : Fin 3912)) := by
  have he : (win0_4.blk t).view.emb (ix2 r k) = (ix2 r k : S2048x1920.Idx) := by
    blk_ext [query_places t]
  have hv : (V m c main_v3 : S2048x1920.Idx → Elt Ideal .bf16)
      = pad S2048x1920 ![0, 0] ![0, 56] ![0, 0] (extractStridedSlice S2048x1864 ![0, 2048] (truncf .bf16 (WW m c) bitsLt_bf16_f32) slices_S2048x3912_S2048x1864_0_2048) (sitofp .bf16 (constantI S_ 32 0#32)) pads_S2048x1864_S2048x1920_000_0560 h_S_ := by
    unfold_abbrev_sides
    simp only [hostOps0, hostOps0_1, hostOps0_2, hostOps0_3, hostOps0_4, List.flatten_cons, List.flatten_nil, List.append_nil, List.cons_append, List.nil_append]
    after_reads_simp
    rfl
  refine (congrArg (V m c main_v3 : S2048x1920.Idx → Elt Ideal .bf16) he).trans ?_
  rw [hv]
  refine (pad_apply_of_inside _ _ _ _ _ pads_S2048x1864_S2048x1920_000_0560 h_S_ (ix2 r k) (ix2 r (⟨k.val, by omega⟩ : Fin 1864)) fun a => ?_).trans ?_
  · match a with
    | ⟨0, _⟩ => show r.val = 0 + r.val * (0 + 1); omega
    | ⟨1, _⟩ => show k.val = 0 + k.val * (0 + 1); omega
  · refine congrArg (WW m c) (funext fun a => Fin.ext ?_)
    match a with
    | ⟨0, _⟩ => exact Nat.zero_add _
    | ⟨1, _⟩ => rfl

/-- The queries a point leaves are the reference's. -/
theorem left_heads (t : Fin cfg0.N) (y : S1x16x512x64.Idx) (b : Fin 8) (hb : b.val = t.val / 8) (n : Fin 16) (hn : n.val = (y 1).val) (i : Fin 4096) (hi : i.val = t.val % 8 * 512 + (y 2).val)
    (d : Fin 64) (hd : d.val = (y 3).val) :
    queryB (iblk m c 4 t) (iblk m c 13 t) (iblk m c 14 t) (rowsB (grid0.coords t) (iblk m c 0 t) (iblk m c 1 t) (iblk m c 2 t)) y = QQ m c (ix4 b n i d) := by
  have hN : t.val < 64 := lt_of_lt_of_eq t.isLt N_0
  have h1 := n.isLt
  have h2 : (y 2).val < 512 := (y 2).isLt
  have hsl : t.val * 512 + (y 2).val < 32768 := by omega
  rw [query_emb _ _ _ _ (⟨n.val / 4, by omega⟩ : Fin 4) (⟨n.val / 2 % 2, by omega⟩ : Fin 2) (⟨n.val % 2, by omega⟩ : Fin 2) (⟨(y 2).val, h2⟩ : Fin 512) d y
    (by show (y 1).val = 4 * (n.val / 4) + 2 * (n.val / 2 % 2) + n.val % 2; omega) rfl hd.symm, head_at, turn_at]
  refine Eq.trans ?_ (MixRef.queryV_at _ _ _ _ _ _ b n i d ⟨t.val * 512 + (y 2).val, hsl⟩ (by show t.val * 512 + (y 2).val = 4096 * b.val + i.val; omega)).symm
  refine congrFun (congr (congr (congrArg turned (funext fun l => Finset.sum_congr rfl fun k _ => ?_)) (funext fun l => ?_)) (funext fun l => ?_)) _
  · refine congr (congrArg HMul.hMul (normed_rows m c t _ k _ rfl)) ?_
    unfold columnsB
    refine (View.ld_unit_apply_of _ _ _ _ _ (ix2 k (⟨256 * (n.val / 4) + (128 * (n.val / 2 % 2) + l.val), by omega⟩ : Fin 1920)) fun a => ?_).trans
      ((wq_at m c t k _ (by show 256 * (n.val / 4) + (128 * (n.val / 2 % 2) + l.val) < 1024; omega)).trans ?_)
    · match a with
      | ⟨0, _⟩ => exact (Nat.zero_add _).symm
      | ⟨1, _⟩ => rfl
    · refine congrArg (fun z => WW m c (ix2 k z)) (Fin.ext ?_)
      show 2048 + (256 * (n.val / 4) + (128 * (n.val / 2 % 2) + l.val)) = 2048 + (128 * (n.val / 2) + l.val)
      omega
  · exact cos_at m c t _ l _ rfl
  · exact sin_at m c t _ l _ rfl

theorem leaves_heads (t : Fin cfg0.N) : (dats m 0 c).after 16 t = queryB (iblk m c 4 t) (iblk m c 13 t) (iblk m c 14 t)
      (rowsB (grid0.coords t) (iblk m c 0 t) (iblk m c 1 t) (iblk m c 2 t)) := by
  rw [after0_16]
  simp only [outsAt0]
  rw [out_A_16]

theorem emb_query (t : Fin cfg0.N) (y : S1x16x512x64.Idx) (b : Fin 4) :
    ((((cfg0.win 16).rect t).emb y : S8x16x4096x64.Idx) b).val = win0_16.index t b * S1x16x512x64.size b + (y b).val :=
  Pipeline.Window.rect_emb_val (cfg0.win 16) t y b

theorem emb_query0 (t : Fin cfg0.N) (y : S1x16x512x64.Idx) : ((((cfg0.win 16).rect t).emb y : S8x16x4096x64.Idx) (0 : Fin 4)).val = t.val / 8 := by
  have h : (y 0).val < 1 := (y 0).isLt
  rw [emb_query, (query_places t).2.2.2]
  show t.val / 8 * 1 + (y 0).val = t.val / 8
  omega
theorem emb_query1 (t : Fin cfg0.N) (y : S1x16x512x64.Idx) : ((((cfg0.win 16).rect t).emb y : S8x16x4096x64.Idx) (1 : Fin 4)).val = (y 1).val := by
  rw [emb_query, (query_places t).2.2.2]
  show 0 * 16 + (y 1).val = (y 1).val
  omega
theorem emb_query2 (t : Fin cfg0.N) (y : S1x16x512x64.Idx) : ((((cfg0.win 16).rect t).emb y : S8x16x4096x64.Idx) (2 : Fin 4)).val = t.val % 8 * 512 + (y 2).val := by
  rw [emb_query, (query_places t).2.2.2]; rfl
theorem emb_query3 (t : Fin cfg0.N) (y : S1x16x512x64.Idx) : ((((cfg0.win 16).rect t).emb y : S8x16x4096x64.Idx) (3 : Fin 4)).val = (y 3).val := by
  rw [emb_query, (query_places t).2.2.2]
  show 0 * 64 + (y 3).val = (y 3).val
  omega

theorem covered_heads (i : S8x16x4096x64.Idx) : ∃ t : Fin cfg0.N, (cfg0.win 16).flush t = true ∧ i ∈ ((cfg0.win 16).blk t).view.set := by
  have h0 : (i 0).val < 8 := (i 0).isLt
  have h2 : (i 2).val < 4096 := (i 2).isLt
  have hN : cfg0.N = 64 := N_0
  let y : S1x16x512x64.Idx := ix4 (0 : Fin 1) (⟨(i 1).val, (i 1).isLt⟩ : Fin 16) (⟨(i 2).val % 512, Nat.mod_lt _ (by decide)⟩ : Fin 512) (⟨(i 3).val, (i 3).isLt⟩ : Fin 64)
  have ht : (i 0).val * 8 + (i 2).val / 512 < cfg0.N := by omega
  have e : ((cfg0.win 16).blk ⟨(i 0).val * 8 + (i 2).val / 512, ht⟩).view.emb y = i := by
    funext x
    match x with
    | ⟨0, _⟩ =>
      refine Fin.ext ((emb_query0 ⟨(i 0).val * 8 + (i 2).val / 512, ht⟩ y).trans ?_)
      show ((i 0).val * 8 + (i 2).val / 512) / 8 = (i 0).val
      omega
    | ⟨1, _⟩ => exact Fin.ext (emb_query1 ⟨(i 0).val * 8 + (i 2).val / 512, ht⟩ y)
    | ⟨2, _⟩ =>
      refine Fin.ext ((emb_query2 ⟨(i 0).val * 8 + (i 2).val / 512, ht⟩ y).trans ?_)
      show ((i 0).val * 8 + (i 2).val / 512) % 8 * 512 + (i 2).val % 512 = (i 2).val
      omega
    | ⟨3, _⟩ => exact Fin.ext (emb_query3 ⟨(i 0).val * 8 + (i 2).val / 512, ht⟩ y)
  exact ⟨⟨(i 0).val * 8 + (i 2).val / 512, ht⟩, query_flush _, Finset.mem_map.mpr ⟨y, Finset.mem_univ _, e⟩⟩

/-- The call's second result. -/
theorem heads_eq : (dats m 0 c).arrAt 16 cfg0.N = QQ m c := by
  refine (dats m 0 c).arrAt_eq_of_emb 16 (QQ m c) (fun t _ y => ?_) (fun i => covered_heads i)
  rw [leaves_heads]
  refine (left_heads m c t y ⟨_, ((((cfg0.win 16).rect t).emb y : S8x16x4096x64.Idx) (0 : Fin 4)).isLt⟩ (emb_query0 t y) ⟨_, ((((cfg0.win 16).rect t).emb y : S8x16x4096x64.Idx) (1 : Fin 4)).isLt⟩ (emb_query1 t y)
    ⟨_, ((((cfg0.win 16).rect t).emb y : S8x16x4096x64.Idx) (2 : Fin 4)).isLt⟩ (emb_query2 t y) ⟨_, ((((cfg0.win 16).rect t).emb y : S8x16x4096x64.Idx) (3 : Fin 4)).isLt⟩ (emb_query3 t y)).trans ?_
  refine congrArg (QQ m c) (funext fun x => ?_)
  match x with
  | ⟨0, _⟩ => rfl
  | ⟨1, _⟩ => rfl
  | ⟨2, _⟩ => rfl
  | ⟨3, _⟩ => rfl

end Cert.Mix
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Pre_routed
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Pre_tallied
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.SameText
public import proofs.«01_k».proof.Proof.LayoutOf
public import proofs.«01_k».proof.Proof.RefValue
public import proofs.«01_k».proof.Proof.SameText2
public import proofs.«01_k».proof.Proof.MoeValue
public import proofs.«01_k».proof.Proof.OutValue
public import proofs.«01_k».proof.Proof.MixValue
public import proofs.«01_k».proof.Proof.MixTurnValue
public import Idealize.ShloMosaic.Lib.Claim
public import Idealize.ShloMosaic.Lib.Tactic.CleanTypes

@[expose] public section

set_option maxRecDepth 16384
set_option maxHeartbeats 4000000

noncomputable section

namespace Cert.Proof

open Idealize.ShloMosaic Idealize.ShloMosaic.Tactic Idealize.SL.Sem Cert.Dispatch

/-- What the call leaves is the reference's array. -/
theorem value_eq {F : FTy → Type} [FloatOps F] (m : (ℓ : Loc Cert.KernelIdeal.nD Cert.KernelIdeal.τ Cert.KernelIdeal.sig) → Buf (Elt F) ℓ) (c : Dev Cert.KernelIdeal.nD)
    (hok : Routed.Ok (expertsV m c) (ranksV m c) (countsV m c)) :
    RefValue.value (F := F) (m ((c.tc : Thread Cert.KernelIdeal.nD Cert.KernelIdeal.τ).loc Cert.KernelIdeal.main_arg0)) (expertsV m c) = laid m c := by
  funext y
  by_cases h : ∃ x, x < 65536 ∧ Slots.slot (E m c) x = (y 0).val
  · obtain ⟨x, hx, h⟩ := h
    exact (RefValue.value_hit _ _ hok.lt y x hx ⟨x / 2, by omega⟩ rfl h).trans (laid_hit m c y x hx ⟨x / 2, by omega⟩ rfl h).symm
  · have h' : ∀ x < 65536, Slots.slot (E m c) x ≠ (y 0).val := fun x hx hxy => h ⟨x, hx, hxy⟩
    exact (RefValue.value_miss _ _ hok.lt y h').trans (laid_miss m c y h').symm

theorem frame_kernelIdeal : Cert.quiescent_KernelIdeal := fun m ρ h =>
  (θ_run Cert.KernelIdeal.defs _ _).mono (fun _ h => ⟨fun c => (h.1 c).2, h.2⟩) (run_all m ρ (laid m) fun c => layout_of m c (Routed.ok_of _ _ _ _ (h c)))

theorem frame_kernel : Cert.quiescent_Kernel := by
  intro m ρ h
  rw [SameText.defs_eq, SameText.main_eq]
  exact (θ_run Cert.KernelIdeal.defs _ _).mono (fun _ h => ⟨fun c => (h.1 c).2, h.2⟩) (run_all (F := Bits) m ρ (laid (F := Bits) m) fun c => layout_of (F := Bits) m c (Routed.ok_of _ _ _ _ (h c)))

/-- The references declare no semaphore. -/
theorem frame_reference : Cert.quiescent_Reference := by
  intro m g _
  refine (θ_run Cert.Reference.defs _ _).mono (fun r h => ⟨h, sem_eq_zero_of_no_sems (by decide) r.2⟩) ?_
  hlo_run

theorem frame_referenceIdeal : Cert.quiescent_ReferenceIdeal := by
  intro m g _
  refine (θ_run Cert.ReferenceIdeal.defs _ _).mono (fun r h => ⟨h, sem_eq_zero_of_no_sems (by decide) r.2⟩) ?_
  hlo_run

theorem bitexact : Cert.bitexact_Kernel_Reference := by
  intro m g m' g' hpre hagree
  refine ⟨laid (F := Bits) m, ?_, ?_⟩
  · rw [SameText.defs_eq, SameText.main_eq]
    exact (θ_run Cert.KernelIdeal.defs _ _).mono (fun _ h => h.1) (run_all (F := Bits) m g (laid (F := Bits) m) fun c => layout_of (F := Bits) m c (Routed.ok_of _ _ _ _ (hpre c)))
  · hlo_run
    refine Eq.trans ?_ (value_eq (F := Bits) m c (Routed.ok_of _ _ _ _ (hpre c)))
    unfold RefValue.value RefValue.slots RefValue.tokens RefValue.starts RefValue.numbers RefValue.ranks RefValue.column RefValue.flat
      HostWords.startsV HostWords.endsV HostWords.paddedV HostWords.rankV HostWords.numberV Routing.pyDiv
    simp -implicitDefEqProofs only [StableHlo.TRef.toBuf, StableHlo.TRef.ofBuf, cast_cast, cast_eq]
    clean_types
    rfl

theorem algebraic : Cert.algebraic_KernelIdeal_ReferenceIdeal := by
  intro m g m' g' hpre hagree
  refine ⟨laid m, (θ_run Cert.KernelIdeal.defs _ _).mono (fun _ h => h.1) (run_all m g (laid m) fun c => layout_of m c (Routed.ok_of _ _ _ _ (hpre c))), ?_⟩
  hlo_run
  refine Eq.trans ?_ (value_eq m c (Routed.ok_of _ _ _ _ (hpre c)))
  unfold RefValue.value RefValue.slots RefValue.tokens RefValue.starts RefValue.numbers RefValue.ranks RefValue.column RefValue.flat
    HostWords.startsV HostWords.endsV HostWords.paddedV HostWords.rankV HostWords.numberV Routing.pyDiv
  simp -implicitDefEqProofs only [StableHlo.TRef.toBuf, StableHlo.TRef.ofBuf, cast_cast, cast_eq]
  clean_types
  rfl

/-! ## The experts' feed-forward part -/

/-- The counts' bounds, read off the precondition. -/
theorem tallied (m : (ℓ : Loc Cert.Kernel2Ideal.nD Cert.Kernel2Ideal.τ Cert.Kernel2Ideal.sig) → Buf (Elt Ideal) ℓ) (h : Cert.Pre_Kernel2Ideal m) :
    MoeCount.Ok (Moe.countsV m Moe.dev) (MoeCount.nums (Moe.countsV m Moe.dev)) := MoeCount.ok_of _ _ _ _ _ (h Moe.dev)

theorem talliedBits (m : (ℓ : Loc Cert.Kernel2.nD Cert.Kernel2.τ Cert.Kernel2.sig) → Buf (Elt Bits) ℓ) (h : Cert.Pre_Kernel2 m) :
    MoeCount.Ok (Moe.countsV (F := Bits) m Moe.dev) (MoeCount.nums (Moe.countsV (F := Bits) m Moe.dev)) := MoeCount.ok_of _ _ _ _ _ (h Moe.dev)

theorem frame_kernel2Ideal : Cert.quiescent_Kernel2Ideal := fun m ρ h =>
  (θ_run Cert.Kernel2Ideal.defs _ _).mono (fun _ h => ⟨fun c => (h.1 c).2, h.2⟩) (Moe.run_all m ρ (Moe.adm m (tallied m h)) (Moe.adm_eq m (tallied m h)))

theorem frame_kernel2 : Cert.quiescent_Kernel2 := by
  intro m ρ h
  rw [SameText2.defs_eq, SameText2.main_eq]
  exact (θ_run Cert.Kernel2Ideal.defs _ _).mono (fun _ h => ⟨fun c => (h.1 c).2, h.2⟩)
    (Moe.run_all (F := Bits) m ρ (Moe.adm (F := Bits) m (talliedBits m h)) (Moe.adm_eq (F := Bits) m (talliedBits m h)))

theorem frame_reference2Ideal : Cert.quiescent_Reference2Ideal := by
  intro m g _
  refine (θ_run Cert.Reference2Ideal.defs _ _).mono (fun r h => ⟨h, sem_eq_zero_of_no_sems (by decide) r.2⟩) ?_
  hlo_run

theorem algebraic2 : Cert.algebraic_Kernel2Ideal_Reference2Ideal := by
  intro m g m' g' hpre hagree
  refine ⟨Moe.result m (Moe.adm m (tallied m hpre)), (θ_run Cert.Kernel2Ideal.defs _ _).mono (fun _ h => h.1)
    (Moe.run_all m g (Moe.adm m (tallied m hpre)) (Moe.adm_eq m (tallied m hpre))), ?_⟩
  hlo_run
  refine Eq.trans ?_ (Moe.value_eq m (Moe.adm m (tallied m hpre)) c (Moe.tab_of m (tallied m hpre)) (Moe.countsV m c) (by rw [Moe.dev_eq c]; exact tallied m hpre))
  unfold Moe.X Moe.A Moe.B Moe.C Moe.countsV MoeRef.value MoeRef.feedV MoeRef.hiddenV MoeRef.maskV MoeRef.ownV HostWords.endsV HostWords.paddedV Routing.pyDiv
  simp -implicitDefEqProofs only [StableHlo.TRef.toBuf, StableHlo.TRef.ofBuf, cast_cast, cast_eq]
  clean_types
  rfl

/-! ## The output projection -/

theorem frame_reference3Ideal : Cert.quiescent_Reference3Ideal := by
  intro m g _
  refine (θ_run Cert.Reference3Ideal.defs _ _).mono (fun r h => ⟨h, sem_eq_zero_of_no_sems (by decide) r.2⟩) ?_
  hlo_run

theorem algebraic3 : Cert.algebraic_Kernel3Ideal_Reference3Ideal := by
  intro m g m' g' _ hagree
  refine ⟨Cert.Kernel3Ideal.Value.G8 m, Cert.Kernel3Ideal.Value.G9 m,
    (θ_run Cert.Kernel3Ideal.defs _ _).mono (fun _ h c => ⟨(h c).1, (h c).2.1, (h c).2.2.2.2⟩) (Cert.Kernel3Ideal.Value.run m g),
    (θ_run Cert.Reference3Ideal.defs _ _).mono (fun r h c => ?_) (Cert.Reference3Ideal.Value.run m' g')⟩
  obtain ⟨h0, h1, h2, h3, h4, h5, -⟩ := hagree c
  refine ⟨(h c).1.trans (Eq.trans ?_ (Out.stream_eq m c)), (h c).2.1.trans (Eq.trans ?_ (Out.norm_eq m c)), (h c).2.2⟩
  · rw [h0, h1, h2, h3, h4]
    rfl
  · unfold Cert.Reference3Ideal.Value.res_main_v37
    rw [h0, h1, h2, h3, h4, h5]
    rfl

/-! ## The gated spatial mixing -/

theorem frame_reference4Ideal : Cert.quiescent_Reference4Ideal := by
  intro m g _
  refine (θ_run Cert.Reference4Ideal.defs _ _).mono (fun r h => ⟨fun c => (h c).2.2, sem_eq_zero_of_no_sems (by decide) r.2⟩) (Cert.Reference4Ideal.Value.run m g)

theorem algebraic4 : Cert.algebraic_Kernel4Ideal_Reference4Ideal := by
  intro m g m' g' _ hagree
  refine ⟨Mix.YY m, Mix.QQ m,
    (θ_run Cert.Kernel4Ideal.defs _ _).mono (fun _ h c => ⟨(h c).1.trans (Mix.result_eq m c), (h c).2.1.trans (Mix.heads_eq m c), (h c).2.2.2.2.2.2.2⟩) (Cert.Kernel4Ideal.Value.run_blocks m g),
    (θ_run Cert.Reference4Ideal.defs _ _).mono (fun r h c => ⟨(h c).1.trans ?_, (h c).2.1.trans ?_, (h c).2.2⟩) (Cert.Reference4Ideal.Value.run m' g')⟩
  · obtain ⟨h0, h1, h2, h3, h4, h5, h6, h7, -, -, -, -, h12, -⟩ := hagree c
    have hy : Mix.YY m c = MixRef.yaV (m' ((c.tc : Thread Cert.Reference4Ideal.nD Cert.Reference4Ideal.τ).loc Cert.Reference4Ideal.main_arg0))
        (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2))
        (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4))
        (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6))
        (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg12)) := by
      rw [h0, h1, h2, h3, h4, h5, h6, h7, h12]
      rfl
    rw [hy]
    rfl
  · obtain ⟨h0, h1, h2, h3, -, -, -, -, -, -, -, -, -, h13, h14⟩ := hagree c
    have hq : Mix.QQ m c = MixRef.queryV (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1))
        (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3))
        (m' ((c.tc : Thread Cert.Reference4Ideal.nD Cert.Reference4Ideal.τ).loc Cert.Reference4Ideal.main_arg13)) (m' ((c.tc : Thread Cert.Reference4Ideal.nD Cert.Reference4Ideal.τ).loc Cert.Reference4Ideal.main_arg14)) := by
      rw [h0, h1, h2, h3, h13, h14]
      rfl
    rw [hq]
    rfl

/-- The certificate's claim. -/
theorem claim : Cert.Claim :=
  ⟨inferInstance, inferInstance, inferInstance, inferInstance, inferInstance, inferInstance, inferInstance, inferInstance, inferInstance,
    inferInstance, inferInstance, inferInstance, inferInstance, inferInstance, inferInstance,
    frame_kernel, frame_kernelIdeal, frame_referenceIdeal, fun m g _ => frame_referenceIdeal m g trivial, frame_reference,
    frame_kernel2, frame_kernel2Ideal, frame_reference2Ideal, fun m g _ => frame_reference2Ideal m g trivial,
    fun m ρ _ => Cert.Kernel3.Gen.frame m ρ, fun m ρ _ => Cert.Kernel3Ideal.Gen.frame m ρ, frame_reference3Ideal,
    fun m ρ _ => Cert.Kernel4.Gen.frame m ρ, fun m ρ _ => Cert.Kernel4Ideal.Gen.frame m ρ, frame_reference4Ideal,
    trivial, bitexact, algebraic, trivial, algebraic2, trivial, algebraic3, trivial, algebraic4⟩

end Cert.Proof
